-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_scores [hPre_finite_scores : Cert.Pre_finite_scores.Facts] (m : (ℓ : Loc Cert.MlaIdeal.nD Cert.MlaIdeal.τ Cert.MlaIdeal.sig) → Buf (Elt Ideal) ℓ) : Prop :=
  ∀ c : Dev Cert.MlaIdeal.nD,
    (Cert.Pre_finite_scores.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).1 = (fun _ => 1#1)
    ∧ (Cert.Pre_finite_scores.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_scores [hPre_finite_scores : Cert.Pre_finite_scores.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_scores.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).1 = (fun _ => 1#1)
    ∧ (Cert.Pre_finite_scores.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).2 = (fun _ => 1#1)

def Pre_MoeUp [hPre_experts_in_range : Cert.Pre_experts_in_range.Facts] (m : (ℓ : Loc Cert.MoeUp.nD Cert.MoeUp.τ Cert.MoeUp.sig) → Buf (Elt Bits) ℓ) : Prop :=
  ∀ c : Dev Cert.MoeUp.nD,
    (Cert.Pre_experts_in_range.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4))) = (fun _ => 1#1)

def Pre_MoeUpIdeal [hPre_experts_in_range : Cert.Pre_experts_in_range.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_experts_in_range.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4))) = (fun _ => 1#1)

def Pre_MoeUpRefIdeal (m : (ℓ : Loc Cert.MoeUpRefIdeal.nD Cert.MoeUpRefIdeal.τ Cert.MoeUpRefIdeal.sig) → Buf (Elt Ideal) ℓ) : Prop :=
  True

def Pre_MoeUpRefIdeal_experts_in_range [hPre_experts_in_range : Cert.Pre_experts_in_range.Facts] (m : (ℓ : Loc Cert.MoeUpRefIdeal.nD Cert.MoeUpRefIdeal.τ Cert.MoeUpRefIdeal.sig) → Buf (Elt Ideal) ℓ) : Prop :=
  ∀ c : Dev Cert.MoeUpRefIdeal.nD,
    (Cert.Pre_experts_in_range.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4))) = (fun _ => 1#1)

def Pre_MoeDown [hPre_down_experts_in_range : Cert.Pre_down_experts_in_range.Facts] (m : (ℓ : Loc Cert.MoeDown.nD Cert.MoeDown.τ Cert.MoeDown.sig) → Buf (Elt Bits) ℓ) : Prop :=
  ∀ c : Dev Cert.MoeDown.nD,
    (Cert.Pre_down_experts_in_range.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))) = (fun _ => 1#1)

def Pre_MoeDownIdeal [hPre_down_experts_in_range : Cert.Pre_down_experts_in_range.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_down_experts_in_range.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))) = (fun _ => 1#1)

def Pre_MoeDownRefIdeal (m : (ℓ : Loc Cert.MoeDownRefIdeal.nD Cert.MoeDownRefIdeal.τ Cert.MoeDownRefIdeal.sig) → Buf (Elt Ideal) ℓ) : Prop :=
  True

def Pre_MoeDownRefIdeal_down_experts_in_range [hPre_down_experts_in_range : Cert.Pre_down_experts_in_range.Facts] (m : (ℓ : Loc Cert.MoeDownRefIdeal.nD Cert.MoeDownRefIdeal.τ Cert.MoeDownRefIdeal.sig) → Buf (Elt Ideal) ℓ) : Prop :=
  ∀ c : Dev Cert.MoeDownRefIdeal.nD,
    (Cert.Pre_down_experts_in_range.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_NaQkv (m : (ℓ : Loc Cert.NaQkv.nD Cert.NaQkv.τ Cert.NaQkv.sig) → Buf (Elt Bits) ℓ) : Prop :=
  True

def Pre_NaQkvIdeal (m : (ℓ : Loc Cert.NaQkvIdeal.nD Cert.NaQkvIdeal.τ Cert.NaQkvIdeal.sig) → Buf (Elt Ideal) ℓ) : Prop :=
  True

def Pre_NaQkvRefIdeal (m : (ℓ : Loc Cert.NaQkvRefIdeal.nD Cert.NaQkvRefIdeal.τ Cert.NaQkvRefIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutRefIdeal (m : (ℓ : Loc Cert.MixerOutRefIdeal.nD Cert.MixerOutRefIdeal.τ Cert.MixerOutRefIdeal.sig) → Buf (Elt Ideal) ℓ) : Prop :=
  True

def Pre_MlaDkv (m : (ℓ : Loc Cert.MlaDkv.nD Cert.MlaDkv.τ Cert.MlaDkv.sig) → Buf (Elt Bits) ℓ) : Prop :=
  True

def Pre_MlaDkvIdeal (m : (ℓ : Loc Cert.MlaDkvIdeal.nD Cert.MlaDkvIdeal.τ Cert.MlaDkvIdeal.sig) → Buf (Elt Ideal) ℓ) : Prop :=
  True

def Pre_MlaDkvRefIdeal (m : (ℓ : Loc Cert.MlaDkvRefIdeal.nD Cert.MlaDkvRefIdeal.τ Cert.MlaDkvRefIdeal.sig) → Buf (Elt Ideal) ℓ) : Prop :=
  True

def Pre_MlaDq (m : (ℓ : Loc Cert.MlaDq.nD Cert.MlaDq.τ Cert.MlaDq.sig) → Buf (Elt Bits) ℓ) : Prop :=
  True

def Pre_MlaDqIdeal (m : (ℓ : Loc Cert.MlaDqIdeal.nD Cert.MlaDqIdeal.τ Cert.MlaDqIdeal.sig) → Buf (Elt Ideal) ℓ) : Prop :=
  True

def Pre_MlaDqRefIdeal (m : (ℓ : Loc Cert.MlaDqRefIdeal.nD Cert.MlaDqRefIdeal.τ Cert.MlaDqRefIdeal.sig) → Buf (Elt Ideal) ℓ) : Prop :=
  True

def Pre_MlaUq (m : (ℓ : Loc Cert.MlaUq.nD Cert.MlaUq.τ Cert.MlaUq.sig) → Buf (Elt Bits) ℓ) : Prop :=
  True

def Pre_MlaUqIdeal (m : (ℓ : Loc Cert.MlaUqIdeal.nD Cert.MlaUqIdeal.τ Cert.MlaUqIdeal.sig) → Buf (Elt Ideal) ℓ) : Prop :=
  True

def Pre_MlaUqRefIdeal (m : (ℓ : Loc Cert.MlaUqRefIdeal.nD Cert.MlaUqRefIdeal.τ Cert.MlaUqRefIdeal.sig) → Buf (Elt Ideal) ℓ) : Prop :=
  True

def Pre_MlaV (m : (ℓ : Loc Cert.MlaV.nD Cert.MlaV.τ Cert.MlaV.sig) → Buf (Elt Bits) ℓ) : Prop :=
  True

def Pre_MlaVIdeal (m : (ℓ : Loc Cert.MlaVIdeal.nD Cert.MlaVIdeal.τ Cert.MlaVIdeal.sig) → Buf (Elt Ideal) ℓ) : Prop :=
  True

def Pre_MlaVRefIdeal (m : (ℓ : Loc Cert.MlaVRefIdeal.nD Cert.MlaVRefIdeal.τ Cert.MlaVRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_scores [hMlaIdeal : Cert.MlaIdeal.Facts] [hPre_finite_scores : Cert.Pre_finite_scores.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_scores m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_scores [hMlaRefIdeal : Cert.MlaRefIdeal.Facts] [hPre_finite_scores : Cert.Pre_finite_scores.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_scores m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MoeUp [hMoeUp : Cert.MoeUp.Facts] [hPre_experts_in_range : Cert.Pre_experts_in_range.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4))
      ∧ r.2.sem = fun _ => 0)

def quiescent_MoeUpIdeal [hMoeUpIdeal : Cert.MoeUpIdeal.Facts] [hPre_experts_in_range : Cert.Pre_experts_in_range.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ r.2.sem = fun _ => 0)

def quiescent_MoeUpRefIdeal [hMoeUpRefIdeal : Cert.MoeUpRefIdeal.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4))
      ∧ r.2.sem = fun _ => 0)

def quiescent_MoeUpRefIdeal_pre_experts_in_range [hMoeUpRefIdeal : Cert.MoeUpRefIdeal.Facts] [hPre_experts_in_range : Cert.Pre_experts_in_range.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal_experts_in_range m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4))
      ∧ r.2.sem = fun _ => 0)

def quiescent_MoeDown [hMoeDown : Cert.MoeDown.Facts] [hPre_down_experts_in_range : Cert.Pre_down_experts_in_range.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3))
      ∧ r.2.sem = fun _ => 0)

def quiescent_MoeDownIdeal [hMoeDownIdeal : Cert.MoeDownIdeal.Facts] [hPre_down_experts_in_range : Cert.Pre_down_experts_in_range.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0)

def quiescent_MoeDownRefIdeal [hMoeDownRefIdeal : Cert.MoeDownRefIdeal.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_MoeDownRefIdeal_pre_down_experts_in_range [hMoeDownRefIdeal : Cert.MoeDownRefIdeal.Facts] [hPre_down_experts_in_range : Cert.Pre_down_experts_in_range.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal_down_experts_in_range m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_NaQkv [hNaQkv : Cert.NaQkv.Facts] : Prop :=
  ∀ (m : (ℓ : Loc Cert.NaQkv.nD Cert.NaQkv.τ Cert.NaQkv.sig) → Buf (Elt Bits) ℓ) (g : Dev Cert.NaQkv.nD → PrngReg), Pre_NaQkv m →
    θ_run (Cert.NaQkv.defs (F := Bits)) (onTc (τ := Cert.NaQkv.τ) (Cert.NaQkv.main (F := Bits))) ⟨m, fun _ => 0, g⟩ (fun r => (∀ c : Dev Cert.NaQkv.nD,
      r.2.mem ((c.tc : Thread Cert.NaQkv.nD Cert.NaQkv.τ).loc Cert.NaQkv.main_arg0) = m ((c.tc : Thread Cert.NaQkv.nD Cert.NaQkv.τ).loc Cert.NaQkv.main_arg0)
      ∧ r.2.mem ((c.tc : Thread Cert.NaQkv.nD Cert.NaQkv.τ).loc Cert.NaQkv.main_arg1) = m ((c.tc : Thread Cert.NaQkv.nD Cert.NaQkv.τ).loc Cert.NaQkv.main_arg1))
      ∧ r.2.sem = fun _ => 0)

def quiescent_NaQkvIdeal [hNaQkvIdeal : Cert.NaQkvIdeal.Facts] : Prop :=
  ∀ (m : (ℓ : Loc Cert.NaQkvIdeal.nD Cert.NaQkvIdeal.τ Cert.NaQkvIdeal.sig) → Buf (Elt Ideal) ℓ) (g : Dev Cert.NaQkvIdeal.nD → PrngReg), Pre_NaQkvIdeal m →
    θ_run (Cert.NaQkvIdeal.defs (F := Ideal)) (onTc (τ := Cert.NaQkvIdeal.τ) (Cert.NaQkvIdeal.main (F := Ideal))) ⟨m, fun _ => 0, g⟩ (fun r => (∀ c : Dev Cert.NaQkvIdeal.nD,
      r.2.mem ((c.tc : Thread Cert.NaQkvIdeal.nD Cert.NaQkvIdeal.τ).loc Cert.NaQkvIdeal.main_arg0) = m ((c.tc : Thread Cert.NaQkvIdeal.nD Cert.NaQkvIdeal.τ).loc Cert.NaQkvIdeal.main_arg0)
      ∧ r.2.mem ((c.tc : Thread Cert.NaQkvIdeal.nD Cert.NaQkvIdeal.τ).loc Cert.NaQkvIdeal.main_arg1) = m ((c.tc : Thread Cert.NaQkvIdeal.nD Cert.NaQkvIdeal.τ).loc Cert.NaQkvIdeal.main_arg1))
      ∧ r.2.sem = fun _ => 0)

def quiescent_NaQkvRefIdeal [hNaQkvRefIdeal : Cert.NaQkvRefIdeal.Facts] : Prop :=
  ∀ (m : (ℓ : Loc Cert.NaQkvRefIdeal.nD Cert.NaQkvRefIdeal.τ Cert.NaQkvRefIdeal.sig) → Buf (Elt Ideal) ℓ) (g : Dev Cert.NaQkvRefIdeal.nD → PrngReg), Pre_NaQkvRefIdeal m →
    θ_run (Cert.NaQkvRefIdeal.defs (F := Ideal)) (onTc (τ := Cert.NaQkvRefIdeal.τ) (Cert.NaQkvRefIdeal.main (F := Ideal))) ⟨m, fun _ => 0, g⟩ (fun r => (∀ c : Dev Cert.NaQkvRefIdeal.nD,
      r.2.mem ((c.tc : Thread Cert.NaQkvRefIdeal.nD Cert.NaQkvRefIdeal.τ).loc Cert.NaQkvRefIdeal.main_arg0) = m ((c.tc : Thread Cert.NaQkvRefIdeal.nD Cert.NaQkvRefIdeal.τ).loc Cert.NaQkvRefIdeal.main_arg0)
      ∧ r.2.mem ((c.tc : Thread Cert.NaQkvRefIdeal.nD Cert.NaQkvRefIdeal.τ).loc Cert.NaQkvRefIdeal.main_arg1) = m ((c.tc : Thread Cert.NaQkvRefIdeal.nD Cert.NaQkvRefIdeal.τ).loc Cert.NaQkvRefIdeal.main_arg1))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1))
      ∧ r.2.sem = fun _ => 0)

def quiescent_MixerOutRefIdeal [hMixerOutRefIdeal : Cert.MixerOutRefIdeal.Facts] : Prop :=
  ∀ (m : (ℓ : Loc Cert.MixerOutRefIdeal.nD Cert.MixerOutRefIdeal.τ Cert.MixerOutRefIdeal.sig) → Buf (Elt Ideal) ℓ) (g : Dev Cert.MixerOutRefIdeal.nD → PrngReg), Pre_MixerOutRefIdeal m →
    θ_run (Cert.MixerOutRefIdeal.defs (F := Ideal)) (onTc (τ := Cert.MixerOutRefIdeal.τ) (Cert.MixerOutRefIdeal.main (F := Ideal))) ⟨m, fun _ => 0, g⟩ (fun r => (∀ c : Dev Cert.MixerOutRefIdeal.nD,
      r.2.mem ((c.tc : Thread Cert.MixerOutRefIdeal.nD Cert.MixerOutRefIdeal.τ).loc Cert.MixerOutRefIdeal.main_arg0) = m ((c.tc : Thread Cert.MixerOutRefIdeal.nD Cert.MixerOutRefIdeal.τ).loc Cert.MixerOutRefIdeal.main_arg0)
      ∧ r.2.mem ((c.tc : Thread Cert.MixerOutRefIdeal.nD Cert.MixerOutRefIdeal.τ).loc Cert.MixerOutRefIdeal.main_arg1) = m ((c.tc : Thread Cert.MixerOutRefIdeal.nD Cert.MixerOutRefIdeal.τ).loc Cert.MixerOutRefIdeal.main_arg1))
      ∧ r.2.sem = fun _ => 0)

def quiescent_MlaDkv [hMlaDkv : Cert.MlaDkv.Facts] : Prop :=
  ∀ (m : (ℓ : Loc Cert.MlaDkv.nD Cert.MlaDkv.τ Cert.MlaDkv.sig) → Buf (Elt Bits) ℓ) (g : Dev Cert.MlaDkv.nD → PrngReg), Pre_MlaDkv m →
    θ_run (Cert.MlaDkv.defs (F := Bits)) (onTc (τ := Cert.MlaDkv.τ) (Cert.MlaDkv.main (F := Bits))) ⟨m, fun _ => 0, g⟩ (fun r => (∀ c : Dev Cert.MlaDkv.nD,
      r.2.mem ((c.tc : Thread Cert.MlaDkv.nD Cert.MlaDkv.τ).loc Cert.MlaDkv.main_arg0) = m ((c.tc : Thread Cert.MlaDkv.nD Cert.MlaDkv.τ).loc Cert.MlaDkv.main_arg0)
      ∧ r.2.mem ((c.tc : Thread Cert.MlaDkv.nD Cert.MlaDkv.τ).loc Cert.MlaDkv.main_arg1) = m ((c.tc : Thread Cert.MlaDkv.nD Cert.MlaDkv.τ).loc Cert.MlaDkv.main_arg1)
      ∧ r.2.mem ((c.tc : Thread Cert.MlaDkv.nD Cert.MlaDkv.τ).loc Cert.MlaDkv.main_arg2) = m ((c.tc : Thread Cert.MlaDkv.nD Cert.MlaDkv.τ).loc Cert.MlaDkv.main_arg2))
      ∧ r.2.sem = fun _ => 0)

def quiescent_MlaDkvIdeal [hMlaDkvIdeal : Cert.MlaDkvIdeal.Facts] : Prop :=
  ∀ (m : (ℓ : Loc Cert.MlaDkvIdeal.nD Cert.MlaDkvIdeal.τ Cert.MlaDkvIdeal.sig) → Buf (Elt Ideal) ℓ) (g : Dev Cert.MlaDkvIdeal.nD → PrngReg), Pre_MlaDkvIdeal m →
    θ_run (Cert.MlaDkvIdeal.defs (F := Ideal)) (onTc (τ := Cert.MlaDkvIdeal.τ) (Cert.MlaDkvIdeal.main (F := Ideal))) ⟨m, fun _ => 0, g⟩ (fun r => (∀ c : Dev Cert.MlaDkvIdeal.nD,
      r.2.mem ((c.tc : Thread Cert.MlaDkvIdeal.nD Cert.MlaDkvIdeal.τ).loc Cert.MlaDkvIdeal.main_arg0) = m ((c.tc : Thread Cert.MlaDkvIdeal.nD Cert.MlaDkvIdeal.τ).loc Cert.MlaDkvIdeal.main_arg0)
      ∧ r.2.mem ((c.tc : Thread Cert.MlaDkvIdeal.nD Cert.MlaDkvIdeal.τ).loc Cert.MlaDkvIdeal.main_arg1) = m ((c.tc : Thread Cert.MlaDkvIdeal.nD Cert.MlaDkvIdeal.τ).loc Cert.MlaDkvIdeal.main_arg1)
      ∧ r.2.mem ((c.tc : Thread Cert.MlaDkvIdeal.nD Cert.MlaDkvIdeal.τ).loc Cert.MlaDkvIdeal.main_arg2) = m ((c.tc : Thread Cert.MlaDkvIdeal.nD Cert.MlaDkvIdeal.τ).loc Cert.MlaDkvIdeal.main_arg2))
      ∧ r.2.sem = fun _ => 0)

def quiescent_MlaDkvRefIdeal [hMlaDkvRefIdeal : Cert.MlaDkvRefIdeal.Facts] : Prop :=
  ∀ (m : (ℓ : Loc Cert.MlaDkvRefIdeal.nD Cert.MlaDkvRefIdeal.τ Cert.MlaDkvRefIdeal.sig) → Buf (Elt Ideal) ℓ) (g : Dev Cert.MlaDkvRefIdeal.nD → PrngReg), Pre_MlaDkvRefIdeal m →
    θ_run (Cert.MlaDkvRefIdeal.defs (F := Ideal)) (onTc (τ := Cert.MlaDkvRefIdeal.τ) (Cert.MlaDkvRefIdeal.main (F := Ideal))) ⟨m, fun _ => 0, g⟩ (fun r => (∀ c : Dev Cert.MlaDkvRefIdeal.nD,
      r.2.mem ((c.tc : Thread Cert.MlaDkvRefIdeal.nD Cert.MlaDkvRefIdeal.τ).loc Cert.MlaDkvRefIdeal.main_arg0) = m ((c.tc : Thread Cert.MlaDkvRefIdeal.nD Cert.MlaDkvRefIdeal.τ).loc Cert.MlaDkvRefIdeal.main_arg0)
      ∧ r.2.mem ((c.tc : Thread Cert.MlaDkvRefIdeal.nD Cert.MlaDkvRefIdeal.τ).loc Cert.MlaDkvRefIdeal.main_arg1) = m ((c.tc : Thread Cert.MlaDkvRefIdeal.nD Cert.MlaDkvRefIdeal.τ).loc Cert.MlaDkvRefIdeal.main_arg1)
      ∧ r.2.mem ((c.tc : Thread Cert.MlaDkvRefIdeal.nD Cert.MlaDkvRefIdeal.τ).loc Cert.MlaDkvRefIdeal.main_arg2) = m ((c.tc : Thread Cert.MlaDkvRefIdeal.nD Cert.MlaDkvRefIdeal.τ).loc Cert.MlaDkvRefIdeal.main_arg2))
      ∧ r.2.sem = fun _ => 0)

def quiescent_MlaDq [hMlaDq : Cert.MlaDq.Facts] : Prop :=
  ∀ (m : (ℓ : Loc Cert.MlaDq.nD Cert.MlaDq.τ Cert.MlaDq.sig) → Buf (Elt Bits) ℓ) (g : Dev Cert.MlaDq.nD → PrngReg), Pre_MlaDq m →
    θ_run (Cert.MlaDq.defs (F := Bits)) (onTc (τ := Cert.MlaDq.τ) (Cert.MlaDq.main (F := Bits))) ⟨m, fun _ => 0, g⟩ (fun r => (∀ c : Dev Cert.MlaDq.nD,
      r.2.mem ((c.tc : Thread Cert.MlaDq.nD Cert.MlaDq.τ).loc Cert.MlaDq.main_arg0) = m ((c.tc : Thread Cert.MlaDq.nD Cert.MlaDq.τ).loc Cert.MlaDq.main_arg0)
      ∧ r.2.mem ((c.tc : Thread Cert.MlaDq.nD Cert.MlaDq.τ).loc Cert.MlaDq.main_arg1) = m ((c.tc : Thread Cert.MlaDq.nD Cert.MlaDq.τ).loc Cert.MlaDq.main_arg1)
      ∧ r.2.mem ((c.tc : Thread Cert.MlaDq.nD Cert.MlaDq.τ).loc Cert.MlaDq.main_arg2) = m ((c.tc : Thread Cert.MlaDq.nD Cert.MlaDq.τ).loc Cert.MlaDq.main_arg2))
      ∧ r.2.sem = fun _ => 0)

def quiescent_MlaDqIdeal [hMlaDqIdeal : Cert.MlaDqIdeal.Facts] : Prop :=
  ∀ (m : (ℓ : Loc Cert.MlaDqIdeal.nD Cert.MlaDqIdeal.τ Cert.MlaDqIdeal.sig) → Buf (Elt Ideal) ℓ) (g : Dev Cert.MlaDqIdeal.nD → PrngReg), Pre_MlaDqIdeal m →
    θ_run (Cert.MlaDqIdeal.defs (F := Ideal)) (onTc (τ := Cert.MlaDqIdeal.τ) (Cert.MlaDqIdeal.main (F := Ideal))) ⟨m, fun _ => 0, g⟩ (fun r => (∀ c : Dev Cert.MlaDqIdeal.nD,
      r.2.mem ((c.tc : Thread Cert.MlaDqIdeal.nD Cert.MlaDqIdeal.τ).loc Cert.MlaDqIdeal.main_arg0) = m ((c.tc : Thread Cert.MlaDqIdeal.nD Cert.MlaDqIdeal.τ).loc Cert.MlaDqIdeal.main_arg0)
      ∧ r.2.mem ((c.tc : Thread Cert.MlaDqIdeal.nD Cert.MlaDqIdeal.τ).loc Cert.MlaDqIdeal.main_arg1) = m ((c.tc : Thread Cert.MlaDqIdeal.nD Cert.MlaDqIdeal.τ).loc Cert.MlaDqIdeal.main_arg1)
      ∧ r.2.mem ((c.tc : Thread Cert.MlaDqIdeal.nD Cert.MlaDqIdeal.τ).loc Cert.MlaDqIdeal.main_arg2) = m ((c.tc : Thread Cert.MlaDqIdeal.nD Cert.MlaDqIdeal.τ).loc Cert.MlaDqIdeal.main_arg2))
      ∧ r.2.sem = fun _ => 0)

def quiescent_MlaDqRefIdeal [hMlaDqRefIdeal : Cert.MlaDqRefIdeal.Facts] : Prop :=
  ∀ (m : (ℓ : Loc Cert.MlaDqRefIdeal.nD Cert.MlaDqRefIdeal.τ Cert.MlaDqRefIdeal.sig) → Buf (Elt Ideal) ℓ) (g : Dev Cert.MlaDqRefIdeal.nD → PrngReg), Pre_MlaDqRefIdeal m →
    θ_run (Cert.MlaDqRefIdeal.defs (F := Ideal)) (onTc (τ := Cert.MlaDqRefIdeal.τ) (Cert.MlaDqRefIdeal.main (F := Ideal))) ⟨m, fun _ => 0, g⟩ (fun r => (∀ c : Dev Cert.MlaDqRefIdeal.nD,
      r.2.mem ((c.tc : Thread Cert.MlaDqRefIdeal.nD Cert.MlaDqRefIdeal.τ).loc Cert.MlaDqRefIdeal.main_arg0) = m ((c.tc : Thread Cert.MlaDqRefIdeal.nD Cert.MlaDqRefIdeal.τ).loc Cert.MlaDqRefIdeal.main_arg0)
      ∧ r.2.mem ((c.tc : Thread Cert.MlaDqRefIdeal.nD Cert.MlaDqRefIdeal.τ).loc Cert.MlaDqRefIdeal.main_arg1) = m ((c.tc : Thread Cert.MlaDqRefIdeal.nD Cert.MlaDqRefIdeal.τ).loc Cert.MlaDqRefIdeal.main_arg1)
      ∧ r.2.mem ((c.tc : Thread Cert.MlaDqRefIdeal.nD Cert.MlaDqRefIdeal.τ).loc Cert.MlaDqRefIdeal.main_arg2) = m ((c.tc : Thread Cert.MlaDqRefIdeal.nD Cert.MlaDqRefIdeal.τ).loc Cert.MlaDqRefIdeal.main_arg2))
      ∧ r.2.sem = fun _ => 0)

def quiescent_MlaUq [hMlaUq : Cert.MlaUq.Facts] : Prop :=
  ∀ (m : (ℓ : Loc Cert.MlaUq.nD Cert.MlaUq.τ Cert.MlaUq.sig) → Buf (Elt Bits) ℓ) (g : Dev Cert.MlaUq.nD → PrngReg), Pre_MlaUq m →
    θ_run (Cert.MlaUq.defs (F := Bits)) (onTc (τ := Cert.MlaUq.τ) (Cert.MlaUq.main (F := Bits))) ⟨m, fun _ => 0, g⟩ (fun r => (∀ c : Dev Cert.MlaUq.nD,
      r.2.mem ((c.tc : Thread Cert.MlaUq.nD Cert.MlaUq.τ).loc Cert.MlaUq.main_arg0) = m ((c.tc : Thread Cert.MlaUq.nD Cert.MlaUq.τ).loc Cert.MlaUq.main_arg0)
      ∧ r.2.mem ((c.tc : Thread Cert.MlaUq.nD Cert.MlaUq.τ).loc Cert.MlaUq.main_arg1) = m ((c.tc : Thread Cert.MlaUq.nD Cert.MlaUq.τ).loc Cert.MlaUq.main_arg1))
      ∧ r.2.sem = fun _ => 0)

def quiescent_MlaUqIdeal [hMlaUqIdeal : Cert.MlaUqIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg), Pre_MlaUqIdeal m →
    θ_run (Cert.MlaUqIdeal.defs (F := Ideal)) (onTc (τ := Cert.MlaUqIdeal.τ) (Cert.MlaUqIdeal.main (F := Ideal))) ⟨m, fun _ => 0, g⟩ (fun r => (∀ c : Dev Cert.MlaUqIdeal.nD,
      r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
      ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ r.2.sem = fun _ => 0)

def quiescent_MlaUqRefIdeal [hMlaUqRefIdeal : Cert.MlaUqRefIdeal.Facts] : Prop :=
  ∀ (m : (ℓ : Loc Cert.MlaUqRefIdeal.nD Cert.MlaUqRefIdeal.τ Cert.MlaUqRefIdeal.sig) → Buf (Elt Ideal) ℓ) (g : Dev Cert.MlaUqRefIdeal.nD → PrngReg), Pre_MlaUqRefIdeal m →
    θ_run (Cert.MlaUqRefIdeal.defs (F := Ideal)) (onTc (τ := Cert.MlaUqRefIdeal.τ) (Cert.MlaUqRefIdeal.main (F := Ideal))) ⟨m, fun _ => 0, g⟩ (fun r => (∀ c : Dev Cert.MlaUqRefIdeal.nD,
      r.2.mem ((c.tc : Thread Cert.MlaUqRefIdeal.nD Cert.MlaUqRefIdeal.τ).loc Cert.MlaUqRefIdeal.main_arg0) = m ((c.tc : Thread Cert.MlaUqRefIdeal.nD Cert.MlaUqRefIdeal.τ).loc Cert.MlaUqRefIdeal.main_arg0)
      ∧ r.2.mem ((c.tc : Thread Cert.MlaUqRefIdeal.nD Cert.MlaUqRefIdeal.τ).loc Cert.MlaUqRefIdeal.main_arg1) = m ((c.tc : Thread Cert.MlaUqRefIdeal.nD Cert.MlaUqRefIdeal.τ).loc Cert.MlaUqRefIdeal.main_arg1))
      ∧ r.2.sem = fun _ => 0)

def quiescent_MlaV [hMlaV : Cert.MlaV.Facts] : Prop :=
  ∀ (m : (ℓ : Loc Cert.MlaV.nD Cert.MlaV.τ Cert.MlaV.sig) → Buf (Elt Bits) ℓ) (g : Dev Cert.MlaV.nD → PrngReg), Pre_MlaV m →
    θ_run (Cert.MlaV.defs (F := Bits)) (onTc (τ := Cert.MlaV.τ) (Cert.MlaV.main (F := Bits))) ⟨m, fun _ => 0, g⟩ (fun r => (∀ c : Dev Cert.MlaV.nD,
      r.2.mem ((c.tc : Thread Cert.MlaV.nD Cert.MlaV.τ).loc Cert.MlaV.main_arg0) = m ((c.tc : Thread Cert.MlaV.nD Cert.MlaV.τ).loc Cert.MlaV.main_arg0)
      ∧ r.2.mem ((c.tc : Thread Cert.MlaV.nD Cert.MlaV.τ).loc Cert.MlaV.main_arg1) = m ((c.tc : Thread Cert.MlaV.nD Cert.MlaV.τ).loc Cert.MlaV.main_arg1))
      ∧ r.2.sem = fun _ => 0)

def quiescent_MlaVIdeal [hMlaVIdeal : Cert.MlaVIdeal.Facts] : Prop :=
  ∀ (m : (ℓ : Loc Cert.MlaVIdeal.nD Cert.MlaVIdeal.τ Cert.MlaVIdeal.sig) → Buf (Elt Ideal) ℓ) (g : Dev Cert.MlaVIdeal.nD → PrngReg), Pre_MlaVIdeal m →
    θ_run (Cert.MlaVIdeal.defs (F := Ideal)) (onTc (τ := Cert.MlaVIdeal.τ) (Cert.MlaVIdeal.main (F := Ideal))) ⟨m, fun _ => 0, g⟩ (fun r => (∀ c : Dev Cert.MlaVIdeal.nD,
      r.2.mem ((c.tc : Thread Cert.MlaVIdeal.nD Cert.MlaVIdeal.τ).loc Cert.MlaVIdeal.main_arg0) = m ((c.tc : Thread Cert.MlaVIdeal.nD Cert.MlaVIdeal.τ).loc Cert.MlaVIdeal.main_arg0)
      ∧ r.2.mem ((c.tc : Thread Cert.MlaVIdeal.nD Cert.MlaVIdeal.τ).loc Cert.MlaVIdeal.main_arg1) = m ((c.tc : Thread Cert.MlaVIdeal.nD Cert.MlaVIdeal.τ).loc Cert.MlaVIdeal.main_arg1))
      ∧ r.2.sem = fun _ => 0)

def quiescent_MlaVRefIdeal [hMlaVRefIdeal : Cert.MlaVRefIdeal.Facts] : Prop :=
  ∀ (m : (ℓ : Loc Cert.MlaVRefIdeal.nD Cert.MlaVRefIdeal.τ Cert.MlaVRefIdeal.sig) → Buf (Elt Ideal) ℓ) (g : Dev Cert.MlaVRefIdeal.nD → PrngReg), Pre_MlaVRefIdeal m →
    θ_run (Cert.MlaVRefIdeal.defs (F := Ideal)) (onTc (τ := Cert.MlaVRefIdeal.τ) (Cert.MlaVRefIdeal.main (F := Ideal))) ⟨m, fun _ => 0, g⟩ (fun r => (∀ c : Dev Cert.MlaVRefIdeal.nD,
      r.2.mem ((c.tc : Thread Cert.MlaVRefIdeal.nD Cert.MlaVRefIdeal.τ).loc Cert.MlaVRefIdeal.main_arg0) = m ((c.tc : Thread Cert.MlaVRefIdeal.nD Cert.MlaVRefIdeal.τ).loc Cert.MlaVRefIdeal.main_arg0)
      ∧ r.2.mem ((c.tc : Thread Cert.MlaVRefIdeal.nD Cert.MlaVRefIdeal.τ).loc Cert.MlaVRefIdeal.main_arg1) = m ((c.tc : Thread Cert.MlaVRefIdeal.nD Cert.MlaVRefIdeal.τ).loc Cert.MlaVRefIdeal.main_arg1))
      ∧ r.2.sem = fun _ => 0)

def preserves_Mla_MlaIdeal : Prop :=
  True

def algebraic_MlaIdeal_MlaRefIdeal_pre_finite_scores [hMlaIdeal : Cert.MlaIdeal.Facts] [hMlaRefIdeal : Cert.MlaRefIdeal.Facts] [hPre_finite_scores : Cert.Pre_finite_scores.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_scores m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v42)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v42) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v85) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_MoeUp_MoeUpIdeal : Prop :=
  True

def algebraic_MoeUpIdeal_MoeUpRefIdeal [hMoeUpIdeal : Cert.MoeUpIdeal.Facts] [hMoeUpRefIdeal : Cert.MoeUpRefIdeal.Facts] [hPre_experts_in_range : Cert.Pre_experts_in_range.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpRefIdeal.nD Cert.MoeUpRefIdeal.τ Cert.MoeUpRefIdeal.sig) → Buf (Elt Ideal) ℓ) (g' : Dev Cert.MoeUpRefIdeal.nD → PrngReg), Pre_MoeUpIdeal m →
    (∀ c : Dev Cert.MoeUpIdeal.nD,
      m' ((c.tc : Thread Cert.MoeUpRefIdeal.nD Cert.MoeUpRefIdeal.τ).loc Cert.MoeUpRefIdeal.main_arg0) = m ((c.tc : Thread Cert.MoeUpIdeal.nD Cert.MoeUpIdeal.τ).loc Cert.MoeUpIdeal.main_arg0)
      ∧ m' ((c.tc : Thread Cert.MoeUpRefIdeal.nD Cert.MoeUpRefIdeal.τ).loc Cert.MoeUpRefIdeal.main_arg1) = m ((c.tc : Thread Cert.MoeUpIdeal.nD Cert.MoeUpIdeal.τ).loc Cert.MoeUpIdeal.main_arg1)
      ∧ m' ((c.tc : Thread Cert.MoeUpRefIdeal.nD Cert.MoeUpRefIdeal.τ).loc Cert.MoeUpRefIdeal.main_arg2) = m ((c.tc : Thread Cert.MoeUpIdeal.nD Cert.MoeUpIdeal.τ).loc Cert.MoeUpIdeal.main_arg2)
      ∧ m' ((c.tc : Thread Cert.MoeUpRefIdeal.nD Cert.MoeUpRefIdeal.τ).loc Cert.MoeUpRefIdeal.main_arg3) = m ((c.tc : Thread Cert.MoeUpIdeal.nD Cert.MoeUpIdeal.τ).loc Cert.MoeUpIdeal.main_arg3)
      ∧ m' ((c.tc : Thread Cert.MoeUpRefIdeal.nD Cert.MoeUpRefIdeal.τ).loc Cert.MoeUpRefIdeal.main_arg4) = m ((c.tc : Thread Cert.MoeUpIdeal.nD Cert.MoeUpIdeal.τ).loc Cert.MoeUpIdeal.main_arg4)) →
    ∃ (v0 : (c : Dev Cert.MoeUpIdeal.nD) → Buf (Elt Ideal) ((c.tc : Thread Cert.MoeUpIdeal.nD Cert.MoeUpIdeal.τ).loc Cert.MoeUpIdeal.main_v0)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v0) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ θ_run (Cert.MoeUpRefIdeal.defs (F := Ideal)) (onTc (τ := Cert.MoeUpRefIdeal.τ) (Cert.MoeUpRefIdeal.main (F := Ideal))) ⟨m', fun _ => 0, g'⟩ (fun r => ∀ c : Dev Cert.MoeUpRefIdeal.nD,
          r.2.mem ((c.tc : Thread Cert.MoeUpRefIdeal.nD Cert.MoeUpRefIdeal.τ).loc Cert.MoeUpRefIdeal.main_v116) = v0 c
          ∧ r.2.mem ((c.tc : Thread Cert.MoeUpRefIdeal.nD Cert.MoeUpRefIdeal.τ).loc Cert.MoeUpRefIdeal.main_arg0) = m' ((c.tc : Thread Cert.MoeUpRefIdeal.nD Cert.MoeUpRefIdeal.τ).loc Cert.MoeUpRefIdeal.main_arg0)
          ∧ r.2.mem ((c.tc : Thread Cert.MoeUpRefIdeal.nD Cert.MoeUpRefIdeal.τ).loc Cert.MoeUpRefIdeal.main_arg1) = m' ((c.tc : Thread Cert.MoeUpRefIdeal.nD Cert.MoeUpRefIdeal.τ).loc Cert.MoeUpRefIdeal.main_arg1)
          ∧ r.2.mem ((c.tc : Thread Cert.MoeUpRefIdeal.nD Cert.MoeUpRefIdeal.τ).loc Cert.MoeUpRefIdeal.main_arg2) = m' ((c.tc : Thread Cert.MoeUpRefIdeal.nD Cert.MoeUpRefIdeal.τ).loc Cert.MoeUpRefIdeal.main_arg2)
          ∧ r.2.mem ((c.tc : Thread Cert.MoeUpRefIdeal.nD Cert.MoeUpRefIdeal.τ).loc Cert.MoeUpRefIdeal.main_arg3) = m' ((c.tc : Thread Cert.MoeUpRefIdeal.nD Cert.MoeUpRefIdeal.τ).loc Cert.MoeUpRefIdeal.main_arg3)
          ∧ r.2.mem ((c.tc : Thread Cert.MoeUpRefIdeal.nD Cert.MoeUpRefIdeal.τ).loc Cert.MoeUpRefIdeal.main_arg4) = m' ((c.tc : Thread Cert.MoeUpRefIdeal.nD Cert.MoeUpRefIdeal.τ).loc Cert.MoeUpRefIdeal.main_arg4))

def preserves_MoeDown_MoeDownIdeal : Prop :=
  True

def algebraic_MoeDownIdeal_MoeDownRefIdeal [hMoeDownIdeal : Cert.MoeDownIdeal.Facts] [hMoeDownRefIdeal : Cert.MoeDownRefIdeal.Facts] [hPre_down_experts_in_range : Cert.Pre_down_experts_in_range.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)) →
    ∃ (v0 : (c : Dev Cert.MoeDownIdeal.nD) → Buf (Elt Ideal) ((c.tc : Thread Cert.MoeDownIdeal.nD Cert.MoeDownIdeal.τ).loc Cert.MoeDownIdeal.main_v0)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v0) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v75) = v0 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_NaQkv_NaQkvIdeal : Prop :=
  True

def algebraic_NaQkvIdeal_NaQkvRefIdeal [hNaQkvIdeal : Cert.NaQkvIdeal.Facts] [hNaQkvRefIdeal : Cert.NaQkvRefIdeal.Facts] : Prop :=
  ∀ (m : (ℓ : Loc Cert.NaQkvIdeal.nD Cert.NaQkvIdeal.τ Cert.NaQkvIdeal.sig) → Buf (Elt Ideal) ℓ) (g : Dev Cert.NaQkvIdeal.nD → PrngReg)
    (m' : (ℓ : Loc Cert.NaQkvRefIdeal.nD Cert.NaQkvRefIdeal.τ Cert.NaQkvRefIdeal.sig) → Buf (Elt Ideal) ℓ) (g' : Dev Cert.NaQkvRefIdeal.nD → PrngReg), Pre_NaQkvIdeal m →
    (∀ c : Dev Cert.NaQkvIdeal.nD,
      m' ((c.tc : Thread Cert.NaQkvRefIdeal.nD Cert.NaQkvRefIdeal.τ).loc Cert.NaQkvRefIdeal.main_arg0) = m ((c.tc : Thread Cert.NaQkvIdeal.nD Cert.NaQkvIdeal.τ).loc Cert.NaQkvIdeal.main_arg0)
      ∧ m' ((c.tc : Thread Cert.NaQkvRefIdeal.nD Cert.NaQkvRefIdeal.τ).loc Cert.NaQkvRefIdeal.main_arg1) = m ((c.tc : Thread Cert.NaQkvIdeal.nD Cert.NaQkvIdeal.τ).loc Cert.NaQkvIdeal.main_arg1)) →
    ∃ (v0 : (c : Dev Cert.NaQkvIdeal.nD) → Buf (Elt Ideal) ((c.tc : Thread Cert.NaQkvIdeal.nD Cert.NaQkvIdeal.τ).loc Cert.NaQkvIdeal.main_v1)) (v1 : (c : Dev Cert.NaQkvIdeal.nD) → Buf (Elt Ideal) ((c.tc : Thread Cert.NaQkvIdeal.nD Cert.NaQkvIdeal.τ).loc Cert.NaQkvIdeal.main_v3)) (v2 : (c : Dev Cert.NaQkvIdeal.nD) → Buf (Elt Ideal) ((c.tc : Thread Cert.NaQkvIdeal.nD Cert.NaQkvIdeal.τ).loc Cert.NaQkvIdeal.main_v5)),
      θ_run (Cert.NaQkvIdeal.defs (F := Ideal)) (onTc (τ := Cert.NaQkvIdeal.τ) (Cert.NaQkvIdeal.main (F := Ideal))) ⟨m, fun _ => 0, g⟩ (fun r => ∀ c : Dev Cert.NaQkvIdeal.nD,
          r.2.mem ((c.tc : Thread Cert.NaQkvIdeal.nD Cert.NaQkvIdeal.τ).loc Cert.NaQkvIdeal.main_v1) = v0 c
          ∧ r.2.mem ((c.tc : Thread Cert.NaQkvIdeal.nD Cert.NaQkvIdeal.τ).loc Cert.NaQkvIdeal.main_v3) = v1 c
          ∧ r.2.mem ((c.tc : Thread Cert.NaQkvIdeal.nD Cert.NaQkvIdeal.τ).loc Cert.NaQkvIdeal.main_v5) = v2 c
          ∧ r.2.mem ((c.tc : Thread Cert.NaQkvIdeal.nD Cert.NaQkvIdeal.τ).loc Cert.NaQkvIdeal.main_arg0) = m ((c.tc : Thread Cert.NaQkvIdeal.nD Cert.NaQkvIdeal.τ).loc Cert.NaQkvIdeal.main_arg0)
          ∧ r.2.mem ((c.tc : Thread Cert.NaQkvIdeal.nD Cert.NaQkvIdeal.τ).loc Cert.NaQkvIdeal.main_arg1) = m ((c.tc : Thread Cert.NaQkvIdeal.nD Cert.NaQkvIdeal.τ).loc Cert.NaQkvIdeal.main_arg1))
      ∧ θ_run (Cert.NaQkvRefIdeal.defs (F := Ideal)) (onTc (τ := Cert.NaQkvRefIdeal.τ) (Cert.NaQkvRefIdeal.main (F := Ideal))) ⟨m', fun _ => 0, g'⟩ (fun r => ∀ c : Dev Cert.NaQkvRefIdeal.nD,
          r.2.mem ((c.tc : Thread Cert.NaQkvRefIdeal.nD Cert.NaQkvRefIdeal.τ).loc Cert.NaQkvRefIdeal.main_v1) = v0 c
          ∧ r.2.mem ((c.tc : Thread Cert.NaQkvRefIdeal.nD Cert.NaQkvRefIdeal.τ).loc Cert.NaQkvRefIdeal.main_v5) = v1 c
          ∧ r.2.mem ((c.tc : Thread Cert.NaQkvRefIdeal.nD Cert.NaQkvRefIdeal.τ).loc Cert.NaQkvRefIdeal.main_v7) = v2 c
          ∧ r.2.mem ((c.tc : Thread Cert.NaQkvRefIdeal.nD Cert.NaQkvRefIdeal.τ).loc Cert.NaQkvRefIdeal.main_arg0) = m' ((c.tc : Thread Cert.NaQkvRefIdeal.nD Cert.NaQkvRefIdeal.τ).loc Cert.NaQkvRefIdeal.main_arg0)
          ∧ r.2.mem ((c.tc : Thread Cert.NaQkvRefIdeal.nD Cert.NaQkvRefIdeal.τ).loc Cert.NaQkvRefIdeal.main_arg1) = m' ((c.tc : Thread Cert.NaQkvRefIdeal.nD Cert.NaQkvRefIdeal.τ).loc Cert.NaQkvRefIdeal.main_arg1))

def preserves_MixerOut_MixerOutIdeal : Prop :=
  True

def algebraic_MixerOutIdeal_MixerOutRefIdeal [hMixerOutIdeal : Cert.MixerOutIdeal.Facts] [hMixerOutRefIdeal : Cert.MixerOutRefIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutRefIdeal.nD Cert.MixerOutRefIdeal.τ Cert.MixerOutRefIdeal.sig) → Buf (Elt Ideal) ℓ) (g' : Dev Cert.MixerOutRefIdeal.nD → PrngReg), Pre_MixerOutIdeal m →
    (∀ c : Dev Cert.MixerOutIdeal.nD,
      m' ((c.tc : Thread Cert.MixerOutRefIdeal.nD Cert.MixerOutRefIdeal.τ).loc Cert.MixerOutRefIdeal.main_arg0) = m ((c.tc : Thread Cert.MixerOutIdeal.nD Cert.MixerOutIdeal.τ).loc Cert.MixerOutIdeal.main_arg0)
      ∧ m' ((c.tc : Thread Cert.MixerOutRefIdeal.nD Cert.MixerOutRefIdeal.τ).loc Cert.MixerOutRefIdeal.main_arg1) = m ((c.tc : Thread Cert.MixerOutIdeal.nD Cert.MixerOutIdeal.τ).loc Cert.MixerOutIdeal.main_arg1)) →
    ∃ (v0 : (c : Dev Cert.MixerOutIdeal.nD) → Buf (Elt Ideal) ((c.tc : Thread Cert.MixerOutIdeal.nD Cert.MixerOutIdeal.τ).loc Cert.MixerOutIdeal.main_v1)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v1) = v0 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1))
      ∧ θ_run (Cert.MixerOutRefIdeal.defs (F := Ideal)) (onTc (τ := Cert.MixerOutRefIdeal.τ) (Cert.MixerOutRefIdeal.main (F := Ideal))) ⟨m', fun _ => 0, g'⟩ (fun r => ∀ c : Dev Cert.MixerOutRefIdeal.nD,
          r.2.mem ((c.tc : Thread Cert.MixerOutRefIdeal.nD Cert.MixerOutRefIdeal.τ).loc Cert.MixerOutRefIdeal.main_v1) = v0 c
          ∧ r.2.mem ((c.tc : Thread Cert.MixerOutRefIdeal.nD Cert.MixerOutRefIdeal.τ).loc Cert.MixerOutRefIdeal.main_arg0) = m' ((c.tc : Thread Cert.MixerOutRefIdeal.nD Cert.MixerOutRefIdeal.τ).loc Cert.MixerOutRefIdeal.main_arg0)
          ∧ r.2.mem ((c.tc : Thread Cert.MixerOutRefIdeal.nD Cert.MixerOutRefIdeal.τ).loc Cert.MixerOutRefIdeal.main_arg1) = m' ((c.tc : Thread Cert.MixerOutRefIdeal.nD Cert.MixerOutRefIdeal.τ).loc Cert.MixerOutRefIdeal.main_arg1))

def preserves_MlaDkv_MlaDkvIdeal : Prop :=
  True

def algebraic_MlaDkvIdeal_MlaDkvRefIdeal [hMlaDkvIdeal : Cert.MlaDkvIdeal.Facts] [hMlaDkvRefIdeal : Cert.MlaDkvRefIdeal.Facts] : Prop :=
  ∀ (m : (ℓ : Loc Cert.MlaDkvIdeal.nD Cert.MlaDkvIdeal.τ Cert.MlaDkvIdeal.sig) → Buf (Elt Ideal) ℓ) (g : Dev Cert.MlaDkvIdeal.nD → PrngReg)
    (m' : (ℓ : Loc Cert.MlaDkvRefIdeal.nD Cert.MlaDkvRefIdeal.τ Cert.MlaDkvRefIdeal.sig) → Buf (Elt Ideal) ℓ) (g' : Dev Cert.MlaDkvRefIdeal.nD → PrngReg), Pre_MlaDkvIdeal m →
    (∀ c : Dev Cert.MlaDkvIdeal.nD,
      m' ((c.tc : Thread Cert.MlaDkvRefIdeal.nD Cert.MlaDkvRefIdeal.τ).loc Cert.MlaDkvRefIdeal.main_arg0) = m ((c.tc : Thread Cert.MlaDkvIdeal.nD Cert.MlaDkvIdeal.τ).loc Cert.MlaDkvIdeal.main_arg0)
      ∧ m' ((c.tc : Thread Cert.MlaDkvRefIdeal.nD Cert.MlaDkvRefIdeal.τ).loc Cert.MlaDkvRefIdeal.main_arg1) = m ((c.tc : Thread Cert.MlaDkvIdeal.nD Cert.MlaDkvIdeal.τ).loc Cert.MlaDkvIdeal.main_arg1)
      ∧ m' ((c.tc : Thread Cert.MlaDkvRefIdeal.nD Cert.MlaDkvRefIdeal.τ).loc Cert.MlaDkvRefIdeal.main_arg2) = m ((c.tc : Thread Cert.MlaDkvIdeal.nD Cert.MlaDkvIdeal.τ).loc Cert.MlaDkvIdeal.main_arg2)) →
    ∃ (v0 : (c : Dev Cert.MlaDkvIdeal.nD) → Buf (Elt Ideal) ((c.tc : Thread Cert.MlaDkvIdeal.nD Cert.MlaDkvIdeal.τ).loc Cert.MlaDkvIdeal.main_v4)) (v1 : (c : Dev Cert.MlaDkvIdeal.nD) → Buf (Elt Ideal) ((c.tc : Thread Cert.MlaDkvIdeal.nD Cert.MlaDkvIdeal.τ).loc Cert.MlaDkvIdeal.main_v9)) (v2 : (c : Dev Cert.MlaDkvIdeal.nD) → Buf (Elt Ideal) ((c.tc : Thread Cert.MlaDkvIdeal.nD Cert.MlaDkvIdeal.τ).loc Cert.MlaDkvIdeal.main_v10)),
      θ_run (Cert.MlaDkvIdeal.defs (F := Ideal)) (onTc (τ := Cert.MlaDkvIdeal.τ) (Cert.MlaDkvIdeal.main (F := Ideal))) ⟨m, fun _ => 0, g⟩ (fun r => ∀ c : Dev Cert.MlaDkvIdeal.nD,
          r.2.mem ((c.tc : Thread Cert.MlaDkvIdeal.nD Cert.MlaDkvIdeal.τ).loc Cert.MlaDkvIdeal.main_v4) = v0 c
          ∧ r.2.mem ((c.tc : Thread Cert.MlaDkvIdeal.nD Cert.MlaDkvIdeal.τ).loc Cert.MlaDkvIdeal.main_v9) = v1 c
          ∧ r.2.mem ((c.tc : Thread Cert.MlaDkvIdeal.nD Cert.MlaDkvIdeal.τ).loc Cert.MlaDkvIdeal.main_v10) = v2 c
          ∧ r.2.mem ((c.tc : Thread Cert.MlaDkvIdeal.nD Cert.MlaDkvIdeal.τ).loc Cert.MlaDkvIdeal.main_arg0) = m ((c.tc : Thread Cert.MlaDkvIdeal.nD Cert.MlaDkvIdeal.τ).loc Cert.MlaDkvIdeal.main_arg0)
          ∧ r.2.mem ((c.tc : Thread Cert.MlaDkvIdeal.nD Cert.MlaDkvIdeal.τ).loc Cert.MlaDkvIdeal.main_arg1) = m ((c.tc : Thread Cert.MlaDkvIdeal.nD Cert.MlaDkvIdeal.τ).loc Cert.MlaDkvIdeal.main_arg1)
          ∧ r.2.mem ((c.tc : Thread Cert.MlaDkvIdeal.nD Cert.MlaDkvIdeal.τ).loc Cert.MlaDkvIdeal.main_arg2) = m ((c.tc : Thread Cert.MlaDkvIdeal.nD Cert.MlaDkvIdeal.τ).loc Cert.MlaDkvIdeal.main_arg2))
      ∧ θ_run (Cert.MlaDkvRefIdeal.defs (F := Ideal)) (onTc (τ := Cert.MlaDkvRefIdeal.τ) (Cert.MlaDkvRefIdeal.main (F := Ideal))) ⟨m', fun _ => 0, g'⟩ (fun r => ∀ c : Dev Cert.MlaDkvRefIdeal.nD,
          r.2.mem ((c.tc : Thread Cert.MlaDkvRefIdeal.nD Cert.MlaDkvRefIdeal.τ).loc Cert.MlaDkvRefIdeal.main_v22) = v0 c
          ∧ r.2.mem ((c.tc : Thread Cert.MlaDkvRefIdeal.nD Cert.MlaDkvRefIdeal.τ).loc Cert.MlaDkvRefIdeal.main_v18) = v1 c
          ∧ r.2.mem ((c.tc : Thread Cert.MlaDkvRefIdeal.nD Cert.MlaDkvRefIdeal.τ).loc Cert.MlaDkvRefIdeal.main_v20) = v2 c
          ∧ r.2.mem ((c.tc : Thread Cert.MlaDkvRefIdeal.nD Cert.MlaDkvRefIdeal.τ).loc Cert.MlaDkvRefIdeal.main_arg0) = m' ((c.tc : Thread Cert.MlaDkvRefIdeal.nD Cert.MlaDkvRefIdeal.τ).loc Cert.MlaDkvRefIdeal.main_arg0)
          ∧ r.2.mem ((c.tc : Thread Cert.MlaDkvRefIdeal.nD Cert.MlaDkvRefIdeal.τ).loc Cert.MlaDkvRefIdeal.main_arg1) = m' ((c.tc : Thread Cert.MlaDkvRefIdeal.nD Cert.MlaDkvRefIdeal.τ).loc Cert.MlaDkvRefIdeal.main_arg1)
          ∧ r.2.mem ((c.tc : Thread Cert.MlaDkvRefIdeal.nD Cert.MlaDkvRefIdeal.τ).loc Cert.MlaDkvRefIdeal.main_arg2) = m' ((c.tc : Thread Cert.MlaDkvRefIdeal.nD Cert.MlaDkvRefIdeal.τ).loc Cert.MlaDkvRefIdeal.main_arg2))

def preserves_MlaDq_MlaDqIdeal : Prop :=
  True

def algebraic_MlaDqIdeal_MlaDqRefIdeal [hMlaDqIdeal : Cert.MlaDqIdeal.Facts] [hMlaDqRefIdeal : Cert.MlaDqRefIdeal.Facts] : Prop :=
  ∀ (m : (ℓ : Loc Cert.MlaDqIdeal.nD Cert.MlaDqIdeal.τ Cert.MlaDqIdeal.sig) → Buf (Elt Ideal) ℓ) (g : Dev Cert.MlaDqIdeal.nD → PrngReg)
    (m' : (ℓ : Loc Cert.MlaDqRefIdeal.nD Cert.MlaDqRefIdeal.τ Cert.MlaDqRefIdeal.sig) → Buf (Elt Ideal) ℓ) (g' : Dev Cert.MlaDqRefIdeal.nD → PrngReg), Pre_MlaDqIdeal m →
    (∀ c : Dev Cert.MlaDqIdeal.nD,
      m' ((c.tc : Thread Cert.MlaDqRefIdeal.nD Cert.MlaDqRefIdeal.τ).loc Cert.MlaDqRefIdeal.main_arg0) = m ((c.tc : Thread Cert.MlaDqIdeal.nD Cert.MlaDqIdeal.τ).loc Cert.MlaDqIdeal.main_arg0)
      ∧ m' ((c.tc : Thread Cert.MlaDqRefIdeal.nD Cert.MlaDqRefIdeal.τ).loc Cert.MlaDqRefIdeal.main_arg1) = m ((c.tc : Thread Cert.MlaDqIdeal.nD Cert.MlaDqIdeal.τ).loc Cert.MlaDqIdeal.main_arg1)
      ∧ m' ((c.tc : Thread Cert.MlaDqRefIdeal.nD Cert.MlaDqRefIdeal.τ).loc Cert.MlaDqRefIdeal.main_arg2) = m ((c.tc : Thread Cert.MlaDqIdeal.nD Cert.MlaDqIdeal.τ).loc Cert.MlaDqIdeal.main_arg2)) →
    ∃ (v0 : (c : Dev Cert.MlaDqIdeal.nD) → Buf (Elt Ideal) ((c.tc : Thread Cert.MlaDqIdeal.nD Cert.MlaDqIdeal.τ).loc Cert.MlaDqIdeal.main_v2)),
      θ_run (Cert.MlaDqIdeal.defs (F := Ideal)) (onTc (τ := Cert.MlaDqIdeal.τ) (Cert.MlaDqIdeal.main (F := Ideal))) ⟨m, fun _ => 0, g⟩ (fun r => ∀ c : Dev Cert.MlaDqIdeal.nD,
          r.2.mem ((c.tc : Thread Cert.MlaDqIdeal.nD Cert.MlaDqIdeal.τ).loc Cert.MlaDqIdeal.main_v2) = v0 c
          ∧ r.2.mem ((c.tc : Thread Cert.MlaDqIdeal.nD Cert.MlaDqIdeal.τ).loc Cert.MlaDqIdeal.main_arg0) = m ((c.tc : Thread Cert.MlaDqIdeal.nD Cert.MlaDqIdeal.τ).loc Cert.MlaDqIdeal.main_arg0)
          ∧ r.2.mem ((c.tc : Thread Cert.MlaDqIdeal.nD Cert.MlaDqIdeal.τ).loc Cert.MlaDqIdeal.main_arg1) = m ((c.tc : Thread Cert.MlaDqIdeal.nD Cert.MlaDqIdeal.τ).loc Cert.MlaDqIdeal.main_arg1)
          ∧ r.2.mem ((c.tc : Thread Cert.MlaDqIdeal.nD Cert.MlaDqIdeal.τ).loc Cert.MlaDqIdeal.main_arg2) = m ((c.tc : Thread Cert.MlaDqIdeal.nD Cert.MlaDqIdeal.τ).loc Cert.MlaDqIdeal.main_arg2))
      ∧ θ_run (Cert.MlaDqRefIdeal.defs (F := Ideal)) (onTc (τ := Cert.MlaDqRefIdeal.τ) (Cert.MlaDqRefIdeal.main (F := Ideal))) ⟨m', fun _ => 0, g'⟩ (fun r => ∀ c : Dev Cert.MlaDqRefIdeal.nD,
          r.2.mem ((c.tc : Thread Cert.MlaDqRefIdeal.nD Cert.MlaDqRefIdeal.τ).loc Cert.MlaDqRefIdeal.main_v15) = v0 c
          ∧ r.2.mem ((c.tc : Thread Cert.MlaDqRefIdeal.nD Cert.MlaDqRefIdeal.τ).loc Cert.MlaDqRefIdeal.main_arg0) = m' ((c.tc : Thread Cert.MlaDqRefIdeal.nD Cert.MlaDqRefIdeal.τ).loc Cert.MlaDqRefIdeal.main_arg0)
          ∧ r.2.mem ((c.tc : Thread Cert.MlaDqRefIdeal.nD Cert.MlaDqRefIdeal.τ).loc Cert.MlaDqRefIdeal.main_arg1) = m' ((c.tc : Thread Cert.MlaDqRefIdeal.nD Cert.MlaDqRefIdeal.τ).loc Cert.MlaDqRefIdeal.main_arg1)
          ∧ r.2.mem ((c.tc : Thread Cert.MlaDqRefIdeal.nD Cert.MlaDqRefIdeal.τ).loc Cert.MlaDqRefIdeal.main_arg2) = m' ((c.tc : Thread Cert.MlaDqRefIdeal.nD Cert.MlaDqRefIdeal.τ).loc Cert.MlaDqRefIdeal.main_arg2))

def preserves_MlaUq_MlaUqIdeal : Prop :=
  True

def algebraic_MlaUqIdeal_MlaUqRefIdeal [hMlaUqIdeal : Cert.MlaUqIdeal.Facts] [hMlaUqRefIdeal : Cert.MlaUqRefIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg)
    (m' : (ℓ : Loc Cert.MlaUqRefIdeal.nD Cert.MlaUqRefIdeal.τ Cert.MlaUqRefIdeal.sig) → Buf (Elt Ideal) ℓ) (g' : Dev Cert.MlaUqRefIdeal.nD → PrngReg), Pre_MlaUqIdeal m →
    (∀ c : Dev Cert.MlaUqIdeal.nD,
      m' ((c.tc : Thread Cert.MlaUqRefIdeal.nD Cert.MlaUqRefIdeal.τ).loc Cert.MlaUqRefIdeal.main_arg0) = m ((c.tc : Thread Cert.MlaUqIdeal.nD Cert.MlaUqIdeal.τ).loc Cert.MlaUqIdeal.main_arg0)
      ∧ m' ((c.tc : Thread Cert.MlaUqRefIdeal.nD Cert.MlaUqRefIdeal.τ).loc Cert.MlaUqRefIdeal.main_arg1) = m ((c.tc : Thread Cert.MlaUqIdeal.nD Cert.MlaUqIdeal.τ).loc Cert.MlaUqIdeal.main_arg1)) →
    ∃ (v0 : (c : Dev Cert.MlaUqIdeal.nD) → Buf (Elt Ideal) ((c.tc : Thread Cert.MlaUqIdeal.nD Cert.MlaUqIdeal.τ).loc Cert.MlaUqIdeal.main_v3)),
      θ_run (Cert.MlaUqIdeal.defs (F := Ideal)) (onTc (τ := Cert.MlaUqIdeal.τ) (Cert.MlaUqIdeal.main (F := Ideal))) ⟨m, fun _ => 0, g⟩ (fun r => ∀ c : Dev Cert.MlaUqIdeal.nD,
          r.2.mem ((c.tc : Thread Cert.MlaUqIdeal.nD Cert.MlaUqIdeal.τ).loc Cert.MlaUqIdeal.main_v3) = v0 c
          ∧ r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
          ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ θ_run (Cert.MlaUqRefIdeal.defs (F := Ideal)) (onTc (τ := Cert.MlaUqRefIdeal.τ) (Cert.MlaUqRefIdeal.main (F := Ideal))) ⟨m', fun _ => 0, g'⟩ (fun r => ∀ c : Dev Cert.MlaUqRefIdeal.nD,
          r.2.mem ((c.tc : Thread Cert.MlaUqRefIdeal.nD Cert.MlaUqRefIdeal.τ).loc Cert.MlaUqRefIdeal.main_v3) = v0 c
          ∧ r.2.mem ((c.tc : Thread Cert.MlaUqRefIdeal.nD Cert.MlaUqRefIdeal.τ).loc Cert.MlaUqRefIdeal.main_arg0) = m' ((c.tc : Thread Cert.MlaUqRefIdeal.nD Cert.MlaUqRefIdeal.τ).loc Cert.MlaUqRefIdeal.main_arg0)
          ∧ r.2.mem ((c.tc : Thread Cert.MlaUqRefIdeal.nD Cert.MlaUqRefIdeal.τ).loc Cert.MlaUqRefIdeal.main_arg1) = m' ((c.tc : Thread Cert.MlaUqRefIdeal.nD Cert.MlaUqRefIdeal.τ).loc Cert.MlaUqRefIdeal.main_arg1))

def preserves_MlaV_MlaVIdeal : Prop :=
  True

def algebraic_MlaVIdeal_MlaVRefIdeal [hMlaVIdeal : Cert.MlaVIdeal.Facts] [hMlaVRefIdeal : Cert.MlaVRefIdeal.Facts] : Prop :=
  ∀ (m : (ℓ : Loc Cert.MlaVIdeal.nD Cert.MlaVIdeal.τ Cert.MlaVIdeal.sig) → Buf (Elt Ideal) ℓ) (g : Dev Cert.MlaVIdeal.nD → PrngReg)
    (m' : (ℓ : Loc Cert.MlaVRefIdeal.nD Cert.MlaVRefIdeal.τ Cert.MlaVRefIdeal.sig) → Buf (Elt Ideal) ℓ) (g' : Dev Cert.MlaVRefIdeal.nD → PrngReg), Pre_MlaVIdeal m →
    (∀ c : Dev Cert.MlaVIdeal.nD,
      m' ((c.tc : Thread Cert.MlaVRefIdeal.nD Cert.MlaVRefIdeal.τ).loc Cert.MlaVRefIdeal.main_arg0) = m ((c.tc : Thread Cert.MlaVIdeal.nD Cert.MlaVIdeal.τ).loc Cert.MlaVIdeal.main_arg0)
      ∧ m' ((c.tc : Thread Cert.MlaVRefIdeal.nD Cert.MlaVRefIdeal.τ).loc Cert.MlaVRefIdeal.main_arg1) = m ((c.tc : Thread Cert.MlaVIdeal.nD Cert.MlaVIdeal.τ).loc Cert.MlaVIdeal.main_arg1)) →
    ∃ (v0 : (c : Dev Cert.MlaVIdeal.nD) → Buf (Elt Ideal) ((c.tc : Thread Cert.MlaVIdeal.nD Cert.MlaVIdeal.τ).loc Cert.MlaVIdeal.main_v3)),
      θ_run (Cert.MlaVIdeal.defs (F := Ideal)) (onTc (τ := Cert.MlaVIdeal.τ) (Cert.MlaVIdeal.main (F := Ideal))) ⟨m, fun _ => 0, g⟩ (fun r => ∀ c : Dev Cert.MlaVIdeal.nD,
          r.2.mem ((c.tc : Thread Cert.MlaVIdeal.nD Cert.MlaVIdeal.τ).loc Cert.MlaVIdeal.main_v3) = v0 c
          ∧ r.2.mem ((c.tc : Thread Cert.MlaVIdeal.nD Cert.MlaVIdeal.τ).loc Cert.MlaVIdeal.main_arg0) = m ((c.tc : Thread Cert.MlaVIdeal.nD Cert.MlaVIdeal.τ).loc Cert.MlaVIdeal.main_arg0)
          ∧ r.2.mem ((c.tc : Thread Cert.MlaVIdeal.nD Cert.MlaVIdeal.τ).loc Cert.MlaVIdeal.main_arg1) = m ((c.tc : Thread Cert.MlaVIdeal.nD Cert.MlaVIdeal.τ).loc Cert.MlaVIdeal.main_arg1))
      ∧ θ_run (Cert.MlaVRefIdeal.defs (F := Ideal)) (onTc (τ := Cert.MlaVRefIdeal.τ) (Cert.MlaVRefIdeal.main (F := Ideal))) ⟨m', fun _ => 0, g'⟩ (fun r => ∀ c : Dev Cert.MlaVRefIdeal.nD,
          r.2.mem ((c.tc : Thread Cert.MlaVRefIdeal.nD Cert.MlaVRefIdeal.τ).loc Cert.MlaVRefIdeal.main_v4) = v0 c
          ∧ r.2.mem ((c.tc : Thread Cert.MlaVRefIdeal.nD Cert.MlaVRefIdeal.τ).loc Cert.MlaVRefIdeal.main_arg0) = m' ((c.tc : Thread Cert.MlaVRefIdeal.nD Cert.MlaVRefIdeal.τ).loc Cert.MlaVRefIdeal.main_arg0)
          ∧ r.2.mem ((c.tc : Thread Cert.MlaVRefIdeal.nD Cert.MlaVRefIdeal.τ).loc Cert.MlaVRefIdeal.main_arg1) = m' ((c.tc : Thread Cert.MlaVRefIdeal.nD Cert.MlaVRefIdeal.τ).loc Cert.MlaVRefIdeal.main_arg1))

def Claim : Prop :=
  ∃ (hMla : Cert.Mla.Facts) (hMlaIdeal : Cert.MlaIdeal.Facts) (hMlaRefIdeal : Cert.MlaRefIdeal.Facts) (hMoeUp : Cert.MoeUp.Facts) (hMoeUpIdeal : Cert.MoeUpIdeal.Facts) (hMoeUpRefIdeal : Cert.MoeUpRefIdeal.Facts) (hMoeDown : Cert.MoeDown.Facts) (hMoeDownIdeal : Cert.MoeDownIdeal.Facts) (hMoeDownRefIdeal : Cert.MoeDownRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hNaQkv : Cert.NaQkv.Facts) (hNaQkvIdeal : Cert.NaQkvIdeal.Facts) (hNaQkvRefIdeal : Cert.NaQkvRefIdeal.Facts) (hMixerOut : Cert.MixerOut.Facts) (hMixerOutIdeal : Cert.MixerOutIdeal.Facts) (hMixerOutRefIdeal : Cert.MixerOutRefIdeal.Facts) (hMlaDkv : Cert.MlaDkv.Facts) (hMlaDkvIdeal : Cert.MlaDkvIdeal.Facts) (hMlaDkvRefIdeal : Cert.MlaDkvRefIdeal.Facts) (hMlaDq : Cert.MlaDq.Facts) (hMlaDqIdeal : Cert.MlaDqIdeal.Facts) (hMlaDqRefIdeal : Cert.MlaDqRefIdeal.Facts) (hMlaUq : Cert.MlaUq.Facts) (hMlaUqIdeal : Cert.MlaUqIdeal.Facts) (hMlaUqRefIdeal : Cert.MlaUqRefIdeal.Facts) (hMlaV : Cert.MlaV.Facts) (hMlaVIdeal : Cert.MlaVIdeal.Facts) (hMlaVRefIdeal : Cert.MlaVRefIdeal.Facts) (hPre_finite_scores : Cert.Pre_finite_scores.Facts) (hPre_experts_in_range : Cert.Pre_experts_in_range.Facts) (hPre_down_experts_in_range : Cert.Pre_down_experts_in_range.Facts),
    quiescent_Mla (hMla := hMla)
    ∧ quiescent_MlaIdeal (hMlaIdeal := hMlaIdeal)
    ∧ quiescent_MlaIdeal_pre_finite_scores (hMlaIdeal := hMlaIdeal) (hPre_finite_scores := hPre_finite_scores)
    ∧ quiescent_MlaRefIdeal (hMlaRefIdeal := hMlaRefIdeal)
    ∧ quiescent_MlaRefIdeal_pre_finite_scores (hMlaRefIdeal := hMlaRefIdeal) (hPre_finite_scores := hPre_finite_scores)
    ∧ quiescent_MoeUp (hMoeUp := hMoeUp) (hPre_experts_in_range := hPre_experts_in_range)
    ∧ quiescent_MoeUpIdeal (hMoeUpIdeal := hMoeUpIdeal) (hPre_experts_in_range := hPre_experts_in_range)
    ∧ quiescent_MoeUpRefIdeal (hMoeUpRefIdeal := hMoeUpRefIdeal)
    ∧ quiescent_MoeUpRefIdeal_pre_experts_in_range (hMoeUpRefIdeal := hMoeUpRefIdeal) (hPre_experts_in_range := hPre_experts_in_range)
    ∧ quiescent_MoeDown (hMoeDown := hMoeDown) (hPre_down_experts_in_range := hPre_down_experts_in_range)
    ∧ quiescent_MoeDownIdeal (hMoeDownIdeal := hMoeDownIdeal) (hPre_down_experts_in_range := hPre_down_experts_in_range)
    ∧ quiescent_MoeDownRefIdeal (hMoeDownRefIdeal := hMoeDownRefIdeal)
    ∧ quiescent_MoeDownRefIdeal_pre_down_experts_in_range (hMoeDownRefIdeal := hMoeDownRefIdeal) (hPre_down_experts_in_range := hPre_down_experts_in_range)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_NaQkv (hNaQkv := hNaQkv)
    ∧ quiescent_NaQkvIdeal (hNaQkvIdeal := hNaQkvIdeal)
    ∧ quiescent_NaQkvRefIdeal (hNaQkvRefIdeal := hNaQkvRefIdeal)
    ∧ quiescent_MixerOut (hMixerOut := hMixerOut)
    ∧ quiescent_MixerOutIdeal (hMixerOutIdeal := hMixerOutIdeal)
    ∧ quiescent_MixerOutRefIdeal (hMixerOutRefIdeal := hMixerOutRefIdeal)
    ∧ quiescent_MlaDkv (hMlaDkv := hMlaDkv)
    ∧ quiescent_MlaDkvIdeal (hMlaDkvIdeal := hMlaDkvIdeal)
    ∧ quiescent_MlaDkvRefIdeal (hMlaDkvRefIdeal := hMlaDkvRefIdeal)
    ∧ quiescent_MlaDq (hMlaDq := hMlaDq)
    ∧ quiescent_MlaDqIdeal (hMlaDqIdeal := hMlaDqIdeal)
    ∧ quiescent_MlaDqRefIdeal (hMlaDqRefIdeal := hMlaDqRefIdeal)
    ∧ quiescent_MlaUq (hMlaUq := hMlaUq)
    ∧ quiescent_MlaUqIdeal (hMlaUqIdeal := hMlaUqIdeal)
    ∧ quiescent_MlaUqRefIdeal (hMlaUqRefIdeal := hMlaUqRefIdeal)
    ∧ quiescent_MlaV (hMlaV := hMlaV)
    ∧ quiescent_MlaVIdeal (hMlaVIdeal := hMlaVIdeal)
    ∧ quiescent_MlaVRefIdeal (hMlaVRefIdeal := hMlaVRefIdeal)
    ∧ preserves_Mla_MlaIdeal
    ∧ algebraic_MlaIdeal_MlaRefIdeal_pre_finite_scores (hMlaIdeal := hMlaIdeal) (hMlaRefIdeal := hMlaRefIdeal) (hPre_finite_scores := hPre_finite_scores)
    ∧ preserves_MoeUp_MoeUpIdeal
    ∧ algebraic_MoeUpIdeal_MoeUpRefIdeal (hMoeUpIdeal := hMoeUpIdeal) (hMoeUpRefIdeal := hMoeUpRefIdeal) (hPre_experts_in_range := hPre_experts_in_range)
    ∧ preserves_MoeDown_MoeDownIdeal
    ∧ algebraic_MoeDownIdeal_MoeDownRefIdeal (hMoeDownIdeal := hMoeDownIdeal) (hMoeDownRefIdeal := hMoeDownRefIdeal) (hPre_down_experts_in_range := hPre_down_experts_in_range)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_NaQkv_NaQkvIdeal
    ∧ algebraic_NaQkvIdeal_NaQkvRefIdeal (hNaQkvIdeal := hNaQkvIdeal) (hNaQkvRefIdeal := hNaQkvRefIdeal)
    ∧ preserves_MixerOut_MixerOutIdeal
    ∧ algebraic_MixerOutIdeal_MixerOutRefIdeal (hMixerOutIdeal := hMixerOutIdeal) (hMixerOutRefIdeal := hMixerOutRefIdeal)
    ∧ preserves_MlaDkv_MlaDkvIdeal
    ∧ algebraic_MlaDkvIdeal_MlaDkvRefIdeal (hMlaDkvIdeal := hMlaDkvIdeal) (hMlaDkvRefIdeal := hMlaDkvRefIdeal)
    ∧ preserves_MlaDq_MlaDqIdeal
    ∧ algebraic_MlaDqIdeal_MlaDqRefIdeal (hMlaDqIdeal := hMlaDqIdeal) (hMlaDqRefIdeal := hMlaDqRefIdeal)
    ∧ preserves_MlaUq_MlaUqIdeal
    ∧ algebraic_MlaUqIdeal_MlaUqRefIdeal (hMlaUqIdeal := hMlaUqIdeal) (hMlaUqRefIdeal := hMlaUqRefIdeal)
    ∧ preserves_MlaV_MlaVIdeal
    ∧ algebraic_MlaVIdeal_MlaVRefIdeal (hMlaVIdeal := hMlaVIdeal) (hMlaVRefIdeal := hMlaVRefIdeal)
-- ==== Pre_down_experts_in_range.lean ====
abbrev S88 : Shape := ⟨1, ![88]⟩
abbrev S45056x5632 : Shape := ⟨2, ![45056, 5632]⟩
abbrev S8x5632x4096 : Shape := ⟨3, ![8, 5632, 4096]⟩
abbrev S_ : Shape := ⟨0, ![]⟩

class Facts : Prop where
  bcast_S_S88 : S_.BroadcastsInDim S88 (![] : Fin 0 → Fin S88.rank)

variable [Facts]

def fn {F : FTy → Type} [FloatOps F] (main_arg0 : IVec S88 32) (main_arg1 : IVec S88 32) (main_arg2 : FVec F S45056x5632 .bf16) (main_arg3 : FVec F S8x5632x4096 .bf16) : IVec S88 1 :=
  let main_c : IVec S_ 32 := constantI S_ 32 0#32
  let main_v0 : IVec S88 32 := broadcastInDim S88 ![] bcast_S_S88 main_c
  let main_v1 : IVec S88 1 := cmpi .sge main_arg0 main_v0
  let main_c_0 : IVec S_ 32 := constantI S_ 32 8#32
  let main_v2 : IVec S88 32 := broadcastInDim S88 ![] bcast_S_S88 main_c_0
  let main_v3 : IVec S88 1 := cmpi .slt main_arg0 main_v2
  let main_v4 : IVec S88 1 := andi main_v1 main_v3
  main_v4
-- ==== Pre_experts_in_range.lean ====
abbrev S88 : Shape := ⟨1, ![88]⟩
abbrev S45056x4096 : Shape := ⟨2, ![45056, 4096]⟩
abbrev S8x4096x5632 : Shape := ⟨3, ![8, 4096, 5632]⟩
abbrev S_ : Shape := ⟨0, ![]⟩

class Facts : Prop where
  bcast_S_S88 : S_.BroadcastsInDim S88 (![] : Fin 0 → Fin S88.rank)

variable [Facts]

def fn {F : FTy → Type} [FloatOps F] (main_arg0 : IVec S88 32) (main_arg1 : IVec S88 32) (main_arg2 : FVec F S45056x4096 .f32) (main_arg3 : FVec F S8x4096x5632 .bf16) (main_arg4 : FVec F S8x4096x5632 .bf16) : IVec S88 1 :=
  let main_c : IVec S_ 32 := constantI S_ 32 0#32
  let main_v0 : IVec S88 32 := broadcastInDim S88 ![] bcast_S_S88 main_c
  let main_v1 : IVec S88 1 := cmpi .sge main_arg0 main_v0
  let main_c_0 : IVec S_ 32 := constantI S_ 32 8#32
  let main_v2 : IVec S88 32 := broadcastInDim S88 ![] bcast_S_S88 main_c_0
  let main_v3 : IVec S88 1 := cmpi .slt main_arg0 main_v2
  let main_v4 : IVec S88 1 := andi main_v1 main_v3
  main_v4
-- ==== Pre_finite_scores.lean ====
abbrev S20480x8192 : Shape := ⟨2, ![20480, 8192]⟩
abbrev S17408x8192 : Shape := ⟨2, ![17408, 8192]⟩
abbrev S17408x4096 : Shape := ⟨2, ![17408, 4096]⟩
abbrev S_ : Shape := ⟨0, ![]⟩

class Facts : Prop where
  bcast_S_S20480x8192 : S_.BroadcastsInDim S20480x8192 (![] : Fin 0 → Fin S20480x8192.rank)
  bitsLt_bf16_f32 : FTy.bits .bf16 < FTy.bits .f32
  bcast_S_S17408x8192 : S_.BroadcastsInDim S17408x8192 (![] : Fin 0 → Fin S17408x8192.rank)

variable [Facts]

def fn {F : FTy → Type} [FloatOps F] (main_arg0 : FVec F S20480x8192 .f32) (main_arg1 : FVec F S17408x8192 .bf16) (main_arg2 : FVec F S17408x4096 .bf16) : IVec S20480x8192 1 × IVec S17408x8192 1 :=
  let main_v0 : FVec F S20480x8192 .f32 := Host.absf main_arg0
  let main_cst : FVec F S_ .f32 := constant S_ .f32 0x7F800000#32
  let main_v1 : FVec F S20480x8192 .f32 := broadcastInDim S20480x8192 ![] bcast_S_S20480x8192 main_cst
  let main_v2 : IVec S20480x8192 1 := cmpf .olt main_v0 main_v1
  let main_v3 : FVec F S17408x8192 .f32 := (extf .f32 · bitsLt_bf16_f32) main_arg1
  let main_v4 : FVec F S17408x8192 .f32 := Host.absf main_v3
  let main_cst_0 : FVec F S_ .f32 := constant S_ .f32 0x7F800000#32
  let main_v5 : FVec F S17408x8192 .f32 := broadcastInDim S17408x8192 ![] bcast_S_S17408x8192 main_cst_0
  let main_v6 : IVec S17408x8192 1 := cmpf .olt main_v4 main_v5
  (main_v2, main_v6)
-- ==== Mla.lean ====
abbrev S20480x8192 : Shape := ⟨2, ![20480, 8192]⟩
abbrev S17408x8192 : Shape := ⟨2, ![17408, 8192]⟩
abbrev S17408x4096 : Shape := ⟨2, ![17408, 4096]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x128 : Shape := ⟨2, ![4096, 128]⟩
abbrev S4096x256 : Shape := ⟨2, ![4096, 256]⟩
abbrev S16384x4096 : Shape := ⟨2, ![16384, 4096]⟩
abbrev S512x256 : Shape := ⟨2, ![512, 256]⟩
abbrev S4352x256 : Shape := ⟨2, ![4352, 256]⟩
abbrev S4352x128 : Shape := ⟨2, ![4352, 128]⟩
abbrev S512x128 : Shape := ⟨2, ![512, 128]⟩
abbrev S512x1 : Shape := ⟨2, ![512, 1]⟩
abbrev S256x256 : Shape := ⟨2, ![256, 256]⟩
abbrev S512 : Shape := ⟨1, ![512]⟩
abbrev S256x128 : Shape := ⟨2, ![256, 128]⟩

abbrev nBuf : Space → Nat
  | .hbm => 93
  | .vmem => 14
  | .smem => 0
  | _ => 0

abbrev bufTy : (tb : Table) → Fin (tcTables nBuf tb) → BufTy
  | .hbm, ⟨0, _⟩ => ⟨S20480x8192, .f32⟩
  | .hbm, ⟨1, _⟩ => ⟨S17408x8192, .bf16⟩
  | .hbm, ⟨2, _⟩ => ⟨S17408x4096, .bf16⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S_, .i1⟩
  | .hbm, ⟨39, _⟩ => ⟨S4096, .i1⟩
  | .hbm, ⟨40, _⟩ => ⟨S4096, .i1⟩
  | .hbm, ⟨41, _⟩ => ⟨S4096, .i1⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S4096x1, .f32⟩
  | .hbm, ⟨55, _⟩ => ⟨S1x16, .f32⟩
  | .hbm, ⟨56, _⟩ => ⟨S4096x16, .f32⟩
  | .hbm, ⟨57, _⟩ => ⟨S4096x16, .f32⟩
  | .hbm, ⟨58, _⟩ => ⟨S4096x16, .f32⟩
  | .hbm, ⟨59, _⟩ => ⟨S4096x1, .f32⟩
  | .hbm, ⟨60, _⟩ => ⟨S1x16, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S_, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S4096x64, .f32⟩
  | .hbm, ⟨69, _⟩ => ⟨S4096x16, .f32⟩
  | .hbm, ⟨70, _⟩ => ⟨S4096x16, .f32⟩
  | .hbm, ⟨71, _⟩ => ⟨S4096x16, .f32⟩
  | .hbm, ⟨72, _⟩ => ⟨S4096x16, .f32⟩
  | .hbm, ⟨73, _⟩ => ⟨S4096x64, .f32⟩
  | .hbm, ⟨74, _⟩ => ⟨S4096x16, .f32⟩
  | .hbm, ⟨75, _⟩ => ⟨S4096x16, .f32⟩
  | .hbm, ⟨76, _⟩ => ⟨S4096x64, .f32⟩
  | .hbm, ⟨77, _⟩ => ⟨S_, .f32⟩
  | .hbm, ⟨78, _⟩ => ⟨S4096x128, .f32⟩
  | .hbm, ⟨79, _⟩ => ⟨S_, .f32⟩
  | .hbm, ⟨80, _⟩ => ⟨S4096x64, .f32⟩
  | .hbm, ⟨81, _⟩ => ⟨S4096x256, .f32⟩
  | .hbm, ⟨82, _⟩ => ⟨S_, .f32⟩
  | .hbm, ⟨83, _⟩ => ⟨S4096x128, .f32⟩
  | .hbm, ⟨84, _⟩ => ⟨S_, .f32⟩
  | .hbm, ⟨85, _⟩ => ⟨S4096x64, .f32⟩
  | .hbm, ⟨86, _⟩ => ⟨S4096x256, .f32⟩
  | .hbm, ⟨87, _⟩ => ⟨S_, .f32⟩
  | .hbm, ⟨88, _⟩ => ⟨S4096x128, .f32⟩
  | .hbm, ⟨89, _⟩ => ⟨S_, .f32⟩
  | .hbm, ⟨90, _⟩ => ⟨S4096x64, .f32⟩
  | .hbm, ⟨91, _⟩ => ⟨S4096x256, .f32⟩
  | .hbm, ⟨92, _⟩ => ⟨S16384x4096, .bf16⟩
  | .local _ .vmem, ⟨0, _⟩ => ⟨S512x256, .f32⟩
  | .local _ .vmem, ⟨1, _⟩ => ⟨S512x256, .f32⟩
  | .local _ .vmem, ⟨2, _⟩ => ⟨S4352x256, .bf16⟩
  | .local _ .vmem, ⟨3, _⟩ => ⟨S4352x256, .bf16⟩
  | .local _ .vmem, ⟨4, _⟩ => ⟨S4352x128, .bf16⟩
  | .local _ .vmem, ⟨5, _⟩ => ⟨S4352x128, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x128, .bf16⟩
  | .local _ .vmem, ⟨13, _⟩ => ⟨S512x128, .bf16⟩
  | _, _ => ⟨S20480x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_v8 : Ref sig .tc := ⟨.hbm, 50, rfl⟩
abbrev main_cst_1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_cst_2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst_3 : Ref sig .tc := ⟨.hbm, 77, rfl⟩
abbrev main_v33 : Ref sig .tc := ⟨.hbm, 78, rfl⟩
abbrev main_cst_4 : Ref sig .tc := ⟨.hbm, 79, rfl⟩
abbrev main_v34 : Ref sig .tc := ⟨.hbm, 80, rfl⟩
abbrev main_v35 : Ref sig .tc := ⟨.hbm, 81, rfl⟩
abbrev main_cst_5 : Ref sig .tc := ⟨.hbm, 82, rfl⟩
abbrev main_v36 : Ref sig .tc := ⟨.hbm, 83, rfl⟩
abbrev main_cst_6 : Ref sig .tc := ⟨.hbm, 84, rfl⟩
abbrev main_v37 : Ref sig .tc := ⟨.hbm, 85, rfl⟩
abbrev main_v38 : Ref sig .tc := ⟨.hbm, 86, rfl⟩
abbrev main_cst_7 : Ref sig .tc := ⟨.hbm, 87, rfl⟩
abbrev main_v39 : Ref sig .tc := ⟨.hbm, 88, rfl⟩
abbrev main_cst_8 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 32, 8], ![false, false, false]⟩

@[reducible] def k0_t1_loop : Scf.Loop 32 :=
  let c0_i32 : BitVec 32 := 0#32
  let c17_i32 : BitVec 32 := 17#32
  let v20 : BitVec 32 := Scalar.addi c0_i32 c17_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v26 : BitVec 32 := Scalar.muli arg10 c256_i32
  v26
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v26 : BitVec 32 := Scalar.muli arg10 c256_i32
  let v27 : BitVec 32 := v26
  let v28 : Index := Scalar.indexCast v27
  let c0_13 : Index := 0#32
  ![v28.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v26 : BitVec 32 := Scalar.muli arg10 c256_i32
  let v27 : BitVec 32 := v26
  let v46 : Index := Scalar.indexCast v27
  let c0_17 : Index := 0#32
  ![v46.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c8_i32_0 : BitVec 32 := 8#32
  let v1 : BitVec 32 := Scalar.addi c8_i32_0 v0
  let v2 : BitVec 32 := Scalar.addi v1 arg2
  let c0_i32 : BitVec 32 := 0#32
  let v3 : BitVec 32 := Scalar.addi c0_i32 arg1
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== MlaRefIdeal.lean ====
abbrev S20480x8192 : Shape := ⟨2, ![20480, 8192]⟩
abbrev S17408x8192 : Shape := ⟨2, ![17408, 8192]⟩
abbrev S17408x4096 : Shape := ⟨2, ![17408, 4096]⟩
abbrev S16384x8192 : Shape := ⟨2, ![16384, 8192]⟩
abbrev S4x4096x32x256 : Shape := ⟨4, ![4, 4096, 32, 256]⟩
abbrev S4x4096x32x128 : Shape := ⟨4, ![4, 4096, 32, 128]⟩
abbrev S4x4096x32x64 : Shape := ⟨4, ![4, 4096, 32, 64]⟩
abbrev S4096 : Shape := ⟨1, ![4096]⟩
abbrev S_ : Shape := ⟨0, ![]⟩
abbrev S16 : Shape := ⟨1, ![16]⟩
abbrev S4x4096x32x32 : Shape := ⟨4, ![4, 4096, 32, 32]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x32x16 : Shape := ⟨4, ![4, 4096, 32, 16]⟩
abbrev S4x4352x32x256 : Shape := ⟨4, ![4, 4352, 32, 256]⟩
abbrev S4x4352x32x128 : Shape := ⟨4, ![4, 4352, 32, 128]⟩
abbrev S4x32x4096x4352 : Shape := ⟨4, ![4, 32, 4096, 4352]⟩
abbrev S4x32x4096 : Shape := ⟨3, ![4, 32, 4096]⟩
abbrev S4x32x4096x1 : Shape := ⟨4, ![4, 32, 4096, 1]⟩
abbrev S4x32x128x4096 : Shape := ⟨4, ![4, 32, 128, 4096]⟩
abbrev S16384x4096 : Shape := ⟨2, ![16384, 4096]⟩

abbrev nBuf : Space → Nat
  | .hbm => 133
  | .vmem => 0
  | .smem => 0
  | _ => 0

abbrev hbmTy0_0 (i : Nat) : BufTy := match i % 128 with
  | 0 => ⟨S20480x8192, .f32⟩
  | 1 => ⟨S17408x8192, .bf16⟩
  | 2 => ⟨S17408x4096, .bf16⟩
  | 3 => ⟨S16384x8192, .f32⟩
  | 4 => ⟨S4x4096x32x256, .f32⟩
  | 5 => ⟨S4x4096x32x128, .f32⟩
  | 6 => ⟨S4x4096x32x64, .f32⟩
  | 7 => ⟨S4096, .i32⟩
  | 8 => ⟨S_, .i32⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i1⟩
  | 16 => ⟨S4096, .i32⟩
  | 17 => ⟨S4096, .i32⟩
  | 18 => ⟨S_, .i32⟩
  | 19 => ⟨S4096, .i32⟩
  | 20 => ⟨S4096, .i1⟩
  | 21 => ⟨S4096, .i1⟩
  | 22 => ⟨S_, .i32⟩
  | 23 => ⟨S4096, .i32⟩
  | 24 => ⟨S4096, .i32⟩
  | 25 => ⟨S4096, .i32⟩
  | 26 => ⟨S4096, .f32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i1⟩
  | 38 => ⟨S_, .i32⟩
  | 39 => ⟨S4096, .i32⟩
  | 40 => ⟨S4096, .i1⟩
  | 41 => ⟨S_, .i32⟩
  | 42 => ⟨S_, .i1⟩
  | 43 => ⟨S4096, .i1⟩
  | 44 => ⟨S4096, .i1⟩
  | 45 => ⟨S4096, .i1⟩
  | 46 => ⟨S4096, .i32⟩
  | 47 => ⟨S4096, .i32⟩
  | 48 => ⟨S4096, .i32⟩
  | 49 => ⟨S4096, .f32⟩
  | 50 => ⟨S16, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S4x4096x32x32, .f32⟩
  | 59 => ⟨S4096x1, .f32⟩
  | 60 => ⟨S1x16, .f32⟩
  | 61 => ⟨S4096x16, .f32⟩
  | 62 => ⟨S4096x16, .f32⟩
  | 63 => ⟨S4096x16, .f32⟩
  | 64 => ⟨S4096x16, .f32⟩
  | 65 => ⟨S1x4096x1x16, .f32⟩
  | 66 => ⟨S4096x16, .f32⟩
  | 67 => ⟨S1x4096x1x16, .f32⟩
  | 68 => ⟨S4x4096x32x16, .f32⟩
  | 69 => ⟨S4x4096x32x16, .f32⟩
  | 70 => ⟨S4x4096x32x16, .f32⟩
  | 71 => ⟨S4x4096x32x16, .f32⟩
  | 72 => ⟨S4x4096x32x16, .f32⟩
  | 73 => ⟨S4x4096x32x16, .f32⟩
  | 74 => ⟨S4x4096x32x16, .f32⟩
  | 75 => ⟨S4x4096x32x16, .f32⟩
  | 76 => ⟨S4x4096x32x16, .f32⟩
  | 77 => ⟨S4x4096x32x16, .f32⟩
  | 78 => ⟨S4x4096x32x16, .f32⟩
  | 79 => ⟨S4x4096x32x16, .f32⟩
  | 80 => ⟨S4x4096x32x32, .f32⟩
  | 81 => ⟨S4x4096x32x32, .f32⟩
  | 82 => ⟨S4096x1, .f32⟩
  | 83 => ⟨S1x16, .f32⟩
  | 84 => ⟨S4096x16, .f32⟩
  | 85 => ⟨S4096x16, .f32⟩
  | 86 => ⟨S4096x16, .f32⟩
  | 87 => ⟨S4096x16, .f32⟩
  | 88 => ⟨S1x4096x1x16, .f32⟩
  | 89 => ⟨S4096x16, .f32⟩
  | 90 => ⟨S1x4096x1x16, .f32⟩
  | 91 => ⟨S4x4096x32x16, .f32⟩
  | 92 => ⟨S4x4096x32x16, .f32⟩
  | 93 => ⟨S4x4096x32x16, .f32⟩
  | 94 => ⟨S4x4096x32x16, .f32⟩
  | 95 => ⟨S4x4096x32x16, .f32⟩
  | 96 => ⟨S4x4096x32x16, .f32⟩
  | 97 => ⟨S4x4096x32x16, .f32⟩
  | 98 => ⟨S4x4096x32x16, .f32⟩
  | 99 => ⟨S4x4096x32x16, .f32⟩
  | 100 => ⟨S4x4096x32x16, .f32⟩
  | 101 => ⟨S4x4096x32x16, .f32⟩
  | 102 => ⟨S4x4096x32x16, .f32⟩
  | 103 => ⟨S4x4096x32x32, .f32⟩
  | 104 => ⟨S4x4096x32x64, .f32⟩
  | 105 => ⟨S4x4096x32x64, .f32⟩
  | 106 => ⟨S4x4096x32x256, .f32⟩
  | 107 => ⟨S17408x8192, .f32⟩
  | 108 => ⟨S4x4352x32x256, .f32⟩
  | 109 => ⟨S17408x4096, .f32⟩
  | 110 => ⟨S4x4352x32x128, .f32⟩
  | 111 => ⟨S4x32x4096x4352, .f32⟩
  | 112 => ⟨S_, .f32⟩
  | 113 => ⟨S4x32x4096x4352, .f32⟩
  | 114 => ⟨S4x32x4096x4352, .f32⟩
  | 115 => ⟨S_, .f32⟩
  | 116 => ⟨S4x32x4096, .f32⟩
  | 117 => ⟨S_, .f32⟩
  | 118 => ⟨S4x32x4096, .f32⟩
  | 119 => ⟨S4x32x4096, .f32⟩
  | 120 => ⟨S4x32x4096x1, .f32⟩
  | 121 => ⟨S4x32x4096x4352, .f32⟩
  | 122 => ⟨S4x32x4096x4352, .f32⟩
  | 123 => ⟨S4x32x4096x4352, .f32⟩
  | 124 => ⟨S_, .f32⟩
  | 125 => ⟨S4x32x4096, .f32⟩
  | 126 => ⟨S4x32x4096x1, .f32⟩
  | 127 => ⟨S4x32x4096x4352, .f32⟩
  | _ => ⟨S20480x8192, .f32⟩

abbrev hbmTy0_1 (i : Nat) : BufTy := match i % 128 with
  | 0 => ⟨S4x32x4096x4352, .f32⟩
  | 1 => ⟨S4x32x128x4096, .f32⟩
  | 2 => ⟨S4x4096x32x128, .f32⟩
  | 3 => ⟨S16384x4096, .f32⟩
  | 4 => ⟨S16384x4096, .bf16⟩
  | _ => ⟨S20480x8192, .f32⟩

abbrev hbmTy (i : Nat) : BufTy := match i / 128 with
  | 0 => hbmTy0_0 i
  | 1 => hbmTy0_1 i
  | _ => ⟨S20480x8192, .f32⟩

abbrev bufTy : (tb : Table) → Fin (tcTables nBuf tb) → BufTy
  | .hbm, ⟨i, _⟩ => hbmTy i
  | _, _ => ⟨S20480x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_cst : Ref sig .tc := ⟨.hbm, 52, rfl⟩
abbrev main_v11 : Ref sig .tc := ⟨.hbm, 53, rfl⟩
abbrev main_v12 : Ref sig .tc := ⟨.hbm, 54, rfl⟩
abbrev main_cst_1 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_2 : Ref sig .tc := ⟨.hbm, 112, rfl⟩
abbrev main_v69 : Ref sig .tc := ⟨.hbm, 113, rfl⟩
abbrev main_v70 : Ref sig .tc := ⟨.hbm, 114, rfl⟩
abbrev main_cst_3 : Ref sig .tc := ⟨.hbm, 115, rfl⟩
abbrev main_v71 : Ref sig .tc := ⟨.hbm, 116, rfl⟩
abbrev main_cst_4 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_5 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩

abbrev nD : Nat := 1
abbrev τ : Topo := Topo.v7x

variable {F : FTy → Type} [FloatOps F]
-- ==== MoeUp.lean ====
abbrev S88 : Shape := ⟨1, ![88]⟩
abbrev S45056x4096 : Shape := ⟨2, ![45056, 4096]⟩
abbrev S8x4096x5632 : Shape := ⟨3, ![8, 4096, 5632]⟩
abbrev S45056x5632 : Shape := ⟨2, ![45056, 5632]⟩
abbrev S512x4096 : Shape := ⟨2, ![512, 4096]⟩
abbrev S1x4096x512 : Shape := ⟨3, ![1, 4096, 512]⟩
abbrev S1 : Shape := ⟨1, ![1]⟩
abbrev S512x512 : Shape := ⟨2, ![512, 512]⟩
abbrev S4096x512 : Shape := ⟨2, ![4096, 512]⟩

abbrev nBuf : Space → Nat
  | .hbm => 4
  | .vmem => 8
  | .smem => 2
  | _ => 0

abbrev bufTy : (tb : Table) → Fin (tcTables nBuf tb) → BufTy
  | .hbm, ⟨0, _⟩ => ⟨S45056x4096, .f32⟩
  | .hbm, ⟨1, _⟩ => ⟨S8x4096x5632, .bf16⟩
  | .hbm, ⟨2, _⟩ => ⟨S8x4096x5632, .bf16⟩
  | .hbm, ⟨3, _⟩ => ⟨S45056x5632, .bf16⟩
  | .local _ .vmem, ⟨0, _⟩ => ⟨S512x4096, .f32⟩
  | .local _ .vmem, ⟨1, _⟩ => ⟨S512x4096, .f32⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S512x512, .bf16⟩
  | .local _ .vmem, ⟨7, _⟩ => ⟨S512x512, .bf16⟩
  | .local _ .smem, ⟨0, _⟩ => ⟨S88, .i32⟩
  | .local _ .smem, ⟨1, _⟩ => ⟨S88, .i32⟩
  | _, _ => ⟨S45056x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![88, 11, 1], ![false, false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (i : grid0.Coords) (v1 : BitVec 32) : BitVec 1 :=
  let c0_i32 : BitVec 32 := 0#32
  let v2 : BitVec 1 := Scalar.cmpi .sgt v1 c0_i32
  let v_true : BitVec 1 := 1#1
  let v5 : BitVec 1 := Scalar.xori v2 v_true
  let arg2 : BitVec 32 := BitVec.ofNat 32 (i 2).val
  let c0_i32_1 : BitVec 32 := 0#32
  let v6 : BitVec 1 := Scalar.cmpi .eq arg2 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S88) ![v0.toNat] S1.size (k0_off1_inb i)) numel1_S1
  let c0_i32 : BitVec 32 := 0#32
  ![v1.toNat, arg2.toNat, arg1.toNat]

def cc0_transform_2 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S88) ![v0.toNat] S1.size (k0_off1_inb i)) numel1_S1
  let c0_i32 : BitVec 32 := 0#32
  ![v1.toNat, arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MoeUpRefIdeal.lean ====
abbrev S88 : Shape := ⟨1, ![88]⟩
abbrev S45056x4096 : Shape := ⟨2, ![45056, 4096]⟩
abbrev S8x4096x5632 : Shape := ⟨3, ![8, 4096, 5632]⟩
abbrev S88x512 : Shape := ⟨2, ![88, 512]⟩
abbrev S45056 : Shape := ⟨1, ![45056]⟩
abbrev S_ : Shape := ⟨0, ![]⟩
abbrev S45056x1 : Shape := ⟨2, ![45056, 1]⟩
abbrev S8 : Shape := ⟨1, ![8]⟩
abbrev S1x8 : Shape := ⟨2, ![1, 8]⟩
abbrev S45056x8 : Shape := ⟨2, ![45056, 8]⟩
abbrev S45056x5632 : Shape := ⟨2, ![45056, 5632]⟩
abbrev S1x4096x5632 : Shape := ⟨3, ![1, 4096, 5632]⟩
abbrev S4096x5632 : Shape := ⟨2, ![4096, 5632]⟩

abbrev nBuf : Space → Nat
  | .hbm => 192
  | .vmem => 0
  | .smem => 0
  | _ => 0

abbrev hbmTy0_0 (i : Nat) : BufTy := match i % 128 with
  | 0 => ⟨S88, .i32⟩
  | 1 => ⟨S88, .i32⟩
  | 2 => ⟨S45056x4096, .f32⟩
  | 3 => ⟨S8x4096x5632, .bf16⟩
  | 4 => ⟨S8x4096x5632, .bf16⟩
  | 5 => ⟨S88x512, .i32⟩
  | 6 => ⟨S45056, .i32⟩
  | 7 => ⟨S88x512, .i32⟩
  | 8 => ⟨S45056, .i32⟩
  | 9 => ⟨S_, .i32⟩
  | 10 => ⟨S45056, .i32⟩
  | 11 => ⟨S45056, .i1⟩
  | 12 => ⟨S45056x1, .i32⟩
  | 13 => ⟨S8, .i32⟩
  | 14 => ⟨S1x8, .i32⟩
  | 15 => ⟨S45056x8, .i32⟩
  | 16 => ⟨S45056x8, .i32⟩
  | 17 => ⟨S45056x8, .i1⟩
  | 18 => ⟨S45056x1, .i1⟩
  | 19 => ⟨S45056x8, .i1⟩
  | 20 => ⟨S45056x8, .i1⟩
  | 21 => ⟨S_, .f32⟩
  | 22 => ⟨S_, .f32⟩
  | 23 => ⟨S45056x8, .f32⟩
  | 24 => ⟨S45056x8, .f32⟩
  | 25 => ⟨S45056x8, .f32⟩
  | 26 => ⟨S45056x8, .f32⟩
  | 27 => ⟨S8x4096x5632, .f32⟩
  | 28 => ⟨S8x4096x5632, .f32⟩
  | 29 => ⟨S_, .f32⟩
  | 30 => ⟨S45056x5632, .f32⟩
  | 31 => ⟨S45056x1, .f32⟩
  | 32 => ⟨S1x4096x5632, .f32⟩
  | 33 => ⟨S4096x5632, .f32⟩
  | 34 => ⟨S45056x5632, .f32⟩
  | 35 => ⟨S45056x5632, .f32⟩
  | 36 => ⟨S45056x5632, .f32⟩
  | 37 => ⟨S_, .f32⟩
  | 38 => ⟨S45056x5632, .f32⟩
  | 39 => ⟨S45056x5632, .f32⟩
  | 40 => ⟨S_, .f32⟩
  | 41 => ⟨S45056x5632, .f32⟩
  | 42 => ⟨S45056x5632, .f32⟩
  | 43 => ⟨S45056x5632, .f32⟩
  | 44 => ⟨S1x4096x5632, .f32⟩
  | 45 => ⟨S4096x5632, .f32⟩
  | 46 => ⟨S45056x5632, .f32⟩
  | 47 => ⟨S45056x5632, .f32⟩
  | 48 => ⟨S45056x5632, .f32⟩
  | 49 => ⟨S45056x5632, .f32⟩
  | 50 => ⟨S45056x5632, .f32⟩
  | 51 => ⟨S45056x1, .f32⟩
  | 52 => ⟨S1x4096x5632, .f32⟩
  | 53 => ⟨S4096x5632, .f32⟩
  | 54 => ⟨S45056x5632, .f32⟩
  | 55 => ⟨S45056x5632, .f32⟩
  | 56 => ⟨S45056x5632, .f32⟩
  | 57 => ⟨S_, .f32⟩
  | 58 => ⟨S45056x5632, .f32⟩
  | 59 => ⟨S45056x5632, .f32⟩
  | 60 => ⟨S_, .f32⟩
  | 61 => ⟨S45056x5632, .f32⟩
  | 62 => ⟨S45056x5632, .f32⟩
  | 63 => ⟨S45056x5632, .f32⟩
  | 64 => ⟨S1x4096x5632, .f32⟩
  | 65 => ⟨S4096x5632, .f32⟩
  | 66 => ⟨S45056x5632, .f32⟩
  | 67 => ⟨S45056x5632, .f32⟩
  | 68 => ⟨S45056x5632, .f32⟩
  | 69 => ⟨S45056x5632, .f32⟩
  | 70 => ⟨S45056x5632, .f32⟩
  | 71 => ⟨S45056x1, .f32⟩
  | 72 => ⟨S1x4096x5632, .f32⟩
  | 73 => ⟨S4096x5632, .f32⟩
  | 74 => ⟨S45056x5632, .f32⟩
  | 75 => ⟨S45056x5632, .f32⟩
  | 76 => ⟨S45056x5632, .f32⟩
  | 77 => ⟨S_, .f32⟩
  | 78 => ⟨S45056x5632, .f32⟩
  | 79 => ⟨S45056x5632, .f32⟩
  | 80 => ⟨S_, .f32⟩
  | 81 => ⟨S45056x5632, .f32⟩
  | 82 => ⟨S45056x5632, .f32⟩
  | 83 => ⟨S45056x5632, .f32⟩
  | 84 => ⟨S1x4096x5632, .f32⟩
  | 85 => ⟨S4096x5632, .f32⟩
  | 86 => ⟨S45056x5632, .f32⟩
  | 87 => ⟨S45056x5632, .f32⟩
  | 88 => ⟨S45056x5632, .f32⟩
  | 89 => ⟨S45056x5632, .f32⟩
  | 90 => ⟨S45056x5632, .f32⟩
  | 91 => ⟨S45056x1, .f32⟩
  | 92 => ⟨S1x4096x5632, .f32⟩
  | 93 => ⟨S4096x5632, .f32⟩
  | 94 => ⟨S45056x5632, .f32⟩
  | 95 => ⟨S45056x5632, .f32⟩
  | 96 => ⟨S45056x5632, .f32⟩
  | 97 => ⟨S_, .f32⟩
  | 98 => ⟨S45056x5632, .f32⟩
  | 99 => ⟨S45056x5632, .f32⟩
  | 100 => ⟨S_, .f32⟩
  | 101 => ⟨S45056x5632, .f32⟩
  | 102 => ⟨S45056x5632, .f32⟩
  | 103 => ⟨S45056x5632, .f32⟩
  | 104 => ⟨S1x4096x5632, .f32⟩
  | 105 => ⟨S4096x5632, .f32⟩
  | 106 => ⟨S45056x5632, .f32⟩
  | 107 => ⟨S45056x5632, .f32⟩
  | 108 => ⟨S45056x5632, .f32⟩
  | 109 => ⟨S45056x5632, .f32⟩
  | 110 => ⟨S45056x5632, .f32⟩
  | 111 => ⟨S45056x1, .f32⟩
  | 112 => ⟨S1x4096x5632, .f32⟩
  | 113 => ⟨S4096x5632, .f32⟩
  | 114 => ⟨S45056x5632, .f32⟩
  | 115 => ⟨S45056x5632, .f32⟩
  | 116 => ⟨S45056x5632, .f32⟩
  | 117 => ⟨S_, .f32⟩
  | 118 => ⟨S45056x5632, .f32⟩
  | 119 => ⟨S45056x5632, .f32⟩
  | 120 => ⟨S_, .f32⟩
  | 121 => ⟨S45056x5632, .f32⟩
  | 122 => ⟨S45056x5632, .f32⟩
  | 123 => ⟨S45056x5632, .f32⟩
  | 124 => ⟨S1x4096x5632, .f32⟩
  | 125 => ⟨S4096x5632, .f32⟩
  | 126 => ⟨S45056x5632, .f32⟩
  | 127 => ⟨S45056x5632, .f32⟩
  | _ => ⟨S88, .i32⟩

abbrev hbmTy0_1 (i : Nat) : BufTy := match i % 128 with
  | 0 => ⟨S45056x5632, .f32⟩
  | 1 => ⟨S45056x5632, .f32⟩
  | 2 => ⟨S45056x5632, .f32⟩
  | 3 => ⟨S45056x1, .f32⟩
  | 4 => ⟨S1x4096x5632, .f32⟩
  | 5 => ⟨S4096x5632, .f32⟩
  | 6 => ⟨S45056x5632, .f32⟩
  | 7 => ⟨S45056x5632, .f32⟩
  | 8 => ⟨S45056x5632, .f32⟩
  | 9 => ⟨S_, .f32⟩
  | 10 => ⟨S45056x5632, .f32⟩
  | 11 => ⟨S45056x5632, .f32⟩
  | 12 => ⟨S_, .f32⟩
  | 13 => ⟨S45056x5632, .f32⟩
  | 14 => ⟨S45056x5632, .f32⟩
  | 15 => ⟨S45056x5632, .f32⟩
  | 16 => ⟨S1x4096x5632, .f32⟩
  | 17 => ⟨S4096x5632, .f32⟩
  | 18 => ⟨S45056x5632, .f32⟩
  | 19 => ⟨S45056x5632, .f32⟩
  | 20 => ⟨S45056x5632, .f32⟩
  | 21 => ⟨S45056x5632, .f32⟩
  | 22 => ⟨S45056x5632, .f32⟩
  | 23 => ⟨S45056x1, .f32⟩
  | 24 => ⟨S1x4096x5632, .f32⟩
  | 25 => ⟨S4096x5632, .f32⟩
  | 26 => ⟨S45056x5632, .f32⟩
  | 27 => ⟨S45056x5632, .f32⟩
  | 28 => ⟨S45056x5632, .f32⟩
  | 29 => ⟨S_, .f32⟩
  | 30 => ⟨S45056x5632, .f32⟩
  | 31 => ⟨S45056x5632, .f32⟩
  | 32 => ⟨S_, .f32⟩
  | 33 => ⟨S45056x5632, .f32⟩
  | 34 => ⟨S45056x5632, .f32⟩
  | 35 => ⟨S45056x5632, .f32⟩
  | 36 => ⟨S1x4096x5632, .f32⟩
  | 37 => ⟨S4096x5632, .f32⟩
  | 38 => ⟨S45056x5632, .f32⟩
  | 39 => ⟨S45056x5632, .f32⟩
  | 40 => ⟨S45056x5632, .f32⟩
  | 41 => ⟨S45056x5632, .f32⟩
  | 42 => ⟨S45056x5632, .f32⟩
  | 43 => ⟨S45056x1, .f32⟩
  | 44 => ⟨S1x4096x5632, .f32⟩
  | 45 => ⟨S4096x5632, .f32⟩
  | 46 => ⟨S45056x5632, .f32⟩
  | 47 => ⟨S45056x5632, .f32⟩
  | 48 => ⟨S45056x5632, .f32⟩
  | 49 => ⟨S_, .f32⟩
  | 50 => ⟨S45056x5632, .f32⟩
  | 51 => ⟨S45056x5632, .f32⟩
  | 52 => ⟨S_, .f32⟩
  | 53 => ⟨S45056x5632, .f32⟩
  | 54 => ⟨S45056x5632, .f32⟩
  | 55 => ⟨S45056x5632, .f32⟩
  | 56 => ⟨S1x4096x5632, .f32⟩
  | 57 => ⟨S4096x5632, .f32⟩
  | 58 => ⟨S45056x5632, .f32⟩
  | 59 => ⟨S45056x5632, .f32⟩
  | 60 => ⟨S45056x5632, .f32⟩
  | 61 => ⟨S45056x5632, .f32⟩
  | 62 => ⟨S45056x5632, .f32⟩
  | 63 => ⟨S45056x5632, .bf16⟩
  | _ => ⟨S88, .i32⟩

abbrev hbmTy (i : Nat) : BufTy := match i / 128 with
  | 0 => hbmTy0_0 i
  | 1 => hbmTy0_1 i
  | _ => ⟨S88, .i32⟩

abbrev bufTy : (tb : Table) → Fin (tcTables nBuf tb) → BufTy
  | .hbm, ⟨i, _⟩ => hbmTy i
  | _, _ => ⟨S88, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call3_v0 : Ref sig .tc := ⟨.hbm, 75, rfl⟩
abbrev main_call3_v1 : Ref sig .tc := ⟨.hbm, 76, rfl⟩
abbrev main_call3_cst : Ref sig .tc := ⟨.hbm, 77, rfl⟩
abbrev main_call3_v2 : Ref sig .tc := ⟨.hbm, 78, rfl⟩
abbrev main_call3_v3 : Ref sig .tc := ⟨.hbm, 79, rfl⟩
abbrev main_call3_cst_0 : Ref sig .tc := ⟨.hbm, 80, rfl⟩
abbrev main_call3_v4 : Ref sig .tc := ⟨.hbm, 81, rfl⟩
abbrev main_call3_v5 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call4_v0 : Ref sig .tc := ⟨.hbm, 95, rfl⟩
abbrev main_call4_v1 : Ref sig .tc := ⟨.hbm, 96, rfl⟩
abbrev main_call4_cst : Ref sig .tc := ⟨.hbm, 97, rfl⟩
abbrev main_call4_v2 : Ref sig .tc := ⟨.hbm, 98, rfl⟩
abbrev main_call4_v3 : Ref sig .tc := ⟨.hbm, 99, rfl⟩
abbrev main_call4_cst_0 : Ref sig .tc := ⟨.hbm, 100, rfl⟩
abbrev main_call4_v4 : Ref sig .tc := ⟨.hbm, 101, rfl⟩
abbrev main_call4_v5 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_call5_v0 : Ref sig .tc := ⟨.hbm, 115, rfl⟩
abbrev main_call5_v1 : Ref sig .tc := ⟨.hbm, 116, rfl⟩
abbrev main_call5_cst : Ref sig .tc := ⟨.hbm, 117, rfl⟩
abbrev main_call5_v2 : Ref sig .tc := ⟨.hbm, 118, rfl⟩
abbrev main_call5_v3 : Ref sig .tc := ⟨.hbm, 119, rfl⟩
abbrev main_call5_cst_0 : Ref sig .tc := ⟨.hbm, 120, rfl⟩
abbrev main_call5_v4 : Ref sig .tc := ⟨.hbm, 121, rfl⟩
abbrev main_call5_v5 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_call6_v0 : Ref sig .tc := ⟨.hbm, 135, rfl⟩
abbrev main_call6_v1 : Ref sig .tc := ⟨.hbm, 136, rfl⟩
abbrev main_call6_cst : Ref sig .tc := ⟨.hbm, 137, rfl⟩
abbrev main_call6_v2 : Ref sig .tc := ⟨.hbm, 138, rfl⟩
abbrev main_call6_v3 : Ref sig .tc := ⟨.hbm, 139, rfl⟩
abbrev main_call6_cst_0 : Ref sig .tc := ⟨.hbm, 140, rfl⟩
abbrev main_call6_v4 : Ref sig .tc := ⟨.hbm, 141, rfl⟩
abbrev main_call6_v5 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_call7_v0 : Ref sig .tc := ⟨.hbm, 155, rfl⟩
abbrev main_call7_v1 : Ref sig .tc := ⟨.hbm, 156, rfl⟩
abbrev main_call7_cst : Ref sig .tc := ⟨.hbm, 157, rfl⟩
abbrev main_call7_v2 : Ref sig .tc := ⟨.hbm, 158, rfl⟩
abbrev main_call7_v3 : Ref sig .tc := ⟨.hbm, 159, rfl⟩
abbrev main_call7_cst_0 : Ref sig .tc := ⟨.hbm, 160, rfl⟩
abbrev main_call7_v4 : Ref sig .tc := ⟨.hbm, 161, rfl⟩
abbrev main_call7_v5 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_call8_v0 : Ref sig .tc := ⟨.hbm, 175, rfl⟩
abbrev main_call8_v1 : Ref sig .tc := ⟨.hbm, 176, rfl⟩
abbrev main_call8_cst : Ref sig .tc := ⟨.hbm, 177, rfl⟩
abbrev main_call8_v2 : Ref sig .tc := ⟨.hbm, 178, rfl⟩
abbrev main_call8_v3 : Ref sig .tc := ⟨.hbm, 179, rfl⟩
abbrev main_call8_cst_0 : Ref sig .tc := ⟨.hbm, 180, rfl⟩
abbrev main_call8_v4 : Ref sig .tc := ⟨.hbm, 181, rfl⟩
abbrev main_call8_v5 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩

abbrev nD : Nat := 1
abbrev τ : Topo := Topo.v7x

variable {F : FTy → Type} [FloatOps F]
-- ==== MoeDown.lean ====
abbrev S88 : Shape := ⟨1, ![88]⟩
abbrev S45056x5632 : Shape := ⟨2, ![45056, 5632]⟩
abbrev S8x5632x4096 : Shape := ⟨3, ![8, 5632, 4096]⟩
abbrev S45056x4096 : Shape := ⟨2, ![45056, 4096]⟩
abbrev S512x2816 : Shape := ⟨2, ![512, 2816]⟩
abbrev S1x2816x1024 : Shape := ⟨3, ![1, 2816, 1024]⟩
abbrev S1 : Shape := ⟨1, ![1]⟩
abbrev S512x1024 : Shape := ⟨2, ![512, 1024]⟩
abbrev S2816x1024 : Shape := ⟨2, ![2816, 1024]⟩

abbrev nBuf : Space → Nat
  | .hbm => 3
  | .vmem => 7
  | .smem => 2
  | _ => 0

abbrev bufTy : (tb : Table) → Fin (tcTables nBuf tb) → BufTy
  | .hbm, ⟨0, _⟩ => ⟨S45056x5632, .bf16⟩
  | .hbm, ⟨1, _⟩ => ⟨S8x5632x4096, .bf16⟩
  | .hbm, ⟨2, _⟩ => ⟨S45056x4096, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .smem, ⟨0, _⟩ => ⟨S88, .i32⟩
  | .local _ .smem, ⟨1, _⟩ => ⟨S88, .i32⟩
  | _, _ => ⟨S45056x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![88, 4, 2], ![false, false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond4 (i : grid0.Coords) : BitVec 1 :=
  let arg2 : BitVec 32 := BitVec.ofNat 32 (i 2).val
  let c1_i32_10 : BitVec 32 := 1#32
  let v20 : BitVec 1 := Scalar.cmpi .eq arg2 c1_i32_10
  let v21 : BitVec 32 := Scalar.extui v20
  let c0_i32_11 : BitVec 32 := 0#32
  let v22 : BitVec 1 := Scalar.cmpi .ne v21 c0_i32_11
  v22

def k0_cond5 (i : grid0.Coords) (v1 : BitVec 32) : BitVec 1 :=
  let c0_i32 : BitVec 32 := 0#32
  let v2 : BitVec 1 := Scalar.cmpi .sgt v1 c0_i32
  let v_true : BitVec 1 := 1#1
  let v5 : BitVec 1 := Scalar.xori v2 v_true
  let arg2 : BitVec 32 := BitVec.ofNat 32 (i 2).val
  let c1_i32 : BitVec 32 := 1#32
  let v6 : BitVec 1 := Scalar.cmpi .eq arg2 c1_i32
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S88) ![v0.toNat] S1.size (k0_off1_inb i)) numel1_S1
  let c0_i32 : BitVec 32 := 0#32
  ![v1.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MoeDownRefIdeal.lean ====
abbrev S88 : Shape := ⟨1, ![88]⟩
abbrev S45056x5632 : Shape := ⟨2, ![45056, 5632]⟩
abbrev S8x5632x4096 : Shape := ⟨3, ![8, 5632, 4096]⟩
abbrev S88x512 : Shape := ⟨2, ![88, 512]⟩
abbrev S45056 : Shape := ⟨1, ![45056]⟩
abbrev S_ : Shape := ⟨0, ![]⟩
abbrev S45056x1 : Shape := ⟨2, ![45056, 1]⟩
abbrev S8 : Shape := ⟨1, ![8]⟩
abbrev S1x8 : Shape := ⟨2, ![1, 8]⟩
abbrev S45056x8 : Shape := ⟨2, ![45056, 8]⟩
abbrev S45056x4096 : Shape := ⟨2, ![45056, 4096]⟩
abbrev S1x5632x4096 : Shape := ⟨3, ![1, 5632, 4096]⟩
abbrev S5632x4096 : Shape := ⟨2, ![5632, 4096]⟩

abbrev nBuf : Space → Nat
  | .hbm => 86
  | .vmem => 0
  | .smem => 0
  | _ => 0

abbrev bufTy : (tb : Table) → Fin (tcTables nBuf tb) → BufTy
  | .hbm, ⟨0, _⟩ => ⟨S88, .i32⟩
  | .hbm, ⟨1, _⟩ => ⟨S88, .i32⟩
  | .hbm, ⟨2, _⟩ => ⟨S45056x5632, .bf16⟩
  | .hbm, ⟨3, _⟩ => ⟨S8x5632x4096, .bf16⟩
  | .hbm, ⟨4, _⟩ => ⟨S88x512, .i32⟩
  | .hbm, ⟨5, _⟩ => ⟨S45056, .i32⟩
  | .hbm, ⟨6, _⟩ => ⟨S88x512, .i32⟩
  | .hbm, ⟨7, _⟩ => ⟨S45056, .i32⟩
  | .hbm, ⟨8, _⟩ => ⟨S_, .i32⟩
  | .hbm, ⟨9, _⟩ => ⟨S45056, .i32⟩
  | .hbm, ⟨10, _⟩ => ⟨S45056, .i1⟩
  | .hbm, ⟨11, _⟩ => ⟨S45056x1, .i32⟩
  | .hbm, ⟨12, _⟩ => ⟨S8, .i32⟩
  | .hbm, ⟨13, _⟩ => ⟨S1x8, .i32⟩
  | .hbm, ⟨14, _⟩ => ⟨S45056x8, .i32⟩
  | .hbm, ⟨15, _⟩ => ⟨S45056x8, .i32⟩
  | .hbm, ⟨16, _⟩ => ⟨S45056x8, .i1⟩
  | .hbm, ⟨17, _⟩ => ⟨S45056x1, .i1⟩
  | .hbm, ⟨18, _⟩ => ⟨S45056x8, .i1⟩
  | .hbm, ⟨19, _⟩ => ⟨S45056x8, .i1⟩
  | .hbm, ⟨20, _⟩ => ⟨S_, .f32⟩
  | .hbm, ⟨21, _⟩ => ⟨S_, .f32⟩
  | .hbm, ⟨22, _⟩ => ⟨S45056x8, .f32⟩
  | .hbm, ⟨23, _⟩ => ⟨S45056x8, .f32⟩
  | .hbm, ⟨24, _⟩ => ⟨S45056x8, .f32⟩
  | .hbm, ⟨25, _⟩ => ⟨S45056x8, .f32⟩
  | .hbm, ⟨26, _⟩ => ⟨S45056x5632, .f32⟩
  | .hbm, ⟨27, _⟩ => ⟨S8x5632x4096, .f32⟩
  | .hbm, ⟨28, _⟩ => ⟨S_, .f32⟩
  | .hbm, ⟨29, _⟩ => ⟨S45056x4096, .f32⟩
  | .hbm, ⟨30, _⟩ => ⟨S45056x1, .f32⟩
  | .hbm, ⟨31, _⟩ => ⟨S1x5632x4096, .f32⟩
  | .hbm, ⟨32, _⟩ => ⟨S5632x4096, .f32⟩
  | .hbm, ⟨33, _⟩ => ⟨S45056x4096, .f32⟩
  | .hbm, ⟨34, _⟩ => ⟨S45056x4096, .f32⟩
  | .hbm, ⟨35, _⟩ => ⟨S45056x4096, .f32⟩
  | .hbm, ⟨36, _⟩ => ⟨S45056x4096, .f32⟩
  | .hbm, ⟨37, _⟩ => ⟨S45056x1, .f32⟩
  | .hbm, ⟨38, _⟩ => ⟨S1x5632x4096, .f32⟩
  | .hbm, ⟨39, _⟩ => ⟨S5632x4096, .f32⟩
  | .hbm, ⟨40, _⟩ => ⟨S45056x4096, .f32⟩
  | .hbm, ⟨41, _⟩ => ⟨S45056x4096, .f32⟩
  | .hbm, ⟨42, _⟩ => ⟨S45056x4096, .f32⟩
  | .hbm, ⟨43, _⟩ => ⟨S45056x4096, .f32⟩
  | .hbm, ⟨44, _⟩ => ⟨S45056x1, .f32⟩
  | .hbm, ⟨45, _⟩ => ⟨S1x5632x4096, .f32⟩
  | .hbm, ⟨46, _⟩ => ⟨S5632x4096, .f32⟩
  | .hbm, ⟨47, _⟩ => ⟨S45056x4096, .f32⟩
  | .hbm, ⟨48, _⟩ => ⟨S45056x4096, .f32⟩
  | .hbm, ⟨49, _⟩ => ⟨S45056x4096, .f32⟩
  | .hbm, ⟨50, _⟩ => ⟨S45056x4096, .f32⟩
  | .hbm, ⟨51, _⟩ => ⟨S45056x1, .f32⟩
  | .hbm, ⟨52, _⟩ => ⟨S1x5632x4096, .f32⟩
  | .hbm, ⟨53, _⟩ => ⟨S5632x4096, .f32⟩
  | .hbm, ⟨54, _⟩ => ⟨S45056x4096, .f32⟩
  | .hbm, ⟨55, _⟩ => ⟨S45056x4096, .f32⟩
  | .hbm, ⟨56, _⟩ => ⟨S45056x4096, .f32⟩
  | .hbm, ⟨57, _⟩ => ⟨S45056x4096, .f32⟩
  | .hbm, ⟨58, _⟩ => ⟨S45056x1, .f32⟩
  | .hbm, ⟨59, _⟩ => ⟨S1x5632x4096, .f32⟩
  | .hbm, ⟨60, _⟩ => ⟨S5632x4096, .f32⟩
  | .hbm, ⟨61, _⟩ => ⟨S45056x4096, .f32⟩
  | .hbm, ⟨62, _⟩ => ⟨S45056x4096, .f32⟩
  | .hbm, ⟨63, _⟩ => ⟨S45056x4096, .f32⟩
  | .hbm, ⟨64, _⟩ => ⟨S45056x4096, .f32⟩
  | .hbm, ⟨65, _⟩ => ⟨S45056x1, .f32⟩
  | .hbm, ⟨66, _⟩ => ⟨S1x5632x4096, .f32⟩
  | .hbm, ⟨67, _⟩ => ⟨S5632x4096, .f32⟩
  | .hbm, ⟨68, _⟩ => ⟨S45056x4096, .f32⟩
  | .hbm, ⟨69, _⟩ => ⟨S45056x4096, .f32⟩
  | .hbm, ⟨70, _⟩ => ⟨S45056x4096, .f32⟩
  | .hbm, ⟨71, _⟩ => ⟨S45056x4096, .f32⟩
  | .hbm, ⟨72, _⟩ => ⟨S45056x1, .f32⟩
  | .hbm, ⟨73, _⟩ => ⟨S1x5632x4096, .f32⟩
  | .hbm, ⟨74, _⟩ => ⟨S5632x4096, .f32⟩
  | .hbm, ⟨75, _⟩ => ⟨S45056x4096, .f32⟩
  | .hbm, ⟨76, _⟩ => ⟨S45056x4096, .f32⟩
  | .hbm, ⟨77, _⟩ => ⟨S45056x4096, .f32⟩
  | .hbm, ⟨78, _⟩ => ⟨S45056x4096, .f32⟩
  | .hbm, ⟨79, _⟩ => ⟨S45056x1, .f32⟩
  | .hbm, ⟨80, _⟩ => ⟨S1x5632x4096, .f32⟩
  | .hbm, ⟨81, _⟩ => ⟨S5632x4096, .f32⟩
  | .hbm, ⟨82, _⟩ => ⟨S45056x4096, .f32⟩
  | .hbm, ⟨83, _⟩ => ⟨S45056x4096, .f32⟩
  | .hbm, ⟨84, _⟩ => ⟨S45056x4096, .f32⟩
  | .hbm, ⟨85, _⟩ => ⟨S45056x4096, .f32⟩
  | _, _ => ⟨S88, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩

abbrev nD : Nat := 1
abbrev τ : Topo := Topo.v7x

variable {F : FTy → Type} [FloatOps F]
-- ==== FfnUp.lean ====
abbrev S20480x4096 : Shape := ⟨2, ![20480, 4096]⟩
abbrev S4096x11008 : Shape := ⟨2, ![4096, 11008]⟩
abbrev S_ : Shape := ⟨0, ![]⟩
abbrev S4096x11264 : Shape := ⟨2, ![4096, 11264]⟩
abbrev S20480x11264 : Shape := ⟨2, ![20480, 11264]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 12
  | .vmem => 8
  | .smem => 0
  | _ => 0

abbrev bufTy : (tb : Table) → Fin (tcTables nBuf tb) → BufTy
  | .hbm, ⟨0, _⟩ => ⟨S20480x4096, .bf16⟩
  | .hbm, ⟨1, _⟩ => ⟨S4096x11008, .f32⟩
  | .hbm, ⟨2, _⟩ => ⟨S4096x11008, .f32⟩
  | .hbm, ⟨3, _⟩ => ⟨S_, .i32⟩
  | .hbm, ⟨4, _⟩ => ⟨S_, .f32⟩
  | .hbm, ⟨5, _⟩ => ⟨S4096x11264, .f32⟩
  | .hbm, ⟨6, _⟩ => ⟨S4096x11264, .bf16⟩
  | .hbm, ⟨7, _⟩ => ⟨S_, .i32⟩
  | .hbm, ⟨8, _⟩ => ⟨S_, .f32⟩
  | .hbm, ⟨9, _⟩ => ⟨S4096x11264, .f32⟩
  | .hbm, ⟨10, _⟩ => ⟨S4096x11264, .bf16⟩
  | .hbm, ⟨11, _⟩ => ⟨S20480x11264, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![20, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnUpRefIdeal.lean ====
abbrev S20480x4096 : Shape := ⟨2, ![20480, 4096]⟩
abbrev S4096x11008 : Shape := ⟨2, ![4096, 11008]⟩
abbrev S20480x11008 : Shape := ⟨2, ![20480, 11008]⟩
abbrev S_ : Shape := ⟨0, ![]⟩
abbrev S20480x11264 : Shape := ⟨2, ![20480, 11264]⟩

abbrev nBuf : Space → Nat
  | .hbm => 20
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S4096x11008, .f32⟩
  | .hbm, ⟨2, _⟩ => ⟨S4096x11008, .f32⟩
  | .hbm, ⟨3, _⟩ => ⟨S20480x4096, .f32⟩
  | .hbm, ⟨4, _⟩ => ⟨S20480x11008, .f32⟩
  | .hbm, ⟨5, _⟩ => ⟨S20480x11008, .f32⟩
  | .hbm, ⟨6, _⟩ => ⟨S20480x11008, .f32⟩
  | .hbm, ⟨7, _⟩ => ⟨S_, .f32⟩
  | .hbm, ⟨8, _⟩ => ⟨S20480x11008, .f32⟩
  | .hbm, ⟨9, _⟩ => ⟨S20480x11008, .f32⟩
  | .hbm, ⟨10, _⟩ => ⟨S_, .f32⟩
  | .hbm, ⟨11, _⟩ => ⟨S20480x11008, .f32⟩
  | .hbm, ⟨12, _⟩ => ⟨S20480x11008, .f32⟩
  | .hbm, ⟨13, _⟩ => ⟨S20480x11008, .f32⟩
  | .hbm, ⟨14, _⟩ => ⟨S20480x11008, .f32⟩
  | .hbm, ⟨15, _⟩ => ⟨S20480x11008, .f32⟩
  | .hbm, ⟨16, _⟩ => ⟨S_, .i32⟩
  | .hbm, ⟨17, _⟩ => ⟨S_, .f32⟩
  | .hbm, ⟨18, _⟩ => ⟨S20480x11264, .f32⟩
  | .hbm, ⟨19, _⟩ => ⟨S20480x11264, .bf16⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== FfnDown.lean ====
abbrev S20480x11264 : Shape := ⟨2, ![20480, 11264]⟩
abbrev S11008x4096 : Shape := ⟨2, ![11008, 4096]⟩
abbrev S_ : Shape := ⟨0, ![]⟩
abbrev S11264x4096 : Shape := ⟨2, ![11264, 4096]⟩
abbrev S20480x4096 : Shape := ⟨2, ![20480, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S20480x11264, .bf16⟩
  | .hbm, ⟨1, _⟩ => ⟨S11008x4096, .f32⟩
  | .hbm, ⟨2, _⟩ => ⟨S_, .i32⟩
  | .hbm, ⟨3, _⟩ => ⟨S_, .f32⟩
  | .hbm, ⟨4, _⟩ => ⟨S11264x4096, .f32⟩
  | .hbm, ⟨5, _⟩ => ⟨S11264x4096, .bf16⟩
  | .hbm, ⟨6, _⟩ => ⟨S20480x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S20480x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![20, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S20480x11264 : Shape := ⟨2, ![20480, 11264]⟩
abbrev S11008x4096 : Shape := ⟨2, ![11008, 4096]⟩
abbrev S20480x11008 : Shape := ⟨2, ![20480, 11008]⟩
abbrev S20480x4096 : Shape := ⟨2, ![20480, 4096]⟩

abbrev nBuf : Space → Nat
  | .hbm => 5
  | .vmem => 0
  | .smem => 0
  | _ => 0

abbrev bufTy : (tb : Table) → Fin (tcTables nBuf tb) → BufTy
  | .hbm, ⟨0, _⟩ => ⟨S20480x11264, .bf16⟩
  | .hbm, ⟨1, _⟩ => ⟨S11008x4096, .f32⟩
  | .hbm, ⟨2, _⟩ => ⟨S20480x11008, .bf16⟩
  | .hbm, ⟨3, _⟩ => ⟨S20480x11008, .f32⟩
  | .hbm, ⟨4, _⟩ => ⟨S20480x4096, .f32⟩
  | _, _ => ⟨S20480x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NaQkv.lean ====
abbrev S20480x4096 : Shape := ⟨2, ![20480, 4096]⟩
abbrev S4096x12288 : Shape := ⟨2, ![4096, 12288]⟩
abbrev S20480x12288 : Shape := ⟨2, ![20480, 12288]⟩
abbrev S1024x4096 : Shape := ⟨2, ![1024, 4096]⟩
abbrev S4096x1024 : Shape := ⟨2, ![4096, 1024]⟩
abbrev S1024x1024 : Shape := ⟨2, ![1024, 1024]⟩
abbrev S4096x4096 : Shape := ⟨2, ![4096, 4096]⟩
abbrev S16x256x32x128 : Shape := ⟨4, ![16, 256, 32, 128]⟩

abbrev nBuf : Space → Nat
  | .hbm => 8
  | .vmem => 6
  | .smem => 0
  | _ => 0

abbrev bufTy : (tb : Table) → Fin (tcTables nBuf tb) → BufTy
  | .hbm, ⟨0, _⟩ => ⟨S20480x4096, .bf16⟩
  | .hbm, ⟨1, _⟩ => ⟨S4096x12288, .f32⟩
  | .hbm, ⟨2, _⟩ => ⟨S4096x12288, .bf16⟩
  | .hbm, ⟨3, _⟩ => ⟨S20480x12288, .f32⟩
  | .hbm, ⟨4, _⟩ => ⟨S4096x4096, .f32⟩
  | .hbm, ⟨5, _⟩ => ⟨S16x256x32x128, .f32⟩
  | .hbm, ⟨6, _⟩ => ⟨S4096x4096, .f32⟩
  | .hbm, ⟨7, _⟩ => ⟨S16x256x32x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![20, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NaQkvRefIdeal.lean ====
abbrev S20480x4096 : Shape := ⟨2, ![20480, 4096]⟩
abbrev S4096x12288 : Shape := ⟨2, ![4096, 12288]⟩
abbrev S20480x12288 : Shape := ⟨2, ![20480, 12288]⟩
abbrev S16x256x3x32x128 : Shape := ⟨5, ![16, 256, 3, 32, 128]⟩
abbrev S16x256x1x32x128 : Shape := ⟨5, ![16, 256, 1, 32, 128]⟩
abbrev S16x256x32x128 : Shape := ⟨4, ![16, 256, 32, 128]⟩

abbrev nBuf : Space → Nat
  | .hbm => 10
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S4096x12288, .f32⟩
  | .hbm, ⟨2, _⟩ => ⟨S20480x4096, .f32⟩
  | .hbm, ⟨3, _⟩ => ⟨S20480x12288, .f32⟩
  | .hbm, ⟨4, _⟩ => ⟨S4096x12288, .f32⟩
  | .hbm, ⟨5, _⟩ => ⟨S16x256x3x32x128, .f32⟩
  | .hbm, ⟨6, _⟩ => ⟨S16x256x1x32x128, .f32⟩
  | .hbm, ⟨7, _⟩ => ⟨S16x256x32x128, .f32⟩
  | .hbm, ⟨8, _⟩ => ⟨S16x256x1x32x128, .f32⟩
  | .hbm, ⟨9, _⟩ => ⟨S16x256x32x128, .f32⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== MixerOut.lean ====
abbrev S20480x4096 : Shape := ⟨2, ![20480, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S20480x4096, .bf16⟩
  | .hbm, ⟨1, _⟩ => ⟨S4096x4096, .f32⟩
  | .hbm, ⟨2, _⟩ => ⟨S4096x4096, .bf16⟩
  | .hbm, ⟨3, _⟩ => ⟨S20480x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![20, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixerOutRefIdeal.lean ====
abbrev S20480x4096 : Shape := ⟨2, ![20480, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S4096x4096, .f32⟩
  | .hbm, ⟨2, _⟩ => ⟨S20480x4096, .f32⟩
  | .hbm, ⟨3, _⟩ => ⟨S20480x4096, .f32⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlaDkv.lean ====
abbrev S20480x4096 : Shape := ⟨2, ![20480, 4096]⟩
abbrev S4096x576 : Shape := ⟨2, ![4096, 576]⟩
abbrev S512 : Shape := ⟨1, ![512]⟩
abbrev S_ : Shape := ⟨0, ![]⟩
abbrev S4096x640 : Shape := ⟨2, ![4096, 640]⟩
abbrev S1x512 : Shape := ⟨2, ![1, 512]⟩
abbrev S1x640 : Shape := ⟨2, ![1, 640]⟩
abbrev S20480x640 : Shape := ⟨2, ![20480, 640]⟩
abbrev S1024x4096 : Shape := ⟨2, ![1024, 4096]⟩
abbrev S1024x640 : Shape := ⟨2, ![1024, 640]⟩
abbrev S1024 : Shape := ⟨1, ![1024]⟩
abbrev S1024x1 : Shape := ⟨2, ![1024, 1]⟩
abbrev S4096x512 : Shape := ⟨2, ![4096, 512]⟩
abbrev S16x256x512 : Shape := ⟨3, ![16, 256, 512]⟩
abbrev S4096x64 : Shape := ⟨2, ![4096, 64]⟩
abbrev S16x256x64 : Shape := ⟨3, ![16, 256, 64]⟩
abbrev S16x1x256x512 : Shape := ⟨4, ![16, 1, 256, 512]⟩
abbrev S16x1x256x64 : Shape := ⟨4, ![16, 1, 256, 64]⟩

abbrev nBuf : Space → Nat
  | .hbm => 18
  | .vmem => 6
  | .smem => 0
  | _ => 0

abbrev bufTy : (tb : Table) → Fin (tcTables nBuf tb) → BufTy
  | .hbm, ⟨0, _⟩ => ⟨S20480x4096, .bf16⟩
  | .hbm, ⟨1, _⟩ => ⟨S4096x576, .f32⟩
  | .hbm, ⟨2, _⟩ => ⟨S512, .f32⟩
  | .hbm, ⟨3, _⟩ => ⟨S_, .i32⟩
  | .hbm, ⟨4, _⟩ => ⟨S_, .f32⟩
  | .hbm, ⟨5, _⟩ => ⟨S4096x640, .f32⟩
  | .hbm, ⟨6, _⟩ => ⟨S4096x640, .bf16⟩
  | .hbm, ⟨7, _⟩ => ⟨S1x512, .f32⟩
  | .hbm, ⟨8, _⟩ => ⟨S_, .i32⟩
  | .hbm, ⟨9, _⟩ => ⟨S_, .f32⟩
  | .hbm, ⟨10, _⟩ => ⟨S1x640, .f32⟩
  | .hbm, ⟨11, _⟩ => ⟨S20480x640, .f32⟩
  | .hbm, ⟨12, _⟩ => ⟨S4096x512, .f32⟩
  | .hbm, ⟨13, _⟩ => ⟨S16x256x512, .f32⟩
  | .hbm, ⟨14, _⟩ => ⟨S4096x64, .f32⟩
  | .hbm, ⟨15, _⟩ => ⟨S16x256x64, .f32⟩
  | .hbm, ⟨16, _⟩ => ⟨S16x1x256x512, .f32⟩
  | .hbm, ⟨17, _⟩ => ⟨S16x1x256x64, .f32⟩
  | .local _ .vmem, ⟨0, _⟩ => ⟨S1024x4096, .bf16⟩
  | .local _ .vmem, ⟨1, _⟩ => ⟨S1024x4096, .bf16⟩
  | .local _ .vmem, ⟨2, _⟩ => ⟨S4096x640, .bf16⟩
  | .local _ .vmem, ⟨3, _⟩ => ⟨S1x640, .f32⟩
  | .local _ .vmem, ⟨4, _⟩ => ⟨S1024x640, .f32⟩
  | .local _ .vmem, ⟨5, _⟩ => ⟨S1024x640, .f32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![20, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlaDkvRefIdeal.lean ====
abbrev S20480x4096 : Shape := ⟨2, ![20480, 4096]⟩
abbrev S4096x576 : Shape := ⟨2, ![4096, 576]⟩
abbrev S512 : Shape := ⟨1, ![512]⟩
abbrev S20480x576 : Shape := ⟨2, ![20480, 576]⟩
abbrev S20480x512 : Shape := ⟨2, ![20480, 512]⟩
abbrev S_ : Shape := ⟨0, ![]⟩
abbrev S20480 : Shape := ⟨1, ![20480]⟩
abbrev S20480x1 : Shape := ⟨2, ![20480, 1]⟩
abbrev S1x512 : Shape := ⟨2, ![1, 512]⟩
abbrev S20480x64 : Shape := ⟨2, ![20480, 64]⟩
abbrev S4096x512 : Shape := ⟨2, ![4096, 512]⟩
abbrev S16x1x256x512 : Shape := ⟨4, ![16, 1, 256, 512]⟩
abbrev S4096x64 : Shape := ⟨2, ![4096, 64]⟩
abbrev S16x1x256x64 : Shape := ⟨4, ![16, 1, 256, 64]⟩
abbrev S20480x640 : Shape := ⟨2, ![20480, 640]⟩

abbrev nBuf : Space → Nat
  | .hbm => 30
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S4096x576, .f32⟩
  | .hbm, ⟨2, _⟩ => ⟨S512, .f32⟩
  | .hbm, ⟨3, _⟩ => ⟨S20480x4096, .f32⟩
  | .hbm, ⟨4, _⟩ => ⟨S20480x576, .f32⟩
  | .hbm, ⟨5, _⟩ => ⟨S20480x512, .f32⟩
  | .hbm, ⟨6, _⟩ => ⟨S20480x512, .f32⟩
  | .hbm, ⟨7, _⟩ => ⟨S_, .f32⟩
  | .hbm, ⟨8, _⟩ => ⟨S20480, .f32⟩
  | .hbm, ⟨9, _⟩ => ⟨S20480x1, .f32⟩
  | .hbm, ⟨10, _⟩ => ⟨S_, .f32⟩
  | .hbm, ⟨11, _⟩ => ⟨S20480x1, .f32⟩
  | .hbm, ⟨12, _⟩ => ⟨S20480x1, .f32⟩
  | .hbm, ⟨13, _⟩ => ⟨S_, .f32⟩
  | .hbm, ⟨14, _⟩ => ⟨S20480x1, .f32⟩
  | .hbm, ⟨15, _⟩ => ⟨S20480x1, .f32⟩
  | .hbm, ⟨16, _⟩ => ⟨S20480x1, .f32⟩
  | .hbm, ⟨17, _⟩ => ⟨S20480x512, .f32⟩
  | .hbm, ⟨18, _⟩ => ⟨S20480x512, .f32⟩
  | .hbm, ⟨19, _⟩ => ⟨S1x512, .f32⟩
  | .hbm, ⟨20, _⟩ => ⟨S20480x512, .f32⟩
  | .hbm, ⟨21, _⟩ => ⟨S20480x512, .f32⟩
  | .hbm, ⟨22, _⟩ => ⟨S20480x64, .f32⟩
  | .hbm, ⟨23, _⟩ => ⟨S4096x512, .f32⟩
  | .hbm, ⟨24, _⟩ => ⟨S16x1x256x512, .f32⟩
  | .hbm, ⟨25, _⟩ => ⟨S4096x64, .f32⟩
  | .hbm, ⟨26, _⟩ => ⟨S16x1x256x64, .f32⟩
  | .hbm, ⟨27, _⟩ => ⟨S_, .f32⟩
  | .hbm, ⟨28, _⟩ => ⟨S20480x64, .f32⟩
  | .hbm, ⟨29, _⟩ => ⟨S20480x640, .f32⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== MlaDq.lean ====
abbrev S20480x4096 : Shape := ⟨2, ![20480, 4096]⟩
abbrev S4096x1024 : Shape := ⟨2, ![4096, 1024]⟩
abbrev S1024 : Shape := ⟨1, ![1024]⟩
abbrev S1x1024 : Shape := ⟨2, ![1, 1024]⟩
abbrev S20480x1024 : Shape := ⟨2, ![20480, 1024]⟩
abbrev S1024x4096 : Shape := ⟨2, ![1024, 4096]⟩
abbrev S1024x1024 : Shape := ⟨2, ![1024, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S20480x4096, .bf16⟩
  | .hbm, ⟨1, _⟩ => ⟨S4096x1024, .f32⟩
  | .hbm, ⟨2, _⟩ => ⟨S1024, .f32⟩
  | .hbm, ⟨3, _⟩ => ⟨S4096x1024, .bf16⟩
  | .hbm, ⟨4, _⟩ => ⟨S1x1024, .f32⟩
  | .hbm, ⟨5, _⟩ => ⟨S20480x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![20, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlaDqRefIdeal.lean ====
abbrev S20480x4096 : Shape := ⟨2, ![20480, 4096]⟩
abbrev S4096x1024 : Shape := ⟨2, ![4096, 1024]⟩
abbrev S1024 : Shape := ⟨1, ![1024]⟩
abbrev S20480x1024 : Shape := ⟨2, ![20480, 1024]⟩
abbrev S_ : Shape := ⟨0, ![]⟩
abbrev S20480 : Shape := ⟨1, ![20480]⟩
abbrev S20480x1 : Shape := ⟨2, ![20480, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S4096x1024, .f32⟩
  | .hbm, ⟨2, _⟩ => ⟨S1024, .f32⟩
  | .hbm, ⟨3, _⟩ => ⟨S20480x4096, .f32⟩
  | .hbm, ⟨4, _⟩ => ⟨S20480x1024, .f32⟩
  | .hbm, ⟨5, _⟩ => ⟨S20480x1024, .f32⟩
  | .hbm, ⟨6, _⟩ => ⟨S_, .f32⟩
  | .hbm, ⟨7, _⟩ => ⟨S20480, .f32⟩
  | .hbm, ⟨8, _⟩ => ⟨S20480x1, .f32⟩
  | .hbm, ⟨9, _⟩ => ⟨S_, .f32⟩
  | .hbm, ⟨10, _⟩ => ⟨S20480x1, .f32⟩
  | .hbm, ⟨11, _⟩ => ⟨S20480x1, .f32⟩
  | .hbm, ⟨12, _⟩ => ⟨S_, .f32⟩
  | .hbm, ⟨13, _⟩ => ⟨S20480x1, .f32⟩
  | .hbm, ⟨14, _⟩ => ⟨S20480x1, .f32⟩
  | .hbm, ⟨15, _⟩ => ⟨S20480x1, .f32⟩
  | .hbm, ⟨16, _⟩ => ⟨S20480x1024, .f32⟩
  | .hbm, ⟨17, _⟩ => ⟨S20480x1024, .f32⟩
  | .hbm, ⟨18, _⟩ => ⟨S1x1024, .f32⟩
  | .hbm, ⟨19, _⟩ => ⟨S20480x1024, .f32⟩
  | .hbm, ⟨20, _⟩ => ⟨S20480x1024, .f32⟩
  | .hbm, ⟨21, _⟩ => ⟨S20480x1024, .bf16⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MlaUq.lean ====
abbrev S20480x1024 : Shape := ⟨2, ![20480, 1024]⟩
abbrev S1024x32x192 : Shape := ⟨3, ![1024, 32, 192]⟩
abbrev S_ : Shape := ⟨0, ![]⟩
abbrev S1024x32x256 : Shape := ⟨3, ![1024, 32, 256]⟩
abbrev S1024x8192 : Shape := ⟨2, ![1024, 8192]⟩
abbrev S20480x8192 : Shape := ⟨2, ![20480, 8192]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S20480x1024, .bf16⟩
  | .hbm, ⟨1, _⟩ => ⟨S1024x32x192, .f32⟩
  | .hbm, ⟨2, _⟩ => ⟨S_, .i32⟩
  | .hbm, ⟨3, _⟩ => ⟨S_, .f32⟩
  | .hbm, ⟨4, _⟩ => ⟨S1024x32x256, .f32⟩
  | .hbm, ⟨5, _⟩ => ⟨S1024x8192, .f32⟩
  | .hbm, ⟨6, _⟩ => ⟨S1024x8192, .bf16⟩
  | .hbm, ⟨7, _⟩ => ⟨S20480x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S20480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![20, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUqRefIdeal.lean ====
abbrev S20480x1024 : Shape := ⟨2, ![20480, 1024]⟩
abbrev S1024x32x192 : Shape := ⟨3, ![1024, 32, 192]⟩
abbrev S20480x32x192 : Shape := ⟨3, ![20480, 32, 192]⟩
abbrev S_ : Shape := ⟨0, ![]⟩
abbrev S20480x32x256 : Shape := ⟨3, ![20480, 32, 256]⟩
abbrev S20480x8192 : Shape := ⟨2, ![20480, 8192]⟩

abbrev nBuf : Space → Nat
  | .hbm => 8
  | .vmem => 0
  | .smem => 0
  | _ => 0

abbrev bufTy : (tb : Table) → Fin (tcTables nBuf tb) → BufTy
  | .hbm, ⟨0, _⟩ => ⟨S20480x1024, .bf16⟩
  | .hbm, ⟨1, _⟩ => ⟨S1024x32x192, .f32⟩
  | .hbm, ⟨2, _⟩ => ⟨S20480x1024, .f32⟩
  | .hbm, ⟨3, _⟩ => ⟨S20480x32x192, .f32⟩
  | .hbm, ⟨4, _⟩ => ⟨S_, .i32⟩
  | .hbm, ⟨5, _⟩ => ⟨S_, .f32⟩
  | .hbm, ⟨6, _⟩ => ⟨S20480x32x256, .f32⟩
  | .hbm, ⟨7, _⟩ => ⟨S20480x8192, .f32⟩
  | _, _ => ⟨S20480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MlaV.lean ====
abbrev S17408x640 : Shape := ⟨2, ![17408, 640]⟩
abbrev S512x32x128 : Shape := ⟨3, ![512, 32, 128]⟩
abbrev S512x4096 : Shape := ⟨2, ![512, 4096]⟩
abbrev S_ : Shape := ⟨0, ![]⟩
abbrev S640x4096 : Shape := ⟨2, ![640, 4096]⟩
abbrev S17408x4096 : Shape := ⟨2, ![17408, 4096]⟩
abbrev S1024x640 : Shape := ⟨2, ![1024, 640]⟩
abbrev S640x1024 : Shape := ⟨2, ![640, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S17408x640, .bf16⟩
  | .hbm, ⟨1, _⟩ => ⟨S512x32x128, .f32⟩
  | .hbm, ⟨2, _⟩ => ⟨S512x4096, .f32⟩
  | .hbm, ⟨3, _⟩ => ⟨S_, .i32⟩
  | .hbm, ⟨4, _⟩ => ⟨S_, .f32⟩
  | .hbm, ⟨5, _⟩ => ⟨S640x4096, .f32⟩
  | .hbm, ⟨6, _⟩ => ⟨S640x4096, .bf16⟩
  | .hbm, ⟨7, _⟩ => ⟨S17408x4096, .bf16⟩
  | .local _ .vmem, ⟨0, _⟩ => ⟨S1024x640, .bf16⟩
  | .local _ .vmem, ⟨1, _⟩ => ⟨S1024x640, .bf16⟩
  | .local _ .vmem, ⟨2, _⟩ => ⟨S640x1024, .bf16⟩
  | .local _ .vmem, ⟨3, _⟩ => ⟨S640x1024, .bf16⟩
  | .local _ .vmem, ⟨4, _⟩ => ⟨S1024x1024, .bf16⟩
  | .local _ .vmem, ⟨5, _⟩ => ⟨S1024x1024, .bf16⟩
  | _, _ => ⟨S17408x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaVRefIdeal.lean ====
abbrev S17408x640 : Shape := ⟨2, ![17408, 640]⟩
abbrev S512x32x128 : Shape := ⟨3, ![512, 32, 128]⟩
abbrev S17408x512 : Shape := ⟨2, ![17408, 512]⟩
abbrev S17408x32x128 : Shape := ⟨3, ![17408, 32, 128]⟩
abbrev S17408x4096 : Shape := ⟨2, ![17408, 4096]⟩

abbrev nBuf : Space → Nat
  | .hbm => 7
  | .vmem => 0
  | .smem => 0
  | _ => 0

abbrev bufTy : (tb : Table) → Fin (tcTables nBuf tb) → BufTy
  | .hbm, ⟨0, _⟩ => ⟨S17408x640, .bf16⟩
  | .hbm, ⟨1, _⟩ => ⟨S512x32x128, .f32⟩
  | .hbm, ⟨2, _⟩ => ⟨S17408x512, .bf16⟩
  | .hbm, ⟨3, _⟩ => ⟨S17408x512, .f32⟩
  | .hbm, ⟨4, _⟩ => ⟨S17408x32x128, .f32⟩
  | .hbm, ⟨5, _⟩ => ⟨S17408x4096, .f32⟩
  | .hbm, ⟨6, _⟩ => ⟨S17408x4096, .bf16⟩
  | _, _ => ⟨S17408x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Blocks.lean ====
/-
  What the products of every call here share: the zero offsets of a whole access, the product of two matrices read at an
  index on the kernel's side and on the host's, and the row-and-column form of an index of a matrix.
-/
module

public import Idealize.ShloMosaic.Lib.MatmulPlain
public import Idealize.ShloMosaic.Lib.StackMember
public import Idealize.ShloMosaic.Lib.Pipeline.Value
public import Idealize.ShloMosaic.Lib.ValueIdx
public import Idealize.ShloMosaic.Lib.KernelVsHost

@[expose] public section

noncomputable section

namespace Layer

open Idealize.ShloMosaic Idealize.ShloMosaic.ValueIdx
open scoped BigOperators

/-- The offsets of an access of a whole matrix are zero. -/
theorem zero2 : (![0, 0] : Fin 2 → Nat) = fun _ => 0 := funext fun a => by fin_cases a <;> rfl

/-- The product of a matrix of `M` rows by one of `N` columns, entry by entry. -/
def prod {M K N : ℕ} (x : (⟨2, ![M, K]⟩ : Shape).Idx → EReal) (w : (⟨2, ![K, N]⟩ : Shape).Idx → EReal) :
    (⟨2, ![M, N]⟩ : Shape).Idx → EReal :=
  fun j => ∑ k : Fin K, x (ix2 (j 0) k) * w (ix2 k (j 1))

/-- A kernel's product onto a zero accumulator is the product, entry by entry. -/
theorem matmul_zero {M K N : ℕ} {φ₁ φ₂ : FTy} (prec : Option ContractPrecision)
    (x : FVec Ideal ⟨2, ![M, K]⟩ φ₁) (w : FVec Ideal ⟨2, ![K, N]⟩ φ₂) :
    (FloatOps.matmul (DotDims.plain M K N) prec x w (constant ⟨2, ![M, N]⟩ .f32 0x00000000#32) : FVec Ideal _ .f32) = prod x w := by
  funext j
  obtain ⟨r, c, rfl⟩ : ∃ r c, j = ix2 r c := ⟨j 0, j 1, eq_ix2 j⟩
  rw [Ideal.matmul_plain_apply, constant_apply, Ideal.ofBits_zero_f32, zero_add]
  rfl

/-- A host product is the product, entry by entry. -/
theorem dotGeneral_prod {M K N : ℕ} {φ₁ φ₂ : FTy} (prec : Option ContractPrecision)
    (x : FVec Ideal ⟨2, ![M, K]⟩ φ₁) (w : FVec Ideal ⟨2, ![K, N]⟩ φ₂) :
    (Host.dotGeneral (DotDims.plain M K N) prec x w : FVec Ideal ⟨2, ![M, N]⟩ .f32) = prod x w := by
  funext j
  obtain ⟨r, c, rfl⟩ : ∃ r c, j = ix2 r c := ⟨j 0, j 1, eq_ix2 j⟩
  exact StackMember.dotGeneral_plain_apply prec x w r c

/-- A matrix of `n` columns with columns of zeros after them. -/
def padCols {K n : ℕ} (N : ℕ) (w : (⟨2, ![K, n]⟩ : Shape).Idx → EReal) : (⟨2, ![K, N]⟩ : Shape).Idx → EReal :=
  fun j => if h : (j 1).val < n then w (ix2 (j 0) ⟨(j 1).val, h⟩) else 0

/-- A matrix of `n` rows with rows of zeros after them. -/
def padRows {n C : ℕ} (N : ℕ) (w : (⟨2, ![n, C]⟩ : Shape).Idx → EReal) : (⟨2, ![N, C]⟩ : Shape).Idx → EReal :=
  fun j => if h : (j 0).val < n then w (ix2 ⟨(j 0).val, h⟩ (j 1)) else 0

/-- The host's padding of columns by a zero. -/
theorem pad_cols {K n N hi : ℕ} (w : (⟨2, ![K, n]⟩ : Shape).Idx → EReal) {u : Shape} (v : u.Idx → EReal)
    (h : (⟨2, ![K, n]⟩ : Shape).Pads ![0, 0] ![0, hi] ![0, 0] ⟨2, ![K, N]⟩) (hu : 0 < u.numel) (hv : v (Shape.Idx.first hu) = 0) :
    pad ⟨2, ![K, N]⟩ ![0, 0] ![0, hi] ![0, 0] w v h hu = padCols N w := by
  funext j
  unfold padCols
  by_cases hj : (j 1).val < n
  · rw [dif_pos hj]
    refine pad_apply_of_inside _ _ _ w v h hu j (ix2 (j 0) ⟨(j 1).val, hj⟩) fun a => ?_
    match a with
    | ⟨0, _⟩ => show (j 0).val = 0 + (j 0).val * (0 + 1); omega
    | ⟨1, _⟩ => show (j 1).val = 0 + (j 1).val * (0 + 1); omega
  · rw [dif_neg hj, pad_apply_of_not_inside _ _ _ w v h hu j (1 : Fin 2), hv]
    rintro ⟨-, -, h3⟩
    exact hj (by simpa using h3)

/-- The host's padding of rows by a zero. -/
theorem pad_rows {n C N hi : ℕ} (w : (⟨2, ![n, C]⟩ : Shape).Idx → EReal) {u : Shape} (v : u.Idx → EReal)
    (h : (⟨2, ![n, C]⟩ : Shape).Pads ![0, 0] ![hi, 0] ![0, 0] ⟨2, ![N, C]⟩) (hu : 0 < u.numel) (hv : v (Shape.Idx.first hu) = 0) :
    pad ⟨2, ![N, C]⟩ ![0, 0] ![hi, 0] ![0, 0] w v h hu = padRows N w := by
  funext j
  unfold padRows
  by_cases hj : (j 0).val < n
  · rw [dif_pos hj]
    refine pad_apply_of_inside _ _ _ w v h hu j (ix2 ⟨(j 0).val, hj⟩ (j 1)) fun a => ?_
    match a with
    | ⟨0, _⟩ => show (j 0).val = 0 + (j 0).val * (0 + 1); omega
    | ⟨1, _⟩ => show (j 1).val = 0 + (j 1).val * (0 + 1); omega
  · rw [dif_neg hj, pad_apply_of_not_inside _ _ _ w v h hu j (0 : Fin 2), hv]
    rintro ⟨-, -, h3⟩
    exact hj (by simpa using h3)

/-- A product by a matrix with columns of zeros is the product, and zero in those columns. -/
theorem prod_padCols {M K n N : ℕ} (x : (⟨2, ![M, K]⟩ : Shape).Idx → EReal) (w : (⟨2, ![K, n]⟩ : Shape).Idx → EReal)
    (j : (⟨2, ![M, N]⟩ : Shape).Idx) :
    prod x (padCols N w) j = if h : (j 1).val < n then prod x w (ix2 (j 0) ⟨(j 1).val, h⟩) else 0 := by
  unfold prod padCols
  by_cases h : (j 1).val < n
  · rw [dif_pos h]
    exact Finset.sum_congr rfl fun k _ => congrArg (x (ix2 (j 0) k) * ·) (dif_pos h)
  · rw [dif_neg h]
    refine Finset.sum_eq_zero fun k _ => ?_
    show x (ix2 (j 0) k) * dite _ _ _ = 0
    rw [dif_neg (show ¬((ix2 k (j 1) : (⟨2, ![K, N]⟩ : Shape).Idx) 1).val < n from h), mul_zero]

/-- The product's terms up to the `n`-th, summed: what an accumulator holds after that many columns. -/
def part {M K N : ℕ} (x : (⟨2, ![M, K]⟩ : Shape).Idx → EReal) (w : (⟨2, ![K, N]⟩ : Shape).Idx → EReal) (n : ℕ) (r : Fin M) (c : Fin N) : EReal :=
  ∑ k ∈ Finset.range n, if h : k < K then x (ix2 r ⟨k, h⟩) * w (ix2 ⟨k, h⟩ c) else 0

/-- All the terms make the product. -/
theorem part_all {M K N : ℕ} (x : (⟨2, ![M, K]⟩ : Shape).Idx → EReal) (w : (⟨2, ![K, N]⟩ : Shape).Idx → EReal) (r : Fin M) (c : Fin N) :
    part x w K r c = prod x w (ix2 r c) := by
  unfold part prod
  rw [Finset.sum_range]
  exact Finset.sum_congr rfl fun k _ => dif_pos k.isLt

/-- A block of `q` columns and rows adds its product to what is held. -/
theorem part_add {M K N m q l : ℕ} (x : (⟨2, ![M, K]⟩ : Shape).Idx → EReal) (w : (⟨2, ![K, N]⟩ : Shape).Idx → EReal) (n : ℕ)
    (x' : (⟨2, ![m, q]⟩ : Shape).Idx → EReal) (w' : (⟨2, ![q, l]⟩ : Shape).Idx → EReal) (r : Fin M) (c : Fin N) (r' : Fin m) (c' : Fin l)
    (hq : n + q ≤ K) (hx : ∀ k : Fin q, x' (ix2 r' k) = x (ix2 r ⟨n + k.val, by omega⟩)) (hw : ∀ k : Fin q, w' (ix2 k c') = w (ix2 ⟨n + k.val, by omega⟩ c)) :
    part x w n r c + prod x' w' (ix2 r' c') = part x w (n + q) r c := by
  unfold part
  rw [Finset.sum_range_add]
  refine congrArg₂ (· + ·) rfl ?_
  rw [Finset.sum_range]
  refine Finset.sum_congr rfl fun k _ => ?_
  rw [dif_pos (show n + k.val < K by omega)]
  exact congrArg₂ (· * ·) (hx k) (hw k)

/-- Nothing is held before the first block. -/
theorem part_zero {M K N : ℕ} (x : (⟨2, ![M, K]⟩ : Shape).Idx → EReal) (w : (⟨2, ![K, N]⟩ : Shape).Idx → EReal) (r : Fin M) (c : Fin N) :
    part x w 0 r c = 0 := Finset.sum_range_zero _

/-- A column of an index is below the number of columns. -/
theorem idx_lt₁ {M n : ℕ} (j : (⟨2, ![M, n]⟩ : Shape).Idx) : (j 1).val < n := (j 1).isLt

/-- A product by a matrix with rows of zeros is the product of the columns before them. -/
theorem prod_padRows {M n K N : ℕ} (hn : n ≤ K) (x : (⟨2, ![M, K]⟩ : Shape).Idx → EReal) (w : (⟨2, ![n, N]⟩ : Shape).Idx → EReal)
    (r : Fin M) (c : Fin N) :
    prod x (padRows K w) (ix2 r c) = prod (K := n) (fun j : (⟨2, ![M, n]⟩ : Shape).Idx => x (ix2 (j 0) ⟨(j 1).val, Nat.lt_of_lt_of_le (idx_lt₁ j) hn⟩)) w (ix2 r c) := by
  obtain ⟨p, rfl⟩ := Nat.exists_eq_add_of_le hn
  unfold prod padRows
  rw [Fin.sum_univ_add]
  have hz : (∑ i : Fin p, x (ix2 r (Fin.natAdd n i)) * (if h : (Fin.natAdd n i).val < n then w (ix2 ⟨(Fin.natAdd n i).val, h⟩ c) else 0)) = 0 :=
    Finset.sum_eq_zero fun k _ => by
      rw [dif_neg (by show ¬(n + k.val < n); omega), mul_zero]
  refine (congrArg₂ (· + ·) ?_ hz).trans (add_zero _)
  exact Finset.sum_congr rfl fun k _ => congrArg₂ (· * ·) rfl (dif_pos k.isLt)

/-- The gated product of two numbers: the first by its logistic value, by the second. -/
def gate (g u : EReal) : EReal := g * Ideal.div 1 (1 + Ideal.exp (-g)) * u

/-- The gated product of zeros is zero. -/
theorem gate_zero : gate 0 0 = 0 := mul_zero _

end Layer

end
-- ==== Proof.MlaRef.lean ====
/-
  The reference of the latent attention in steps: the rotation's angles, the turned queries, the scores, the softmax weights
  and the result, each as an array, and the reference's result as the last of them.
-/
module

public import proofs.«01_k».proof.Proof.Gen.MlaRefIdeal.Run
public import Idealize.ShloMosaic.Lib.Pointwise

@[expose] public section

set_option maxRecDepth 16384

noncomputable section

open Idealize.ShloMosaic Idealize.ShloMosaic.TcCoe Idealize.SL.Sem
open scoped BigOperators

namespace Cert.MlaRefIdeal.Result

open Cert.MlaRefIdeal Cert.MlaRefIdeal.Gen

/-- The token's row in the latent grid, 64 tokens to a row (a floor division). -/
def rows : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- The divisor of the remainder: 64, or one where it would be zero. -/
def side : IVec S_ 32 :=
  select (cmpi .eq (id (constantI S_ 32 64#32)) (constantI S_ 32 0#32)) (constantI S_ 32 1#32) (id (constantI S_ 32 64#32))

/-- The remainder that has the dividend's sign. -/
def rem : IVec S4096 32 := Host.remsi (iotaInDim S4096 32 0) (broadcastInDim S4096 ![] bcast_S_S4096 side)

/-- The token's column in the latent grid (a remainder that has the divisor's sign). -/
def cols : IVec S4096 32 :=
  select (andi (cmpi .ne (cmpi .slt rem (broadcastInDim S4096 ![] bcast_S_S4096 (constantI S_ 32 0#32))) (broadcastInDim S4096 ![] bcast_S_S4096 (cmpi .slt side (constantI S_ 32 0#32)))) (cmpi .ne rem (broadcastInDim S4096 ![] bcast_S_S4096 (constantI S_ 32 0#32)))) (addi rem (broadcastInDim S4096 ![] bcast_S_S4096 side)) rem

/-- The rotation's frequencies, `10000 ^ (-i / 16)`. -/
def freq : FVec Ideal S16 .f32 :=
  Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))

/-- The angles at the positions `w`: the position times each frequency. -/
def angle (w : IVec S4096 32) : FVec Ideal S4096x16 .f32 :=
  mulf (broadcastInDim S4096x16 ![0, 1] bcast_S4096x1_S4096x16_0_1 (broadcastInDim S4096x1 ![0] bcast_S4096_S4096x1_0 (sitofp .f32 w))) (broadcastInDim S4096x16 ![0, 1] bcast_S1x16_S4096x16_0_1 (broadcastInDim S1x16 ![1] bcast_S16_S1x16_1 freq))

/-- A table over the positions and the sixteen lanes, repeated over the batch and the heads. -/
def spread (t : FVec Ideal S4096x16 .f32) : FVec Ideal S4x4096x32x16 .f32 :=
  broadcastInDim S4x4096x32x16 ![0, 1, 2, 3] bcast_S1x4096x1x16_S4x4096x32x16_0_1_2_3 (broadcastInDim S1x4096x1x16 ![1, 3] bcast_S4096x16_S1x4096x1x16_1_3 t)

/-- The first sixteen lanes of a group of 32. -/
def first (y : FVec Ideal S4x4096x32x32 .f32) : FVec Ideal S4x4096x32x16 .f32 :=
  extractStridedSlice S4x4096x32x16 ![0, 0, 0, 0] y slices_S4x4096x32x32_S4x4096x32x16_0_0_0_0

/-- The second sixteen lanes of a group of 32. -/
def second (y : FVec Ideal S4x4096x32x32 .f32) : FVec Ideal S4x4096x32x16 .f32 :=
  extractStridedSlice S4x4096x32x16 ![0, 0, 0, 16] y slices_S4x4096x32x32_S4x4096x32x16_0_0_0_16

/-- The first half of a rotated group: `x₁ cos a - x₂ sin a`. -/
def low (a : FVec Ideal S4096x16 .f32) (y : FVec Ideal S4x4096x32x32 .f32) : FVec Ideal S4x4096x32x16 .f32 :=
  subf (mulf (first y) (spread (Host.cos a))) (mulf (second y) (spread (Host.sin a)))

/-- The second half of a rotated group: `x₁ sin a + x₂ cos a`. -/
def high (a : FVec Ideal S4096x16 .f32) (y : FVec Ideal S4x4096x32x32 .f32) : FVec Ideal S4x4096x32x16 .f32 :=
  addf (mulf (first y) (spread (Host.sin a))) (mulf (second y) (spread (Host.cos a)))

/-- A group of 32 lanes rotated by the angles. -/
def rope (a : FVec Ideal S4096x16 .f32) (y : FVec Ideal S4x4096x32x32 .f32) : FVec Ideal S4x4096x32x32 .f32 :=
  concatenate S4x4096x32x32 3 [⟨S4x4096x32x16, low a y⟩, ⟨S4x4096x32x16, high a y⟩] concatenates_S4x4096x32x16_S4x4096x32x16_S4x4096x32x32_d3

/-- The latent tokens' queries by batch, token, head and lane. -/
def heads (x : FVec Ideal S20480x8192 .f32) : FVec Ideal S4x4096x32x256 .f32 :=
  shapeCast _ (extractStridedSlice S16384x8192 ![4096, 0] x slices_S20480x8192_S16384x8192_4096_0) shapeCasts_S16384x8192_S4x4096x32x256

/-- The 64 lanes that are rotated. -/
def mid (x : FVec Ideal S20480x8192 .f32) : FVec Ideal S4x4096x32x64 .f32 :=
  extractStridedSlice S4x4096x32x64 ![0, 0, 0, 128] (heads x) slices_S4x4096x32x256_S4x4096x32x64_0_0_0_128

/-- The lanes rotated by the row's angles. -/
def byRow (x : FVec Ideal S20480x8192 .f32) : FVec Ideal S4x4096x32x32 .f32 :=
  extractStridedSlice S4x4096x32x32 ![0, 0, 0, 0] (mid x) slices_S4x4096x32x64_S4x4096x32x32_0_0_0_0

/-- The lanes rotated by the column's angles. -/
def byCol (x : FVec Ideal S20480x8192 .f32) : FVec Ideal S4x4096x32x32 .f32 :=
  extractStridedSlice S4x4096x32x32 ![0, 0, 0, 32] (mid x) slices_S4x4096x32x64_S4x4096x32x32_0_0_0_32

/-- The rotated 64 lanes. -/
def spun (x : FVec Ideal S20480x8192 .f32) : FVec Ideal S4x4096x32x64 .f32 :=
  concatenate S4x4096x32x64 3 [⟨S4x4096x32x32, rope (angle rows) (byRow x)⟩, ⟨S4x4096x32x32, rope (angle cols) (byCol x)⟩] concatenates_S4x4096x32x32_S4x4096x32x32_S4x4096x32x64_d3

/-- The turned queries. -/
def turned (x : FVec Ideal S20480x8192 .f32) : FVec Ideal S4x4096x32x256 .f32 :=
  concatenate S4x4096x32x256 3 [⟨S4x4096x32x128, extractStridedSlice S4x4096x32x128 ![0, 0, 0, 0] (heads x) slices_S4x4096x32x256_S4x4096x32x128_0_0_0_0⟩, ⟨S4x4096x32x64, spun x⟩,
    ⟨S4x4096x32x64, extractStridedSlice S4x4096x32x64 ![0, 0, 0, 192] (heads x) slices_S4x4096x32x256_S4x4096x32x64_0_0_0_192⟩] concatenates_S4x4096x32x128_S4x4096x32x64_S4x4096x32x64_S4x4096x32x256_d3

/-- The keys by batch, token, head and lane. -/
def keys (k : FVec Ideal S17408x8192 .bf16) : FVec Ideal S4x4352x32x256 .f32 :=
  shapeCast _ (extf .f32 k bitsLt_bf16_f32) shapeCasts_S17408x8192_S4x4352x32x256

/-- The values by batch, token, head and lane. -/
def vals (v : FVec Ideal S17408x4096 .bf16) : FVec Ideal S4x4352x32x128 .f32 :=
  shapeCast _ (extf .f32 v bitsLt_bf16_f32) shapeCasts_S17408x4096_S4x4352x32x128

/-- The scaled scores. -/
def scores (x : FVec Ideal S20480x8192 .f32) (k : FVec Ideal S17408x8192 .bf16) : FVec Ideal S4x32x4096x4352 .f32 :=
  mulf (Host.dotGeneral dot_S4x4096x32x256_S4x4352x32x256_S4x32x4096x4352_3_3_1_1_02_02 none (turned x) (keys k)) (broadcastInDim S4x32x4096x4352 ![] bcast_S_S4x32x4096x4352 (constant S_ .f32 0x3D93CD3A#32))

/-- Each query's largest score. -/
def peak (s : FVec Ideal S4x32x4096x4352 .f32) : FVec Ideal S4x32x4096 .f32 :=
  maximumf (broadcastInDim S4x32x4096 ![] bcast_S_S4x32x4096 (constant S_ .f32 0xFF800000#32)) (Host.reduce FloatOps.maximumf s (constant S_ .f32 0xFF800000#32) reducesTo_S4x32x4096x4352_S4x32x4096_d3 h_S_)

/-- A number for each query, repeated over the keys. -/
def over (s : FVec Ideal S4x32x4096 .f32) : FVec Ideal S4x32x4096x4352 .f32 :=
  broadcastInDim S4x32x4096x4352 ![0, 1, 2, 3] bcast_S4x32x4096x1_S4x32x4096x4352_0_1_2_3 (broadcastInDim S4x32x4096x1 ![0, 1, 2] bcast_S4x32x4096_S4x32x4096x1_0_1_2 s)

/-- The exponentials of the scores less the largest. -/
def exps (s : FVec Ideal S4x32x4096x4352 .f32) : FVec Ideal S4x32x4096x4352 .f32 := Host.exp (subf s (over (peak s)))

/-- The softmax of the scores over the keys. -/
def probs (s : FVec Ideal S4x32x4096x4352 .f32) : FVec Ideal S4x32x4096x4352 .f32 :=
  Host.divf (exps s) (over (Host.reduceAdd (exps s) (constant S_ .f32 0x00000000#32) reducesTo_S4x32x4096x4352_S4x32x4096_d3 h_S_))

/-- The reference's result. -/
def result (x : FVec Ideal S20480x8192 .f32) (k : FVec Ideal S17408x8192 .bf16) (v : FVec Ideal S17408x4096 .bf16) : FVec Ideal S16384x4096 .bf16 :=
  truncf .bf16 (shapeCast _ (transpose S4x4096x32x128 [0, 3, 1, 2] (Host.dotGeneral dot_S4x4352x32x128_S4x32x4096x4352_S4x32x128x4096_1_3_3_2_02_01 none (vals v) (probs (scores x k))) transposes_S4x32x128x4096_S4x4096x32x128_0_3_1_2) shapeCasts_S4x4096x32x128_S16384x4096) bitsLt_bf16_f32

/-- The reference's composed term is the result in steps. -/
theorem res_eq (m : (ℓ : Loc nD τ sig) → Buf (Elt Ideal) ℓ) (c : Dev nD) :
    Value.res_main_v85 m c = result (m ((c.tc : Thread nD τ).loc main_arg0)) (m ((c.tc : Thread nD τ).loc main_arg1)) (m ((c.tc : Thread nD τ).loc main_arg2)) := rfl

end Cert.MlaRefIdeal.Result

end
-- ==== Proof.MlaTables.lean ====
/-
  The three tables the attention's kernel turns its queries by, as its host operations leave them.
-/
module

public import proofs.«01_k».proof.Proof.MlaRef
public import proofs.«01_k».proof.Proof.Gen.MlaIdeal.Value

@[expose] public section

set_option maxRecDepth 16384

noncomputable section

open Idealize.ShloMosaic Idealize.ShloMosaic.TcCoe Idealize.SL.Sem

namespace Cert.MlaIdeal.Result

open Cert.MlaIdeal Cert.MlaIdeal.Gen
open Cert.MlaRefIdeal.Result (rows cols angle)
open Idealize.ShloMosaic.StableHlo

variable (m : (ℓ : Loc nD τ sig) → Buf (Elt Ideal) ℓ)

/-- A word's value everywhere. -/
def repeated (s : Shape) (h : S_.BroadcastsInDim s ![]) (w : BitVec 32) : FVec Ideal s .f32 := broadcastInDim s ![] h (constant S_ .f32 w)

/-- Four groups of sixteen lanes. -/
def groups (a b c d : FVec Ideal S4096x16 .f32) : FVec Ideal S4096x64 .f32 :=
  concatenate S4096x64 1 [⟨S4096x16, a⟩, ⟨S4096x16, b⟩, ⟨S4096x16, c⟩, ⟨S4096x16, d⟩] concatenates_S4096x16_S4096x16_S4096x16_S4096x16_S4096x64_d1

/-- A table over a head's 256 lanes. -/
def lanes (o : FVec Ideal S4096x128 .f32) (g : FVec Ideal S4096x64 .f32) (z : FVec Ideal S4096x64 .f32) : FVec Ideal S4096x256 .f32 :=
  concatenate S4096x256 1 [⟨S4096x128, o⟩, ⟨S4096x64, g⟩, ⟨S4096x64, z⟩] concatenates_S4096x128_S4096x64_S4096x64_S4096x256_d1

theorem groups_congr {a b c d a' b' c' d' : FVec Ideal S4096x16 .f32} (ha : a = a') (hb : b = b') (hc : c = c') (hd : d = d') :
    concatenate S4096x64 1 [⟨S4096x16, a⟩, ⟨S4096x16, b⟩, ⟨S4096x16, c⟩, ⟨S4096x16, d⟩] concatenates_S4096x16_S4096x16_S4096x16_S4096x16_S4096x64_d1
      = groups a' b' c' d' := by rw [ha, hb, hc, hd]; rfl

theorem lanes_congr {o o' : FVec Ideal S4096x128 .f32} {g g' z z' : FVec Ideal S4096x64 .f32} (ho : o = o') (hg : g = g') (hz : z = z') :
    concatenate S4096x256 1 [⟨S4096x128, o⟩, ⟨S4096x64, g⟩, ⟨S4096x64, z⟩] concatenates_S4096x128_S4096x64_S4096x64_S4096x256_d1 = lanes o' g' z' := by
  rw [ho, hg, hz]; rfl

/-- The first table: the cosines, one on the lanes that are not turned. -/
theorem cos_table (c : Dev nD) : (V m c main_v35 : S4096x256.Idx → EReal) = lanes (repeated S4096x128 bcast_S_S4096x128 0x3F800000#32) (groups (Host.cos (angle rows)) (Host.cos (angle rows)) (Host.cos (angle cols)) (Host.cos (angle cols))) (repeated S4096x64 bcast_S_S4096x64 0x3F800000#32) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp
  dsimp only [Matrix.cons_val]
  refine lanes_congr ?_ ?_ ?_
  · after_results_simp; rfl
  · after_results_simp
    dsimp only [Matrix.cons_val]
    refine groups_congr ?_ ?_ ?_ ?_ <;> after_results_simp <;> rfl
  · after_results_simp; rfl

/-- The second table: minus the sines on the first half of each turned group, zero elsewhere. -/
theorem up_table (c : Dev nD) : (V m c main_v38 : S4096x256.Idx → EReal) = lanes (repeated S4096x128 bcast_S_S4096x128 0x00000000#32) (groups (Host.negf (Host.sin (angle rows))) (repeated S4096x16 bcast_S_S4096x16 0x00000000#32) (Host.negf (Host.sin (angle cols))) (repeated S4096x16 bcast_S_S4096x16 0x00000000#32)) (repeated S4096x64 bcast_S_S4096x64 0x00000000#32) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp
  dsimp only [Matrix.cons_val]
  refine lanes_congr ?_ ?_ ?_
  · after_results_simp; rfl
  · after_results_simp
    dsimp only [Matrix.cons_val]
    refine groups_congr ?_ ?_ ?_ ?_ <;> after_results_simp <;> rfl
  · after_results_simp; rfl

/-- The third table: the sines on the second half of each turned group, zero elsewhere. -/
theorem down_table (c : Dev nD) : (V m c main_v41 : S4096x256.Idx → EReal) = lanes (repeated S4096x128 bcast_S_S4096x128 0x00000000#32) (groups (repeated S4096x16 bcast_S_S4096x16 0x00000000#32) (Host.sin (angle rows)) (repeated S4096x16 bcast_S_S4096x16 0x00000000#32) (Host.sin (angle cols))) (repeated S4096x64 bcast_S_S4096x64 0x00000000#32) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp
  dsimp only [Matrix.cons_val]
  refine lanes_congr ?_ ?_ ?_
  · after_results_simp; rfl
  · after_results_simp
    dsimp only [Matrix.cons_val]
    refine groups_congr ?_ ?_ ?_ ?_ <;> after_results_simp <;> rfl
  · after_results_simp; rfl

end Cert.MlaIdeal.Result

end
-- ==== Proof.Softmax.lean ====
/-
  The softmax over the extended reals, taken in one pass: a running maximum, the running sum of the weights and the running
  weighted sum, each rescaled when the maximum grows, end at what the two-pass form computes.
-/
module

public import Idealize.ShloMosaic.PureOps.Ideal
public import Idealize.ShloMosaic.PureOps.Ideal.Laws

@[expose] public section

noncomputable section

open Idealize.ShloMosaic
open scoped BigOperators

namespace Layer

theorem exp_nonneg (x : EReal) : 0 ≤ Ideal.exp x := by
  induction x with
  | bot => exact le_rfl
  | top => exact le_top
  | coe r => exact EReal.coe_nonneg.mpr (Real.exp_pos r).le

theorem exp_ne_top {x : EReal} (h : x ≠ ⊤) : Ideal.exp x ≠ ⊤ := by
  induction x with
  | bot => exact EReal.zero_ne_top
  | top => exact absurd rfl h
  | coe r => exact EReal.coe_ne_top _

/-- A difference whose second term is at least the first is no positive infinity. -/
theorem sub_ne_top {x y : EReal} (h : x ≤ y) : x - y ≠ ⊤ := by
  induction y with
  | bot => rw [le_bot_iff.mp h]; decide
  | top => rw [EReal.sub_top]; exact bot_ne_top
  | coe r =>
    induction x with
    | bot => rw [EReal.bot_sub]; exact bot_ne_top
    | top => exact absurd (top_le_iff.mp h) (EReal.coe_ne_top r)
    | coe s => exact EReal.coe_ne_top (s - r)

/-- The weights taken against a maximum `m` become the weights against a larger one `n` by the factor `exp (m - n)`. -/
theorem rescale {s m n : EReal} (h : s ≤ m) (h' : m ≤ n) :
    Ideal.exp (m - n) * Ideal.exp (s - m) = Ideal.exp (s - n) := by
  induction n with
  | top => rw [EReal.sub_top, EReal.sub_top]; exact zero_mul _
  | bot =>
    rw [le_bot_iff.mp h'] at h ⊢
    rw [le_bot_iff.mp h, EReal.bot_sub]
    exact zero_mul _
  | coe n =>
    induction m with
    | top => exact absurd (top_le_iff.mp h') (EReal.coe_ne_top n)
    | bot =>
      rw [le_bot_iff.mp h, EReal.bot_sub, EReal.bot_sub]
      exact zero_mul _
    | coe m =>
      induction s with
      | top => exact absurd (top_le_iff.mp h) (EReal.coe_ne_top m)
      | bot => rw [EReal.bot_sub, EReal.bot_sub]; exact mul_zero _
      | coe s =>
        show ((Real.exp (m - n) : ℝ) : EReal) * ((Real.exp (s - m) : ℝ) : EReal) = ((Real.exp (s - n) : ℝ) : EReal)
        rw [← EReal.coe_mul, ← Real.exp_add]
        congr 2; ring

/-- A finite factor that is not negative goes into a sum. -/
theorem mul_sum {ι : Type} (t : Finset ι) (f : ι → EReal) {a : EReal} (h : 0 ≤ a) (h' : a ≠ ⊤) :
    a * ∑ i ∈ t, f i = ∑ i ∈ t, a * f i := by
  classical
  induction t using Finset.induction_on with
  | empty => simp
  | insert i t hi ih => rw [Finset.sum_insert hi, Finset.sum_insert hi, EReal.left_distrib_of_nonneg_of_ne_top h h', ih]

theorem sum_mul {ι : Type} (t : Finset ι) (f : ι → EReal) {a : EReal} (h : 0 ≤ a) (h' : a ≠ ⊤) :
    (∑ i ∈ t, f i) * a = ∑ i ∈ t, f i * a := by
  rw [mul_comm, mul_sum t f h h']
  exact Finset.sum_congr rfl fun i _ => mul_comm _ _

/-- The largest of the first `n` scores. -/
def top (s : ℕ → EReal) (n : ℕ) : EReal := (Finset.range n).sup s

/-- The sum of the weights of the first `n` scores. -/
def weight (s : ℕ → EReal) (n : ℕ) : EReal := ∑ i ∈ Finset.range n, Ideal.exp (s i - top s n)

/-- The weighted sum of the first `n` values. -/
def mixed (s v : ℕ → EReal) (n : ℕ) : EReal := ∑ i ∈ Finset.range n, Ideal.exp (s i - top s n) * v i

theorem le_top {s : ℕ → EReal} {n i : ℕ} (h : i < n) : s i ≤ top s n := Finset.le_sup (Finset.mem_range.mpr h)

theorem top_mono (s : ℕ → EReal) {n k : ℕ} (h : n ≤ k) : top s n ≤ top s k :=
  Finset.sup_mono (Finset.range_subset_range.mpr h)

/-- The largest of `n + k` scores is the larger of that of the first `n` and that of the next `k`. -/
theorem top_add (s : ℕ → EReal) (n k : ℕ) :
    top s (n + k) = max (top s n) (Finset.univ.sup fun i : Fin k => s (n + i.val)) := by
  apply le_antisymm
  · refine Finset.sup_le fun i hi => ?_
    rcases lt_or_ge i n with h | h
    · exact le_max_of_le_left (le_top h)
    · have hk : i - n < k := by have := Finset.mem_range.mp hi; omega
      refine le_max_of_le_right ?_
      have := Finset.le_sup (f := fun i : Fin k => s (n + i.val)) (Finset.mem_univ ⟨i - n, hk⟩)
      simpa [Nat.add_sub_cancel' h] using this
  · refine max_le (top_mono s (Nat.le_add_right n k)) (Finset.sup_le fun i _ => ?_)
    exact le_top (by have := i.isLt; omega)

theorem factor_ne_top (s : ℕ → EReal) (n k : ℕ) : Ideal.exp (top s n - top s (n + k)) ≠ ⊤ :=
  exp_ne_top (sub_ne_top (top_mono s (Nat.le_add_right n k)))

/-- One step of the running sum of the weights. -/
theorem weight_add (s : ℕ → EReal) (n k : ℕ) :
    weight s (n + k) = Ideal.exp (top s n - top s (n + k)) * weight s n
      + ∑ i : Fin k, Ideal.exp (s (n + i.val) - top s (n + k)) := by
  rw [weight, Finset.sum_range_add, weight, mul_sum _ _ (exp_nonneg _) (factor_ne_top s n k)]
  refine congrArg₂ (· + ·) (Finset.sum_congr rfl fun i hi => ?_) ?_
  · exact (rescale (le_top (Finset.mem_range.mp hi)) (top_mono s (Nat.le_add_right n k))).symm
  · exact Finset.sum_range fun i => Ideal.exp (s (n + i) - top s (n + k))

/-- One step of the running weighted sum. -/
theorem mixed_add (s v : ℕ → EReal) (n k : ℕ) :
    mixed s v (n + k) = Ideal.exp (top s n - top s (n + k)) * mixed s v n
      + ∑ i : Fin k, Ideal.exp (s (n + i.val) - top s (n + k)) * v (n + i.val) := by
  rw [mixed, Finset.sum_range_add, mixed, mul_sum _ _ (exp_nonneg _) (factor_ne_top s n k)]
  refine congrArg₂ (· + ·) (Finset.sum_congr rfl fun i hi => ?_) ?_
  · rw [← mul_assoc, rescale (le_top (Finset.mem_range.mp hi)) (top_mono s (Nat.le_add_right n k))]
  · exact Finset.sum_range fun i => Ideal.exp (s (n + i) - top s (n + k)) * v (n + i)

/-- A number that is neither infinity. -/
def Fin' (x : EReal) : Prop := x ≠ ⊥ ∧ x ≠ ⊤

theorem Fin'.coe (r : ℝ) : Fin' (r : EReal) := ⟨EReal.coe_ne_bot r, EReal.coe_ne_top r⟩

theorem Fin'.exists {x : EReal} (h : Fin' x) : ∃ r : ℝ, x = r := ⟨x.toReal, (EReal.coe_toReal h.2 h.1).symm⟩

theorem Fin'.add {x y : EReal} (hx : Fin' x) (hy : Fin' y) : Fin' (x + y) := by
  obtain ⟨a, rfl⟩ := hx.exists; obtain ⟨b, rfl⟩ := hy.exists
  rw [← EReal.coe_add]; exact Fin'.coe _

theorem Fin'.mul {x y : EReal} (hx : Fin' x) (hy : Fin' y) : Fin' (x * y) := by
  obtain ⟨a, rfl⟩ := hx.exists; obtain ⟨b, rfl⟩ := hy.exists
  rw [← EReal.coe_mul]; exact Fin'.coe _

theorem Fin'.neg {x : EReal} (hx : Fin' x) : Fin' (-x) := by
  obtain ⟨a, rfl⟩ := hx.exists
  rw [← EReal.coe_neg]; exact Fin'.coe _

theorem Fin'.sum {ι : Type} (t : Finset ι) {f : ι → EReal} (h : ∀ i ∈ t, Fin' (f i)) : Fin' (∑ i ∈ t, f i) := by
  classical
  induction t using Finset.induction_on with
  | empty => rw [Finset.sum_empty]; exact Fin'.coe 0
  | insert i t hi ih =>
    rw [Finset.sum_insert hi]
    exact (h i (Finset.mem_insert_self i t)).add (ih fun j hj => h j (Finset.mem_insert_of_mem hj))

/-- Of finite scores the largest is one of them. -/
theorem top_attained {s : ℕ → EReal} {n : ℕ} (hn : 0 < n) : ∃ i < n, s i = top s n := by
  obtain ⟨i, hi, e⟩ := Finset.exists_mem_eq_sup (Finset.range n) ⟨0, Finset.mem_range.mpr hn⟩ s
  exact ⟨i, Finset.mem_range.mp hi, e.symm⟩

/-- The weights of finite scores do not sum to zero. -/
theorem weight_ne_zero {s : ℕ → EReal} {n : ℕ} (hn : 0 < n) (h : ∀ i < n, Fin' (s i)) : weight s n ≠ 0 := by
  obtain ⟨i, hi, e⟩ := top_attained (s := s) hn
  obtain ⟨r, hr⟩ := (h i hi).exists
  have h1 : Ideal.exp (s i - top s n) = 1 := by
    rw [← e, hr, ← EReal.coe_sub, sub_self]
    show ((Real.exp 0 : ℝ) : EReal) = 1
    rw [Real.exp_zero]; rfl
  have h2 : Ideal.exp (s i - top s n) ≤ weight s n :=
    Finset.single_le_sum (f := fun i => Ideal.exp (s i - top s n)) (fun j _ => exp_nonneg _) (Finset.mem_range.mpr hi)
  intro h0
  rw [h0, h1] at h2
  exact absurd h2 (by simp)

/-- The weighted sum over the sum of the weights is the sum of the values by their shares. -/
theorem mixed_div {s v : ℕ → EReal} {n : ℕ} (hn : 0 < n) (h : ∀ i < n, Fin' (s i)) :
    Ideal.div (mixed s v n) (weight s n)
      = ∑ i ∈ Finset.range n, v i * Ideal.div (Ideal.exp (s i - top s n)) (weight s n) := by
  have hw := weight_ne_zero hn h
  have hp : 0 ≤ weight s n := Finset.sum_nonneg fun i _ => exp_nonneg _
  have hi : 0 ≤ (weight s n)⁻¹ := EReal.inv_nonneg_of_nonneg hp
  have ht : (weight s n)⁻¹ ≠ ⊤ := by
    generalize weight s n = x
    induction x with
    | bot => rw [EReal.inv_bot]; exact EReal.zero_ne_top
    | top => rw [EReal.inv_top]; exact EReal.zero_ne_top
    | coe r => rw [← EReal.coe_inv]; exact EReal.coe_ne_top _
  unfold Ideal.div
  rw [if_neg hw, mixed, sum_mul _ _ hi ht]
  refine Finset.sum_congr rfl fun i _ => ?_
  rw [if_neg hw, mul_comm _ (v i), mul_assoc]

end Layer

end
-- ==== Proof.MlaStep.lean ====
/-
  One trip of the attention's loop over the keys: 256 more keys and values enter the running maximum, the running sum of
  the weights and the running weighted sum, which stay what `Layer.top`, `Layer.weight` and `Layer.mixed` say.
-/
module

public import proofs.«01_k».proof.Proof.Softmax
public import proofs.«01_k».proof.Proof.Blocks
public import proofs.«01_k».proof.Proof.Gen.MlaIdeal.Skeleton

@[expose] public section

set_option maxRecDepth 16384

noncomputable section

open Idealize.ShloMosaic Idealize.ShloMosaic.ValueIdx
open scoped BigOperators

namespace Layer

/-- The word of negative infinity is the bottom of the extended reals. -/
theorem word_bot : Ideal.ofBits .f32 0xFF800000#32 = ⊥ := by simp [Ideal.ofBits, Ideal.ieee]

/-- The maximum along the second axis of a matrix, from negative infinity. -/
theorem rowMax {M N : ℕ} (x : FVec Ideal ⟨2, ![M, N]⟩ .f32) (h : (⟨2, ![M, N]⟩ : Shape).Reduces [1] ⟨1, ![M]⟩) (hφ) (hacc) (r : Fin M) :
    multiReduction .maximumf [1] ⟨1, ![M]⟩ x 0xFF800000#32 h hφ hacc (ix1 r) = Finset.univ.sup fun k : Fin N => x (ix2 r k) := by
  rw [Ideal.multiReduction_maximumf_single]
  show Finset.fold max (Ideal.ofBits .f32 0xFF800000#32) _ _ = _
  rw [word_bot]
  refine Finset.fold_congr fun k _ => ?_
  show x (h.lift (ix1 r) k) = x (ix2 r k)
  exact congrArg x (funext fun a => Fin.ext (by fin_cases a <;> rfl))

/-- The sum along the second axis of a matrix. -/
theorem rowSum {M N : ℕ} (x : FVec Ideal ⟨2, ![M, N]⟩ .f32) (h : (⟨2, ![M, N]⟩ : Shape).Reduces [1] ⟨1, ![M]⟩) (hφ) (hacc) (r : Fin M) :
    multiReduction .add [1] ⟨1, ![M]⟩ x 0x00000000#32 h hφ hacc (ix1 r) = ∑ k : Fin N, x (ix2 r k) := by
  rw [Ideal.multiReduction_add_single]
  refine Finset.sum_congr rfl fun k _ => ?_
  exact congrArg x (funext fun a => Fin.ext (by fin_cases a <;> rfl))

/-- A vector laid as a column. -/
theorem column {M : ℕ} (x : (⟨1, ![M]⟩ : Shape).Idx → EReal) (h : (⟨1, ![M]⟩ : Shape).ShapeCasts ⟨2, ![M, 1]⟩) (r : Fin M) (z : Fin 1) :
    shapeCast ⟨2, ![M, 1]⟩ x h (ix2 r z) = x (ix1 r) :=
  shapeCast_apply x h _ _ (by
    rw [Shape.rowMajor_val_one, Shape.rowMajor_val_two]
    show r.val = r.val * 1 + z.val
    have := z.isLt; omega)

/-- A column repeated along the second axis. -/
theorem columns {M N : ℕ} (x : (⟨2, ![M, 1]⟩ : Shape).Idx → EReal) (h : (⟨2, ![M, 1]⟩ : Shape).Broadcasts ⟨2, ![M, N]⟩) (r : Fin M) (k : Fin N) :
    broadcastTo ⟨2, ![M, N]⟩ x h (ix2 r k) = x (ix2 r 0) := by
  refine broadcastTo_apply x h _ _ fun a => ?_
  fin_cases a
  · show r.val = if M = 1 then 0 else r.val
    split
    · have := r.isLt; omega
    · rfl
  · rfl

end Layer

namespace Cert.MlaIdeal.Result

open Cert.MlaIdeal Cert.MlaIdeal.Gen Layer

/-- A key of the group after the first `n`. -/
theorem lt_step {n : ℕ} (hn : n + 256 ≤ 4352) (i : Fin 256) : n + i.val < 4352 := by
  have := i.isLt
  omega

/-- A block of queries, turned by its positions and scaled. -/
def turned (x co su sd : S512x256.Idx → EReal) : S512x256.Idx → EReal := fun j =>
  (x j * co j + dynamicRotate 1 240#32 none x rotates_S512x256_d1 j * su j
    + dynamicRotate 1 16#32 none x rotates_S512x256_d1 j * sd j) * Ideal.ofBits .f32 0x3D93CD3A#32

/-- The score of query `r` of a block against key `n`. -/
def score (q : S512x256.Idx → EReal) (K : S4352x256.Idx → EReal) (r : Fin 512) (n : ℕ) : EReal :=
  if h : n < 4352 then ∑ d : Fin 256, q (ix2 r d) * K (ix2 ⟨n, h⟩ d) else 0

/-- Lane `d` of the value of key `n`. -/
def value (W : S4352x128.Idx → EReal) (d : Fin 128) (n : ℕ) : EReal := if h : n < 4352 then W (ix2 ⟨n, h⟩ d) else 0

/-- What the loop carries after the first `n` keys. -/
def carried (q : S512x256.Idx → EReal) (K : S4352x256.Idx → EReal) (W : S4352x128.Idx → EReal) (n : ℕ) :
    FVec Ideal S512x1 .f32 × FVec Ideal S512x1 .f32 × FVec Ideal S512x128 .f32 :=
  (fun j => top (score q K (j 0)) n, fun j => weight (score q K (j 0)) n, fun j => mixed (score q K (j 0)) (value W (j 1)) n)

theorem scores_eq (x co su sd : Vec Ideal S512x256 .f32) (k : Vec Ideal S256x256 .bf16) (r : Fin 512) (i : Fin 256) :
    (k0_pay4 x co su sd k : S512x256.Idx → EReal) (ix2 r i) = ∑ d : Fin 256, turned x co su sd (ix2 r d) * k (ix2 i d) := by
  unfold k0_pay4
  simp only [shapeCast_self]
  refine (Ideal.matmul_transposedRhs_apply (M := 512) (K := 256) (N := 256) none _ _ _ r i).trans ?_
  rw [constant_apply, Ideal.ofBits_zero_f32, zero_add]
  rfl

section Step

variable (x co su sd : Vec Ideal S512x256 .f32) (K : S4352x256.Idx → EReal) (W : S4352x128.Idx → EReal) (n : ℕ)
variable (k : Vec Ideal S256x256 .bf16) (w : Vec Ideal S256x128 .bf16) (hn : n + 256 ≤ 4352)
variable (hk : ∀ (i d : Fin 256), k (ix2 i d) = K (ix2 ⟨n + i.val, lt_step hn i⟩ d))
variable (hw : ∀ (i : Fin 256) (d : Fin 128), w (ix2 i d) = W (ix2 ⟨n + i.val, lt_step hn i⟩ d))

include hk in
theorem scores_block (r : Fin 512) (i : Fin 256) :
    (k0_pay4 x co su sd k : S512x256.Idx → EReal) (ix2 r i) = score (turned x co su sd) K r (n + i.val) := by
  rw [scores_eq, score, dif_pos (by omega)]
  exact Finset.sum_congr rfl fun d _ => by rw [hk]

include hk in
theorem max_block (r : Fin 512) (z : Fin 1) :
    (k0_pay5 x co su sd (carried (turned x co su sd) K W n).1 k : S512x1.Idx → EReal) (ix2 r z)
      = top (score (turned x co su sd) K r) (n + 256) := by
  unfold k0_pay5
  show max (top (score (turned x co su sd) K r) n) (shapeCast S512x1 _ _ (ix2 r z)) = _
  rw [column (M := 512), top_add]
  refine congrArg (max _) ((rowMax (M := 512) (N := 256) _ _ _ _ r).trans ?_)
  exact congrArg _ (funext fun i => scores_block x co su sd K n k hn hk r i)

include hk in
theorem factor_block (r : Fin 512) (z : Fin 1) :
    (k0_pay6 x co su sd (carried (turned x co su sd) K W n).1 k : S512x1.Idx → EReal) (ix2 r z)
      = Ideal.exp (top (score (turned x co su sd) K r) n - top (score (turned x co su sd) K r) (n + 256)) := by
  unfold k0_pay6
  show Ideal.exp (top (score (turned x co su sd) K r) n - k0_pay5 x co su sd _ k (ix2 r z)) = _
  rw [max_block x co su sd K W n k hn hk]

include hk in
theorem weights_block (r : Fin 512) (i : Fin 256) :
    (k0_pay7 x co su sd (carried (turned x co su sd) K W n).1 k : S512x256.Idx → EReal) (ix2 r i)
      = Ideal.exp (score (turned x co su sd) K r (n + i.val) - top (score (turned x co su sd) K r) (n + 256)) := by
  unfold k0_pay7
  show Ideal.exp (k0_pay4 x co su sd k (ix2 r i) - broadcastTo S512x256 _ _ (ix2 r i)) = _
  rw [columns (M := 512) (N := 256), max_block x co su sd K W n k hn hk, scores_block x co su sd K n k hn hk]

include hk in
theorem weight_block (r : Fin 512) (z : Fin 1) :
    (k0_pay8 x co su sd (carried (turned x co su sd) K W n).1 (carried (turned x co su sd) K W n).2.1 k : S512x1.Idx → EReal) (ix2 r z)
      = weight (score (turned x co su sd) K r) (n + 256) := by
  unfold k0_pay8
  show k0_pay6 x co su sd _ k (ix2 r z) * weight (score (turned x co su sd) K r) n + shapeCast S512x1 _ _ (ix2 r z) = _
  rw [column (M := 512), factor_block x co su sd K W n k hn hk, weight_add]
  refine congrArg _ ((rowSum (M := 512) (N := 256) _ _ _ _ r).trans ?_)
  exact Finset.sum_congr rfl fun i _ => weights_block x co su sd K W n k hn hk r i

include hk hw in
theorem mixed_block (r : Fin 512) (d : Fin 128) :
    (k0_pay9 x co su sd (carried (turned x co su sd) K W n).1 (carried (turned x co su sd) K W n).2.2 k w : S512x128.Idx → EReal) (ix2 r d)
      = mixed (score (turned x co su sd) K r) (value W d) (n + 256) := by
  unfold k0_pay9
  show broadcastTo S512x128 _ _ (ix2 r d) * mixed (score (turned x co su sd) K r) (value W d) n
    + matmul (F := Ideal) dot_S512x256_S256x128_S512x128_1_0_0_1_n_n none _ w _ (ix2 r d) = _
  rw [columns (M := 512) (N := 128), factor_block x co su sd K W n k hn hk, mixed_add]
  refine congrArg _ ((congrFun (matmul_zero (M := 512) (K := 256) (N := 128) none _ w) (ix2 r d)).trans ?_)
  refine Finset.sum_congr rfl fun i _ => ?_
  rw [hw i _]
  show k0_pay7 x co su sd _ k (ix2 r i) * _ = _
  rw [weights_block x co su sd K W n k hn hk, value, dif_pos (by omega)]

include hk hw in
/-- One trip carries the loop from the first `n` keys to the first `n + 256`. -/
theorem trip_eq :
    (k0_pay5 x co su sd (carried (turned x co su sd) K W n).1 k,
      k0_pay8 x co su sd (carried (turned x co su sd) K W n).1 (carried (turned x co su sd) K W n).2.1 k,
      k0_pay9 x co su sd (carried (turned x co su sd) K W n).1 (carried (turned x co su sd) K W n).2.2 k w)
      = carried (turned x co su sd) K W (n + 256) := by
  refine Prod.ext (funext fun j => ?_) (Prod.ext (funext fun j => ?_) (funext fun j => ?_))
  · obtain ⟨r, z, rfl⟩ : ∃ (r : Fin 512) (z : Fin 1), j = ix2 r z := ⟨j 0, j 1, eq_ix2 j⟩
    exact max_block x co su sd K W n k hn hk r z
  · obtain ⟨r, z, rfl⟩ : ∃ (r : Fin 512) (z : Fin 1), j = ix2 r z := ⟨j 0, j 1, eq_ix2 j⟩
    exact weight_block x co su sd K W n k hn hk r z
  · obtain ⟨r, d, rfl⟩ : ∃ (r : Fin 512) (d : Fin 128), j = ix2 r d := ⟨j 0, j 1, eq_ix2 j⟩
    exact mixed_block x co su sd K W n k w hn hk hw r d

end Step

/-- Before the first trip nothing has entered. -/
theorem start_eq (q : S512x256.Idx → EReal) (K : S4352x256.Idx → EReal) (W : S4352x128.Idx → EReal) :
    (k0_pay1 (F := Ideal), k0_pay2 (F := Ideal), k0_pay3 (F := Ideal)) = carried q K W 0 := by
  refine Prod.ext (funext fun j => ?_) (Prod.ext (funext fun j => ?_) (funext fun j => ?_))
  · exact word_bot
  · exact Ideal.ofBits_zero_f32
  · exact Ideal.ofBits_zero_f32

/-- What is stored: the weighted sum over the sum of the weights. -/
theorem stored_eq (q : S512x256.Idx → EReal) (K : S4352x256.Idx → EReal) (W : S4352x128.Idx → EReal) (n : ℕ) (r : Fin 512) (d : Fin 128) :
    (k0_pay10 (carried q K W n).2.1 (carried q K W n).2.2 : S512x128.Idx → EReal) (ix2 r d)
      = Ideal.div (mixed (score q K r) (value W d) n) (weight (score q K r) n) := by
  unfold k0_pay10
  show Ideal.div (mixed (score q K r) (value W d) n) (broadcastTo S512x128 _ _ (ix2 r d)) = _
  rw [columns (M := 512) (N := 128)]
  rfl

end Cert.MlaIdeal.Result

end
-- ==== Proof.MlaRead.lean ====
/-
  The reference of the latent attention read at an entry: the softmax-weighted mean of the values, the scores from the turned
  query and the keys.
-/
module

public import proofs.«01_k».proof.Proof.MlaRef
public import proofs.«01_k».proof.Proof.MlaStep

@[expose] public section

set_option maxRecDepth 16384

noncomputable section

open Idealize.ShloMosaic Idealize.ShloMosaic.TcCoe Idealize.SL.Sem
open scoped BigOperators

namespace Layer

/-- The maximum along the last of four axes, from negative infinity. -/
theorem hostMax {A B C N : ℕ} (x : FVec Ideal ⟨4, ![A, B, C, N]⟩ .f32) (h : (⟨4, ![A, B, C, N]⟩ : Shape).ReducesTo [3] ⟨3, ![A, B, C]⟩)
    (h' : (⟨4, ![A, B, C, N]⟩ : Shape).Reduces [3] ⟨3, ![A, B, C]⟩) (hφ : FKind.Formats .f32) (hacc : 0xFF800000#32 = FKind.maximumf.neutral .f32 hφ) (hu : 0 < (⟨0, ![]⟩ : Shape).numel) (a : Fin A) (b : Fin B) (c : Fin C) :
    Host.reduce FloatOps.maximumf x (constant ⟨0, ![]⟩ .f32 0xFF800000#32) h hu (ix3 a b c) = Finset.univ.sup fun k : Fin N => x (ix4 a b c k) := by
  refine (congrFun (hostReduce_maximumf_eq_multiReduction x 0xFF800000#32 h hu h' hφ hacc) _).trans ?_
  refine (Ideal.multiReduction_maximumf_single x 0xFF800000#32 h' hφ hacc (ix3 a b c)).trans ?_
  show Finset.fold max (Ideal.ofBits .f32 0xFF800000#32) _ _ = _
  rw [word_bot]
  refine Finset.fold_congr fun k _ => ?_
  show x (h'.lift (ix3 a b c) k) = x (ix4 a b c k)
  exact congrArg x (funext fun e => Fin.ext (by fin_cases e <;> rfl))

end Layer

namespace Cert.MlaRefIdeal.Result

open Cert.MlaRefIdeal Cert.MlaRefIdeal.Gen

variable (x : FVec Ideal S20480x8192 .f32) (k : FVec Ideal S17408x8192 .bf16) (v : FVec Ideal S17408x4096 .bf16)

/-- A latent token's row among all tokens. -/
def tokenRow (b : Fin 4) (p : Fin 4096) : Fin 20480 := ⟨4096 + (b.val * 4096 + p.val), by omega⟩
/-- A lane of a head of the queries and keys. -/
def lane (h : Fin 32) (d : Fin 256) : Fin 8192 := ⟨h.val * 256 + d.val, by omega⟩
/-- A lane of a head of the values. -/
def vlane (h : Fin 32) (d : Fin 128) : Fin 4096 := ⟨h.val * 128 + d.val, by omega⟩
/-- A key's row among all keys. -/
def keyRow (b : Fin 4) (n : Fin 4352) : Fin 17408 := ⟨b.val * 4352 + n.val, by omega⟩
/-- A latent token's row in the result. -/
def outRow (b : Fin 4) (p : Fin 4096) : Fin 16384 := ⟨b.val * 4096 + p.val, by omega⟩

theorem heads_apply (b : Fin 4) (p : Fin 4096) (h : Fin 32) (d : Fin 256) :
    heads x (ix4 b p h d) = x (ix2 (tokenRow b p) (lane h d)) := by
  have e : heads x (ix4 b p h d) = extractStridedSlice S16384x8192 ![4096, 0] x slices_S20480x8192_S16384x8192_4096_0 (ix2 (outRow b p) (lane h d)) :=
    shapeCast_apply _ _ _ _ (by
      rw [Shape.rowMajor_val_two, Shape.rowMajor_val_four]
      show (b.val * 4096 + p.val) * 8192 + (h.val * 256 + d.val) = ((b.val * 4096 + p.val) * 32 + h.val) * 256 + d.val
      omega)
  rw [e]
  refine extractStridedSlice_apply _ _ _ _ _ fun a => ?_
  fin_cases a
  · rfl
  · exact (Nat.zero_add _).symm

theorem keys_apply (b : Fin 4) (n : Fin 4352) (h : Fin 32) (d : Fin 256) :
    keys k (ix4 b n h d) = k (ix2 (keyRow b n) (lane h d)) :=
  shapeCast_apply _ _ _ _ (by
    rw [Shape.rowMajor_val_two, Shape.rowMajor_val_four]
    show (b.val * 4352 + n.val) * 8192 + (h.val * 256 + d.val) = ((b.val * 4352 + n.val) * 32 + h.val) * 256 + d.val
    omega)

theorem vals_apply (b : Fin 4) (n : Fin 4352) (h : Fin 32) (d : Fin 128) :
    vals v (ix4 b n h d) = v (ix2 (keyRow b n) (vlane h d)) :=
  shapeCast_apply _ _ _ _ (by
    rw [Shape.rowMajor_val_two, Shape.rowMajor_val_four]
    show (b.val * 4352 + n.val) * 4096 + (h.val * 128 + d.val) = ((b.val * 4352 + n.val) * 32 + h.val) * 128 + d.val
    omega)

/-- The word of the scores' scale, `1 / sqrt 192` rounded. -/
abbrev scale : EReal := Ideal.ofBits .f32 0x3D93CD3A#32

/-- A query's score of a key. -/
def score (b : Fin 4) (p : Fin 4096) (h : Fin 32) (n : Fin 4352) : EReal :=
  (∑ d : Fin 256, turned x (ix4 b p h d) * k (ix2 (keyRow b n) (lane h d))) * scale

theorem scores_apply (b : Fin 4) (p : Fin 4096) (h : Fin 32) (n : Fin 4352) :
    scores x k (ix4 b h p n) = score x k b p h n := by
  pointwise [scores, score, dot_S4x4096x32x256_S4x4352x32x256_S4x32x4096x4352_3_3_1_1_02_02]
  refine congrArg (· * _) (Finset.sum_congr rfl fun d _ => congrArg (_ * ·) ?_)
  exact keys_apply k b n h d

theorem peak_apply (s : FVec Ideal S4x32x4096x4352 .f32) (b : Fin 4) (p : Fin 4096) (h : Fin 32) :
    peak s (ix3 b h p) = Finset.univ.sup fun n : Fin 4352 => s (ix4 b h p n) := by
  have e : peak s (ix3 b h p) = max (Ideal.ofBits .f32 0xFF800000#32)
      (Host.reduce FloatOps.maximumf s (constant S_ .f32 0xFF800000#32) reducesTo_S4x32x4096x4352_S4x32x4096_d3 h_S_ (ix3 b h p)) := by
    unfold peak
    rw [maximumf_apply]
    rfl
  rw [e, Layer.word_bot, Layer.hostMax s _ (by decide) (Or.inl rfl) rfl _ b h p]
  exact bot_sup_eq _

theorem exps_apply (s : FVec Ideal S4x32x4096x4352 .f32) (b : Fin 4) (p : Fin 4096) (h : Fin 32) (n : Fin 4352) :
    exps s (ix4 b h p n) = Ideal.exp (s (ix4 b h p n) - Finset.univ.sup fun n : Fin 4352 => s (ix4 b h p n)) := by
  rw [← peak_apply]
  pointwise [exps, over]

theorem probs_apply (s : FVec Ideal S4x32x4096x4352 .f32) (b : Fin 4) (p : Fin 4096) (h : Fin 32) (n : Fin 4352) :
    probs s (ix4 b h p n) = Ideal.div (exps s (ix4 b h p n)) (∑ n : Fin 4352, exps s (ix4 b h p n)) := by
  pointwise [probs, over]

/-- An array by batch, token, head and lane, flattened to a matrix. -/
theorem flat_apply (y : FVec Ideal S4x4096x32x128 .f32) (b : Fin 4) (p : Fin 4096) (h : Fin 32) (d : Fin 128) :
    shapeCast S16384x4096 y shapeCasts_S4x4096x32x128_S16384x4096 (ix2 (outRow b p) (vlane h d)) = y (ix4 b p h d) :=
  shapeCast_apply _ _ _ _ (by
    rw [Shape.rowMajor_val_two, Shape.rowMajor_val_four]
    show ((b.val * 4096 + p.val) * 32 + h.val) * 128 + d.val = (b.val * 4096 + p.val) * 4096 + (h.val * 128 + d.val)
    omega)

/-- The result at an entry. -/
theorem result_apply (b : Fin 4) (p : Fin 4096) (h : Fin 32) (d : Fin 128) :
    result x k v (ix2 (outRow b p) (vlane h d))
      = ∑ n : Fin 4352, v (ix2 (keyRow b n) (vlane h d)) * probs (scores x k) (ix4 b h p n) := by
  unfold result
  rw [truncf_apply, flat_apply]
  pointwise [dot_S4x4352x32x128_S4x32x4096x4352_S4x32x128x4096_1_3_3_2_02_01]
  refine Finset.sum_congr rfl fun n _ => congrArg (· * _) ?_
  exact vals_apply v b n h d

end Cert.MlaRefIdeal.Result

end
-- ==== Proof.MlaTurn.lean ====
/-
  The kernel's turned queries are the reference's, scaled: on each lane of a head the three tables and the two rotations of
  the lanes give the rotation the reference writes out.
-/
module

public import proofs.«01_k».proof.Proof.MlaTables
public import proofs.«01_k».proof.Proof.MlaRead
public import proofs.«01_k».proof.Proof.MlaStep

@[expose] public section

set_option maxRecDepth 16384

noncomputable section

open Idealize.ShloMosaic Idealize.ShloMosaic.TcCoe Idealize.SL.Sem

namespace Layer

/-- A matrix joined of pieces along its second axis, read in one of them. -/
theorem piece2 {N M n : ℕ} (xs : List ((s : Shape) × (s.Idx → EReal))) (h : Shape.Concatenates (xs.map (·.1)) ⟨2, ![N, M]⟩ 1)
    (p : Fin N) (d : Fin M) (k : ℕ) (hk : k < xs.length) (x : (⟨2, ![N, n]⟩ : Shape).Idx → EReal) (hx : xs[k] = ⟨⟨2, ![N, n]⟩, x⟩) (pre : ℕ)
    (hpre : (((xs.take k).map (·.1)).map fun s => if h : s.rank = (⟨2, ![N, M]⟩ : Shape).rank then s.size ((1 : Fin 2).cast h.symm) else 0).sum = pre)
    (e : Fin n) (he : pre + e.val = d.val) : concatenate ⟨2, ![N, M]⟩ 1 xs h (ix2 p d) = x (ix2 p e) :=
  concatenate_apply_piece 1 xs h _ k hk _ x hx rfl pre hpre (ix2 p e) (fun b hb => by
    fin_cases b
    · rfl
    · exact absurd rfl hb) he

/-- An array of four axes joined of pieces along its last axis, read in one of them. -/
theorem piece4 {A B C M n : ℕ} (xs : List ((s : Shape) × (s.Idx → EReal))) (h : Shape.Concatenates (xs.map (·.1)) ⟨4, ![A, B, C, M]⟩ 3)
    (a : Fin A) (b : Fin B) (c : Fin C) (d : Fin M) (k : ℕ) (hk : k < xs.length) (x : (⟨4, ![A, B, C, n]⟩ : Shape).Idx → EReal)
    (hx : xs[k] = ⟨⟨4, ![A, B, C, n]⟩, x⟩) (pre : ℕ)
    (hpre : (((xs.take k).map (·.1)).map fun s => if h : s.rank = (⟨4, ![A, B, C, M]⟩ : Shape).rank then s.size ((3 : Fin 4).cast h.symm) else 0).sum = pre)
    (e : Fin n) (he : pre + e.val = d.val) : concatenate ⟨4, ![A, B, C, M]⟩ 3 xs h (ix4 a b c d) = x (ix4 a b c e) :=
  concatenate_apply_piece 3 xs h _ k hk _ x hx rfl pre hpre (ix4 a b c e) (fun b hb => by
    fin_cases b
    · rfl
    · rfl
    · rfl
    · exact absurd rfl hb) he

/-- The lanes of a head: the first 128, four groups of sixteen, the last 64. -/
theorem lane_cases (d : Fin 256) : (∃ e : Fin 128, 0 + e.val = d.val) ∨ (∃ e : Fin 16, 128 + e.val = d.val) ∨ (∃ e : Fin 16, 144 + e.val = d.val)
    ∨ (∃ e : Fin 16, 160 + e.val = d.val) ∨ (∃ e : Fin 16, 176 + e.val = d.val) ∨ (∃ e : Fin 64, 192 + e.val = d.val) := by
  have hd := d.isLt
  by_cases h1 : d.val < 128
  · exact Or.inl ⟨⟨d.val, h1⟩, by simp⟩
  by_cases h2 : d.val < 144
  · exact Or.inr (Or.inl ⟨⟨d.val - 128, by omega⟩, by simp; omega⟩)
  by_cases h3 : d.val < 160
  · exact Or.inr (Or.inr (Or.inl ⟨⟨d.val - 144, by omega⟩, by simp; omega⟩))
  by_cases h4 : d.val < 176
  · exact Or.inr (Or.inr (Or.inr (Or.inl ⟨⟨d.val - 160, by omega⟩, by simp; omega⟩)))
  by_cases h5 : d.val < 192
  · exact Or.inr (Or.inr (Or.inr (Or.inr (Or.inl ⟨⟨d.val - 176, by omega⟩, by simp; omega⟩))))
  · exact Or.inr (Or.inr (Or.inr (Or.inr (Or.inr ⟨⟨d.val - 192, by omega⟩, by simp; omega⟩))))

end Layer

namespace Cert.MlaIdeal.Result

open Cert.MlaIdeal Cert.MlaIdeal.Gen

section Tables

variable (o : FVec Ideal S4096x128 .f32) (a b c f : FVec Ideal S4096x16 .f32) (z : FVec Ideal S4096x64 .f32) (p : Fin 4096) (d : Fin 256)

theorem lanes_before (e : Fin 128) (he : 0 + e.val = d.val) : lanes o (groups a b c f) z (ix2 p d) = o (ix2 p e) :=
  Layer.piece2 _ _ p d 0 (by simp) o rfl 0 rfl e he

theorem lanes_after (e : Fin 64) (he : 192 + e.val = d.val) : lanes o (groups a b c f) z (ix2 p d) = z (ix2 p e) :=
  Layer.piece2 _ _ p d 2 (by simp) z rfl 192 rfl e he

theorem lanes_within (e : Fin 64) (he : 128 + e.val = d.val) : lanes o (groups a b c f) z (ix2 p d) = groups a b c f (ix2 p e) :=
  Layer.piece2 _ _ p d 1 (by simp) (groups a b c f) rfl 128 rfl e he

theorem lanes_one (e : Fin 16) (he : 128 + e.val = d.val) : lanes o (groups a b c f) z (ix2 p d) = a (ix2 p e) :=
  (lanes_within o a b c f z p d ⟨e.val, by omega⟩ he).trans (Layer.piece2 _ _ p _ 0 (by simp) a rfl 0 rfl e (Nat.zero_add _))

theorem lanes_two (e : Fin 16) (he : 144 + e.val = d.val) : lanes o (groups a b c f) z (ix2 p d) = b (ix2 p e) :=
  (lanes_within o a b c f z p d ⟨16 + e.val, by omega⟩ (by simp only []; omega)).trans (Layer.piece2 _ _ p _ 1 (by simp) b rfl 16 rfl e rfl)

theorem lanes_three (e : Fin 16) (he : 160 + e.val = d.val) : lanes o (groups a b c f) z (ix2 p d) = c (ix2 p e) :=
  (lanes_within o a b c f z p d ⟨32 + e.val, by omega⟩ (by simp only []; omega)).trans (Layer.piece2 _ _ p _ 2 (by simp) c rfl 32 rfl e rfl)

theorem lanes_four (e : Fin 16) (he : 176 + e.val = d.val) : lanes o (groups a b c f) z (ix2 p d) = f (ix2 p e) :=
  (lanes_within o a b c f z p d ⟨48 + e.val, by omega⟩ (by simp only []; omega)).trans (Layer.piece2 _ _ p _ 3 (by simp) f rfl 48 rfl e rfl)

theorem repeated_apply {s : Shape} (h : S_.BroadcastsInDim s ![]) (w : BitVec 32) (j : s.Idx) : repeated s h w j = Ideal.ofBits .f32 w := rfl

end Tables

/-- The block of queries turned, lane by lane. -/
theorem turned_lane (x co su sd : S512x256.Idx → EReal) (r : Fin 512) (d u w : Fin 256) (hu : u.val = (d.val + 16) % 256) (hw : w.val = (d.val + 240) % 256) :
    turned x co su sd (ix2 r d) = (x (ix2 r d) * co (ix2 r d) + x (ix2 r u) * su (ix2 r d) + x (ix2 r w) * sd (ix2 r d)) * Ideal.ofBits .f32 0x3D93CD3A#32 := by
  have e1 : dynamicRotate 1 240#32 none x rotates_S512x256_d1 (ix2 r d) = x (ix2 r u) :=
    dynamicRotate_apply _ _ _ _ _ _ fun b => by
      fin_cases b
      · rfl
      · exact hu
  have e2 : dynamicRotate 1 16#32 none x rotates_S512x256_d1 (ix2 r d) = x (ix2 r w) :=
    dynamicRotate_apply _ _ _ _ _ _ fun b => by
      fin_cases b
      · rfl
      · exact hw
  show (x (ix2 r d) * co (ix2 r d) + dynamicRotate 1 240#32 none x rotates_S512x256_d1 (ix2 r d) * su (ix2 r d)
    + dynamicRotate 1 16#32 none x rotates_S512x256_d1 (ix2 r d) * sd (ix2 r d)) * Ideal.ofBits .f32 0x3D93CD3A#32 = _
  rw [e1, e2]

end Cert.MlaIdeal.Result

namespace Cert.MlaRefIdeal.Result

open Cert.MlaRefIdeal Cert.MlaRefIdeal.Gen

variable (x : FVec Ideal S20480x8192 .f32) (b : Fin 4) (p : Fin 4096) (h : Fin 32) (d : Fin 256)

theorem turned_before (e : Fin 128) (he : 0 + e.val = d.val) : turned x (ix4 b p h d) = heads x (ix4 b p h d) :=
  (Layer.piece4 _ _ b p h d 0 (by simp) _ rfl 0 rfl e he).trans (extractStridedSlice_apply _ _ _ _ _ fun a => by
    fin_cases a
    · exact (Nat.zero_add _).symm
    · exact (Nat.zero_add _).symm
    · exact (Nat.zero_add _).symm
    · exact he.symm)

theorem turned_after (e : Fin 64) (he : 192 + e.val = d.val) : turned x (ix4 b p h d) = heads x (ix4 b p h d) :=
  (Layer.piece4 _ _ b p h d 2 (by simp) _ rfl 192 rfl e he).trans (extractStridedSlice_apply _ _ _ _ _ fun a => by
    fin_cases a
    · exact (Nat.zero_add _).symm
    · exact (Nat.zero_add _).symm
    · exact (Nat.zero_add _).symm
    · exact he.symm)

theorem mid_apply (e : Fin 64) (he : 128 + e.val = d.val) : mid x (ix4 b p h e) = heads x (ix4 b p h d) :=
  extractStridedSlice_apply _ _ _ _ _ fun a => by
    fin_cases a
    · exact (Nat.zero_add _).symm
    · exact (Nat.zero_add _).symm
    · exact (Nat.zero_add _).symm
    · exact he.symm

theorem byRow_apply (e : Fin 32) (he : 128 + e.val = d.val) : byRow x (ix4 b p h e) = heads x (ix4 b p h d) :=
  (extractStridedSlice_apply _ _ _ _ (ix4 b p h (⟨e.val, by omega⟩ : Fin 64)) fun a => by
    fin_cases a
    · exact (Nat.zero_add _).symm
    · exact (Nat.zero_add _).symm
    · exact (Nat.zero_add _).symm
    · exact (Nat.zero_add _).symm).trans (mid_apply x b p h d _ he)

theorem byCol_apply (e : Fin 32) (he : 160 + e.val = d.val) : byCol x (ix4 b p h e) = heads x (ix4 b p h d) :=
  (extractStridedSlice_apply _ _ _ _ (ix4 b p h (⟨32 + e.val, by omega⟩ : Fin 64)) fun a => by
    fin_cases a
    · exact (Nat.zero_add _).symm
    · exact (Nat.zero_add _).symm
    · exact (Nat.zero_add _).symm
    · rfl).trans (mid_apply x b p h d _ (by simp only []; omega))

theorem first_apply (y : FVec Ideal S4x4096x32x32 .f32) (e : Fin 16) : first y (ix4 b p h e) = y (ix4 b p h ⟨e.val, by omega⟩) :=
  extractStridedSlice_apply _ _ _ _ _ fun a => by
    fin_cases a
    · exact (Nat.zero_add _).symm
    · exact (Nat.zero_add _).symm
    · exact (Nat.zero_add _).symm
    · exact (Nat.zero_add _).symm

theorem second_apply (y : FVec Ideal S4x4096x32x32 .f32) (e : Fin 16) : second y (ix4 b p h e) = y (ix4 b p h ⟨16 + e.val, by omega⟩) :=
  extractStridedSlice_apply _ _ _ _ _ fun a => by
    fin_cases a
    · exact (Nat.zero_add _).symm
    · exact (Nat.zero_add _).symm
    · exact (Nat.zero_add _).symm
    · rfl

theorem spread_apply (t : FVec Ideal S4096x16 .f32) (e : Fin 16) : spread t (ix4 b p h e) = t (ix2 p e) := by
  pointwise [spread]

theorem low_apply (a : FVec Ideal S4096x16 .f32) (y : FVec Ideal S4x4096x32x32 .f32) (e : Fin 16) :
    low a y (ix4 b p h e) = y (ix4 b p h ⟨e.val, by omega⟩) * Ideal.cos (a (ix2 p e)) - y (ix4 b p h ⟨16 + e.val, by omega⟩) * Ideal.sin (a (ix2 p e)) := by
  show first y (ix4 b p h e) * spread (Host.cos a) (ix4 b p h e) - second y (ix4 b p h e) * spread (Host.sin a) (ix4 b p h e) = _
  rw [first_apply, second_apply, spread_apply, spread_apply]
  rfl

theorem high_apply (a : FVec Ideal S4096x16 .f32) (y : FVec Ideal S4x4096x32x32 .f32) (e : Fin 16) :
    high a y (ix4 b p h e) = y (ix4 b p h ⟨e.val, by omega⟩) * Ideal.sin (a (ix2 p e)) + y (ix4 b p h ⟨16 + e.val, by omega⟩) * Ideal.cos (a (ix2 p e)) := by
  show first y (ix4 b p h e) * spread (Host.sin a) (ix4 b p h e) + second y (ix4 b p h e) * spread (Host.cos a) (ix4 b p h e) = _
  rw [first_apply, second_apply, spread_apply, spread_apply]
  rfl

theorem turned_within (e : Fin 64) (he : 128 + e.val = d.val) : turned x (ix4 b p h d) = spun x (ix4 b p h e) :=
  Layer.piece4 _ _ b p h d 1 (by simp) (spun x) rfl 128 rfl e he

theorem rope_low (a : FVec Ideal S4096x16 .f32) (y : FVec Ideal S4x4096x32x32 .f32) (e : Fin 16) : rope a y (ix4 b p h ⟨e.val, by omega⟩) = low a y (ix4 b p h e) :=
  Layer.piece4 _ _ b p h _ 0 (by simp) (low a y) rfl 0 rfl e (Nat.zero_add _)

theorem rope_high (a : FVec Ideal S4096x16 .f32) (y : FVec Ideal S4x4096x32x32 .f32) (e : Fin 16) : rope a y (ix4 b p h ⟨16 + e.val, by omega⟩) = high a y (ix4 b p h e) :=
  Layer.piece4 _ _ b p h _ 1 (by simp) (high a y) rfl 16 rfl e rfl

theorem spun_row (e : Fin 32) : spun x (ix4 b p h ⟨e.val, by omega⟩) = rope (angle rows) (byRow x) (ix4 b p h e) :=
  Layer.piece4 _ _ b p h _ 0 (by simp) (rope (angle rows) (byRow x)) rfl 0 rfl e (Nat.zero_add _)

theorem spun_col (e : Fin 32) : spun x (ix4 b p h ⟨32 + e.val, by omega⟩) = rope (angle cols) (byCol x) (ix4 b p h e) :=
  Layer.piece4 _ _ b p h _ 1 (by simp) (rope (angle cols) (byCol x)) rfl 32 rfl e rfl

theorem turned_one (e : Fin 16) (u : Fin 256) (he : 128 + e.val = d.val) (hu : u.val = (d.val + 16) % 256) : turned x (ix4 b p h d)
    = heads x (ix4 b p h d) * Ideal.cos (angle rows (ix2 p e)) - heads x (ix4 b p h u) * Ideal.sin (angle rows (ix2 p e)) := by
  rw [turned_within x b p h d ⟨e.val, by omega⟩ he, spun_row x b p h ⟨e.val, by omega⟩, rope_low, low_apply,
    byRow_apply x b p h d _ he, byRow_apply x b p h u _ (by simp only []; omega)]

theorem turned_two (e : Fin 16) (w : Fin 256) (he : 144 + e.val = d.val) (hw : w.val = (d.val + 240) % 256) : turned x (ix4 b p h d)
    = heads x (ix4 b p h w) * Ideal.sin (angle rows (ix2 p e)) + heads x (ix4 b p h d) * Ideal.cos (angle rows (ix2 p e)) := by
  rw [turned_within x b p h d ⟨16 + e.val, by omega⟩ (by simp only []; omega), spun_row x b p h ⟨16 + e.val, by omega⟩, rope_high, high_apply,
    byRow_apply x b p h w _ (by simp only []; omega), byRow_apply x b p h d _ (by simp only []; omega)]

theorem turned_three (e : Fin 16) (u : Fin 256) (he : 160 + e.val = d.val) (hu : u.val = (d.val + 16) % 256) : turned x (ix4 b p h d)
    = heads x (ix4 b p h d) * Ideal.cos (angle cols (ix2 p e)) - heads x (ix4 b p h u) * Ideal.sin (angle cols (ix2 p e)) := by
  rw [turned_within x b p h d ⟨32 + e.val, by omega⟩ (by simp only []; omega), spun_col x b p h ⟨e.val, by omega⟩, rope_low, low_apply,
    byCol_apply x b p h d _ he, byCol_apply x b p h u _ (by simp only []; omega)]

theorem turned_four (e : Fin 16) (w : Fin 256) (he : 176 + e.val = d.val) (hw : w.val = (d.val + 240) % 256) : turned x (ix4 b p h d)
    = heads x (ix4 b p h w) * Ideal.sin (angle cols (ix2 p e)) + heads x (ix4 b p h d) * Ideal.cos (angle cols (ix2 p e)) := by
  rw [turned_within x b p h d ⟨32 + (16 + e.val), by omega⟩ (by simp only []; omega), spun_col x b p h ⟨16 + e.val, by omega⟩, rope_high, high_apply,
    byCol_apply x b p h w _ (by simp only []; omega), byCol_apply x b p h d _ (by simp only []; omega)]

end Cert.MlaRefIdeal.Result

end
-- ==== Proof.MlaKernel.lean ====
/-
  What one point of the attention's grid stores: the softmax-weighted mean of its values, entry by entry.
-/
module

public import proofs.«01_k».proof.Proof.MlaStep
public import proofs.«01_k».proof.Proof.Gen.MlaIdeal.Value
public import Idealize.ShloMosaic.Lib.Pipeline.ValueKit.Tiles

@[expose] public section

set_option maxRecDepth 16384

noncomputable section

open Idealize.ShloMosaic Idealize.ShloMosaic.TcCoe Idealize.ShloMosaic.ValueIdx Idealize.SL.Sem
open scoped BigOperators

namespace Cert.MlaIdeal.Result

open Cert.MlaIdeal Cert.MlaIdeal.Gen Layer

section Body

variable (c : Dev nD) (i : grid0.Coords)
  (arg3 : Memref sig .tc .vmem S512x256 .f32) (harg3 : arg3.IsWhole) (arg4 : Memref sig .tc .vmem S4352x256 .bf16) (harg4 : arg4.IsWhole)
  (arg5 : Memref sig .tc .vmem S4352x128 .bf16) (harg5 : arg5.IsWhole) (arg6 : Memref sig .tc .vmem S512x256 .f32) (harg6 : arg6.IsWhole)
  (arg7 : Memref sig .tc .vmem S512x256 .f32) (harg7 : arg7.IsWhole) (arg8 : Memref sig .tc .vmem S512x256 .f32) (harg8 : arg8.IsWhole)
  (arg9 : Memref sig .tc .vmem S512x128 .bf16) (harg9 : arg9.IsWhole)
  (q : Vec Ideal S512x256 .f32) (K : Vec Ideal S4352x256 .bf16) (W : Vec Ideal S4352x128 .bf16) (co su sd : Vec Ideal S512x256 .f32)

/-- A trip's yield from its 256 keys and values. -/
theorem tripR_eq (k : Fin k0_t1_loop.trips) (acc : FVec Ideal S512x1 .f32 × FVec Ideal S512x1 .f32 × FVec Ideal S512x128 .f32) :
    tripR_k0_t1 (F := Ideal) Variants.none c none i arg3 harg3 arg4 harg4 arg5 harg5 arg6 harg6 arg7 harg7 arg8 harg8 arg9 harg9 q co su sd
        (harg4.unread K) (harg5.unread W) k acc
      = (k0_pay5 q co su sd acc.1 (View.ld K (Rect.unit (k0_off1 k) S256x256.size (k0_off1_inb k))),
          k0_pay8 q co su sd acc.1 acc.2.1 (View.ld K (Rect.unit (k0_off1 k) S256x256.size (k0_off1_inb k))),
          k0_pay9 q co su sd acc.1 acc.2.2 (View.ld K (Rect.unit (k0_off1 k) S256x256.size (k0_off1_inb k))) (View.ld W (Rect.unit (k0_off2 k) S256x128.size (k0_off2_inb k)))) := by
  unfold tripR_k0_t1 trip_k0_t1
  dsimp only
  simp only [View.readAt_eq_ld, harg4.read_unread, harg5.read_unread]

theorem trips_eq : k0_t1_loop.trips = 17 := by decide

/-- The keys a trip loads. -/
theorem keys_at (k : Fin k0_t1_loop.trips) (i d : Fin 256) (h : 256 * k.val + i.val < 4352) :
    (View.ld K (Rect.unit (k0_off1 k) S256x256.size (k0_off1_inb k)) : S256x256.Idx → EReal) (ix2 i d) = K (ix2 ⟨256 * k.val + i.val, h⟩ d) := by
  refine View.ld_unit_apply_of K _ _ _ _ _ fun a => ?_
  refine Eq.trans ?_ (congrArg (· + _) (congrFun (k0_off1_eq k) a).symm)
  fin_cases a
  · rfl
  · exact (Nat.zero_add d.val).symm

/-- The values a trip loads. -/
theorem values_at (k : Fin k0_t1_loop.trips) (i : Fin 256) (d : Fin 128) (h : 256 * k.val + i.val < 4352) :
    (View.ld W (Rect.unit (k0_off2 k) S256x128.size (k0_off2_inb k)) : S256x128.Idx → EReal) (ix2 i d) = W (ix2 ⟨256 * k.val + i.val, h⟩ d) := by
  refine View.ld_unit_apply_of W _ _ _ _ _ fun a => ?_
  refine Eq.trans ?_ (congrArg (· + _) (congrFun (k0_off2_eq k) a).symm)
  fin_cases a
  · rfl
  · exact (Nat.zero_add d.val).symm

/-- What the loop carries before trip `k`. -/
theorem loop_eq : ∀ k : ℕ, k ≤ 17 →
    st_k0_t1 (F := Ideal) Variants.none c none i arg3 harg3 arg4 harg4 arg5 harg5 arg6 harg6 arg7 harg7 arg8 harg8 arg9 harg9 q co su sd
        (harg4.unread K) (harg5.unread W) (k0_pay1 (F := Ideal), k0_pay2 (F := Ideal), k0_pay3 (F := Ideal)) k
      = carried (turned q co su sd) K W (256 * k) := by
  intro k
  induction k with
  | zero => intro _; exact (st_k0_t1_zero ..).trans (start_eq _ K W)
  | succ k ih =>
    intro hk
    have hk' : k < k0_t1_loop.trips := by rw [trips_eq]; omega
    refine (st_k0_t1_succ Variants.none c none i arg3 harg3 arg4 harg4 arg5 harg5 arg6 harg6 arg7 harg7 arg8 harg8 arg9 harg9 q co su sd
      (harg4.unread K) (harg5.unread W) _ ⟨k, hk'⟩).trans ?_
    rw [ih (by omega), tripR_eq]
    exact trip_eq q co su sd K W (256 * k) _ _ (by omega) (fun i d => keys_at K ⟨k, hk'⟩ i d (by have := i.isLt; show 256 * k + i.val < 4352; omega)) (fun i d => values_at W ⟨k, hk'⟩ i d (by have := i.isLt; show 256 * k + i.val < 4352; omega))

/-- The block a point leaves. -/
theorem out_eq (r : Fin 512) (d : Fin 128) :
    (out0_A_6 c i arg3 harg3 arg4 harg4 arg5 harg5 arg6 harg6 arg7 harg7 arg8 harg8 arg9 harg9 q K W co su sd : S512x128.Idx → EReal) (ix2 r d)
      = Ideal.div (mixed (score (turned q co su sd) K r) (value W d) 4352) (weight (score (turned q co su sd) K r) 4352) := by
  have e : (out0_A_6 c i arg3 harg3 arg4 harg4 arg5 harg5 arg6 harg6 arg7 harg7 arg8 harg8 arg9 harg9 q K W co su sd : S512x128.Idx → EReal)
      = k0_pay10 (carried (turned q co su sd) K W 4352).2.1 (carried (turned q co su sd) K W 4352).2.2 := by
    unfold out0_A_6
    rw [View.read_writes_eq_canon _ _ _ (cover0_A_6 c i arg3 harg3 arg4 harg4 arg5 harg5 arg6 harg6 arg7 harg7 arg8 harg8 arg9 harg9 q K W co su sd)]
    unfold kernelRun0_A
    dsimp only
    sl_unfold_words
    rw [View.canon_unit_zero Layer.zero2]
    simp only [View.readAt_eq_ld, harg3.read_unread, harg6.read_unread, harg7.read_unread, harg8.read_unread, View.ld_unit_zero (S := S512x256) Layer.zero2]
    rw [show Scf.trips (0#32) (Scalar.addi 0#32 17#32) 1#32 = 17 from trips_eq, loop_eq c i arg3 harg3 arg4 harg4 arg5 harg5 arg6 harg6 arg7 harg7 arg8 harg8 arg9 harg9 q K W co su sd 17 le_rfl]
  rw [e]
  exact stored_eq _ K W 4352 r d

end Body

end Cert.MlaIdeal.Result

end
-- ==== Proof.MlaMath.lean ====
/-
  The latent attention's two ways of writing one entry are equal where the scores are finite: the kernel's running softmax of
  scaled, turned queries and the reference's softmax of scaled scores.
-/
module

public import proofs.«01_k».proof.Proof.MlaTurn
public import proofs.«01_k».proof.Proof.MlaKernel

@[expose] public section

set_option maxRecDepth 16384

noncomputable section

open Idealize.ShloMosaic Idealize.ShloMosaic.TcCoe Idealize.SL.Sem
open scoped BigOperators

namespace Layer

theorem Fin'.cos {x : EReal} (hx : Fin' x) : Fin' (Ideal.cos x) := by
  obtain ⟨r, rfl⟩ := hx.exists
  exact Fin'.coe _

theorem Fin'.sin {x : EReal} (hx : Fin' x) : Fin' (Ideal.sin x) := by
  obtain ⟨r, rfl⟩ := hx.exists
  exact Fin'.coe _

theorem Fin'.sub {x y : EReal} (hx : Fin' x) (hy : Fin' y) : Fin' (x - y) := by
  rw [sub_eq_add_neg]
  exact hx.add hy.neg

theorem Fin'.pow {x y : EReal} (hx : Fin' x) (hy : Fin' y) : Fin' (Ideal.pow x y) := by
  obtain ⟨r, rfl⟩ := hx.exists
  obtain ⟨q, rfl⟩ := hy.exists
  exact Fin'.coe _

theorem Fin'.div {x : EReal} (hx : Fin' x) {q : ℝ} (hq : q ≠ 0) : Fin' (Ideal.div x (q : EReal)) := by
  obtain ⟨r, rfl⟩ := hx.exists
  have h : ((q : ℝ) : EReal) ≠ 0 := fun e => hq (by exact_mod_cast e)
  rw [Ideal.div, if_neg h, ← EReal.coe_inv, ← EReal.coe_mul]
  exact Fin'.coe _

/-- The word of 10000. -/
theorem word_base : Ideal.ofBits .f32 0x461C4000#32 = ((10000 : ℝ) : EReal) := by
  simp [Ideal.ofBits, Ideal.ieee, -EReal.coe_mul]; norm_num

/-- The word of 16. -/
theorem word_sixteen : Ideal.ofBits .f32 0x41800000#32 = ((16 : ℝ) : EReal) := by
  simp [Ideal.ofBits, Ideal.ieee, -EReal.coe_mul]; norm_num

/-- The word of the scores' scale is a positive real. -/
theorem word_scale : ∃ r : ℝ, 0 ≤ r ∧ Ideal.ofBits .f32 0x3D93CD3A#32 = (r : EReal) := by
  refine ⟨_, ?_, by simp [Ideal.ofBits, Ideal.ieee, -EReal.coe_mul]; rfl⟩
  positivity

/-- The largest of the first `n` scores, over the numbers below `n`. -/
theorem top_univ (s : ℕ → EReal) (n : ℕ) : top s n = Finset.univ.sup fun i : Fin n => s i.val := by
  apply le_antisymm
  · exact Finset.sup_le fun i hi => Finset.le_sup (f := fun i : Fin n => s i.val) (Finset.mem_univ ⟨i, Finset.mem_range.mp hi⟩)
  · exact Finset.sup_le fun i _ => le_top i.isLt

/-- Two sequences of scores that agree below `n` have the same largest, weights and weighted sum. -/
theorem top_congr {s s' : ℕ → EReal} {n : ℕ} (h : ∀ i < n, s i = s' i) : top s n = top s' n :=
  Finset.sup_congr rfl fun i hi => h i (Finset.mem_range.mp hi)

theorem weight_congr {s s' : ℕ → EReal} {n : ℕ} (h : ∀ i < n, s i = s' i) : weight s n = weight s' n :=
  Finset.sum_congr rfl fun i hi => by rw [h i (Finset.mem_range.mp hi), top_congr h]

theorem mixed_congr {s s' v v' : ℕ → EReal} {n : ℕ} (h : ∀ i < n, s i = s' i) (hv : ∀ i < n, v i = v' i) : mixed s v n = mixed s' v' n :=
  Finset.sum_congr rfl fun i hi => by rw [h i (Finset.mem_range.mp hi), hv i (Finset.mem_range.mp hi), top_congr h]

end Layer

namespace Cert.MlaRefIdeal.Result

open Cert.MlaRefIdeal Cert.MlaRefIdeal.Gen Layer

/-- Every angle is finite. -/
theorem angle_fin (w : IVec S4096 32) (p : Fin 4096) (e : Fin 16) : Fin' (angle w (ix2 p e)) := by
  have h : angle w (ix2 p e) = (((w (ix1 p)).toInt : ℝ) : EReal) * freq (ix1 e) := by
    pointwise [angle]
    rfl
  rw [h]
  refine (Fin'.coe _).mul ?_
  show Fin' (Ideal.pow (Ideal.ofBits .f32 0x461C4000#32) (Ideal.div (-((((iotaInDim S16 32 0 (ix1 e) : BitVec 32).toInt : ℝ)) : EReal)) (Ideal.ofBits .f32 0x41800000#32)))
  rw [word_base, word_sixteen]
  exact (Fin'.coe _).pow (Fin'.div (Fin'.coe _).neg (by norm_num))

variable (x : FVec Ideal S20480x8192 .f32) (k : FVec Ideal S17408x8192 .bf16) (v : FVec Ideal S17408x4096 .bf16)

/-- Of finite queries the turned ones are finite. -/
theorem turned_fin (hx : ∀ j, Fin' (x j)) (b : Fin 4) (p : Fin 4096) (h : Fin 32) (d : Fin 256) : Fin' (turned x (ix4 b p h d)) := by
  have hh : ∀ d : Fin 256, Fin' (heads x (ix4 b p h d)) := fun d => by rw [heads_apply]; exact hx _
  obtain ⟨e, he⟩ | ⟨e, he⟩ | ⟨e, he⟩ | ⟨e, he⟩ | ⟨e, he⟩ | ⟨e, he⟩ := lane_cases d
  · rw [turned_before x b p h d e he]; exact hh d
  · rw [turned_one x b p h d e ⟨(d.val + 16) % 256, Nat.mod_lt _ (by norm_num)⟩ he rfl]
    exact ((hh _).mul (angle_fin _ _ _).cos).sub ((hh _).mul (angle_fin _ _ _).sin)
  · rw [turned_two x b p h d e ⟨(d.val + 240) % 256, Nat.mod_lt _ (by norm_num)⟩ he rfl]
    exact ((hh _).mul (angle_fin _ _ _).sin).add ((hh _).mul (angle_fin _ _ _).cos)
  · rw [turned_three x b p h d e ⟨(d.val + 16) % 256, Nat.mod_lt _ (by norm_num)⟩ he rfl]
    exact ((hh _).mul (angle_fin _ _ _).cos).sub ((hh _).mul (angle_fin _ _ _).sin)
  · rw [turned_four x b p h d e ⟨(d.val + 240) % 256, Nat.mod_lt _ (by norm_num)⟩ he rfl]
    exact ((hh _).mul (angle_fin _ _ _).sin).add ((hh _).mul (angle_fin _ _ _).cos)
  · rw [turned_after x b p h d e he]; exact hh d

/-- Of finite queries and keys the scores are finite. -/
theorem score_fin (hx : ∀ j, Fin' (x j)) (hk : ∀ j, Fin' (k j)) (b : Fin 4) (p : Fin 4096) (h : Fin 32) (n : Fin 4352) : Fin' (score x k b p h n) := by
  obtain ⟨r, -, hr⟩ := word_scale
  unfold score scale
  rw [hr]
  exact (Fin'.sum _ fun d _ => (turned_fin x hx b p h d).mul (hk _)).mul (Fin'.coe _)

/-- A query's scores by number, zero past the last key. -/
def scoreAt (b : Fin 4) (p : Fin 4096) (h : Fin 32) (n : ℕ) : EReal := if hn : n < 4352 then score x k b p h ⟨n, hn⟩ else 0

/-- A value lane by number, zero past the last key. -/
def valueAt (b : Fin 4) (h : Fin 32) (d : Fin 128) (n : ℕ) : EReal := if hn : n < 4352 then v (ix2 (keyRow b ⟨n, hn⟩) (vlane h d)) else 0

/-- The reference's entry is the softmax-weighted sum over the weights' sum. -/
theorem result_eq (hx : ∀ j, Fin' (x j)) (hk : ∀ j, Fin' (k j)) (b : Fin 4) (p : Fin 4096) (h : Fin 32) (d : Fin 128) :
    result x k v (ix2 (outRow b p) (vlane h d)) = Ideal.div (mixed (scoreAt x k b p h) (valueAt v b h d) 4352) (weight (scoreAt x k b p h) 4352) := by
  have hs : ∀ i < 4352, Fin' (scoreAt x k b p h i) := fun i hi => by
    rw [scoreAt, dif_pos hi]; exact score_fin x k hx hk b p h _
  have ht : top (scoreAt x k b p h) 4352 = Finset.univ.sup fun n : Fin 4352 => scores x k (ix4 b h p n) := by
    rw [top_univ]
    exact Finset.sup_congr rfl fun n _ => (dif_pos n.isLt).trans (scores_apply x k b p h n).symm
  have he : ∀ n : Fin 4352, exps (scores x k) (ix4 b h p n) = Ideal.exp (scoreAt x k b p h n.val - top (scoreAt x k b p h) 4352) := fun n => by
    rw [exps_apply, ← ht, scores_apply, scoreAt, dif_pos n.isLt]
  have hw : ∑ n : Fin 4352, exps (scores x k) (ix4 b h p n) = weight (scoreAt x k b p h) 4352 := by
    rw [weight, Finset.sum_range]
    exact Finset.sum_congr rfl fun n _ => he n
  rw [result_apply, mixed_div (by norm_num) hs, Finset.sum_range]
  refine Finset.sum_congr rfl fun n _ => ?_
  rw [probs_apply, hw, he, valueAt, dif_pos n.isLt]

end Cert.MlaRefIdeal.Result

namespace Cert.MlaIdeal.Result

open Cert.MlaIdeal Cert.MlaIdeal.Gen Layer
open Cert.MlaRefIdeal.Result (rows cols angle tokenRow lane vlane keyRow outRow)

/-- The table of the cosines. -/
abbrev cosT : S4096x256.Idx → EReal := lanes (repeated S4096x128 bcast_S_S4096x128 0x3F800000#32)
  (groups (Host.cos (angle rows)) (Host.cos (angle rows)) (Host.cos (angle cols)) (Host.cos (angle cols))) (repeated S4096x64 bcast_S_S4096x64 0x3F800000#32)

/-- The table of minus the sines. -/
abbrev upT : S4096x256.Idx → EReal := lanes (repeated S4096x128 bcast_S_S4096x128 0x00000000#32)
  (groups (Host.negf (Host.sin (angle rows))) (repeated S4096x16 bcast_S_S4096x16 0x00000000#32) (Host.negf (Host.sin (angle cols))) (repeated S4096x16 bcast_S_S4096x16 0x00000000#32))
  (repeated S4096x64 bcast_S_S4096x64 0x00000000#32)

/-- The table of the sines. -/
abbrev downT : S4096x256.Idx → EReal := lanes (repeated S4096x128 bcast_S_S4096x128 0x00000000#32)
  (groups (repeated S4096x16 bcast_S_S4096x16 0x00000000#32) (Host.sin (angle rows)) (repeated S4096x16 bcast_S_S4096x16 0x00000000#32) (Host.sin (angle cols)))
  (repeated S4096x64 bcast_S_S4096x64 0x00000000#32)

variable (X : FVec Ideal Cert.MlaRefIdeal.S20480x8192 .f32) (b : Fin 4) (p : Fin 4096) (h : Fin 32)

open Cert.MlaRefIdeal.Result (heads turned_before turned_after turned_one turned_two turned_three turned_four) in
/-- A turned query of a block is the reference's, scaled. -/
theorem turned_eq (x co su sd : S512x256.Idx → EReal) (r : Fin 512)
    (hx : ∀ d : Fin 256, x (ix2 r d) = heads X (ix4 b p h d))
    (hc : ∀ d : Fin 256, co (ix2 r d) = cosT (ix2 p d)) (hu : ∀ d : Fin 256, su (ix2 r d) = upT (ix2 p d)) (hd : ∀ d : Fin 256, sd (ix2 r d) = downT (ix2 p d))
    (d : Fin 256) : turned x co su sd (ix2 r d) = Cert.MlaRefIdeal.Result.turned X (ix4 b p h d) * Ideal.ofBits .f32 0x3D93CD3A#32 := by
  obtain ⟨u, eu⟩ : ∃ u : Fin 256, u.val = (d.val + 16) % 256 := ⟨⟨_, Nat.mod_lt _ (by norm_num)⟩, rfl⟩
  obtain ⟨w, ew⟩ : ∃ w : Fin 256, w.val = (d.val + 240) % 256 := ⟨⟨_, Nat.mod_lt _ (by norm_num)⟩, rfl⟩
  rw [turned_lane x co su sd r d u w eu ew, hx, hx, hx, hc, hu, hd]
  refine congrArg (· * _) ?_
  obtain ⟨e, he⟩ | ⟨e, he⟩ | ⟨e, he⟩ | ⟨e, he⟩ | ⟨e, he⟩ | ⟨e, he⟩ := lane_cases d
  · rw [turned_before X b p h d e he, cosT, upT, downT, lanes_before _ _ _ _ _ _ p d e he, lanes_before _ _ _ _ _ _ p d e he, lanes_before _ _ _ _ _ _ p d e he,
      repeated_apply, repeated_apply, Ideal.ofBits_zero_f32, Ideal.ofBits_one_f32, mul_one, mul_zero, mul_zero, add_zero, add_zero]
  · rw [turned_one X b p h d e u he eu, cosT, upT, downT, lanes_one _ _ _ _ _ _ p d e he, lanes_one _ _ _ _ _ _ p d e he, lanes_one _ _ _ _ _ _ p d e he,
      repeated_apply, Ideal.ofBits_zero_f32, mul_zero, add_zero, sub_eq_add_neg, ← mul_neg]
    rfl
  · rw [turned_two X b p h d e w he ew, cosT, upT, downT, lanes_two _ _ _ _ _ _ p d e he, lanes_two _ _ _ _ _ _ p d e he, lanes_two _ _ _ _ _ _ p d e he,
      repeated_apply, Ideal.ofBits_zero_f32, mul_zero, add_zero, add_comm]
    rfl
  · rw [turned_three X b p h d e u he eu, cosT, upT, downT, lanes_three _ _ _ _ _ _ p d e he, lanes_three _ _ _ _ _ _ p d e he, lanes_three _ _ _ _ _ _ p d e he,
      repeated_apply, Ideal.ofBits_zero_f32, mul_zero, add_zero, sub_eq_add_neg, ← mul_neg]
    rfl
  · rw [turned_four X b p h d e w he ew, cosT, upT, downT, lanes_four _ _ _ _ _ _ p d e he, lanes_four _ _ _ _ _ _ p d e he, lanes_four _ _ _ _ _ _ p d e he,
      repeated_apply, Ideal.ofBits_zero_f32, mul_zero, add_zero, add_comm]
    rfl
  · rw [turned_after X b p h d e he, cosT, upT, downT, lanes_after _ _ _ _ _ _ p d e he, lanes_after _ _ _ _ _ _ p d e he, lanes_after _ _ _ _ _ _ p d e he,
      repeated_apply, repeated_apply, Ideal.ofBits_zero_f32, Ideal.ofBits_one_f32, mul_one, mul_zero, mul_zero, add_zero, add_zero]

/-- A block's score of a key is the reference's. -/
theorem score_eq (k : FVec Ideal Cert.MlaRefIdeal.S17408x8192 .bf16) (q : S512x256.Idx → EReal) (K : S4352x256.Idx → EReal) (r : Fin 512)
    (hq : ∀ d : Fin 256, q (ix2 r d) = Cert.MlaRefIdeal.Result.turned X (ix4 b p h d) * Ideal.ofBits .f32 0x3D93CD3A#32)
    (hK : ∀ (n : Fin 4352) (d : Fin 256), K (ix2 n d) = k (ix2 (keyRow b n) (lane h d))) (n : ℕ) :
    score q K r n = Cert.MlaRefIdeal.Result.scoreAt X k b p h n := by
  unfold score Cert.MlaRefIdeal.Result.scoreAt
  split
  · rename_i hn
    obtain ⟨s, hs0, hs⟩ := word_scale
    unfold Cert.MlaRefIdeal.Result.score Cert.MlaRefIdeal.Result.scale
    rw [hs, sum_mul _ _ (by exact_mod_cast hs0) (EReal.coe_ne_top s)]
    refine Finset.sum_congr rfl fun d _ => ?_
    refine (congrArg₂ (· * ·) (hq d) (hK ⟨n, hn⟩ d)).trans ?_
    rw [hs]
    exact mul_right_comm _ _ _
  · rfl

/-- A block's value lane is the reference's. -/
theorem value_eq (v : FVec Ideal Cert.MlaRefIdeal.S17408x4096 .bf16) (W : S4352x128.Idx → EReal) (d : Fin 128)
    (hW : ∀ n : Fin 4352, W (ix2 n d) = v (ix2 (keyRow b n) (vlane h d))) (n : ℕ) :
    value W d n = Cert.MlaRefIdeal.Result.valueAt v b h d n := by
  unfold value Cert.MlaRefIdeal.Result.valueAt
  split
  · exact hW _
  · rfl

end Cert.MlaIdeal.Result

end
-- ==== Proof.MlaResult.lean ====
/-
  The latent attention: the kernel's array, block by block over the grid, is the reference's.
-/
module

public import proofs.«01_k».proof.Defs
public import proofs.«01_k».proof.Proof.Blocks
public import proofs.«01_k».proof.Proof.MlaMath
public import proofs.«01_k».proof.Proof.Gen.Pre_finite_scores
public import Idealize.ShloMosaic.Lib.Quiescent

@[expose] public section

set_option maxRecDepth 16384

noncomputable section

open Idealize.ShloMosaic Idealize.ShloMosaic.TcCoe Idealize.SL.Sem
open scoped BigOperators

namespace Cert.MlaIdeal.Result

open Cert.MlaIdeal Cert.MlaIdeal.Gen Layer
open Cert.MlaRefIdeal.Result (tokenRow lane vlane keyRow outRow)

variable (m : (ℓ : Loc nD τ sig) → Buf (Elt Ideal) ℓ) (ρ : Dev nD → PrngReg)

/-- The reference's result of the kernel's arguments. -/
abbrev G (c : Dev nD) : S16384x4096.Idx → EReal :=
  Cert.MlaRefIdeal.Result.result (m ((c : Thread nD τ).loc main_arg0)) (m ((c : Thread nD τ).loc main_arg1)) (m ((c : Thread nD τ).loc main_arg2))

/-- Which block each window is on at a point. -/
theorem at_point : ∀ t : Fin grid0.N,
    win0_0.index t 0 = 8 + (t.val / 256 * 8 + t.val % 8) ∧ win0_0.index t 1 = t.val / 8 % 32
      ∧ win0_1.index t 0 = t.val / 256 ∧ win0_1.index t 1 = t.val / 8 % 32
      ∧ win0_2.index t 0 = t.val / 256 ∧ win0_2.index t 1 = t.val / 8 % 32
      ∧ win0_3.index t 0 = t.val % 8 ∧ win0_3.index t 1 = 0
      ∧ win0_4.index t 0 = t.val % 8 ∧ win0_4.index t 1 = 0
      ∧ win0_5.index t 0 = t.val % 8 ∧ win0_5.index t 1 = 0
      ∧ win0_6.index t 0 = t.val / 256 * 8 + t.val % 8 ∧ win0_6.index t 1 = t.val / 8 % 32 := by decide +kernel

section Point

variable (c : Dev nD) (t : Fin cfg0.N) (b : Fin 4) (p : Fin 4096) (h : Fin 32) (r : Fin 512)

/-- A point's block of queries. -/
theorem query_block (hb : b.val = t.val / 256) (hh : h.val = t.val / 8 % 32) (hp : p.val = t.val % 8 * 512 + r.val) (e : Fin 256) :
    (iblk m c 0 t : S512x256.Idx → EReal) (ix2 r e) = Cert.MlaRefIdeal.Result.heads (m ((c : Thread nD τ).loc main_arg0)) (ix4 b p h e) := by
  obtain ⟨q0, q1, -⟩ := at_point t
  refine Eq.trans ?_ (Cert.MlaRefIdeal.Result.heads_apply _ b p h e).symm
  refine (congrFun (V_main_arg0 m c) ((win0_0.rect t).emb (ix2 r e))).trans ?_
  refine congrArg (m ((c : Thread nD τ).loc main_arg0)) (Shape.idx_ext₂ ?_ ?_)
  · show win0_0.index t 0 * 512 + 1 * r.val = 4096 + (b.val * 4096 + p.val)
    rw [q0]; omega
  · show win0_0.index t 1 * 256 + 1 * e.val = h.val * 256 + e.val
    rw [q1]; omega

/-- A point's block of keys. -/
theorem key_block (hb : b.val = t.val / 256) (hh : h.val = t.val / 8 % 32) (n : Fin 4352) (e : Fin 256) :
    (iblk m c 1 t : S4352x256.Idx → EReal) (ix2 n e) = (m ((c : Thread nD τ).loc main_arg1) : S17408x8192.Idx → EReal) (ix2 (keyRow b n) (lane h e)) := by
  obtain ⟨-, -, k0, k1, -⟩ := at_point t
  refine (congrFun (V_main_arg1 m c) ((win0_1.rect t).emb (ix2 n e))).trans ?_
  refine congrArg (m ((c : Thread nD τ).loc main_arg1)) (Shape.idx_ext₂ ?_ ?_)
  · show win0_1.index t 0 * 4352 + 1 * n.val = b.val * 4352 + n.val
    rw [k0]; omega
  · show win0_1.index t 1 * 256 + 1 * e.val = h.val * 256 + e.val
    rw [k1]; omega

/-- A point's block of values. -/
theorem value_block (hb : b.val = t.val / 256) (hh : h.val = t.val / 8 % 32) (n : Fin 4352) (d : Fin 128) :
    (iblk m c 2 t : S4352x128.Idx → EReal) (ix2 n d) = (m ((c : Thread nD τ).loc main_arg2) : S17408x4096.Idx → EReal) (ix2 (keyRow b n) (vlane h d)) := by
  obtain ⟨-, -, -, -, v0, v1, -⟩ := at_point t
  refine (congrFun (V_main_arg2 m c) ((win0_2.rect t).emb (ix2 n d))).trans ?_
  refine congrArg (m ((c : Thread nD τ).loc main_arg2)) (Shape.idx_ext₂ ?_ ?_)
  · show win0_2.index t 0 * 4352 + 1 * n.val = b.val * 4352 + n.val
    rw [v0]; omega
  · show win0_2.index t 1 * 128 + 1 * d.val = h.val * 128 + d.val
    rw [v1]; omega

/-- A point's block of the first table. -/
theorem cos_block (hp : p.val = t.val % 8 * 512 + r.val) (e : Fin 256) : (iblk m c 3 t : S512x256.Idx → EReal) (ix2 r e) = cosT (ix2 p e) := by
  obtain ⟨-, -, -, -, -, -, c0, c1, -⟩ := at_point t
  refine (congrFun (cos_table m c) ((win0_3.rect t).emb (ix2 r e))).trans ?_
  refine congrArg cosT (Shape.idx_ext₂ ?_ ?_)
  · show win0_3.index t 0 * 512 + 1 * r.val = p.val
    rw [c0]; omega
  · show win0_3.index t 1 * 256 + 1 * e.val = e.val
    rw [c1]; omega

/-- A point's block of the second table. -/
theorem up_block (hp : p.val = t.val % 8 * 512 + r.val) (e : Fin 256) : (iblk m c 4 t : S512x256.Idx → EReal) (ix2 r e) = upT (ix2 p e) := by
  obtain ⟨-, -, -, -, -, -, -, -, c0, c1, -⟩ := at_point t
  refine (congrFun (up_table m c) ((win0_4.rect t).emb (ix2 r e))).trans ?_
  refine congrArg upT (Shape.idx_ext₂ ?_ ?_)
  · show win0_4.index t 0 * 512 + 1 * r.val = p.val
    rw [c0]; omega
  · show win0_4.index t 1 * 256 + 1 * e.val = e.val
    rw [c1]; omega

/-- A point's block of the third table. -/
theorem down_block (hp : p.val = t.val % 8 * 512 + r.val) (e : Fin 256) : (iblk m c 5 t : S512x256.Idx → EReal) (ix2 r e) = downT (ix2 p e) := by
  obtain ⟨-, -, -, -, -, -, -, -, -, -, c0, c1, -⟩ := at_point t
  refine (congrFun (down_table m c) ((win0_5.rect t).emb (ix2 r e))).trans ?_
  refine congrArg downT (Shape.idx_ext₂ ?_ ?_)
  · show win0_5.index t 0 * 512 + 1 * r.val = p.val
    rw [c0]; omega
  · show win0_5.index t 1 * 256 + 1 * e.val = e.val
    rw [c1]; omega

/-- A point's entry is the reference's. -/
theorem point_eq (hx : ∀ j, Fin' (m ((c : Thread nD τ).loc main_arg0) j)) (hk : ∀ j, Fin' (m ((c : Thread nD τ).loc main_arg1) j))
    (hb : b.val = t.val / 256) (hh : h.val = t.val / 8 % 32) (hp : p.val = t.val % 8 * 512 + r.val) (d : Fin 128) :
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) : S512x128.Idx → EReal) (ix2 r d)
      = G m c (ix2 (outRow b p) (vlane h d)) := by
  have hs : ∀ n : ℕ, score (turned (iblk m c 0 t) (iblk m c 3 t) (iblk m c 4 t) (iblk m c 5 t)) (iblk m c 1 t) r n
      = Cert.MlaRefIdeal.Result.scoreAt (m ((c : Thread nD τ).loc main_arg0)) (m ((c : Thread nD τ).loc main_arg1)) b p h n :=
    score_eq _ b p h _ _ _ r
      (turned_eq _ b p h _ _ _ _ r (query_block m c t b p h r hb hh hp) (cos_block m c t p r hp) (up_block m c t p r hp) (down_block m c t p r hp))
      (key_block m c t b h hb hh)
  have hv : ∀ n : ℕ, value (iblk m c 2 t) d n = Cert.MlaRefIdeal.Result.valueAt (m ((c : Thread nD τ).loc main_arg2)) b h d n :=
    value_eq b h _ _ d fun n => value_block m c t b h hb hh n d
  refine (out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) r d).trans ?_
  refine Eq.trans ?_ (Cert.MlaRefIdeal.Result.result_eq _ _ _ hx hk b p h d).symm
  exact congrArg₂ Ideal.div (mixed_congr (fun n _ => hs n) (fun n _ => hv n)) (weight_congr fun n _ => hs n)

end Point

/-- What a point writes back is its block of the reference's result. -/
theorem flushed_eq (c : Dev nD) (hx : ∀ j, Fin' (m ((c : Thread nD τ).loc main_arg0) j)) (hk : ∀ j, Fin' (m ((c : Thread nD τ).loc main_arg1) j)) (t : Fin cfg0.N) :
    (dats m 0 c).flushed 6 t = ((cfg0.win 6).blk t).view.read (Elt Ideal) (G m c) := by
  obtain ⟨-, -, -, -, -, -, -, -, -, -, -, -, o0, o1⟩ := at_point t
  have hN : grid0.N = 1024 := N_0
  have ht : t.val < 1024 := hN ▸ t.isLt
  rw [Value.flushed6_A]
  funext j
  obtain ⟨r, d, rfl⟩ : ∃ (r : Fin 512) (d : Fin 128), j = ix2 r d := ⟨j 0, j 1, ValueIdx.eq_ix2 j⟩
  obtain ⟨b, hb⟩ : ∃ b : Fin 4, b.val = t.val / 256 := ⟨⟨t.val / 256, by omega⟩, rfl⟩
  obtain ⟨h, hh⟩ : ∃ h : Fin 32, h.val = t.val / 8 % 32 := ⟨⟨t.val / 8 % 32, by omega⟩, rfl⟩
  obtain ⟨p, hp⟩ : ∃ p : Fin 4096, p.val = t.val % 8 * 512 + r.val := ⟨⟨t.val % 8 * 512 + r.val, by omega⟩, rfl⟩
  refine (point_eq m c t b p h r hx hk hb hh hp d).trans ?_
  show G m c _ = G m c ((win0_6.rect t).emb (ix2 r d))
  refine congrArg (G m c) (Shape.idx_ext₂ ?_ ?_)
  · show b.val * 4096 + p.val = win0_6.index t 0 * 512 + 1 * r.val
    rw [o0]; omega
  · show h.val * 128 + d.val = win0_6.index t 1 * 128 + 1 * d.val
    rw [o1]; omega

/-- Every entry is in the block of some point. -/
theorem covered (i : S16384x4096.Idx) : ∃ t : Fin cfg0.N, (cfg0.win 6).flush t = true ∧ i ∈ ((cfg0.win 6).blk t).view.set := by
  have h0 : (i 0 : Nat) < 16384 := (i 0).isLt
  have h1 : (i 1 : Nat) < 4096 := (i 1).isLt
  have hN : grid0.N = 1024 := N_0
  obtain ⟨t, ht⟩ : ∃ t : Fin grid0.N, t.val = ((i 0 : Nat) / 4096 * 32 + (i 1 : Nat) / 128) * 8 + (i 0 : Nat) / 512 % 8 :=
    ⟨⟨((i 0 : Nat) / 4096 * 32 + (i 1 : Nat) / 128) * 8 + (i 0 : Nat) / 512 % 8, by omega⟩, rfl⟩
  refine ⟨t, flush0_6 t, ?_⟩
  obtain ⟨-, -, -, -, -, -, -, -, -, -, -, -, o0, o1⟩ := at_point t
  show i ∈ ((View.whole main_v42).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [o0]; omega
  | ⟨1, _⟩ =>
    show win0_6.index t 1 * 128 ≤ (i 1 : Nat) ∧ (i 1 : Nat) < win0_6.index t 1 * 128 + 128
    rw [o1]; omega

/-- The output array ends at the reference's result. -/
theorem final (c : Dev nD) (hx : ∀ j, Fin' (m ((c : Thread nD τ).loc main_arg0) j)) (hk : ∀ j, Fin' (m ((c : Thread nD τ).loc main_arg1) j)) :
    (dats m 0 c).arrAt 6 cfg0.N = G m c :=
  (dats m 0 c).arrAt_eq_of_cover 6 (G m c) (fun t _ => flushed_eq m c hx hk t) covered

end Cert.MlaIdeal.Result

namespace Cert.Mla

open Layer

/-- A number whose magnitude is below infinity is finite. -/
theorem fin_of_lt {x : EReal} (h : Ideal.cmp .olt (max x (-x)) (Ideal.ofBits .f32 0x7F800000#32) = 1#1) : Fin' x := by
  have hw : Ideal.ofBits .f32 0x7F800000#32 = ⊤ := by simp [Ideal.ofBits, Ideal.ieee]
  rw [hw] at h
  have h' : max x (-x) < ⊤ := by
    by_contra hc
    have : Ideal.cmp .olt (max x (-x)) ⊤ = BitVec.ofBool (decide (max x (-x) < ⊤)) := rfl
    rw [this, decide_eq_false hc] at h
    exact absurd h (by decide)
  obtain ⟨h1, h2⟩ := max_lt_iff.mp h'
  exact ⟨fun e => by rw [e] at h2; simp at h2, h1.ne⟩

/-- The precondition makes the queries and the keys finite. -/
theorem finite (m : (ℓ : Loc Cert.MlaIdeal.nD Cert.MlaIdeal.τ Cert.MlaIdeal.sig) → Buf (Elt Ideal) ℓ) (h : Cert.Pre_MlaIdeal_finite_scores m) (c : Dev Cert.MlaIdeal.nD) :
    (∀ j, Fin' (m ((c.tc : Thread Cert.MlaIdeal.nD Cert.MlaIdeal.τ).loc Cert.MlaIdeal.main_arg0) j))
      ∧ (∀ j, Fin' (m ((c.tc : Thread Cert.MlaIdeal.nD Cert.MlaIdeal.τ).loc Cert.MlaIdeal.main_arg1) j)) :=
  ⟨fun j => fin_of_lt (congrFun (h c).1 j), fun j => fin_of_lt (congrFun (h c).2 j)⟩

/-- The reference runs to its end, leaves its arguments as they were and no counter raised. -/
theorem frame_ref : Cert.quiescent_MlaRefIdeal := fun m ρ _ =>
  (θ_run _ _ _).mono (fun r h => ⟨fun c => (h c).2, Idealize.ShloMosaic.sem_eq_zero_of_no_sems (by decide) r.2⟩)
    (Cert.MlaRefIdeal.Value.run (F := Ideal) m ρ)

/-- The kernel and the reference leave the same array where the queries and the keys are finite. -/
theorem algebraic : Cert.algebraic_MlaIdeal_MlaRefIdeal_pre_finite_scores := fun m ρ m' ρ' hpre hag =>
  ⟨fun c => Cert.MlaIdeal.Result.G m c,
    (θ_run _ _ _).mono (fun _ h c => ⟨(h c).1.trans (Cert.MlaIdeal.Result.final m c (finite m hpre c).1 (finite m hpre c).2), (h c).2⟩)
      (Cert.MlaIdeal.Value.run_blocks m ρ),
    (θ_run _ _ _).mono (fun _ h c => ⟨(h c).1.trans (by
        rw [Cert.MlaRefIdeal.Result.res_eq, (hag c).1, (hag c).2.1, (hag c).2.2]), (h c).2⟩)
      (Cert.MlaRefIdeal.Value.run (F := Ideal) m' ρ')⟩

end Cert.Mla

end
-- ==== Proof.Experts.lean ====
/-
  Rows dispatched to experts, tile by tile: what the two products of the experts share. A table names each tile's expert and
  another says which tiles hold rows; the matrices of the experts are stacked; and a reference that adds up every expert's
  product, each times zero or one, keeps the one product that the tile's expert gives.
-/
module

public import proofs.«01_k».proof.Proof.Blocks
public import Idealize.ShloMosaic.Lib.ValueLayout
public import Idealize.ShloMosaic.Lib.IdealHost

@[expose] public section

noncomputable section

open Idealize.ShloMosaic Idealize.ShloMosaic.ValueIdx
open scoped BigOperators

namespace Layer

/-- The offsets of an access of a whole stack of matrices are zero. -/
theorem zero3 : (![0, 0, 0] : Fin 3 → Nat) = fun _ => 0 := funext fun a => by fin_cases a <;> rfl

/-- A tile's word says that the tile holds rows: it is positive, read as a signed number. -/
def Valid (v : BitVec 32) : Prop := (0#32).slt v = true

instance (v : BitVec 32) : Decidable (Valid v) := inferInstanceAs (Decidable (_ = _))

/-- The expert that a word names. -/
def expert (v : BitVec 32) : Fin 8 := ⟨v.toNat % 8, Nat.mod_lt _ (by omega)⟩

/-- The tile of a row. -/
def tile (r : Fin 45056) : Fin 88 := ⟨r.val / 512, by omega⟩

/-- One expert's matrix in the stack. -/
def plane {E K N : ℕ} (w : (⟨3, ![E, K, N]⟩ : Shape).Idx → EReal) (e : Fin E) : (⟨2, ![K, N]⟩ : Shape).Idx → EReal :=
  fun j => w (ix3 e (j 0) (j 1))

/-- A word that is at least zero and below eight, signed, names that expert. -/
theorem lt_eight (v : BitVec 32) (h0 : (0#32).sle v = true) (h8 : v.slt 8#32 = true) : v.toNat < 8 := by
  rw [BitVec.sle_iff_toInt_le] at h0
  rw [BitVec.slt_iff_toInt_lt] at h8
  have e0 : (0#32 : BitVec 32).toInt = 0 := by decide
  have e8 : (8#32 : BitVec 32).toInt = 8 := by decide
  rw [e0] at h0; rw [e8] at h8
  have := BitVec.toInt_eq_toNat_cond v
  have := v.isLt
  split at * <;> omega

/-- The precondition's word is one only for such words. -/
theorem lt_eight_of_range (v : BitVec 32) (h : IntOp.andi (IntOp.cmpi .sge v 0#32) (IntOp.cmpi .slt v 8#32) = 1#1) : v.toNat < 8 := by
  refine lt_eight v ?_ ?_
  · by_contra hc
    rw [Bool.not_eq_true] at hc
    unfold IntOp.cmpi at h
    dsimp only at h
    rw [hc] at h
    revert h
    generalize v.slt 8#32 = b
    revert b; decide
  · by_contra hc
    rw [Bool.not_eq_true] at hc
    unfold IntOp.cmpi at h
    dsimp only at h
    rw [hc] at h
    revert h
    generalize (0#32).sle v = b
    revert b; decide

/-- The host's slice of one matrix of the stack. -/
theorem slice_plane {E K N n : ℕ} (hn : n < E) (w : (⟨3, ![E, K, N]⟩ : Shape).Idx → EReal)
    (hs : (⟨3, ![E, K, N]⟩ : Shape).Slices ![n, 0, 0] ⟨3, ![1, K, N]⟩) (hc : (⟨3, ![1, K, N]⟩ : Shape).ShapeCasts ⟨2, ![K, N]⟩) :
    shapeCast ⟨2, ![K, N]⟩ (extractStridedSlice ⟨3, ![1, K, N]⟩ ![n, 0, 0] w hs) hc = plane w ⟨n, hn⟩ := by
  funext j
  obtain ⟨k, d, rfl⟩ : ∃ k d, j = ix2 k d := ⟨j 0, j 1, eq_ix2 j⟩
  rw [shapeCast_1ab_ab_apply]
  refine extractStridedSlice_apply _ w hs _ (ix3 ⟨n, hn⟩ k d) fun a => ?_
  match a with
  | ⟨0, _⟩ => rfl
  | ⟨1, _⟩ => exact (Nat.zero_add k.val).symm
  | ⟨2, _⟩ => exact (Nat.zero_add d.val).symm

/-- A column of the table of zeros and ones, spread over the columns of the result. -/
theorem column_at {R C n : ℕ} (hn : n < 8) (hR : R ≠ 1) (t : (⟨2, ![R, 8]⟩ : Shape).Idx → EReal)
    (hs : (⟨2, ![R, 8]⟩ : Shape).Slices ![0, n] ⟨2, ![R, 1]⟩) (hb : (⟨2, ![R, 1]⟩ : Shape).BroadcastsInDim ⟨2, ![R, C]⟩ (![0, 1] : Fin 2 → Fin 2))
    (r : Fin R) (d : Fin C) :
    broadcastInDim ⟨2, ![R, C]⟩ (![0, 1] : Fin 2 → Fin 2) hb (extractStridedSlice ⟨2, ![R, 1]⟩ ![0, n] t hs) (ix2 r d) = t (ix2 r ⟨n, hn⟩) := by
  refine (broadcastInDim_apply _ hb _ _ (ix2 r (0 : Fin 1)) fun a => ?_).trans
    (extractStridedSlice_apply _ t hs _ (ix2 r ⟨n, hn⟩) fun a => ?_)
  · match a with
    | ⟨0, _⟩ => exact (if_neg hR).symm
    | ⟨1, _⟩ => rfl
  · match a with
    | ⟨0, _⟩ => exact (Nat.zero_add r.val).symm
    | ⟨1, _⟩ => rfl

/-- A table of tiles, repeated for each row of its tile. -/
theorem rows_at {α : Type} (T : (⟨1, ![88]⟩ : Shape).Idx → α) (hb : (⟨1, ![88]⟩ : Shape).BroadcastsInDim ⟨2, ![88, 512]⟩ (![0] : Fin 1 → Fin 2))
    (hc : (⟨2, ![88, 512]⟩ : Shape).ShapeCasts ⟨1, ![45056]⟩) (r : Fin 45056) :
    shapeCast ⟨1, ![45056]⟩ (broadcastInDim ⟨2, ![88, 512]⟩ (![0] : Fin 1 → Fin 2) hb T) hc (ix1 r) = T (ix1 (tile r)) := by
  refine (shapeCast_apply _ hc _ (ix2 (tile r) ⟨r.val % 512, by omega⟩) ?_).trans
    (broadcastInDim_apply _ hb T _ (ix1 (tile r)) fun a => ?_)
  · rw [Shape.rowMajor_val_two, Shape.rowMajor_val_one]
    show r.val / 512 * 512 + r.val % 512 = r.val
    omega
  · match a with
    | ⟨0, _⟩ => rfl

/-- A vector of rows, repeated in each of eight columns. -/
theorem spread_at {α : Type} (x : (⟨1, ![45056]⟩ : Shape).Idx → α) (h1 : (⟨1, ![45056]⟩ : Shape).BroadcastsInDim ⟨2, ![45056, 1]⟩ (![0] : Fin 1 → Fin 2))
    (h2 : (⟨2, ![45056, 1]⟩ : Shape).BroadcastsInDim ⟨2, ![45056, 8]⟩ (![0, 1] : Fin 2 → Fin 2)) (r : Fin 45056) (e : Fin 8) :
    broadcastInDim ⟨2, ![45056, 8]⟩ (![0, 1] : Fin 2 → Fin 2) h2 (broadcastInDim ⟨2, ![45056, 1]⟩ (![0] : Fin 1 → Fin 2) h1 x) (ix2 r e) = x (ix1 r) := by
  refine (broadcastInDim_apply _ h2 _ _ (ix2 r (0 : Fin 1)) fun a => ?_).trans (broadcastInDim_apply _ h1 x _ (ix1 r) fun a => ?_)
  · match a with
    | ⟨0, _⟩ => rfl
    | ⟨1, _⟩ => rfl
  · match a with
    | ⟨0, _⟩ => rfl

/-- The numbers of the experts, repeated in each row. -/
theorem experts_at (h1 : (⟨1, ![8]⟩ : Shape).BroadcastsInDim ⟨2, ![1, 8]⟩ (![1] : Fin 1 → Fin 2))
    (h2 : (⟨2, ![1, 8]⟩ : Shape).BroadcastsInDim ⟨2, ![45056, 8]⟩ (![0, 1] : Fin 2 → Fin 2)) (r : Fin 45056) (e : Fin 8) :
    broadcastInDim ⟨2, ![45056, 8]⟩ (![0, 1] : Fin 2 → Fin 2) h2 (broadcastInDim ⟨2, ![1, 8]⟩ (![1] : Fin 1 → Fin 2) h1 (iotaInDim ⟨1, ![8]⟩ 32 0)) (ix2 r e)
      = BitVec.ofNat 32 e.val := by
  refine (broadcastInDim_apply _ h2 _ _ (ix2 (0 : Fin 1) e) fun a => ?_).trans (broadcastInDim_apply _ h1 _ _ (ix1 e) fun a => ?_)
  · match a with
    | ⟨0, _⟩ => rfl
    | ⟨1, _⟩ => rfl
  · match a with
    | ⟨0, _⟩ => rfl

/-- The choice between one and zero by the reference's two comparisons. -/
theorem choice (t e v : BitVec 32) (a b : EReal) :
    Scalar.select (IntOp.andi (IntOp.cmpi .eq t e) (IntOp.cmpi .sgt v 0#32)) a b = if t = e ∧ Valid v then a else b := by
  unfold Valid IntOp.cmpi
  dsimp only
  by_cases h1 : t = e
  · rw [show (t == e) = true from by simpa using h1]
    by_cases h2 : (0#32).slt v = true
    · rw [if_pos ⟨h1, h2⟩, h2]; rfl
    · rw [if_neg fun h => h2 h.2, Bool.eq_false_of_not_eq_true h2]; rfl
  · rw [show (t == e) = false from by simpa using h1, if_neg fun h => h1 h.1]
    generalize (0#32).slt v = c
    cases c <;> rfl

/-- A sum over the experts, each term times one for the tile's expert where the tile holds rows and times zero otherwise, is
    that expert's term, or zero. -/
theorem pick (t v : BitVec 32) (ht : t.toNat < 8) (g : Fin 8 → EReal) :
    ∑ e : Fin 8, (if t = BitVec.ofNat 32 e.val ∧ Valid v then (1 : EReal) else 0) * g e = if Valid v then g (expert t) else 0 := by
  by_cases hv : Valid v
  · rw [if_pos hv, Finset.sum_eq_single (expert t)]
    · rw [if_pos, one_mul]
      refine ⟨BitVec.eq_of_toNat_eq ?_, hv⟩
      rw [BitVec.toNat_ofNat]
      show t.toNat = t.toNat % 8 % 2 ^ 32
      omega
    · intro e _ he
      rw [if_neg, zero_mul]
      rintro ⟨h, -⟩
      refine he (Fin.ext ?_)
      show e.val = t.toNat % 8
      have := congrArg BitVec.toNat h
      rw [BitVec.toNat_ofNat] at this
      have := e.isLt
      omega
    · exact fun h => absurd (Finset.mem_univ _) h
  · rw [if_neg hv]
    exact Finset.sum_eq_zero fun e _ => by rw [if_neg fun h => hv h.2, zero_mul]

/-- The same sum as the reference adds it up, from zero. -/
theorem pick_chain (t v : BitVec 32) (ht : t.toNat < 8) (g c : Fin 8 → EReal)
    (hc : ∀ e, c e = if t = BitVec.ofNat 32 e.val ∧ Valid v then (1 : EReal) else 0) :
    ((((((((0 + c 0 * g 0) + c 1 * g 1) + c 2 * g 2) + c 3 * g 3) + c 4 * g 4) + c 5 * g 5) + c 6 * g 6) + c 7 * g 7)
      = if Valid v then g (expert t) else 0 := by
  rw [← pick t v ht g, Fin.sum_univ_eight, zero_add]
  simp only [hc]

/-- A block of one matrix, as the matrix. -/
theorem block_plane {K N : ℕ} (w : (⟨3, ![1, K, N]⟩ : Shape).Idx → EReal) (hc : (⟨3, ![1, K, N]⟩ : Shape).ShapeCasts ⟨2, ![K, N]⟩) :
    shapeCast ⟨2, ![K, N]⟩ w hc = plane w 0 := by
  funext j
  obtain ⟨k, d, rfl⟩ : ∃ k d, j = ix2 k d := ⟨j 0, j 1, eq_ix2 j⟩
  exact shapeCast_1ab_ab_apply w hc k d

/-- The gated products of the rows, each row by the matrices of its tile's expert, and zero in the tiles that hold no rows. -/
def gated {N : ℕ} (t v : (⟨1, ![88]⟩ : Shape).Idx → BitVec 32) (x : (⟨2, ![45056, 4096]⟩ : Shape).Idx → EReal)
    (w u : (⟨3, ![8, 4096, N]⟩ : Shape).Idx → EReal) : (⟨2, ![45056, N]⟩ : Shape).Idx → EReal := fun j =>
  if Valid (v (ix1 (tile (j 0)))) then
    gate (prod (M := 45056) (K := 4096) (N := N) x (plane w (expert (t (ix1 (tile (j 0)))))) j)
      (prod (M := 45056) (K := 4096) (N := N) x (plane u (expert (t (ix1 (tile (j 0)))))) j)
  else 0

/-- The products of the rows, each row by the matrix of its tile's expert, and zero in the tiles that hold no rows. -/
def grouped {K N : ℕ} (t v : (⟨1, ![88]⟩ : Shape).Idx → BitVec 32) (x : (⟨2, ![45056, K]⟩ : Shape).Idx → EReal)
    (w : (⟨3, ![8, K, N]⟩ : Shape).Idx → EReal) : (⟨2, ![45056, N]⟩ : Shape).Idx → EReal := fun j =>
  if Valid (v (ix1 (tile (j 0)))) then prod (M := 45056) (K := K) (N := N) x (plane w (expert (t (ix1 (tile (j 0)))))) j else 0

/-- A choice between two arrays, read at an entry. -/
theorem ite_at {α : Type} {p q : Prop} [Decidable p] [Decidable q] (A B : α → EReal) (x : α) (c : EReal) (hpq : p ↔ q)
    (h1 : q → A x = c) (h2 : B x = 0) : (if p then A else B) x = if q then c else 0 := by
  by_cases hq : q
  · rw [if_pos (hpq.mpr hq), if_pos hq]; exact h1 hq
  · rw [if_neg fun h => hq (hpq.mp h), if_neg hq]; exact h2

end Layer

end
-- ==== Proof.MoeUpIdealRun.lean ====
/-
  The experts' gate and up products, idealized: for every contents of the two tables that keep the weights' blocks inside their
  arrays, the kernel ends without fault, leaves its arguments, and leaves in its output, block by block, the gated products
  where the tile is valid and zeros where it is not.
-/
module

public import proofs.«01_k».proof.Defs
public import proofs.«01_k».proof.Proof.Experts
public import proofs.«01_k».proof.Proof.Gen.MoeUpIdeal
public import proofs.«01_k».proof.Proof.Gen.MoeUpIdeal.Launch
public import proofs.«01_k».proof.Proof.Gen.MoeUpIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.Claim
public import Idealize.ShloMosaic.Lib.ValueIdx

@[expose] public section

set_option maxRecDepth 16384

noncomputable section

namespace Cert.MoeUpIdeal.Tables

open Cert.MoeUpIdeal Cert.MoeUpIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables -/

/-- The region finds every buffer as launched. -/
abbrev V (c : Dev nD) (b : Ref sig .tc) : Buf (Elt F) ((c : Thread nD τ).loc b) := m ((c : Thread nD τ).loc b)

/-- The host does nothing before the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables as launched: the tiles' experts and which tiles are valid. -/
def tbl : pre0.Contents (Elt F) := fun j => V m (0 : Dev nD) (pre0.ref j)

/-- There is one device, so every device finds those tables. -/
theorem V_pre (c : Dev nD) (j : Fin 2) : V m c (pre0.ref j) = tbl m j := by
  obtain rfl : c = 0 := Subsingleton.elim _ _; rfl

/-- The tables keep every block of the weights inside the weights. -/
abbrev Ok : Prop := ok0 (F := F) (tbl m)

/-- The pipeline at the tables as launched. -/
abbrev adm (hO : Ok m) : (pcfg0 (F := F)).Adm := ⟨tbl m, hO⟩
abbrev cfgM (hO : Ok m) : Pipeline.Cfg sig Λ₀ := cfg0 (adm m hO)

/-- The two tables as the body is handed them. -/
abbrev tb0 : Memref sig .tc .smem S88 .i32 := Memref.whole main_arg0
abbrev tb1 : Memref sig .tc .smem S88 .i32 := Memref.whole main_arg1
abbrev htb0 : tb0.IsWhole := Memref.isWhole_whole _
abbrev htb1 : tb1.IsWhole := Memref.isWhole_whole _

/-- A table's contents, and the half of it that the body holds. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The halves of the tables that the region hands the body. -/
theorem halves_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The word of the second table that the body reads at a point. -/
abbrev word (c : Dev nD) (i : grid0.Coords) (T1 : TbBuf (F := F) c tb1) : BitVec 32 :=
  View.readAt (Elt F) tb1.view (Rect.unit (s := S88) (k0_off1 i) S1.size (k0_off1_inb i)).toLoadRect T1 (Shape.Idx.first (numel1_S1.symm ▸ Nat.one_pos))

/-- Exactly one of the body's two branches is taken. -/
theorem branch (i : grid0.Coords) (v : BitVec 32) :
    (k0_cond1 v = 1#1 ∧ ¬ k0_cond2 i v = 1#1) ∨ (¬ k0_cond1 v = 1#1 ∧ k0_cond2 i v = 1#1) := by
  have h2 : (i 2).val = 0 := by have : (i 2).val < 1 := (i 2).isLt; omega
  unfold k0_cond1 k0_cond2
  dsimp only
  rw [h2]
  generalize Scalar.cmpi .sgt v 0#32 = b
  revert b
  decide

/-- So no point leaves the output's buffer as it found it. -/
theorem busy (hO : Ok m) (i : grid0.Coords) : (cfgM m hO).idle (3 : Fin 4) i = false := by
  show (!(k0_cond1 ((tbl m).atD 1 (k0_off1 i)) == 1#1) && !(k0_cond2 i ((tbl m).atD 1 (k0_off1 i)) == 1#1)) = false
  rcases branch i ((tbl m).atD 1 (k0_off1 i)) with ⟨h, -⟩ | ⟨-, h⟩
  · rw [h]; rfl
  · rw [h]; exact Bool.and_false _

/-! ## The body, branch by branch -/

set_option maxHeartbeats 1000000 in
/-- Where the tile is valid: what the body leaves in the output's buffer, with the proof that it runs to its end. -/
def run_A (c : Dev nD) (i : grid0.Coords) (arg5 : Memref sig .tc .vmem S512x4096 .f32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S512x512 .bf16) (harg8 : arg8.IsWhole)
    (x0 : Vec F S512x4096 .f32) (x1 : Vec F S1x4096x512 .bf16) (x2 : Vec F S1x4096x512 .bf16) (T0 : TbBuf (F := F) c tb0) (T1 : TbBuf (F := F) c tb1)
    (k0_h1 : k0_cond1 (word c i T1) = 1#1) (k0_h2 : ¬ k0_cond2 i (word c i T1) = 1#1) :
    { L3 : List (View.Piece (Elt F) S512x512 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt c tb0 T0 ∗ tbPt c tb1 T1
            ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L3) ∗ tbPt c tb0 T0 ∗ tbPt c tb1 T1) -∗ K ⟨⟩))
          ⊢ wp frame (wpE (defs₀ (F := F)) Variants.none c none) E (cc0_moe_up i tb0 htb0 tb1 htb1 arg5 harg5 arg6 harg6 arg7 harg7 arg8 harg8) K } := by
  refine ⟨?_, fun E K => ?run⟩
  case run =>
    simp only [cc0_moe_up_eq_skeleton]; unfold cc0_moe_up_skel
    unfold owns
    iintro ⟨⟨%f0, %hf0, H0⟩, ⟨%f1, %hf1, H1⟩, ⟨%f2, %hf2, H2⟩, ⟨%d3, %f3, -, H3⟩, HT0, HT1, Hk⟩
    obtain rfl := harg5.eq_unread hf0; obtain rfl := harg6.eq_unread hf1; obtain rfl := harg7.eq_unread hf2
    sl_exec! (disch := first | (guard_target = k0_cond1 _ = _; exact k0_h1) | (guard_target = ¬(k0_cond2 _ _ = _); exact k0_h2))
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]; · iexists _; iexact H3
    isplitl [HT0]; · iexact HT0
    iexact HT1

set_option maxHeartbeats 1000000 in
/-- Where it is not: likewise. -/
def run_B (c : Dev nD) (i : grid0.Coords) (arg5 : Memref sig .tc .vmem S512x4096 .f32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S512x512 .bf16) (harg8 : arg8.IsWhole)
    (T0 : TbBuf (F := F) c tb0) (T1 : TbBuf (F := F) c tb1)
    (k0_h1 : ¬ k0_cond1 (word c i T1) = 1#1) (k0_h2 : k0_cond2 i (word c i T1) = 1#1) :
    { L3 : List (View.Piece (Elt F) S512x512 .bf16) //
      ∀ (E : Set ℕ) (K : PUnit → sProp 𝕄),
        iprop((∃ d, owns (c : Thread nD τ) arg8 fullShare d) ∗ tbPt c tb0 T0 ∗ tbPt c tb1 T1
            ∗ (iprop((∃ f, arg8.view.loc (c : Thread nD τ) ↦[arg8.view.set]{fullShare} arg8.view.writes (Elt F) f L3) ∗ tbPt c tb0 T0 ∗ tbPt c tb1 T1) -∗ K ⟨⟩))
          ⊢ wp frame (wpE (defs₀ (F := F)) Variants.none c none) E (cc0_moe_up i tb0 htb0 tb1 htb1 arg5 harg5 arg6 harg6 arg7 harg7 arg8 harg8) K } := by
  refine ⟨?_, fun E K => ?run⟩
  case run =>
    simp only [cc0_moe_up_eq_skeleton]; unfold cc0_moe_up_skel
    unfold owns
    iintro ⟨⟨%d3, %f3, -, H3⟩, HT0, HT1, Hk⟩
    sl_exec! (disch := first | (guard_target = ¬(k0_cond1 _ = _); exact k0_h1) | (guard_target = k0_cond2 _ _ = _; exact k0_h2))
    sl_step
    iapply Hk
    isplitl [H3]; · iexists _; iexact H3
    isplitl [HT0]; · iexact HT0
    iexact HT1

/-- The buffer through which the output's contents are stated. -/
abbrev VO : View sig .tc .vmem S512x512 .bf16 := (Memref.whole cc0_stg3_0 : Memref sig .tc .vmem S512x512 .bf16).view

theorem cover_A (c : Dev nD) (i : grid0.Coords) (arg5 : Memref sig .tc .vmem S512x4096 .f32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S512x512 .bf16) (harg8 : arg8.IsWhole)
    (x0 : Vec F S512x4096 .f32) (x1 : Vec F S1x4096x512 .bf16) (x2 : Vec F S1x4096x512 .bf16) (T0 : TbBuf (F := F) c tb0) (T1 : TbBuf (F := F) c tb1) (h1) (h2) (y : S512x512.Idx) :
    ∃ pc ∈ (run_A c i arg5 harg5 arg6 harg6 arg7 harg7 arg8 harg8 x0 x1 x2 T0 T1 h1 h2).1, y ∈ pc.1.set :=
  View.cover_of_tiledL (run_A c i arg5 harg5 arg6 harg6 arg7 harg7 arg8 harg8 x0 x1 x2 T0 T1 h1 h2).1 S512x512.size (by sl_kernel_rfl) y

theorem cover_B (c : Dev nD) (i : grid0.Coords) (arg5 : Memref sig .tc .vmem S512x4096 .f32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S512x512 .bf16) (harg8 : arg8.IsWhole)
    (T0 : TbBuf (F := F) c tb0) (T1 : TbBuf (F := F) c tb1) (h1) (h2) (y : S512x512.Idx) :
    ∃ pc ∈ (run_B c i arg5 harg5 arg6 harg6 arg7 harg7 arg8 harg8 T0 T1 h1 h2).1, y ∈ pc.1.set :=
  View.cover_of_tiledL (run_B c i arg5 harg5 arg6 harg6 arg7 harg7 arg8 harg8 T0 T1 h1 h2).1 S512x512.size (by sl_kernel_rfl) y

/-- What a valid tile's point leaves in the output's buffer: the stored value, of the blocks read. -/
theorem left_A (c : Dev nD) (i : grid0.Coords) (arg5 : Memref sig .tc .vmem S512x4096 .f32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S512x512 .bf16) (harg8 : arg8.IsWhole)
    (x0 : Vec F S512x4096 .f32) (x1 : Vec F S1x4096x512 .bf16) (x2 : Vec F S1x4096x512 .bf16) (T0 : TbBuf (F := F) c tb0) (T1 : TbBuf (F := F) c tb1) (h1) (h2) (f) :
    arg8.view.read (Elt F) (arg8.view.writes (Elt F) f (run_A c i arg5 harg5 arg6 harg6 arg7 harg7 arg8 harg8 x0 x1 x2 T0 T1 h1 h2).1)
      = k0_pay1 x0 x1 x2 := by
  rw [View.read_writes_eq_canon _ _ _ (cover_A c i arg5 harg5 arg6 harg6 arg7 harg7 arg8 harg8 x0 x1 x2 T0 T1 h1 h2)]
  unfold run_A
  dsimp only
  sl_unfold_words
  rw [View.canon_unit_zero Layer.zero2]
  simp only [View.readAt_eq_ld, harg5.read_unread, harg6.read_unread, harg7.read_unread,
    View.ld_unit_zero (S := S512x4096) Layer.zero2, View.ld_unit_zero (S := S1x4096x512) Layer.zero3]

/-- What another tile's point leaves there. -/
theorem left_B (c : Dev nD) (i : grid0.Coords) (arg5 : Memref sig .tc .vmem S512x4096 .f32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S512x512 .bf16) (harg8 : arg8.IsWhole)
    (T0 : TbBuf (F := F) c tb0) (T1 : TbBuf (F := F) c tb1) (h1) (h2) (f) :
    arg8.view.read (Elt F) (arg8.view.writes (Elt F) f (run_B c i arg5 harg5 arg6 harg6 arg7 harg7 arg8 harg8 T0 T1 h1 h2).1) = k0_pay2 (F := F) := by
  rw [View.read_writes_eq_canon _ _ _ (cover_B c i arg5 harg5 arg6 harg6 arg7 harg7 arg8 harg8 T0 T1 h1 h2)]
  unfold run_B
  dsimp only
  sl_unfold_words
  rw [View.canon_unit_zero Layer.zero2]

/-! ## The pipeline's proof data -/

/-- The block that a window is on at a point, of its array as launched. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What the output's buffer holds after a point. -/
def outAt (hO : Ok m) (c : Dev nD) (t : Fin (cfgM m hO).N) : Vec F S512x512 .bf16 :=
  if k0_cond1 (word c (grid0.coords t) (tbl m 1)) = 1#1 then k0_pay1 (iblk m hO c 0 t) (iblk m hO c 1 t) (iblk m hO c 2 t) else k0_pay2 (F := F)

/-- The arrays as launched, each input's buffer at its block, the output's as above, and the tables' halves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = outAt m hO c t := by dsimp only [dats]; try rfl

/-- Each input's buffer holds its block when the body runs, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body at a point -/

/-- The buffers that the body is handed at a point. -/
abbrev ms_0 (hO : Ok m) (t : Fin (cfgM m hO).N) : Memref sig .tc .vmem S512x4096 .f32 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x4096x512 .bf16 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x4096x512 .bf16 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S512x512 .bf16 := spec0_3.stage ((cfgM m hO).slots t 3)
abbrev hs_3 (hO : Ok m) (t : Fin (cfgM m hO).N) : (ms_3 m hO t).IsWhole := hstage0_3 (((cfgM m hO).slots t 3).cast nbuf0_3)

/-- The body as the pipeline calls it at a point. -/
abbrev bodyAt (hO : Ok m) (t : Fin (cfgM m hO).N) : Prog (TpuEff nD τ sig (Elt F) Λ₀ .tc) PUnit :=
  cc0_moe_up (grid0.coords t) tb0 htb0 tb1 htb1 (ms_0 m hO t) (hs_0 m hO t) (ms_1 m hO t) (hs_1 m hO t) (ms_2 m hO t) (hs_2 m hO t) (ms_3 m hO t) (hs_3 m hO t)

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t))

/-- The body's triple at a point, by the branch that the tile's word takes. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2]
  rw [show (dats m hO 0 c).Φ t.succ = (dats m hO 0 c).Φ t.castSucc from rfl,
    show (dats m hO 0 c).owesAt () t.succ = (dats m hO 0 c).owesAt () t.castSucc from rfl,
    after_0, after_1, after_2, after_3]
  rw [show (dats m hO 0 c).Φ t.castSucc = iprop(Pipeline.ΦA spec0 c ∗ Pipeline.ΦT pre0 (tbl m) c) from rfl, halves_eq]
  unfold outAt
  rcases branch (grid0.coords t) (word c (grid0.coords t) (tbl m 1)) with ⟨h1, h2⟩ | ⟨h1, h2⟩
  · rw [if_pos h1]
    iintro ⟨⟨HΦ, ⟨HT0, HT1⟩⟩, Ho, ⟨%d0, H0⟩, ⟨%d1, H1⟩, ⟨%d2, H2⟩, ⟨%d3, H3⟩⟩
    iapply ((run_A c (grid0.coords t) _ _ _ _ _ _ _ _ (iblk m hO c 0 t) (iblk m hO c 1 t) (iblk m hO c 2 t) (tbl m 0) (tbl m 1) h1 h2).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact left_A c _ _ _ _ _ _ _ _ _ _ _ _ _ _ h1 h2 _
  · rw [if_neg h1]
    iintro ⟨⟨HΦ, ⟨HT0, HT1⟩⟩, Ho, ⟨%d0, H0⟩, ⟨%d1, H1⟩, ⟨%d2, H2⟩, ⟨%d3, H3⟩⟩
    iapply ((run_B c (grid0.coords t) _ _ _ _ _ _ _ _ (tbl m 0) (tbl m 1) h1 h2).2 Set.univ _)
    isplitl [H3]; · iexists _; iexact H3
    isplitl [HT0]; · iexact HT0
    isplitl [HT1]; · iexact HT1
    iintro ⟨⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact left_B c _ _ _ _ _ _ _ _ _ _ _ h1 h2 _

/-- The pipeline's body at a point is the body above. -/
theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body's obligation at every point. -/
theorem body_obligation (hO : Ok m) (c : Dev nD) : BodyObligation (dats (F := F) m hO 0 c) (defs₀ (F := F)) Variants.none () Set.univ := fun t => by
  rw [bigSep_W0, bigSep_W0, body_row m hO]
  have hi : (cfgM m hO).idle (3 : Fin 4) ((cfgM m hO).grid.coords t) = false := busy m hO _
  rewrite [hi]
  exact triple_restated (sound_body m hO c t) rfl .rfl fun _ => .rfl

/-! ## The run -/

set_option backward.isDefEq.respectTransparency.types false in
/-- The launch ends, with the arrays as the proof data say, every other buffer as it was and no counter raised. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The run, read at the output and at the arguments. -/
theorem run (hO : Ok m) : θ_run defs (onTc (τ := τ) (main (F := F))) ⟨m, fun _ => 0, ρ⟩ (fun r => (∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2))⟩, h.2⟩) (run_main m ρ hO)

/-! ## The index maps and the tables' words -/

/-- A coordinate below a hundred, cast to an index and back. -/
theorem cast_lt : ∀ n : Fin 88, (Scalar.indexCast (BitVec.ofNat 32 n.val)).toNat = n.val := by decide

/-- The offset at which the body and the index maps read the tables is the tile. -/
theorem off_eq (i : grid0.Coords) : k0_off1 i 0 = (i 0).val := cast_lt (i 0)

/-- The word of the second table that the body reads is its tile's. -/
theorem word_eq (c : Dev nD) (i : grid0.Coords) (T1 : TbBuf (F := F) c tb1) : word c i T1 = T1 (ix1 (i 0)) := by
  refine congrArg T1 (funext fun a => Fin.ext ?_)
  match a with
  | ⟨0, _⟩ =>
    have h : ∀ x : Fin 1, x.val = 0 := fun x => by omega
    refine (congrArg₂ (· + ·) (off_eq i) (congrArg (1 * ·) (h _))).trans ?_
    rfl

/-- A coordinate read back from its word. -/
theorem coord_word (n : ℕ) (h : n < 100) : (BitVec.ofNat 32 n).toNat = n := by
  rw [BitVec.toNat_ofNat]; omega

/-- The rows' window is on the tile's rows, -/
theorem map_0 (i : grid0.Coords) : cc0_transform_0 i 0 = (i 0).val ∧ cc0_transform_0 i 1 = 0 := by
  have h0 : (i 0).val < 88 := (i 0).isLt
  have h2 : (i 2).val < 1 := (i 2).isLt
  exact ⟨coord_word _ (by omega), (coord_word _ (by omega)).trans (by omega)⟩

/-- the weights' windows on the matrix that the first table names, -/
theorem map_1 (pf : pre0.Contents (Elt F)) (i : grid0.Coords) :
    cc0_transform_1 k0_off1_inb numel1_S1 pf i 0 = BitVec.toNat (w := 32) (pf 0 (ix1 (i 0))) ∧ cc0_transform_1 k0_off1_inb numel1_S1 pf i 1 = 0
      ∧ cc0_transform_1 k0_off1_inb numel1_S1 pf i 2 = (i 1).val := by
  have h1 : (i 1).val < 11 := (i 1).isLt
  have h2 : (i 2).val < 1 := (i 2).isLt
  refine ⟨congrArg (BitVec.toNat (w := 32)) (congrArg (pf 0) (funext fun a => Fin.ext ?_)), (coord_word _ (by omega)).trans (by omega), coord_word _ (by omega)⟩
  match a with
  | ⟨0, _⟩ =>
    have h : ∀ x : Fin 1, x.val = 0 := fun x => by omega
    exact (congrArg₂ (· + ·) (off_eq i) (congrArg (1 * ·) (h _))).trans rfl

theorem map_2 (pf : pre0.Contents (Elt F)) (i : grid0.Coords) :
    cc0_transform_2 k0_off1_inb numel1_S1 pf i 0 = BitVec.toNat (w := 32) (pf 0 (ix1 (i 0))) ∧ cc0_transform_2 k0_off1_inb numel1_S1 pf i 1 = 0
      ∧ cc0_transform_2 k0_off1_inb numel1_S1 pf i 2 = (i 1).val := map_1 pf i

/-- and the output's on the tile's rows and the columns' block. -/
theorem map_3 (i : grid0.Coords) : cc0_transform_3 i 0 = (i 0).val ∧ cc0_transform_3 i 1 = (i 1).val := by
  have h0 : (i 0).val < 88 := (i 0).isLt
  have h1 : (i 1).val < 11 := (i 1).isLt
  exact ⟨coord_word _ (by omega), coord_word _ (by omega)⟩

/-- Experts below eight keep every block of the weights inside them. -/
theorem ok_of_lt (h : ∀ n : Fin 88, BitVec.toNat (w := 32) (m (((0 : Dev nD) : Thread nD τ).loc main_arg0) (ix1 n)) < 8) : Ok m := by
  have key : ∀ (i : grid0.Coords) (a : Fin 3), (cc0_transform_1 k0_off1_inb numel1_S1 (tbl m) i a + 1) * S1x4096x512.size a ≤ S8x4096x5632.size a := fun i a => by
    obtain ⟨e0, e1, e2⟩ := map_1 (tbl m) i
    have h1 : (i 1).val < 11 := (i 1).isLt
    match a with
    | ⟨0, _⟩ =>
      show (cc0_transform_1 k0_off1_inb numel1_S1 (tbl m) i 0 + 1) * 1 ≤ 8
      rw [e0]
      have := h (i 0)
      show (BitVec.toNat (w := 32) (m (((0 : Dev nD) : Thread nD τ).loc main_arg0) (ix1 (i 0))) + 1) * 1 ≤ 8
      omega
    | ⟨1, _⟩ => show (cc0_transform_1 k0_off1_inb numel1_S1 (tbl m) i 1 + 1) * 4096 ≤ 4096; rw [e1]
    | ⟨2, _⟩ => show (cc0_transform_1 k0_off1_inb numel1_S1 (tbl m) i 2 + 1) * 512 ≤ 5632; rw [e2]; omega
  exact ⟨fun i => ⟨key i, .inr (Affine.block_words_dvd (s := S8x4096x5632) (p := EltTy.packing .bf16) (by decide) (by decide))⟩,
    fun i => ⟨key i, .inr (Affine.block_words_dvd (s := S8x4096x5632) (p := EltTy.packing .bf16) (by decide) (by decide))⟩⟩

/-- The output is written back at every point. -/
theorem flush_3 (hO : Ok m) (t : Fin (cfgM m hO).N) : ((cfgM m hO).win 3).flush t = true :=
  (Pipeline.Window.flushOf_reads cc0_transform_3 reads0_3 hreads0_3 1 (by decide) (by decide) (Pipeline.Window.sep_of_coord cc0_transform_3 1 1 (fun _ => rfl) (by decide)) (P := 1) (m := 0) (by decide) rfl t).mpr (Nat.mod_one _)

/-- The coordinates of a point. -/
theorem coords_eq : ∀ t : Fin grid0.N, (grid0.coords t 0).val = t.val / 11 ∧ (grid0.coords t 1).val = t.val % 11 := by decide +kernel

end Cert.MoeUpIdeal.Tables

end
-- ==== Proof.MoeUp.lean ====
/-
  The experts' gate and up products: tile by tile, the kernel's gated products of a tile's rows by the matrices of the tile's
  expert are what the reference keeps of the gated products of all rows by all experts' matrices.
-/
module

public import proofs.«01_k».proof.Defs
public import proofs.«01_k».proof.Proof.Experts
public import proofs.«01_k».proof.Proof.MoeUpRun
public import proofs.«01_k».proof.Proof.MoeUpIdealRun
public import proofs.«01_k».proof.Proof.Gen.Pre_experts_in_range
public import proofs.«01_k».proof.Proof.Gen.MoeUpRefIdeal.Run
public import Idealize.ShloMosaic.Lib.Quiescent
public import Idealize.ShloMosaic.Lib.IdealHost

@[expose] public section

set_option maxRecDepth 16384

noncomputable section

open Idealize.ShloMosaic Idealize.ShloMosaic.TcCoe Idealize.ShloMosaic.ValueIdx Idealize.SL.Sem
open scoped BigOperators

namespace Cert.MoeUpIdeal.Result

open Cert.MoeUpIdeal Cert.MoeUpIdeal.Gen Cert.MoeUpIdeal.Tables

variable (m : (ℓ : Loc nD τ sig) → Buf (Elt Ideal) ℓ) (ρ : Dev nD → PrngReg)

/-- The whole array that the kernel leaves. -/
abbrev G (c : Dev nD) : S45056x5632.Idx → EReal :=
  Layer.gated (N := 5632) (m ((c : Thread nD τ).loc main_arg0)) (m ((c : Thread nD τ).loc main_arg1)) (m ((c : Thread nD τ).loc main_arg2))
    (m ((c : Thread nD τ).loc main_arg3)) (m ((c : Thread nD τ).loc main_arg4))

/-- The body's condition is that the tile holds rows. -/
theorem cond_iff (v : BitVec 32) : k0_cond1 v = 1#1 ↔ Layer.Valid v := by
  show k0_cond1 v = 1#1 ↔ (0#32).slt v = true
  unfold k0_cond1 Scalar.cmpi IntOp.cmpi
  dsimp only
  generalize (0#32).slt v = b
  revert b
  decide

/-- The body leaves the gated product of its blocks where it does. -/
theorem body_eq (x : Vec Ideal S512x4096 .f32) (w v : Vec Ideal S1x4096x512 .bf16) (j : S512x512.Idx) :
    (k0_pay1 x w v : S512x512.Idx → EReal) j = Layer.gate (Layer.prod (M := 512) (K := 4096) (N := 512) x (Layer.plane (K := 4096) (N := 512) w (0 : Fin 1)) j)
      (Layer.prod (M := 512) (K := 4096) (N := 512) x (Layer.plane (K := 4096) (N := 512) v (0 : Fin 1)) j) := by
  have e : ∀ w : Vec Ideal S1x4096x512 .bf16, (shapeCast S4096x512 w shapeCasts_S1x4096x512_S4096x512 : S4096x512.Idx → EReal) = Layer.plane (K := 4096) (N := 512) w (0 : Fin 1) :=
    fun w => Layer.block_plane (K := 4096) (N := 512) w _
  unfold k0_pay1
  rw [← e w, ← e v]
  exact congrArg₂ Layer.gate (congrFun (Layer.matmul_zero (M := 512) (K := 4096) (N := 512) (φ₁ := .bf16) (φ₂ := .bf16) none x _) j)
    (congrFun (Layer.matmul_zero (M := 512) (K := 4096) (N := 512) (φ₁ := .bf16) (φ₂ := .bf16) none x _) j)

/-- And zeros where it does not. -/
theorem zero_eq (j : S512x512.Idx) : (k0_pay2 (F := Ideal) : S512x512.Idx → EReal) j = 0 := by
  unfold k0_pay2
  exact Ideal.ofBits_zero_bf16

/-- The rectangle of the whole array that a point's block is, -/
abbrev rect3 (hO : Ok m) (t : Fin (cfgM m hO).N) : Rect (main_v0 : Ref sig .tc).ty.shape := ((cfgM m hO).win 3).rect t

/-- and the place of an entry of the block. -/
abbrev emb3 (hO : Ok m) (t : Fin (cfgM m hO).N) (r d : Fin 512) : S45056x5632.Idx := (((cfgM m hO).win 3).rect t).emb (ix2 r d)

/-- The row and the column, in the whole array, of an entry of a point's block. -/
theorem place (hO : Ok m) (t : Fin (cfgM m hO).N) (r : Fin 512) (d : Fin 512) :
    (emb3 m hO t r d 0).val = t.val / 11 * 512 + r.val ∧ (emb3 m hO t r d 1).val = t.val % 11 * 512 + d.val := by
  obtain ⟨o0, o1⟩ := map_3 (grid0.coords t)
  obtain ⟨c0, c1⟩ := coords_eq t
  constructor
  · show cc0_transform_3 (grid0.coords t) 0 * 512 + 1 * r.val = _
    rw [o0, c0]; omega
  · show cc0_transform_3 (grid0.coords t) 1 * 512 + 1 * d.val = _
    rw [o1, c1]; omega

/-- The product of a point's blocks is the point's block of the product by the tile's expert's matrix. -/
theorem block_prod (hO : Ok m) (c : Dev nD) (t : Fin (cfgM m hO).N) (w : S8x4096x5632.Idx → EReal) (wb : S1x4096x512.Idx → EReal) (e : Fin 8) (r : Fin 512) (d : Fin 512)
    (hw : ∀ k : Fin 4096, ∀ f : Fin 5632, f.val = t.val % 11 * 512 + d.val → wb (ix3 (0 : Fin 1) k d) = w (ix3 e k f)) :
    Layer.prod (M := 512) (K := 4096) (N := 512) (iblk m hO c 0 t) (Layer.plane (K := 4096) (N := 512) wb (0 : Fin 1)) (ix2 r d)
      = Layer.prod (M := 45056) (K := 4096) (N := 5632) (m ((c : Thread nD τ).loc main_arg2)) (Layer.plane (K := 4096) (N := 5632) w e) (emb3 m hO t r d) := by
  obtain ⟨p0, p1⟩ := place m hO t r d
  obtain ⟨a0, a1⟩ := map_0 (grid0.coords t)
  obtain ⟨c0, c1⟩ := coords_eq t
  refine Finset.sum_congr rfl fun k _ => congrArg₂ (· * ·) ?_ ?_
  · refine congrArg (m ((c : Thread nD τ).loc main_arg2)) (Shape.idx_ext₂ ?_ ?_)
    · refine Eq.trans ?_ p0.symm
      show cc0_transform_0 (grid0.coords t) 0 * 512 + 1 * r.val = _
      rw [a0, c0]; omega
    · show cc0_transform_0 (grid0.coords t) 1 * 4096 + 1 * k.val = k.val
      rw [a1]; omega
  · exact hw k _ p1

/-- A point's tile, as its rows' tile. -/
theorem tile_eq (hO : Ok m) (t : Fin (cfgM m hO).N) (r : Fin 512) (d : Fin 512) :
    (ix1 (Layer.tile (emb3 m hO t r d 0)) : S88.Idx) = ix1 (grid0.coords t 0) := by
  obtain ⟨p0, -⟩ := place m hO t r d
  obtain ⟨c0, -⟩ := coords_eq t
  refine congrArg ix1 (Fin.ext ?_)
  rw [c0]
  show (emb3 m hO t r d 0).val / 512 = _
  rw [p0]; omega

/-- The weights' block that a point reads, in the first stack. -/
theorem weights_1 (hO : Ok m) (h : ∀ n : Fin 88, BitVec.toNat (w := 32) (m (((0 : Dev nD) : Thread nD τ).loc main_arg0) (ix1 n)) < 8) (c : Dev nD) (t : Fin (cfgM m hO).N)
    (k : Fin 4096) (d : Fin 512) (f : Fin 5632) (hf : f.val = t.val % 11 * 512 + d.val) :
    (iblk m hO c 1 t : S1x4096x512.Idx → EReal) (ix3 (0 : Fin 1) k d)
      = (m ((c : Thread nD τ).loc main_arg3) : S8x4096x5632.Idx → EReal) (ix3 (Layer.expert (m ((c : Thread nD τ).loc main_arg0) (ix1 (grid0.coords t 0)))) k f) := by
  obtain rfl : c = 0 := Subsingleton.elim _ _
  obtain ⟨e0, e1, e2⟩ := map_1 (tbl m) (grid0.coords t)
  obtain ⟨-, c1⟩ := coords_eq t
  refine congrArg (m (((0 : Dev nD) : Thread nD τ).loc main_arg3)) (funext fun a => Fin.ext ?_)
  match a with
  | ⟨0, _⟩ =>
    show cc0_transform_1 k0_off1_inb numel1_S1 (tbl m) (grid0.coords t) 0 * 1 + 1 * 0 = _ % 8
    rw [e0]
    have := h (grid0.coords t 0)
    show BitVec.toNat (w := 32) (m (((0 : Dev nD) : Thread nD τ).loc main_arg0) (ix1 (grid0.coords t 0))) * 1 + 1 * 0 = _
    rw [Nat.mod_eq_of_lt this]; omega
  | ⟨1, _⟩ =>
    show cc0_transform_1 k0_off1_inb numel1_S1 (tbl m) (grid0.coords t) 1 * 4096 + 1 * k.val = k.val
    rw [e1]; omega
  | ⟨2, _⟩ =>
    show cc0_transform_1 k0_off1_inb numel1_S1 (tbl m) (grid0.coords t) 2 * 512 + 1 * d.val = f.val
    rw [e2, c1, hf]; omega

/-- Likewise in the second. -/
theorem weights_2 (hO : Ok m) (h : ∀ n : Fin 88, BitVec.toNat (w := 32) (m (((0 : Dev nD) : Thread nD τ).loc main_arg0) (ix1 n)) < 8) (c : Dev nD) (t : Fin (cfgM m hO).N)
    (k : Fin 4096) (d : Fin 512) (f : Fin 5632) (hf : f.val = t.val % 11 * 512 + d.val) :
    (iblk m hO c 2 t : S1x4096x512.Idx → EReal) (ix3 (0 : Fin 1) k d)
      = (m ((c : Thread nD τ).loc main_arg4) : S8x4096x5632.Idx → EReal) (ix3 (Layer.expert (m ((c : Thread nD τ).loc main_arg0) (ix1 (grid0.coords t 0)))) k f) := by
  obtain rfl : c = 0 := Subsingleton.elim _ _
  obtain ⟨e0, e1, e2⟩ := map_2 (tbl m) (grid0.coords t)
  obtain ⟨-, c1⟩ := coords_eq t
  refine congrArg (m (((0 : Dev nD) : Thread nD τ).loc main_arg4)) (funext fun a => Fin.ext ?_)
  match a with
  | ⟨0, _⟩ =>
    show cc0_transform_2 k0_off1_inb numel1_S1 (tbl m) (grid0.coords t) 0 * 1 + 1 * 0 = _ % 8
    rw [e0]
    have := h (grid0.coords t 0)
    show BitVec.toNat (w := 32) (m (((0 : Dev nD) : Thread nD τ).loc main_arg0) (ix1 (grid0.coords t 0))) * 1 + 1 * 0 = _
    rw [Nat.mod_eq_of_lt this]; omega
  | ⟨1, _⟩ =>
    show cc0_transform_2 k0_off1_inb numel1_S1 (tbl m) (grid0.coords t) 1 * 4096 + 1 * k.val = k.val
    rw [e1]; omega
  | ⟨2, _⟩ =>
    show cc0_transform_2 k0_off1_inb numel1_S1 (tbl m) (grid0.coords t) 2 * 512 + 1 * d.val = f.val
    rw [e2, c1, hf]; omega

/-- What a point leaves is its block of the whole array. -/
theorem out_eq (hO : Ok m) (h : ∀ n : Fin 88, BitVec.toNat (w := 32) (m (((0 : Dev nD) : Thread nD τ).loc main_arg0) (ix1 n)) < 8) (c : Dev nD) (t : Fin (cfgM m hO).N)
    (r : Fin 512) (d : Fin 512) :
    (outAt m hO c t : S512x512.Idx → EReal) (ix2 r d) = G m c (emb3 m hO t r d) := by
  have ht := tile_eq m hO t r d
  have hw : word c (grid0.coords t) (tbl m 1) = m ((c : Thread nD τ).loc main_arg1) (ix1 (Layer.tile (emb3 m hO t r d 0))) := by
    obtain rfl : c = 0 := Subsingleton.elim _ _
    exact (word_eq 0 _ _).trans (congrArg (m (((0 : Dev nD) : Thread nD τ).loc main_arg1)) ht.symm)
  refine Layer.ite_at _ _ _ _ ((cond_iff _).trans (iff_of_eq (congrArg Layer.Valid hw))) (fun _ => ?_) (zero_eq _)
  refine (body_eq (iblk m hO c 0 t : Vec Ideal S512x4096 .f32) (iblk m hO c 1 t : Vec Ideal S1x4096x512 .bf16) (iblk m hO c 2 t : Vec Ideal S1x4096x512 .bf16) (ix2 r d)).trans ?_
  exact congrArg₂ Layer.gate
    (block_prod m hO c t _ _ _ r d fun k f hf => (weights_1 m hO h c t k d f hf).trans
      (congrArg (fun i : S88.Idx => (m ((c : Thread nD τ).loc main_arg3) : S8x4096x5632.Idx → EReal) (ix3 (Layer.expert (m ((c : Thread nD τ).loc main_arg0) i)) k f)) ht.symm))
    (block_prod m hO c t _ _ _ r d fun k f hf => (weights_2 m hO h c t k d f hf).trans
      (congrArg (fun i : S88.Idx => (m ((c : Thread nD τ).loc main_arg4) : S8x4096x5632.Idx → EReal) (ix3 (Layer.expert (m ((c : Thread nD τ).loc main_arg0) i)) k f)) ht.symm))

/-- What a point writes back is its block of the whole array. -/
theorem flushed_eq (hO : Ok m) (h : ∀ n : Fin 88, BitVec.toNat (w := 32) (m (((0 : Dev nD) : Thread nD τ).loc main_arg0) (ix1 n)) < 8) (c : Dev nD) (t : Fin (cfgM m hO).N) :
    (dats m hO 0 c).flushed 3 t = (((cfgM m hO).win 3).blk t).view.read (Elt Ideal) (G m c) := by
  show ((cfgM m hO).win 3).cut (grid0.coords t) ((dats m hO 0 c).after 3 t) = _
  rw [after_3]
  refine funext fun (j : S512x512.Idx) => ?_
  obtain ⟨r, d, rfl⟩ : ∃ (r : Fin 512) (d : Fin 512), j = ix2 r d := ⟨j 0, j 1, ValueIdx.eq_ix2 j⟩
  exact out_eq m hO h c t r d

/-- Every entry is in the block of some point. -/
theorem covered (hO : Ok m) (i : S45056x5632.Idx) : ∃ t : Fin (cfgM m hO).N, ((cfgM m hO).win 3).flush t = true ∧ i ∈ (((cfgM m hO).win 3).blk t).view.set := by
  have h0 : (i 0 : Nat) < 45056 := (i 0).isLt
  have h1 : (i 1 : Nat) < 5632 := (i 1).isLt
  have hN : grid0.N = 968 := by decide
  obtain ⟨t, ht⟩ : ∃ t : Fin grid0.N, t.val = (i 0 : Nat) / 512 * 11 + (i 1 : Nat) / 512 :=
    ⟨⟨(i 0 : Nat) / 512 * 11 + (i 1 : Nat) / 512, by omega⟩, rfl⟩
  refine ⟨t, flush_3 m hO t, ?_⟩
  obtain ⟨o0, o1⟩ := map_3 (grid0.coords t)
  obtain ⟨c0, c1⟩ := coords_eq t
  show i ∈ ((View.whole main_v0).slice (rect3 m hO t)).set
  rw [View.set_slice_whole]
  refine Rect.mem_set_unit.2 fun a => ?_
  match a with
  | ⟨0, _⟩ =>
    show cc0_transform_3 (grid0.coords t) 0 * 512 ≤ (i 0 : Nat) ∧ (i 0 : Nat) < cc0_transform_3 (grid0.coords t) 0 * 512 + 512
    rw [o0, c0]; omega
  | ⟨1, _⟩ =>
    show cc0_transform_3 (grid0.coords t) 1 * 512 ≤ (i 1 : Nat) ∧ (i 1 : Nat) < cc0_transform_3 (grid0.coords t) 1 * 512 + 512
    rw [o1, c1]; omega

/-- The output array ends at the gated products. -/
theorem final (hO : Ok m) (h : ∀ n : Fin 88, BitVec.toNat (w := 32) (m (((0 : Dev nD) : Thread nD τ).loc main_arg0) (ix1 n)) < 8) (c : Dev nD) :
    (dats m hO 0 c).arrAt 3 (cfgM m hO).N = G m c :=
  (dats m hO 0 c).arrAt_eq_of_cover 3 (G m c) (fun t _ => flushed_eq m hO h c t) (covered m hO)

end Cert.MoeUpIdeal.Result

namespace Cert.MoeUpRefIdeal.Result

open Cert.MoeUpRefIdeal Cert.MoeUpRefIdeal.Gen Cert.MoeUpRefIdeal.Value

/-- The reference's table of zeros and ones: one for a row's expert where the row's tile holds rows. -/
theorem table_at (V0 : Valuation τ sig (Elt Ideal)) (r : Fin 45056) (e : Fin 8) :
    (res_main_v16 V0 : S45056x8.Idx → EReal) (ix2 r e)
      = if (V0 (Proc.devRef .tc main_arg0) : S88.Idx → BitVec 32) (ix1 (Layer.tile r)) = BitVec.ofNat 32 e.val
          ∧ Layer.Valid ((V0 (Proc.devRef .tc main_arg1) : S88.Idx → BitVec 32) (ix1 (Layer.tile r))) then (1 : EReal) else 0 := by
  unfold res_main_v16
  have h1 : Ideal.ofBits .f32 0x3F800000#32 = 1 := Ideal.ofBits_one_f32
  have h0 : Ideal.ofBits .f32 0x00000000#32 = 0 := Ideal.ofBits_zero_f32
  refine Eq.trans ?_ (Layer.choice ((V0 (Proc.devRef .tc main_arg0) : S88.Idx → BitVec 32) (ix1 (Layer.tile r))) (BitVec.ofNat 32 e.val)
    ((V0 (Proc.devRef .tc main_arg1) : S88.Idx → BitVec 32) (ix1 (Layer.tile r))) 1 0)
  rw [← h1, ← h0]
  refine congrArg₂ (fun a b => Scalar.select (IntOp.andi a b) (Ideal.ofBits .f32 0x3F800000#32) (Ideal.ofBits .f32 0x00000000#32))
    (congrArg₂ (IntOp.cmpi .eq) ?_ ?_) ?_
  · exact (Layer.spread_at _ _ _ r e).trans (Layer.rows_at (V0 (Proc.devRef .tc main_arg0) : S88.Idx → BitVec 32) _ _ r)
  · exact Layer.experts_at _ _ r e
  · exact (Layer.spread_at _ _ _ r e).trans (congrArg (IntOp.cmpi .sgt · 0#32) (Layer.rows_at (V0 (Proc.devRef .tc main_arg1) : S88.Idx → BitVec 32) _ _ r))

/-- One expert's term: its gated products, times the table's column. -/
theorem term_eq {n : ℕ} (hn : n < 8) (t : FVec Ideal S45056x8 .f32) (x : FVec Ideal S45056x4096 .f32) (w u : FVec Ideal S8x4096x5632 .f32)
    (hs : S45056x8.Slices ![0, n] S45056x1) (hw : S8x4096x5632.Slices ![n, 0, 0] S1x4096x5632) :
    (mulf (broadcastInDim S45056x5632 ![0, 1] bcast_S45056x1_S45056x5632_0_1 (extractStridedSlice S45056x1 ![0, n] t hs))
      (mulf (mulf (Host.dotGeneral dot_S45056x4096_S4096x5632_S45056x5632_1_0_0_1_n_n none x (shapeCast _ (extractStridedSlice S1x4096x5632 ![n, 0, 0] w hw) shapeCasts_S1x4096x5632_S4096x5632))
        (Host.divf (broadcastInDim S45056x5632 ![] bcast_S_S45056x5632 (constant S_ .f32 0x3F800000#32)) (addf (broadcastInDim S45056x5632 ![] bcast_S_S45056x5632 (constant S_ .f32 0x3F800000#32))
          (Host.exp (Host.negf (Host.dotGeneral dot_S45056x4096_S4096x5632_S45056x5632_1_0_0_1_n_n none x (shapeCast _ (extractStridedSlice S1x4096x5632 ![n, 0, 0] w hw) shapeCasts_S1x4096x5632_S4096x5632)))))))
        (Host.dotGeneral dot_S45056x4096_S4096x5632_S45056x5632_1_0_0_1_n_n none x (shapeCast _ (extractStridedSlice S1x4096x5632 ![n, 0, 0] u hw) shapeCasts_S1x4096x5632_S4096x5632))) : FVec Ideal S45056x5632 .f32)
      = fun j => t (ix2 (j 0) ⟨n, hn⟩) * Layer.gate (Layer.prod (M := 45056) (K := 4096) (N := 5632) x (Layer.plane (K := 4096) (N := 5632) w ⟨n, hn⟩) j)
          (Layer.prod (M := 45056) (K := 4096) (N := 5632) x (Layer.plane (K := 4096) (N := 5632) u ⟨n, hn⟩) j) := by
  have hd : ∀ w : FVec Ideal S8x4096x5632 .f32, (Host.dotGeneral dot_S45056x4096_S4096x5632_S45056x5632_1_0_0_1_n_n none x
      (shapeCast _ (extractStridedSlice S1x4096x5632 ![n, 0, 0] w hw) shapeCasts_S1x4096x5632_S4096x5632) : FVec Ideal S45056x5632 .f32)
      = Layer.prod (M := 45056) (K := 4096) (N := 5632) x (Layer.plane (K := 4096) (N := 5632) w ⟨n, hn⟩) := fun w =>
    (Layer.dotGeneral_prod (M := 45056) (K := 4096) (N := 5632) none _ _).trans
      (congrArg (Layer.prod (M := 45056) (K := 4096) (N := 5632) x) (Layer.slice_plane hn w hw _))
  rw [hd, hd]
  funext j
  obtain ⟨r, d, rfl⟩ : ∃ (r : Fin 45056) (d : Fin 5632), j = ix2 r d := ⟨j 0, j 1, ValueIdx.eq_ix2 j⟩
  have h1 : Ideal.ofBits .f32 0x3F800000#32 = 1 := Ideal.ofBits_one_f32
  refine congrArg₂ (· * ·) (Layer.column_at hn (by decide) t hs _ r d) ?_
  unfold Layer.gate
  rw [← h1]
  rfl

set_option maxHeartbeats 1000000 in
/-- The reference leaves, row by row, the gated product by the row's expert's matrices, and zero in tiles that hold no rows. -/
theorem reference (m : (ℓ : Loc nD τ sig) → Buf (Elt Ideal) ℓ) (ρ : Dev nD → PrngReg)
    (ht : ∀ (c : Dev nD) (n : Fin 88), BitVec.toNat (w := 32) (m ((c.tc : Thread nD τ).loc main_arg0) (ix1 n)) < 8) :
    θ_run defs (onTc (τ := τ) (main (F := Ideal))) ⟨m, fun _ => 0, ρ⟩ fun r => ∀ c : Dev nD,
      r.2.mem ((c.tc : Thread nD τ).loc main_v116) = Layer.gated (N := 5632) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun _ h c => ⟨(h c).1.trans ?_, (h c).2⟩) (Cert.MoeUpRefIdeal.Value.run (F := Ideal) m ρ)
  unfold res_main_v91 res_main_v107 res_main_v95 res_main_v83 res_main_v71 res_main_v59 res_main_v47 res_main_v35 res_main_v23
  rw [term_eq (n := 0) (by decide), term_eq (n := 1) (by decide), term_eq (n := 2) (by decide), term_eq (n := 3) (by decide),
    term_eq (n := 4) (by decide), term_eq (n := 5) (by decide), term_eq (n := 6) (by decide), term_eq (n := 7) (by decide)]
  refine funext fun (j : S45056x5632.Idx) => ?_
  have hz : Ideal.ofBits .f32 0x00000000#32 = 0 := Ideal.ofBits_zero_f32
  refine Eq.trans ?_ (Layer.pick_chain _ _ (ht c (Layer.tile (j 0))) (fun e => Layer.gate (Layer.prod (M := 45056) (K := 4096) (N := 5632) (m ((c.tc : Thread nD τ).loc main_arg2)) (Layer.plane (K := 4096) (N := 5632) (m ((c.tc : Thread nD τ).loc main_arg3)) e) j)
    (Layer.prod (M := 45056) (K := 4096) (N := 5632) (m ((c.tc : Thread nD τ).loc main_arg2)) (Layer.plane (K := 4096) (N := 5632) (m ((c.tc : Thread nD τ).loc main_arg4)) e) j)) _ (table_at (StableHlo.launchContents m c) (j 0)))
  rw [← hz]
  rfl

end Cert.MoeUpRefIdeal.Result

namespace Cert.MoeUp

/-- The precondition says that every tile's word names one of the eight experts: for the kernel as given, -/
theorem experts_lt (m : (ℓ : Loc Cert.MoeUp.nD Cert.MoeUp.τ Cert.MoeUp.sig) → Buf (Elt Bits) ℓ) (h : Cert.Pre_MoeUp m) (n : Fin 88) :
    BitVec.toNat (w := 32) (m (((0 : Dev Cert.MoeUp.nD) : Thread Cert.MoeUp.nD Cert.MoeUp.τ).loc Cert.MoeUp.main_arg0) (ix1 n)) < 8 :=
  Layer.lt_eight_of_range _ (congrFun (h 0) (ix1 n))

/-- and for the kernel at exact numbers. -/
theorem experts_lt_ideal (m : (ℓ : Loc Cert.MoeUpIdeal.nD Cert.MoeUpIdeal.τ Cert.MoeUpIdeal.sig) → Buf (Elt Ideal) ℓ) (h : Cert.Pre_MoeUpIdeal m) (n : Fin 88) :
    BitVec.toNat (w := 32) (m (((0 : Dev Cert.MoeUpIdeal.nD) : Thread Cert.MoeUpIdeal.nD Cert.MoeUpIdeal.τ).loc Cert.MoeUpIdeal.main_arg0) (ix1 n)) < 8 :=
  Layer.lt_eight_of_range _ (congrFun (h 0) (ix1 n))

/-- The kernel runs to its end, leaves its arguments as they were and no counter raised. -/
theorem frame_kernel : Cert.quiescent_MoeUp := fun m ρ h =>
  (θ_run _ _ _).mono (fun _ h => ⟨fun c => (h.1 c).2, h.2⟩)
    (Cert.MoeUp.Tables.run m ρ (Cert.MoeUp.Tables.ok_of_lt m (experts_lt m h)))

/-- So does the kernel at exact numbers. -/
theorem frame_ideal : Cert.quiescent_MoeUpIdeal := fun m ρ h =>
  (θ_run _ _ _).mono (fun _ h => ⟨fun c => (h.1 c).2, h.2⟩)
    (Cert.MoeUpIdeal.Tables.run m ρ (Cert.MoeUpIdeal.Tables.ok_of_lt m (experts_lt_ideal m h)))

/-- The reference runs to its end, leaves its arguments as they were and no counter raised. -/
theorem frame_ref : Cert.quiescent_MoeUpRefIdeal := fun m ρ _ =>
  (θ_run _ _ _).mono (fun r h => ⟨fun c => (h c).2, Idealize.ShloMosaic.sem_eq_zero_of_no_sems (by decide) r.2⟩)
    (Cert.MoeUpRefIdeal.Value.run (F := Ideal) m ρ)

/-- The kernel and the reference leave the same array. -/
theorem algebraic : Cert.algebraic_MoeUpIdeal_MoeUpRefIdeal := fun m ρ m' ρ' hp hag =>
  ⟨fun c => Cert.MoeUpIdeal.Result.G m c,
    (θ_run _ _ _).mono (fun _ h c => ⟨(h.1 c).1.trans (Cert.MoeUpIdeal.Result.final m _ (experts_lt_ideal m hp) c), (h.1 c).2⟩)
      (Cert.MoeUpIdeal.Tables.run m ρ (Cert.MoeUpIdeal.Tables.ok_of_lt m (experts_lt_ideal m hp))),
    (θ_run _ _ _).mono (fun _ h c => ⟨(h c).1.trans (by rw [(hag c).1, (hag c).2.1, (hag c).2.2.1, (hag c).2.2.2.1, (hag c).2.2.2.2]), (h c).2⟩)
      (Cert.MoeUpRefIdeal.Result.reference m' ρ' fun c n => by
        obtain rfl : c = 0 := Subsingleton.elim _ _
        rw [(hag 0).1]; exact experts_lt_ideal m hp n)⟩

end Cert.MoeUp

end
-- ==== Proof.MoeDownIdealRun.lean ====
/-
  The experts' down product, idealized: for every contents of the two tables that keep the weights' blocks inside their array, the
  kernel ends without fault, leaves its arguments, and leaves in its output, block by block, the sum of the two products of
  the halves of the contraction where the tile is valid and zeros where it is not.
-/
module

public import proofs.«01_k».proof.Defs
public import proofs.«01_k».proof.Proof.Experts
public import proofs.«01_k».proof.Proof.Gen.MoeDownIdeal
public import proofs.«01_k».proof.Proof.Gen.MoeDownIdeal.Launch
public import proofs.«01_k».proof.Proof.Gen.MoeDownIdeal.Skeleton
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.Claim
public import Idealize.ShloMosaic.Lib.ValueIdx

@[expose] public section

set_option maxRecDepth 16384

noncomputable section

namespace Cert.MoeDownIdeal.Tables

open Cert.MoeDownIdeal Cert.MoeDownIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables -/

/-- The region finds every buffer as launched. -/
abbrev V (c : Dev nD) (b : Ref sig .tc) : Buf (Elt F) ((c : Thread nD τ).loc b) := m ((c : Thread nD τ).loc b)

/-- The host does nothing before the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables as launched: the tiles' experts and which tiles are valid. -/
def tbl : pre0.Contents (Elt F) := fun j => V m (0 : Dev nD) (pre0.ref j)

/-- There is one device, so every device finds those tables. -/
theorem V_pre (c : Dev nD) (j : Fin 2) : V m c (pre0.ref j) = tbl m j := by
  obtain rfl : c = 0 := Subsingleton.elim _ _; rfl

/-- The tables keep every block of the weights inside the weights. -/
abbrev Ok : Prop := ok0 (F := F) (tbl m)

/-- The pipeline at the tables as launched. -/
abbrev adm (hO : Ok m) : (pcfg0 (F := F)).Adm := ⟨tbl m, hO⟩
abbrev cfgM (hO : Ok m) : Pipeline.Cfg sig Λ₀ := cfg0 (adm m hO)

/-- The two tables as the body is handed them. -/
abbrev tb0 : Memref sig .tc .smem S88 .i32 := Memref.whole main_arg0
abbrev tb1 : Memref sig .tc .smem S88 .i32 := Memref.whole main_arg1
abbrev htb0 : tb0.IsWhole := Memref.isWhole_whole _
abbrev htb1 : tb1.IsWhole := Memref.isWhole_whole _

/-- A table's contents, and the half of it that the body holds. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The halves of the tables that the region hands the body. -/
theorem halves_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The word of the second table that the body reads at a point. -/
abbrev word (c : Dev nD) (i : grid0.Coords) (T1 : TbBuf (F := F) c tb1) : BitVec 32 :=
  View.readAt (Elt F) tb1.view (Rect.unit (s := S88) (k0_off1 i) S1.size (k0_off1_inb i)).toLoadRect T1 (Shape.Idx.first (numel1_S1.symm ▸ Nat.one_pos))

/-- The point is on the first half of the contraction, as the body computes it, -/
abbrev First (i : grid0.Coords) : Prop := (Scalar.cmpi .ne (Scalar.extui (Scalar.cmpi .eq (BitVec.ofNat 32 (i 2).val) 0#32) : BitVec 32) 0#32) = 1#1

/-- and on a later one. -/
abbrev Later (i : grid0.Coords) : Prop := (Scalar.cmpi .ne (Scalar.extui (Scalar.cmpi .sgt (BitVec.ofNat 32 (i 2).val) 0#32) : BitVec 32) 0#32) = 1#1

/-- The body's conditions on the first half: nothing is written out. -/
theorem on_first (i : grid0.Coords) (h : (i 2).val = 0) : First i ∧ ¬ Later i ∧ ¬ k0_cond4 i = 1#1 ∧ ∀ v, ¬ k0_cond5 i v = 1#1 := by
  unfold First Later k0_cond4 k0_cond5
  dsimp only
  rw [h]
  refine ⟨by decide, by decide, by decide, fun v => ?_⟩
  generalize Scalar.cmpi .sgt v 0#32 = b
  revert b
  decide

/-- The body's conditions on the second half: the sum is written out in a valid tile and zeros in another. -/
theorem on_second (i : grid0.Coords) (h : (i 2).val = 1) :
    ¬ First i ∧ Later i ∧ k0_cond4 i = 1#1 ∧ ∀ v, (k0_cond1 v = 1#1 ∧ ¬ k0_cond5 i v = 1#1) ∨ (¬ k0_cond1 v = 1#1 ∧ k0_cond5 i v = 1#1) := by
  unfold First Later k0_cond4 k0_cond1 k0_cond5
  dsimp only
  rw [h]
  refine ⟨by decide, by decide, by decide, fun v => ?_⟩
  generalize Scalar.cmpi .sgt v 0#32 = b
  revert b
  decide

/-- So the points on the first half leave the output's buffer as they found it, -/
theorem quiet (hO : Ok m) (i : grid0.Coords) (h : (i 2).val = 0) : (cfgM m hO).idle (2 : Fin 3) i = true := by
  obtain ⟨-, -, h4, h5⟩ := on_first i h
  have key : ∀ v, (!(k0_cond1 v == 1#1 && k0_cond4 i == 1#1) && !(k0_cond5 i v == 1#1)) = true := fun v => by
    rw [beq_false_of_ne h4, beq_false_of_ne (h5 v), Bool.and_false]
    rfl
  exact key ((tbl m).atD 1 (k0_off1 i))

/-- and the others do not. -/
theorem busy (hO : Ok m) (i : grid0.Coords) (h : (i 2).val = 1) : (cfgM m hO).idle (2 : Fin 3) i = false := by
  obtain ⟨-, -, h4, h5⟩ := on_second i h
  show (!(k0_cond1 ((tbl m).atD 1 (k0_off1 i)) == 1#1 && k0_cond4 i == 1#1) && !(k0_cond5 i ((tbl m).atD 1 (k0_off1 i)) == 1#1)) = false
  rcases h5 ((tbl m).atD 1 (k0_off1 i)) with ⟨h, -⟩ | ⟨-, h⟩
  · rw [h, h4]; rfl
  · rw [h]; exact Bool.and_false _

/-! ## The body, branch by branch -/

set_option maxHeartbeats 1000000 in
/-- In a valid tile, on the first half: what the body leaves in the scratch buffer, with the proof that it runs to its end. -/
def run_A (c : Dev nD) (i : grid0.Coords) (arg5 : Memref sig .tc .vmem S512x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x1024 .f32) (harg8 : arg8.IsWhole)
    (x0 : Vec F S512x2816 .bf16) (x1 : Vec F S1x2816x1024 .bf16) (T0 : TbBuf (F := F) c tb0) (T1 : TbBuf (F := F) c tb1)
    (h1 : k0_cond1 (word c i T1) = 1#1) (h2 : First i) (h3 : ¬ Later i) (h4 : ¬ k0_cond4 i = 1#1) (h5 : ¬ k0_cond5 i (word c i T1) = 1#1) :
    { L : List (View.Piece (Elt F) S512x1024 .f32) //
      ∀ (E : Set ℕ) (K : PUnit → sProp 𝕄),
        iprop(owns (c : Thread nD τ) arg5 fullShare x0 ∗ owns (c : Thread nD τ) arg6 fullShare x1 ∗ (∃ d, owns (c : Thread nD τ) arg8 fullShare d) ∗ tbPt c tb0 T0 ∗ tbPt c tb1 T1
            ∗ (iprop(owns (c : Thread nD τ) arg5 fullShare x0 ∗ owns (c : Thread nD τ) arg6 fullShare x1 ∗ (∃ f, arg8.view.loc (c : Thread nD τ) ↦[arg8.view.set]{fullShare} arg8.view.writes (Elt F) f L) ∗ tbPt c tb0 T0 ∗ tbPt c tb1 T1) -∗ K ⟨⟩))
          ⊢ wp frame (wpE (defs₀ (F := F)) Variants.none c none) E (cc0_moe_down i tb0 htb0 tb1 htb1 arg5 harg5 arg6 harg6 arg7 harg7 arg8 harg8) K } := by
  refine ⟨?_, fun E K => ?run⟩
  case run =>
    simp only [cc0_moe_down_eq_skeleton]; unfold cc0_moe_down_skel
    unfold owns
    iintro ⟨⟨%f0, %hf0, H0⟩, ⟨%f1, %hf1, H1⟩, ⟨%ds, %fs, -, HS⟩, HT0, HT1, Hk⟩
    obtain rfl := harg5.eq_unread hf0; obtain rfl := harg6.eq_unread hf1
    sl_exec! (disch := first | (guard_target = k0_cond1 _ = _; exact h1) | (guard_target = ¬(k0_cond1 _ = _); exact h1) | (guard_target = k0_cond5 _ _ = _; exact h5) | (guard_target = ¬(k0_cond5 _ _ = _); exact h5) | sl_exact h2 | sl_exact h3 | sl_exact h4)
    sl_step
    iapply Hk
    isplitl [H0]
    · iexists _; isplitr; · ipureintro; exact harg5.read_unread _
      iexact H0
    isplitl [H1]
    · iexists _; isplitr; · ipureintro; exact harg6.read_unread _
      iexact H1
    isplitl [HS]; · iexists _; iexact HS
    isplitl [HT0]; · iexact HT0
    iexact HT1

set_option maxHeartbeats 1000000 in
/-- In a valid tile, on the second half: likewise in the output's buffer, over what the scratch buffer held. -/
def run_B (c : Dev nD) (i : grid0.Coords) (arg5 : Memref sig .tc .vmem S512x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x1024 .f32) (harg8 : arg8.IsWhole)
    (x0 : Vec F S512x2816 .bf16) (x1 : Vec F S1x2816x1024 .bf16) (xs : Vec F S512x1024 .f32) (T0 : TbBuf (F := F) c tb0) (T1 : TbBuf (F := F) c tb1)
    (h1 : k0_cond1 (word c i T1) = 1#1) (h2 : ¬ First i) (h3 : Later i) (h4 : k0_cond4 i = 1#1) (h5 : ¬ k0_cond5 i (word c i T1) = 1#1) :
    { L : List (View.Piece (Elt F) S512x1024 .f32) //
      ∀ (E : Set ℕ) (K : PUnit → sProp 𝕄),
        iprop(owns (c : Thread nD τ) arg5 fullShare x0 ∗ owns (c : Thread nD τ) arg6 fullShare x1 ∗ (∃ d, owns (c : Thread nD τ) arg7 fullShare d) ∗ owns (c : Thread nD τ) arg8 fullShare xs ∗ tbPt c tb0 T0 ∗ tbPt c tb1 T1
            ∗ (iprop(owns (c : Thread nD τ) arg5 fullShare x0 ∗ owns (c : Thread nD τ) arg6 fullShare x1 ∗ (∃ f, arg7.view.loc (c : Thread nD τ) ↦[arg7.view.set]{fullShare} arg7.view.writes (Elt F) f L) ∗ (∃ d, owns (c : Thread nD τ) arg8 fullShare d) ∗ tbPt c tb0 T0 ∗ tbPt c tb1 T1) -∗ K ⟨⟩))
          ⊢ wp frame (wpE (defs₀ (F := F)) Variants.none c none) E (cc0_moe_down i tb0 htb0 tb1 htb1 arg5 harg5 arg6 harg6 arg7 harg7 arg8 harg8) K } := by
  refine ⟨?_, fun E K => ?run⟩
  case run =>
    simp only [cc0_moe_down_eq_skeleton]; unfold cc0_moe_down_skel
    unfold owns
    iintro ⟨⟨%f0, %hf0, H0⟩, ⟨%f1, %hf1, H1⟩, ⟨%d2, %f2, -, H2⟩, ⟨%fs, %hfs, HS⟩, HT0, HT1, Hk⟩
    obtain rfl := harg5.eq_unread hf0; obtain rfl := harg6.eq_unread hf1; obtain rfl := harg8.eq_unread hfs
    sl_exec! (disch := first | (guard_target = k0_cond1 _ = _; exact h1) | (guard_target = ¬(k0_cond1 _ = _); exact h1) | (guard_target = k0_cond5 _ _ = _; exact h5) | (guard_target = ¬(k0_cond5 _ _ = _); exact h5) | sl_exact h2 | sl_exact h3 | sl_exact h4)
    sl_step
    iapply Hk
    isplitl [H0]
    · iexists _; isplitr; · ipureintro; exact harg5.read_unread _
      iexact H0
    isplitl [H1]
    · iexists _; isplitr; · ipureintro; exact harg6.read_unread _
      iexact H1
    isplitl [H2]; · iexists _; iexact H2
    isplitl [HS]
    · iexists _; iexists _; isplitr
      swap; · iexact HS
      ipureintro; rfl
    isplitl [HT0]; · iexact HT0
    iexact HT1

set_option maxHeartbeats 1000000 in
/-- In another tile, on the first half: the body does nothing. -/
theorem run_C (c : Dev nD) (i : grid0.Coords) (arg5 : Memref sig .tc .vmem S512x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x1024 .f32) (harg8 : arg8.IsWhole)
    (T0 : TbBuf (F := F) c tb0) (T1 : TbBuf (F := F) c tb1) (h1 : ¬ k0_cond1 (word c i T1) = 1#1) (h5 : ¬ k0_cond5 i (word c i T1) = 1#1) (E : Set ℕ) (K : PUnit → sProp 𝕄) :
    iprop(tbPt c tb0 T0 ∗ tbPt c tb1 T1 ∗ (iprop(tbPt c tb0 T0 ∗ tbPt c tb1 T1) -∗ K ⟨⟩))
      ⊢ wp frame (wpE (defs₀ (F := F)) Variants.none c none) E (cc0_moe_down i tb0 htb0 tb1 htb1 arg5 harg5 arg6 harg6 arg7 harg7 arg8 harg8) K := by
  simp only [cc0_moe_down_eq_skeleton]; unfold cc0_moe_down_skel
  iintro ⟨HT0, HT1, Hk⟩
  sl_exec! (disch := first | (guard_target = ¬(k0_cond1 _ = _); exact h1) | (guard_target = k0_cond5 _ _ = _; exact h5) | (guard_target = ¬(k0_cond5 _ _ = _); exact h5))
  sl_step
  iapply Hk
  isplitl [HT0]; · iexact HT0
  iexact HT1

set_option maxHeartbeats 1000000 in
/-- In another tile, on the second half: what the body leaves in the output's buffer. -/
def run_D (c : Dev nD) (i : grid0.Coords) (arg5 : Memref sig .tc .vmem S512x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x1024 .f32) (harg8 : arg8.IsWhole)
    (T0 : TbBuf (F := F) c tb0) (T1 : TbBuf (F := F) c tb1) (h1 : ¬ k0_cond1 (word c i T1) = 1#1) (h5 : k0_cond5 i (word c i T1) = 1#1) :
    { L : List (View.Piece (Elt F) S512x1024 .f32) //
      ∀ (E : Set ℕ) (K : PUnit → sProp 𝕄),
        iprop((∃ d, owns (c : Thread nD τ) arg7 fullShare d) ∗ tbPt c tb0 T0 ∗ tbPt c tb1 T1 ∗ (iprop((∃ f, arg7.view.loc (c : Thread nD τ) ↦[arg7.view.set]{fullShare} arg7.view.writes (Elt F) f L) ∗ tbPt c tb0 T0 ∗ tbPt c tb1 T1) -∗ K ⟨⟩))
          ⊢ wp frame (wpE (defs₀ (F := F)) Variants.none c none) E (cc0_moe_down i tb0 htb0 tb1 htb1 arg5 harg5 arg6 harg6 arg7 harg7 arg8 harg8) K } := by
  refine ⟨?_, fun E K => ?run⟩
  case run =>
    simp only [cc0_moe_down_eq_skeleton]; unfold cc0_moe_down_skel
    unfold owns
    iintro ⟨⟨%d2, %f2, -, H2⟩, HT0, HT1, Hk⟩
    sl_exec! (disch := first | (guard_target = ¬(k0_cond1 _ = _); exact h1) | (guard_target = k0_cond5 _ _ = _; exact h5) | (guard_target = ¬(k0_cond5 _ _ = _); exact h5))
    sl_step
    iapply Hk
    isplitl [H2]; · iexists _; iexact H2
    isplitl [HT0]; · iexact HT0
    iexact HT1

section Left

variable (c : Dev nD) (i : grid0.Coords) (arg5 : Memref sig .tc .vmem S512x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x1024 .f32) (harg8 : arg8.IsWhole)
  (x0 : Vec F S512x2816 .bf16) (x1 : Vec F S1x2816x1024 .bf16) (xs : Vec F S512x1024 .f32) (T0 : TbBuf (F := F) c tb0) (T1 : TbBuf (F := F) c tb1)

/-- What the first half of a valid tile leaves in the scratch buffer: the product of the blocks read. -/
theorem left_A (h1) (h2) (h3) (h4) (h5) (f) :
    arg8.view.read (Elt F) (arg8.view.writes (Elt F) f (run_A c i arg5 harg5 arg6 harg6 arg7 harg7 arg8 harg8 x0 x1 T0 T1 h1 h2 h3 h4 h5).1) = k0_pay2 x0 x1 := by
  have cover : ∀ y : S512x1024.Idx, ∃ pc ∈ (run_A c i arg5 harg5 arg6 harg6 arg7 harg7 arg8 harg8 x0 x1 T0 T1 h1 h2 h3 h4 h5).1, y ∈ pc.1.set := fun y =>
    View.cover_of_tiledL (run_A c i arg5 harg5 arg6 harg6 arg7 harg7 arg8 harg8 x0 x1 T0 T1 h1 h2 h3 h4 h5).1 S512x1024.size (by sl_kernel_rfl) y
  rw [View.read_writes_eq_canon _ _ _ cover]
  unfold run_A
  dsimp only
  sl_unfold_words
  rw [View.canon_unit_zero Layer.zero2]
  simp only [View.readAt_eq_ld, harg5.read_unread, harg6.read_unread,
    View.ld_unit_zero (S := S512x2816) Layer.zero2, View.ld_unit_zero (S := S1x2816x1024) Layer.zero3]

/-- What the second half leaves in the output's buffer: that and what the scratch buffer held, added up. -/
theorem left_B (h1) (h2) (h3) (h4) (h5) (f) :
    arg7.view.read (Elt F) (arg7.view.writes (Elt F) f (run_B c i arg5 harg5 arg6 harg6 arg7 harg7 arg8 harg8 x0 x1 xs T0 T1 h1 h2 h3 h4 h5).1) = k0_pay3 x0 x1 xs := by
  have cover : ∀ y : S512x1024.Idx, ∃ pc ∈ (run_B c i arg5 harg5 arg6 harg6 arg7 harg7 arg8 harg8 x0 x1 xs T0 T1 h1 h2 h3 h4 h5).1, y ∈ pc.1.set := fun y =>
    View.cover_of_tiledL (run_B c i arg5 harg5 arg6 harg6 arg7 harg7 arg8 harg8 x0 x1 xs T0 T1 h1 h2 h3 h4 h5).1 S512x1024.size (by sl_kernel_rfl) y
  rw [View.read_writes_eq_canon _ _ _ cover]
  unfold run_B
  dsimp only
  sl_unfold_words
  rw [View.canon_unit_zero Layer.zero2]
  simp only [View.readAt_eq_ld, harg5.read_unread, harg6.read_unread, harg8.read_unread,
    View.ld_unit_zero (S := S512x2816) Layer.zero2, View.ld_unit_zero (S := S1x2816x1024) Layer.zero3, View.ld_unit_zero (S := S512x1024) Layer.zero2]
  rw [View.readCov_full]

/-- What another tile leaves there: zeros. -/
theorem left_D (h1) (h5) (f) :
    arg7.view.read (Elt F) (arg7.view.writes (Elt F) f (run_D c i arg5 harg5 arg6 harg6 arg7 harg7 arg8 harg8 T0 T1 h1 h5).1) = k0_pay4 (F := F) := by
  have cover : ∀ y : S512x1024.Idx, ∃ pc ∈ (run_D c i arg5 harg5 arg6 harg6 arg7 harg7 arg8 harg8 T0 T1 h1 h5).1, y ∈ pc.1.set := fun y =>
    View.cover_of_tiledL (run_D c i arg5 harg5 arg6 harg6 arg7 harg7 arg8 harg8 T0 T1 h1 h5).1 S512x1024.size (by sl_kernel_rfl) y
  rw [View.read_writes_eq_canon _ _ _ cover]
  unfold run_D
  dsimp only
  sl_unfold_words
  rw [View.canon_unit_zero Layer.zero2]

end Left

/-! ## The index maps and the tables' words -/

/-- A coordinate below a hundred, cast to an index and back. -/
theorem cast_lt : ∀ n : Fin 88, (Scalar.indexCast (BitVec.ofNat 32 n.val)).toNat = n.val := by decide

/-- The offset at which the body and the index maps read the tables is the tile. -/
theorem off_eq (i : grid0.Coords) : k0_off1 i 0 = (i 0).val := cast_lt (i 0)

/-- The word of the second table that the body reads is its tile's. -/
theorem word_eq (c : Dev nD) (i : grid0.Coords) (T1 : TbBuf (F := F) c tb1) : word c i T1 = T1 (ix1 (i 0)) := by
  refine congrArg T1 (funext fun a => Fin.ext ?_)
  match a with
  | ⟨0, _⟩ =>
    have h : ∀ x : Fin 1, x.val = 0 := fun x => by omega
    refine (congrArg₂ (· + ·) (off_eq i) (congrArg (1 * ·) (h _))).trans ?_
    rfl

/-- A coordinate read back from its word. -/
theorem coord_word (n : ℕ) (h : n < 100) : (BitVec.ofNat 32 n).toNat = n := by
  rw [BitVec.toNat_ofNat]; omega

/-- The rows' window is on the tile's rows and the half's columns, -/
theorem map_0 (i : grid0.Coords) : cc0_transform_0 i 0 = (i 0).val ∧ cc0_transform_0 i 1 = (i 2).val := by
  have h0 : (i 0).val < 88 := (i 0).isLt
  have h2 : (i 2).val < 2 := (i 2).isLt
  exact ⟨coord_word _ (by omega), coord_word _ (by omega)⟩

/-- the weights' window on the matrix that the first table names, -/
theorem map_1 (pf : pre0.Contents (Elt F)) (i : grid0.Coords) :
    cc0_transform_1 k0_off1_inb numel1_S1 pf i 0 = BitVec.toNat (w := 32) (pf 0 (ix1 (i 0))) ∧ cc0_transform_1 k0_off1_inb numel1_S1 pf i 1 = (i 2).val
      ∧ cc0_transform_1 k0_off1_inb numel1_S1 pf i 2 = (i 1).val := by
  have h1 : (i 1).val < 4 := (i 1).isLt
  have h2 : (i 2).val < 2 := (i 2).isLt
  refine ⟨congrArg (BitVec.toNat (w := 32)) (congrArg (pf 0) (funext fun a => Fin.ext ?_)), coord_word _ (by omega), coord_word _ (by omega)⟩
  match a with
  | ⟨0, _⟩ =>
    have h : ∀ x : Fin 1, x.val = 0 := fun x => by omega
    exact (congrArg₂ (· + ·) (off_eq i) (congrArg (1 * ·) (h _))).trans rfl

/-- and the output's on the tile's rows and the columns' block. -/
theorem map_2 (i : grid0.Coords) : cc0_transform_2 i 0 = (i 0).val ∧ cc0_transform_2 i 1 = (i 1).val := by
  have h0 : (i 0).val < 88 := (i 0).isLt
  have h1 : (i 1).val < 4 := (i 1).isLt
  exact ⟨coord_word _ (by omega), coord_word _ (by omega)⟩

/-- Experts below eight keep every block of the weights inside them. -/
theorem ok_of_lt (h : ∀ n : Fin 88, BitVec.toNat (w := 32) (m (((0 : Dev nD) : Thread nD τ).loc main_arg0) (ix1 n)) < 8) : Ok m := by
  have key : ∀ (i : grid0.Coords) (a : Fin 3), (cc0_transform_1 k0_off1_inb numel1_S1 (tbl m) i a + 1) * S1x2816x1024.size a ≤ S8x5632x4096.size a := fun i a => by
    obtain ⟨e0, e1, e2⟩ := map_1 (tbl m) i
    have h1 : (i 1).val < 4 := (i 1).isLt
    have h2 : (i 2).val < 2 := (i 2).isLt
    match a with
    | ⟨0, _⟩ =>
      show (cc0_transform_1 k0_off1_inb numel1_S1 (tbl m) i 0 + 1) * 1 ≤ 8
      rw [e0]
      have := h (i 0)
      show (BitVec.toNat (w := 32) (m (((0 : Dev nD) : Thread nD τ).loc main_arg0) (ix1 (i 0))) + 1) * 1 ≤ 8
      omega
    | ⟨1, _⟩ => show (cc0_transform_1 k0_off1_inb numel1_S1 (tbl m) i 1 + 1) * 2816 ≤ 5632; rw [e1]; omega
    | ⟨2, _⟩ => show (cc0_transform_1 k0_off1_inb numel1_S1 (tbl m) i 2 + 1) * 1024 ≤ 4096; rw [e2]; omega
  exact fun i => ⟨key i, .inr (Affine.block_words_dvd (s := S8x5632x4096) (p := EltTy.packing .bf16) (by decide) (by decide))⟩

/-- The coordinates of a point. -/
theorem coords_eq : ∀ t : Fin grid0.N, (grid0.coords t 0).val = t.val / 8 ∧ (grid0.coords t 1).val = t.val / 2 % 4 ∧ (grid0.coords t 2).val = t.val % 2 := by decide +kernel

/-- The output is not written back on a first half, -/
theorem no_flush (hO : Ok m) : ∀ t : Fin (cfgM m hO).N, t.val % 2 = 0 → ((cfgM m hO).win 2).flush t = false :=
  (by decide +kernel : ∀ t : Fin grid0.N, t.val % 2 = 0 → Pipeline.Window.flushOf grid0 true cc0_transform_2 t = false)

/-- and it is on a second. -/
theorem flush_2 (hO : Ok m) : ∀ t : Fin (cfgM m hO).N, t.val % 2 = 1 → ((cfgM m hO).win 2).flush t = true :=
  (by decide +kernel : ∀ t : Fin grid0.N, t.val % 2 = 1 → Pipeline.Window.flushOf grid0 true cc0_transform_2 t = true)

/-! ## The pipeline's proof data -/

/-- The block that a window is on at a point, of its array as launched. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The point before. -/
abbrev prev (hO : Ok m) (t : Fin (cfgM m hO).N) : Fin (cfgM m hO).N := ⟨t.val - 1, Nat.lt_of_le_of_lt (Nat.sub_le _ _) t.isLt⟩

/-- What the first half of a valid tile leaves in the scratch buffer. -/
def held (hO : Ok m) (c : Dev nD) (t : Fin (cfgM m hO).N) : Vec F S512x1024 .f32 := k0_pay2 (iblk m hO c 0 t) (iblk m hO c 1 t)

/-- The word of its tile at a point. -/
abbrev wordAt (hO : Ok m) (c : Dev nD) (t : Fin (cfgM m hO).N) : BitVec 32 := word c (grid0.coords t) (tbl m 1)

/-- A second half's word is that of the first half before it. -/
theorem word_prev (hO : Ok m) (c : Dev nD) (t : Fin (cfgM m hO).N) (h : t.val % 2 = 1) : wordAt m hO c (prev m hO t) = wordAt m hO c t := by
  refine (word_eq c _ _).trans (Eq.trans (congrArg (tbl m 1) (congrArg ix1 (Fin.ext ?_))) (word_eq c _ _).symm)
  rw [(coords_eq t).1, (coords_eq (prev m hO t)).1]
  show (t.val - 1) / 8 = _
  omega

/-- What the output's buffer holds after a second half. -/
def outAt (hO : Ok m) (c : Dev nD) (t : Fin (cfgM m hO).N) : Vec F S512x1024 .f32 :=
  if k0_cond1 (wordAt m hO c t) = 1#1 then k0_pay3 (iblk m hO c 0 t) (iblk m hO c 1 t) (held m hO c (prev m hO t)) else k0_pay4 (F := F)

/-- The scratch buffer's contents before position `n`: what the point before left, where that was a valid tile's first half. -/
def Holds (hO : Ok m) (c : Dev nD) (n : ℕ) (d : Vec F S512x1024 .f32) : Prop :=
  ∀ t : Fin (cfgM m hO).N, t.val + 1 = n → t.val % 2 = 0 → k0_cond1 (wordAt m hO c t) = 1#1 → d = held m hO c t

/-- The scratch buffer. -/
abbrev scM : Memref sig .tc .vmem S512x1024 .f32 := Memref.whole cc0_scratch0

/-- What is kept between points: the scratch buffer at such contents, the generator's register and the tables' halves. -/
def Keeps (hO : Ok m) (c : Dev nD) (n : ℕ) : sProp 𝕄 :=
  iprop(iprop(iprop(∃ d, ⌜Holds m hO c n d⌝ ∗ owns (c : Thread nD τ) scM fullShare d) ∗ (∃ r, prngReg c r)) ∗ Pipeline.ΦT pre0 (tbl m) c)

/-- What the region hands over beside the tables, with the scratch buffer as the body is handed it. -/
theorem scratch_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The arrays as launched, each input's buffer at its block, the output's as above, and what is kept. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ t := Keeps m hO c t.val
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = outAt m hO c t := by dsimp only [dats]; try rfl

/-- Each input's buffer holds its block when the body runs, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body at a point -/

/-- The buffers that the body is handed at a point. -/
abbrev ms_0 (hO : Ok m) (t : Fin (cfgM m hO).N) : Memref sig .tc .vmem S512x2816 .bf16 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x2816x1024 .bf16 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S512x1024 .f32 := spec0_2.stage ((cfgM m hO).slots t 2)
abbrev hs_2 (hO : Ok m) (t : Fin (cfgM m hO).N) : (ms_2 m hO t).IsWhole := hstage0_2 (((cfgM m hO).slots t 2).cast nbuf0_2)

/-- The body as the pipeline calls it at a point. -/
abbrev bodyAt (hO : Ok m) (t : Fin (cfgM m hO).N) : Prog (TpuEff nD τ sig (Elt F) Λ₀ .tc) PUnit :=
  cc0_moe_down (grid0.coords t) tb0 htb0 tb1 htb1 (ms_0 m hO t) (hs_0 m hO t) (ms_1 m hO t) (hs_1 m hO t) (ms_2 m hO t) (hs_2 m hO t) scM (Memref.isWhole_whole _)

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d)))

/-- what it returns on a first half, -/
def postFirst (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ (∃ d, owns (c : Thread nD τ) (ms_2 m hO t) fullShare ((dats m hO 0 c).before 2 t d)))

/-- and on a second. -/
def postSecond (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t))

/-- The body's triple on a first half: in a valid tile the scratch buffer takes the product. -/
theorem sound_first (hO : Ok m) (c : Dev nD) (t : Fin (cfgM m hO).N) (ht : t.val % 2 = 0) :
    bodyPre m hO c t ⊢ wp frame (wpE (defs₀ (F := F)) Variants.none c none) Set.univ (bodyAt m hO t) (fun _ => postFirst m hO c t) := by
  obtain ⟨h2, h3, h4, h5⟩ := on_first (grid0.coords t) ((coords_eq t).2.2.trans ht)
  unfold bodyPre postFirst bodyAt
  simp only [before_0, before_1]
  rw [show (dats m hO 0 c).owesAt () t.succ = (dats m hO 0 c).owesAt () t.castSucc from rfl, after_0, after_1]
  rw [show (dats m hO 0 c).Φ t.castSucc = Keeps m hO c t.val from rfl, show (dats m hO 0 c).Φ t.succ = Keeps m hO c (t.val + 1) from rfl]
  unfold Keeps
  rw [halves_eq]
  by_cases h1 : k0_cond1 (wordAt m hO c t) = 1#1
  · iintro ⟨⟨⟨⟨%d, -, HS⟩, Hg⟩, ⟨HT0, HT1⟩⟩, Ho, ⟨%d0, H0⟩, ⟨%d1, H1⟩, H2⟩
    iapply ((run_A c (grid0.coords t) _ _ _ _ _ (hs_2 m hO t) _ _ (iblk m hO c 0 t) (iblk m hO c 1 t) (tbl m 0) (tbl m 1) h1 h2 h3 h4 (h5 _)).2 Set.univ _)
    isplitl [H0]; · iexact H0
    isplitl [H1]; · iexact H1
    isplitl [HS]; · iexists _; iexact HS
    isplitl [HT0]; · iexact HT0
    isplitl [HT1]; · iexact HT1
    iintro ⟨H0, H1, ⟨%e, HS⟩, HT0, HT1⟩
    isplitl [HS Hg HT0 HT1]
    · isplitl [HS Hg]
      · isplitl [HS]
        · iexists (held m hO c t); isplitr
          · ipureintro; intro t' h' _ _
            obtain rfl : t' = t := Fin.ext (Nat.succ.inj h')
            rfl
          unfold owns; iexists _; isplitr
          swap; · iexact HS
          ipureintro; exact left_A c _ _ _ _ _ _ _ _ _ _ _ _ _ h1 h2 h3 h4 (h5 _) _
        iexact Hg
      isplitl [HT0]; · iexact HT0
      iexact HT1
    isplitl [Ho]; · iexact Ho
    isplitl [H0]; · iexact H0
    isplitl [H1]; · iexact H1
    iexact H2
  · iintro ⟨⟨⟨⟨%d, -, HS⟩, Hg⟩, ⟨HT0, HT1⟩⟩, Ho, ⟨%d0, H0⟩, ⟨%d1, H1⟩, H2⟩
    iapply (run_C c (grid0.coords t) _ _ _ _ _ _ _ _ (tbl m 0) (tbl m 1) h1 (h5 _) Set.univ _)
    isplitl [HT0]; · iexact HT0
    isplitl [HT1]; · iexact HT1
    iintro ⟨HT0, HT1⟩
    isplitl [HS Hg HT0 HT1]
    · isplitl [HS Hg]
      · isplitl [HS]
        · iexists d; isplitr
          · ipureintro; intro t' h' _ hc
            obtain rfl : t' = t := Fin.ext (Nat.succ.inj h')
            exact absurd hc h1
          iexact HS
        iexact Hg
      isplitl [HT0]; · iexact HT0
      iexact HT1
    isplitl [Ho]; · iexact Ho
    isplitl [H0]; · iexact H0
    isplitl [H1]; · iexact H1
    iexact H2

/-- The body's triple on a second half: the output's buffer takes the sum, or zeros. -/
theorem sound_second (hO : Ok m) (c : Dev nD) (t : Fin (cfgM m hO).N) (ht : t.val % 2 = 1) :
    bodyPre m hO c t ⊢ wp frame (wpE (defs₀ (F := F)) Variants.none c none) Set.univ (bodyAt m hO t) (fun _ => postSecond m hO c t) := by
  obtain ⟨h2, h3, h4, h5⟩ := on_second (grid0.coords t) ((coords_eq t).2.2.trans ht)
  have free : ∀ d, Holds m hO c (t.val + 1) d := fun d t' h' h0 _ => by omega
  unfold bodyPre postSecond bodyAt
  simp only [before_0, before_1]
  rw [show (dats m hO 0 c).owesAt () t.succ = (dats m hO 0 c).owesAt () t.castSucc from rfl, after_0, after_1, after_2]
  rw [show (dats m hO 0 c).Φ t.castSucc = Keeps m hO c t.val from rfl, show (dats m hO 0 c).Φ t.succ = Keeps m hO c (t.val + 1) from rfl]
  unfold Keeps
  rw [halves_eq]
  unfold outAt
  rcases h5 (wordAt m hO c t) with ⟨h1, h5⟩ | ⟨h1, h5⟩
  · rw [if_pos h1]
    iintro ⟨⟨⟨⟨%d, %hd, HS⟩, Hg⟩, ⟨HT0, HT1⟩⟩, Ho, ⟨%d0, H0⟩, ⟨%d1, H1⟩, ⟨%d2, H2⟩⟩
    have hd' : d = held m hO c (prev m hO t) :=
      hd (prev m hO t) (by show t.val - 1 + 1 = t.val; omega) (by show (t.val - 1) % 2 = 0; omega) (by rw [word_prev m hO c t ht]; exact h1)
    subst hd'
    iapply ((run_B c (grid0.coords t) _ _ _ _ _ _ _ _ (iblk m hO c 0 t) (iblk m hO c 1 t) (held m hO c (prev m hO t)) (tbl m 0) (tbl m 1) h1 h2 h3 h4 h5).2 Set.univ _)
    isplitl [H0]; · iexact H0
    isplitl [H1]; · iexact H1
    isplitl [H2]; · iexists _; iexact H2
    isplitl [HS]; · iexact HS
    isplitl [HT0]; · iexact HT0
    isplitl [HT1]; · iexact HT1
    iintro ⟨H0, H1, ⟨%e2, H2⟩, ⟨%e, HS⟩, HT0, HT1⟩
    isplitl [HS Hg HT0 HT1]
    · isplitl [HS Hg]
      · isplitl [HS]
        · iexists e; isplitr
          · ipureintro; exact free _
          iexact HS
        iexact Hg
      isplitl [HT0]; · iexact HT0
      iexact HT1
    isplitl [Ho]; · iexact Ho
    isplitl [H0]; · iexact H0
    isplitl [H1]; · iexact H1
    unfold owns; iexists _; isplitr
    swap; · iexact H2
    ipureintro; exact left_B c _ _ _ _ _ _ _ _ _ _ _ _ _ _ h1 h2 h3 h4 h5 _
  · rw [if_neg h1]
    iintro ⟨⟨⟨⟨%d, -, HS⟩, Hg⟩, ⟨HT0, HT1⟩⟩, Ho, ⟨%d0, H0⟩, ⟨%d1, H1⟩, ⟨%d2, H2⟩⟩
    iapply ((run_D c (grid0.coords t) _ _ _ _ _ _ _ _ (tbl m 0) (tbl m 1) h1 h5).2 Set.univ _)
    isplitl [H2]; · iexists _; iexact H2
    isplitl [HT0]; · iexact HT0
    isplitl [HT1]; · iexact HT1
    iintro ⟨⟨%e2, H2⟩, HT0, HT1⟩
    isplitl [HS Hg HT0 HT1]
    · isplitl [HS Hg]
      · isplitl [HS]
        · iexists d; isplitr
          · ipureintro; exact free _
          iexact HS
        iexact Hg
      isplitl [HT0]; · iexact HT0
      iexact HT1
    isplitl [Ho]; · iexact Ho
    isplitl [H0]; · iexact H0
    isplitl [H1]; · iexact H1
    unfold owns; iexists _; isplitr
    swap; · iexact H2
    ipureintro; exact left_D c _ _ _ _ _ _ _ _ _ _ _ h1 h5 _

/-- The pipeline's body at a point is the body above. -/
theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body's obligation at every point. -/
theorem body_obligation (hO : Ok m) (c : Dev nD) : BodyObligation (dats (F := F) m hO 0 c) (defs₀ (F := F)) Variants.none () Set.univ := fun t => by
  rw [bigSep_W0, bigSep_W0, body_row m hO]
  by_cases ht : t.val % 2 = 0
  · have hi : (cfgM m hO).idle (2 : Fin 3) ((cfgM m hO).grid.coords t) = true := quiet m hO _ ((coords_eq t).2.2.trans ht)
    have hf : ((cfgM m hO).win (2 : Fin 3)).flush t = false := no_flush m hO t ht
    rewrite [hi, hf]
    exact triple_restated (sound_first m hO c t ht) rfl .rfl fun _ => .rfl
  · have ht : t.val % 2 = 1 := by omega
    have hi : (cfgM m hO).idle (2 : Fin 3) ((cfgM m hO).grid.coords t) = false := busy m hO _ ((coords_eq t).2.2.trans ht)
    rewrite [hi]
    exact triple_restated (sound_second m hO c t ht) rfl .rfl fun _ => .rfl

/-- What the region hands over is what is kept before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = Keeps m hO c 0 from rfl, scratch_eq]
  unfold Keeps
  iintro ⟨⟨⟨%d, HS⟩, Hg⟩, HT⟩
  isplitl [HS Hg]
  · isplitl [HS]
    · iexists d; isplitr
      · ipureintro; exact fun t h => absurd h (Nat.succ_ne_zero _)
      iexact HS
    iexact Hg
  iexact HT

/-- What is kept after the last point gives it back. -/
theorem hout (hO : Ok m) (c : Dev nD) : (dats m hO 0 c).Φ (Fin.last (cfgM m hO).N) ⊢ Pipeline.ΦA spec0 c := by
  rw [show (dats m hO 0 c).Φ (Fin.last (cfgM m hO).N) = Keeps m hO c (cfgM m hO).N from rfl, scratch_eq]
  unfold Keeps
  iintro ⟨⟨⟨%d, -, HS⟩, Hg⟩, -⟩
  isplitl [HS]
  · iexists _; iexact HS
  iexact Hg

/-! ## The run -/

set_option backward.isDefEq.respectTransparency.types false in
/-- The launch ends, with the arrays as the proof data say, every other buffer as it was and no counter raised. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The run, read at the output and at the arguments. -/
theorem run (hO : Ok m) : θ_run defs (onTc (τ := τ) (main (F := F))) ⟨m, fun _ => 0, ρ⟩ (fun r => (∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 2,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1))⟩, h.2⟩) (run_main m ρ hO)

end Cert.MoeDownIdeal.Tables

end
-- ==== Proof.MoeDown.lean ====
/-
  The experts' down product: tile by tile, the kernel's product of a tile's rows by the matrix of the tile's expert, added up
  over the two halves of the contraction, is what the reference keeps of the products of all rows by all experts' matrices.
-/
module

public import proofs.«01_k».proof.Defs
public import proofs.«01_k».proof.Proof.Experts
public import proofs.«01_k».proof.Proof.MoeDownRun
public import proofs.«01_k».proof.Proof.MoeDownIdealRun
public import proofs.«01_k».proof.Proof.Gen.Pre_down_experts_in_range
public import proofs.«01_k».proof.Proof.Gen.MoeDownRefIdeal.Run
public import Idealize.ShloMosaic.Lib.Quiescent
public import Idealize.ShloMosaic.Lib.IdealHost

@[expose] public section

set_option maxRecDepth 16384

noncomputable section

open Idealize.ShloMosaic Idealize.ShloMosaic.TcCoe Idealize.ShloMosaic.ValueIdx Idealize.SL.Sem
open scoped BigOperators

namespace Cert.MoeDownIdeal.Result

open Cert.MoeDownIdeal Cert.MoeDownIdeal.Gen Cert.MoeDownIdeal.Tables

variable (m : (ℓ : Loc nD τ sig) → Buf (Elt Ideal) ℓ) (ρ : Dev nD → PrngReg)

/-- The whole array that the kernel leaves. -/
abbrev G (c : Dev nD) : S45056x4096.Idx → EReal :=
  Layer.grouped (K := 5632) (N := 4096) (m ((c : Thread nD τ).loc main_arg0)) (m ((c : Thread nD τ).loc main_arg1)) (m ((c : Thread nD τ).loc main_arg2))
    (m ((c : Thread nD τ).loc main_arg3))

/-- The expert of a point's tile. -/
abbrev expertAt (c : Dev nD) (t : Fin grid0.N) : Fin 8 := Layer.expert (m ((c : Thread nD τ).loc main_arg0) (ix1 (grid0.coords t 0)))

/-- That expert's matrix. -/
abbrev W (c : Dev nD) (t : Fin grid0.N) : (⟨2, ![5632, 4096]⟩ : Shape).Idx → EReal :=
  Layer.plane (E := 8) (K := 5632) (N := 4096) (m ((c : Thread nD τ).loc main_arg3)) (expertAt m c t)

/-- The body's condition is that the tile holds rows. -/
theorem cond_iff (v : BitVec 32) : k0_cond1 v = 1#1 ↔ Layer.Valid v := by
  show k0_cond1 v = 1#1 ↔ (0#32).slt v = true
  unfold k0_cond1 Scalar.cmpi IntOp.cmpi
  dsimp only
  generalize (0#32).slt v = b
  revert b
  decide

/-- The body's product of its blocks. -/
theorem pay_eq (x : Vec Ideal S512x2816 .bf16) (w : Vec Ideal S1x2816x1024 .bf16) :
    (k0_pay1 x w : S512x1024.Idx → EReal) = Layer.prod (M := 512) (K := 2816) (N := 1024) x (Layer.plane (K := 2816) (N := 1024) w (0 : Fin 1)) := by
  have e : (shapeCast S2816x1024 w shapeCasts_S1x2816x1024_S2816x1024 : S2816x1024.Idx → EReal) = Layer.plane (K := 2816) (N := 1024) w (0 : Fin 1) :=
    Layer.block_plane (K := 2816) (N := 1024) w _
  unfold k0_pay1
  rw [← e]
  exact Layer.matmul_zero (M := 512) (K := 2816) (N := 1024) (φ₁ := .bf16) (φ₂ := .bf16) none x _

/-- A first half leaves it in the scratch buffer, -/
theorem first_eq (x : Vec Ideal S512x2816 .bf16) (w : Vec Ideal S1x2816x1024 .bf16) :
    (k0_pay2 x w : S512x1024.Idx → EReal) = Layer.prod (M := 512) (K := 2816) (N := 1024) x (Layer.plane (K := 2816) (N := 1024) w (0 : Fin 1)) := by
  unfold k0_pay2
  simp only [shapeCast_self]
  exact pay_eq x w

/-- a second half adds it, -/
theorem second_eq (x : Vec Ideal S512x2816 .bf16) (w : Vec Ideal S1x2816x1024 .bf16) (acc : Vec Ideal S512x1024 .f32) (j : S512x1024.Idx) :
    (k0_pay3 x w acc : S512x1024.Idx → EReal) j = acc j + Layer.prod (M := 512) (K := 2816) (N := 1024) x (Layer.plane (K := 2816) (N := 1024) w (0 : Fin 1)) j := by
  unfold k0_pay3
  simp only [shapeCast_self]
  exact congrArg (acc j + ·) (congrFun (pay_eq x w) j)

/-- and in a tile that holds no rows there are zeros. -/
theorem zero_eq (j : S512x1024.Idx) : (k0_pay4 (F := Ideal) : S512x1024.Idx → EReal) j = 0 := by
  unfold k0_pay4
  exact Ideal.ofBits_zero_f32

/-- The rectangle of the whole array that a point's block is, -/
abbrev rect2 (hO : Ok m) (t : Fin (cfgM m hO).N) : Rect (main_v0 : Ref sig .tc).ty.shape := ((cfgM m hO).win 2).rect t

/-- and the place of an entry of the block. -/
abbrev emb2 (hO : Ok m) (t : Fin (cfgM m hO).N) (r : Fin 512) (d : Fin 1024) : S45056x4096.Idx := (((cfgM m hO).win 2).rect t).emb (ix2 r d)

/-- The row and the column, in the whole array, of an entry of a point's block. -/
theorem place (hO : Ok m) (t : Fin (cfgM m hO).N) (r : Fin 512) (d : Fin 1024) :
    (emb2 m hO t r d 0).val = t.val / 8 * 512 + r.val ∧ (emb2 m hO t r d 1).val = t.val / 2 % 4 * 1024 + d.val := by
  obtain ⟨o0, o1⟩ := map_2 (grid0.coords t)
  obtain ⟨c0, c1, -⟩ := coords_eq t
  constructor
  · show cc0_transform_2 (grid0.coords t) 0 * 512 + 1 * r.val = _
    rw [o0, c0]; omega
  · show cc0_transform_2 (grid0.coords t) 1 * 1024 + 1 * d.val = _
    rw [o1, c1]; omega

/-- A point's tile, as its rows' tile. -/
theorem tile_eq (hO : Ok m) (t : Fin (cfgM m hO).N) (r : Fin 512) (d : Fin 1024) :
    (ix1 (Layer.tile (emb2 m hO t r d 0)) : S88.Idx) = ix1 (grid0.coords t 0) := by
  obtain ⟨p0, -⟩ := place m hO t r d
  obtain ⟨c0, -⟩ := coords_eq t
  refine congrArg ix1 (Fin.ext ?_)
  rw [c0]
  show (emb2 m hO t r d 0).val / 512 = _
  rw [p0]; omega

/-- The rows' block that a point reads. -/
theorem rows (hO : Ok m) (c : Dev nD) (t : Fin (cfgM m hO).N) (r : Fin 512) (k : Fin 2816) (R : Fin 45056) (K : Fin 5632)
    (hR : R.val = t.val / 8 * 512 + r.val) (hK : K.val = t.val % 2 * 2816 + k.val) :
    (iblk m hO c 0 t : S512x2816.Idx → EReal) (ix2 r k) = (m ((c : Thread nD τ).loc main_arg2) : S45056x5632.Idx → EReal) (ix2 R K) := by
  obtain ⟨a0, a1⟩ := map_0 (grid0.coords t)
  obtain ⟨c0, -, c2⟩ := coords_eq t
  refine congrArg (m ((c : Thread nD τ).loc main_arg2)) (Shape.idx_ext₂ ?_ ?_)
  · show cc0_transform_0 (grid0.coords t) 0 * 512 + 1 * r.val = R.val
    rw [a0, c0, hR]; omega
  · show cc0_transform_0 (grid0.coords t) 1 * 2816 + 1 * k.val = K.val
    rw [a1, c2, hK]; omega

/-- The weights' block that a point reads. -/
theorem weights (hO : Ok m) (h : ∀ n : Fin 88, BitVec.toNat (w := 32) (m (((0 : Dev nD) : Thread nD τ).loc main_arg0) (ix1 n)) < 8) (c : Dev nD) (t : Fin (cfgM m hO).N)
    (k : Fin 2816) (d : Fin 1024) (K : Fin 5632) (D : Fin 4096) (hK : K.val = t.val % 2 * 2816 + k.val) (hD : D.val = t.val / 2 % 4 * 1024 + d.val) :
    (iblk m hO c 1 t : S1x2816x1024.Idx → EReal) (ix3 (0 : Fin 1) k d) = W m c t (ix2 K D) := by
  obtain rfl : c = 0 := Subsingleton.elim _ _
  obtain ⟨e0, e1, e2⟩ := map_1 (tbl m) (grid0.coords t)
  obtain ⟨-, c1, c2⟩ := coords_eq t
  refine congrArg (m (((0 : Dev nD) : Thread nD τ).loc main_arg3)) (funext fun a => Fin.ext ?_)
  match a with
  | ⟨0, _⟩ =>
    show cc0_transform_1 k0_off1_inb numel1_S1 (tbl m) (grid0.coords t) 0 * 1 + 1 * 0 = _ % 8
    rw [e0]
    have := h (grid0.coords t 0)
    show BitVec.toNat (w := 32) (m (((0 : Dev nD) : Thread nD τ).loc main_arg0) (ix1 (grid0.coords t 0))) * 1 + 1 * 0 = _
    rw [Nat.mod_eq_of_lt this]; omega
  | ⟨1, _⟩ =>
    show cc0_transform_1 k0_off1_inb numel1_S1 (tbl m) (grid0.coords t) 1 * 2816 + 1 * k.val = K.val
    rw [e1, c2, hK]; omega
  | ⟨2, _⟩ =>
    show cc0_transform_1 k0_off1_inb numel1_S1 (tbl m) (grid0.coords t) 2 * 1024 + 1 * d.val = D.val
    rw [e2, c1, hD]; omega

/-- A point's product continues the contraction by the expert's matrix `w` where the points before it left off. -/
theorem step_eq (hO : Ok m) (h : ∀ n : Fin 88, BitVec.toNat (w := 32) (m (((0 : Dev nD) : Thread nD τ).loc main_arg0) (ix1 n)) < 8) (c : Dev nD) (t : Fin (cfgM m hO).N)
    (w : (⟨2, ![5632, 4096]⟩ : Shape).Idx → EReal) (hw : W m c t = w) (n : ℕ) (hn : t.val % 2 * 2816 = n) (r : Fin 512) (d : Fin 1024) (R : Fin 45056) (D : Fin 4096)
    (hR : R.val = t.val / 8 * 512 + r.val) (hD : D.val = t.val / 2 % 4 * 1024 + d.val) :
    Layer.part (M := 45056) (K := 5632) (N := 4096) (m ((c : Thread nD τ).loc main_arg2)) w n R D
        + Layer.prod (M := 512) (K := 2816) (N := 1024) (iblk m hO c 0 t) (Layer.plane (K := 2816) (N := 1024) (iblk m hO c 1 t) (0 : Fin 1)) (ix2 r d)
      = Layer.part (M := 45056) (K := 5632) (N := 4096) (m ((c : Thread nD τ).loc main_arg2)) w (n + 2816) R D := by
  subst hw
  refine Layer.part_add (M := 45056) (K := 5632) (N := 4096) _ _ _ _ _ R D r d (by omega) (fun k => ?_) (fun k => ?_)
  · exact rows m hO c t r k R _ hR (congrArg (· + k.val) hn.symm)
  · exact weights m hO h c t k d _ D (congrArg (· + k.val) hn.symm) hD

/-- The two halves of a valid tile make the product by its expert's matrix. -/
theorem sum_eq (hO : Ok m) (h : ∀ n : Fin 88, BitVec.toNat (w := 32) (m (((0 : Dev nD) : Thread nD τ).loc main_arg0) (ix1 n)) < 8) (c : Dev nD) (t : Fin (cfgM m hO).N) (ht : t.val % 2 = 1)
    (r : Fin 512) (d : Fin 1024) :
    (k0_pay3 (iblk m hO c 0 t) (iblk m hO c 1 t) (held m hO c (prev m hO t)) : S512x1024.Idx → EReal) (ix2 r d)
      = Layer.prod (M := 45056) (K := 5632) (N := 4096) (m ((c : Thread nD τ).loc main_arg2)) (W m c t) (emb2 m hO t r d) := by
  obtain ⟨p0, p1⟩ := place m hO t r d
  have hp : (prev m hO t).val = t.val - 1 := rfl
  have hw : W m c (prev m hO t) = W m c t := by
    have e : grid0.coords (prev m hO t) 0 = grid0.coords t 0 := Fin.ext (by
      rw [(coords_eq t).1, (coords_eq (prev m hO t)).1, hp]; omega)
    unfold W expertAt
    rw [e]
  have s1 := step_eq m hO h c (prev m hO t) _ hw 0 (by rw [hp]; omega) r d (emb2 m hO t r d 0) (emb2 m hO t r d 1)
    (by rw [hp, p0]; omega) (by rw [hp, p1]; omega)
  have s2 := step_eq m hO h c t _ rfl (0 + 2816) (by rw [ht]) r d (emb2 m hO t r d 0) (emb2 m hO t r d 1) p0 p1
  have s3 := ((zero_add _).symm.trans (congrArg (· + _) (Layer.part_zero (M := 45056) (K := 5632) (N := 4096) _ _ _ _).symm)).trans s1
  refine (second_eq (iblk m hO c 0 t : Vec Ideal S512x2816 .bf16) (iblk m hO c 1 t : Vec Ideal S1x2816x1024 .bf16) _ _).trans ?_
  refine (congrArg (· + _) ((congrFun (first_eq (iblk m hO c 0 (prev m hO t) : Vec Ideal S512x2816 .bf16) (iblk m hO c 1 (prev m hO t) : Vec Ideal S1x2816x1024 .bf16)) (ix2 r d)).trans s3)).trans ?_
  refine s2.trans ((Layer.part_all (M := 45056) (K := 5632) (N := 4096) _ _ _ _).trans ?_)
  exact congrArg _ (ValueIdx.eq_ix2 (emb2 m hO t r d)).symm

/-- What a second half leaves is its block of the whole array. -/
theorem out_eq (hO : Ok m) (h : ∀ n : Fin 88, BitVec.toNat (w := 32) (m (((0 : Dev nD) : Thread nD τ).loc main_arg0) (ix1 n)) < 8) (c : Dev nD) (t : Fin (cfgM m hO).N) (h1 : t.val % 2 = 1)
    (r : Fin 512) (d : Fin 1024) :
    (outAt m hO c t : S512x1024.Idx → EReal) (ix2 r d) = G m c (emb2 m hO t r d) := by
  have ht := tile_eq m hO t r d
  have hw : wordAt m hO c t = m ((c : Thread nD τ).loc main_arg1) (ix1 (Layer.tile (emb2 m hO t r d 0))) := by
    obtain rfl : c = 0 := Subsingleton.elim _ _
    exact (word_eq 0 _ _).trans (congrArg (m (((0 : Dev nD) : Thread nD τ).loc main_arg1)) ht.symm)
  refine Layer.ite_at _ _ _ _ ((cond_iff _).trans (iff_of_eq (congrArg Layer.Valid hw))) (fun _ => ?_) (zero_eq _)
  refine (sum_eq m hO h c t h1 r d).trans ?_
  exact congrArg (fun i : S88.Idx => Layer.prod (M := 45056) (K := 5632) (N := 4096) (m ((c : Thread nD τ).loc main_arg2))
    (Layer.plane (E := 8) (K := 5632) (N := 4096) (m ((c : Thread nD τ).loc main_arg3)) (Layer.expert (m ((c : Thread nD τ).loc main_arg0) i))) (emb2 m hO t r d)) ht.symm

/-- The output is written back on second halves alone. -/
theorem second_of_flush (hO : Ok m) (t : Fin (cfgM m hO).N) (hf : ((cfgM m hO).win 2).flush t = true) : t.val % 2 = 1 := by
  by_contra hc
  exact absurd (hf.symm.trans (no_flush m hO t (by omega))) (by decide)

/-- What a second half writes back is its block of the whole array. -/
theorem flushed_eq (hO : Ok m) (h : ∀ n : Fin 88, BitVec.toNat (w := 32) (m (((0 : Dev nD) : Thread nD τ).loc main_arg0) (ix1 n)) < 8) (c : Dev nD) (t : Fin (cfgM m hO).N) (h1 : t.val % 2 = 1) :
    (dats m hO 0 c).flushed 2 t = (((cfgM m hO).win 2).blk t).view.read (Elt Ideal) (G m c) := by
  show ((cfgM m hO).win 2).cut (grid0.coords t) ((dats m hO 0 c).after 2 t) = _
  rw [after_2]
  refine funext fun (j : S512x1024.Idx) => ?_
  obtain ⟨r, d, rfl⟩ : ∃ (r : Fin 512) (d : Fin 1024), j = ix2 r d := ⟨j 0, j 1, ValueIdx.eq_ix2 j⟩
  exact out_eq m hO h c t h1 r d

/-- Every entry is in the block of some second half. -/
theorem covered (hO : Ok m) (i : S45056x4096.Idx) : ∃ t : Fin (cfgM m hO).N, ((cfgM m hO).win 2).flush t = true ∧ i ∈ (((cfgM m hO).win 2).blk t).view.set := by
  have h0 : (i 0 : Nat) < 45056 := (i 0).isLt
  have h1 : (i 1 : Nat) < 4096 := (i 1).isLt
  have hN : grid0.N = 704 := by decide
  obtain ⟨t, ht⟩ : ∃ t : Fin grid0.N, t.val = (i 0 : Nat) / 512 * 8 + (i 1 : Nat) / 1024 * 2 + 1 :=
    ⟨⟨(i 0 : Nat) / 512 * 8 + (i 1 : Nat) / 1024 * 2 + 1, by omega⟩, rfl⟩
  refine ⟨t, flush_2 m hO t (by omega), ?_⟩
  obtain ⟨o0, o1⟩ := map_2 (grid0.coords t)
  obtain ⟨c0, c1, -⟩ := coords_eq t
  show i ∈ ((View.whole main_v0).slice (rect2 m hO t)).set
  rw [View.set_slice_whole]
  refine Rect.mem_set_unit.2 fun a => ?_
  match a with
  | ⟨0, _⟩ =>
    show cc0_transform_2 (grid0.coords t) 0 * 512 ≤ (i 0 : Nat) ∧ (i 0 : Nat) < cc0_transform_2 (grid0.coords t) 0 * 512 + 512
    rw [o0, c0]; omega
  | ⟨1, _⟩ =>
    show cc0_transform_2 (grid0.coords t) 1 * 1024 ≤ (i 1 : Nat) ∧ (i 1 : Nat) < cc0_transform_2 (grid0.coords t) 1 * 1024 + 1024
    rw [o1, c1]; omega

/-- The output array ends at the experts' products. -/
theorem final (hO : Ok m) (h : ∀ n : Fin 88, BitVec.toNat (w := 32) (m (((0 : Dev nD) : Thread nD τ).loc main_arg0) (ix1 n)) < 8) (c : Dev nD) :
    (dats m hO 0 c).arrAt 2 (cfgM m hO).N = G m c :=
  (dats m hO 0 c).arrAt_eq_of_cover 2 (G m c) (fun t ht => flushed_eq m hO h c t (second_of_flush m hO t ht)) (covered m hO)

end Cert.MoeDownIdeal.Result

namespace Cert.MoeDownRefIdeal.Result

open Cert.MoeDownRefIdeal Cert.MoeDownRefIdeal.Gen Cert.MoeDownRefIdeal.Value

/-- The reference's table of zeros and ones, of the tiles' experts and of the tiles' words, -/
def table (T v : IVec S88 32) : FVec Ideal S45056x8 .f32 :=
  id (select (andi (cmpi .eq (broadcastInDim S45056x8 ![0, 1] bcast_S45056x1_S45056x8_0_1 (broadcastInDim S45056x1 ![0] bcast_S45056_S45056x1_0 (shapeCast _ (broadcastInDim S88x512 ![0] bcast_S88_S88x512_0 T) shapeCasts_S88x512_S45056))) (broadcastInDim S45056x8 ![0, 1] bcast_S1x8_S45056x8_0_1 (broadcastInDim S1x8 ![1] bcast_S8_S1x8_1 (iotaInDim S8 32 0)))) (broadcastInDim S45056x8 ![0, 1] bcast_S45056x1_S45056x8_0_1 (broadcastInDim S45056x1 ![0] bcast_S45056_S45056x1_0 (cmpi .sgt (shapeCast _ (broadcastInDim S88x512 ![0] bcast_S88_S88x512_0 v) shapeCasts_S88x512_S45056) (broadcastInDim S45056 ![] bcast_S_S45056 (constantI S_ 32 0#32)))))) (broadcastInDim S45056x8 ![] bcast_S_S45056x8 (constant S_ .f32 0x3F800000#32)) (broadcastInDim S45056x8 ![] bcast_S_S45056x8 (constant S_ .f32 0x00000000#32)))

/-- which is one for a row's expert where the row's tile holds rows. -/
theorem table_at (T v : IVec S88 32) (r : Fin 45056) (e : Fin 8) :
    (table T v : S45056x8.Idx → EReal) (ix2 r e) = if T (ix1 (Layer.tile r)) = BitVec.ofNat 32 e.val ∧ Layer.Valid (v (ix1 (Layer.tile r))) then (1 : EReal) else 0 := by
  unfold table
  have h1 : Ideal.ofBits .f32 0x3F800000#32 = 1 := Ideal.ofBits_one_f32
  have h0 : Ideal.ofBits .f32 0x00000000#32 = 0 := Ideal.ofBits_zero_f32
  refine Eq.trans ?_ (Layer.choice (T (ix1 (Layer.tile r))) (BitVec.ofNat 32 e.val) (v (ix1 (Layer.tile r))) 1 0)
  rw [← h1, ← h0]
  refine congrArg₂ (fun a b => Scalar.select (IntOp.andi a b) (Ideal.ofBits .f32 0x3F800000#32) (Ideal.ofBits .f32 0x00000000#32))
    (congrArg₂ (IntOp.cmpi .eq) ?_ ?_) ?_
  · exact (Layer.spread_at _ _ _ r e).trans (Layer.rows_at T _ _ r)
  · exact Layer.experts_at _ _ r e
  · exact (Layer.spread_at _ _ _ r e).trans (congrArg (IntOp.cmpi .sgt · 0#32) (Layer.rows_at v _ _ r))

/-- One expert's term: its product, times the table's column. -/
theorem term_eq {n : ℕ} (hn : n < 8) (t : FVec Ideal S45056x8 .f32) (x : FVec Ideal S45056x5632 .f32) (w : FVec Ideal S8x5632x4096 .f32)
    (hs : S45056x8.Slices ![0, n] S45056x1) (hw : S8x5632x4096.Slices ![n, 0, 0] S1x5632x4096) :
    (mulf (broadcastInDim S45056x4096 ![0, 1] bcast_S45056x1_S45056x4096_0_1 (extractStridedSlice S45056x1 ![0, n] t hs))
      (Host.dotGeneral dot_S45056x5632_S5632x4096_S45056x4096_1_0_0_1_n_n none x (shapeCast _ (extractStridedSlice S1x5632x4096 ![n, 0, 0] w hw) shapeCasts_S1x5632x4096_S5632x4096)) : FVec Ideal S45056x4096 .f32)
      = fun j => t (ix2 (j 0) ⟨n, hn⟩) * Layer.prod (M := 45056) (K := 5632) (N := 4096) x (Layer.plane (K := 5632) (N := 4096) w ⟨n, hn⟩) j := by
  have hd : (Host.dotGeneral dot_S45056x5632_S5632x4096_S45056x4096_1_0_0_1_n_n none x
      (shapeCast _ (extractStridedSlice S1x5632x4096 ![n, 0, 0] w hw) shapeCasts_S1x5632x4096_S5632x4096) : FVec Ideal S45056x4096 .f32)
      = Layer.prod (M := 45056) (K := 5632) (N := 4096) x (Layer.plane (K := 5632) (N := 4096) w ⟨n, hn⟩) :=
    (Layer.dotGeneral_prod (M := 45056) (K := 5632) (N := 4096) none _ _).trans
      (congrArg (Layer.prod (M := 45056) (K := 5632) (N := 4096) x) (Layer.slice_plane hn w hw _))
  rw [hd]
  funext j
  obtain ⟨r, d, rfl⟩ : ∃ (r : Fin 45056) (d : Fin 4096), j = ix2 r d := ⟨j 0, j 1, ValueIdx.eq_ix2 j⟩
  exact congrArg (· * _) (Layer.column_at hn (by decide) t hs _ r d)

set_option maxHeartbeats 1000000 in
/-- The reference leaves, row by row, the product by the row's expert's matrix, and zero in tiles that hold no rows. -/
theorem reference (m : (ℓ : Loc nD τ sig) → Buf (Elt Ideal) ℓ) (ρ : Dev nD → PrngReg)
    (ht : ∀ (c : Dev nD) (n : Fin 88), BitVec.toNat (w := 32) (m ((c.tc : Thread nD τ).loc main_arg0) (ix1 n)) < 8) :
    θ_run defs (onTc (τ := τ) (main (F := Ideal))) ⟨m, fun _ => 0, ρ⟩ fun r => ∀ c : Dev nD,
      r.2.mem ((c.tc : Thread nD τ).loc main_v75) = Layer.grouped (K := 5632) (N := 4096) (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun _ h c => ⟨(h c).1.trans ?_, (h c).2⟩) (Cert.MoeDownRefIdeal.Value.run (F := Ideal) m ρ)
  unfold res_main_v75
  rw [term_eq (n := 0) (by decide), term_eq (n := 1) (by decide), term_eq (n := 2) (by decide), term_eq (n := 3) (by decide),
    term_eq (n := 4) (by decide), term_eq (n := 5) (by decide), term_eq (n := 6) (by decide), term_eq (n := 7) (by decide)]
  refine funext fun (j : S45056x4096.Idx) => ?_
  have hz : Ideal.ofBits .f32 0x00000000#32 = 0 := Ideal.ofBits_zero_f32
  refine Eq.trans ?_ (Layer.pick_chain _ _ (ht c (Layer.tile (j 0))) (fun e => Layer.prod (M := 45056) (K := 5632) (N := 4096) (m ((c.tc : Thread nD τ).loc main_arg2))
    (Layer.plane (K := 5632) (N := 4096) (m ((c.tc : Thread nD τ).loc main_arg3)) e) j) _ (table_at (m ((c.tc : Thread nD τ).loc main_arg0)) (m ((c.tc : Thread nD τ).loc main_arg1)) (j 0)))
  rw [← hz]
  rfl

end Cert.MoeDownRefIdeal.Result

namespace Cert.MoeDown

/-- The precondition says that every tile's word names one of the eight experts: for the kernel as given, -/
theorem experts_lt (m : (ℓ : Loc Cert.MoeDown.nD Cert.MoeDown.τ Cert.MoeDown.sig) → Buf (Elt Bits) ℓ) (h : Cert.Pre_MoeDown m) (n : Fin 88) :
    BitVec.toNat (w := 32) (m (((0 : Dev Cert.MoeDown.nD) : Thread Cert.MoeDown.nD Cert.MoeDown.τ).loc Cert.MoeDown.main_arg0) (ix1 n)) < 8 :=
  Layer.lt_eight_of_range _ (congrFun (h 0) (ix1 n))

/-- and for the kernel at exact numbers. -/
theorem experts_lt_ideal (m : (ℓ : Loc Cert.MoeDownIdeal.nD Cert.MoeDownIdeal.τ Cert.MoeDownIdeal.sig) → Buf (Elt Ideal) ℓ) (h : Cert.Pre_MoeDownIdeal m) (n : Fin 88) :
    BitVec.toNat (w := 32) (m (((0 : Dev Cert.MoeDownIdeal.nD) : Thread Cert.MoeDownIdeal.nD Cert.MoeDownIdeal.τ).loc Cert.MoeDownIdeal.main_arg0) (ix1 n)) < 8 :=
  Layer.lt_eight_of_range _ (congrFun (h 0) (ix1 n))

/-- The kernel runs to its end, leaves its arguments as they were and no counter raised. -/
theorem frame_kernel : Cert.quiescent_MoeDown := fun m ρ h =>
  (θ_run _ _ _).mono (fun _ h => ⟨fun c => (h.1 c).2, h.2⟩)
    (Cert.MoeDown.Tables.run m ρ (Cert.MoeDown.Tables.ok_of_lt m (experts_lt m h)))

/-- So does the kernel at exact numbers. -/
theorem frame_ideal : Cert.quiescent_MoeDownIdeal := fun m ρ h =>
  (θ_run _ _ _).mono (fun _ h => ⟨fun c => (h.1 c).2, h.2⟩)
    (Cert.MoeDownIdeal.Tables.run m ρ (Cert.MoeDownIdeal.Tables.ok_of_lt m (experts_lt_ideal m h)))

/-- The reference runs to its end, leaves its arguments as they were and no counter raised. -/
theorem frame_ref : Cert.quiescent_MoeDownRefIdeal := fun m ρ _ =>
  (θ_run _ _ _).mono (fun r h => ⟨fun c => (h c).2, Idealize.ShloMosaic.sem_eq_zero_of_no_sems (by decide) r.2⟩)
    (Cert.MoeDownRefIdeal.Value.run (F := Ideal) m ρ)

/-- The kernel and the reference leave the same array. -/
theorem algebraic : Cert.algebraic_MoeDownIdeal_MoeDownRefIdeal := fun m ρ m' ρ' hp hag =>
  ⟨fun c => Cert.MoeDownIdeal.Result.G m c,
    (θ_run _ _ _).mono (fun _ h c => ⟨(h.1 c).1.trans (Cert.MoeDownIdeal.Result.final m _ (experts_lt_ideal m hp) c), (h.1 c).2⟩)
      (Cert.MoeDownIdeal.Tables.run m ρ (Cert.MoeDownIdeal.Tables.ok_of_lt m (experts_lt_ideal m hp))),
    (θ_run _ _ _).mono (fun _ h c => ⟨(h c).1.trans (by rw [(hag c).1, (hag c).2.1, (hag c).2.2.1, (hag c).2.2.2]), (h c).2⟩)
      (Cert.MoeDownRefIdeal.Result.reference m' ρ' fun c n => by
        obtain rfl : c = 0 := Subsingleton.elim _ _
        rw [(hag 0).1]; exact experts_lt_ideal m hp n)⟩

end Cert.MoeDown

end
-- ==== Proof.FfnUp.lean ====
/-
  The dense gate and up products: the kernel's gated products, block by block over the grid and with the weights padded by
  columns of zeros, are the gated product of the two whole products, padded.
-/
module

public import proofs.«01_k».proof.Defs
public import proofs.«01_k».proof.Proof.Blocks
public import proofs.«01_k».proof.Proof.Gen.FfnUpIdeal.Value
public import proofs.«01_k».proof.Proof.Gen.FfnUpRefIdeal.Run
public import Idealize.ShloMosaic.Lib.Quiescent
public import Idealize.ShloMosaic.Lib.IdealHost

@[expose] public section

set_option maxRecDepth 16384

noncomputable section

open Idealize.ShloMosaic Idealize.ShloMosaic.TcCoe Idealize.ShloMosaic.ValueIdx Idealize.SL.Sem
open scoped BigOperators

namespace Cert.FfnUpIdeal.Result

open Cert.FfnUpIdeal Cert.FfnUpIdeal.Gen

variable (m : (ℓ : Loc nD τ sig) → Buf (Elt Ideal) ℓ) (ρ : Dev nD → PrngReg)

/-- The gated product of the tokens by the two padded matrices. -/
abbrev G (c : Dev nD) : S20480x11264.Idx → EReal := fun j =>
  Layer.gate (Layer.prod (M := 20480) (K := 4096) (N := 11264) (m ((c : Thread nD τ).loc main_arg0)) (Layer.padCols (K := 4096) (n := 11008) 11264 (m ((c : Thread nD τ).loc main_arg1))) j)
    (Layer.prod (M := 20480) (K := 4096) (N := 11264) (m ((c : Thread nD τ).loc main_arg0)) (Layer.padCols (K := 4096) (n := 11008) 11264 (m ((c : Thread nD τ).loc main_arg2))) j)

/-- The value that the host pads with is zero. -/
theorem pad_zero : (sitofp .f32 (constantI S_ 32 0#32) : FVec Ideal S_ .f32) (Shape.Idx.first h_S_) = 0 := by
  show (((0#32 : BitVec 32).toInt : ℝ) : EReal) = 0
  simp

/-- The region finds the gate weights with columns of zeros. -/
theorem gates (c : Dev nD) : (V m c main_v1 : S4096x11264.Idx → EReal) = Layer.padCols (K := 4096) (n := 11008) 11264 (m ((c : Thread nD τ).loc main_arg1)) := by
  refine Eq.trans ?_ (Layer.pad_cols (K := 4096) (n := 11008) (N := 11264) _ _ pads_S4096x11008_S4096x11264_000_02560 h_S_ pad_zero)
  show StableHlo.after _ _ _ = _
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results
  rfl

/-- The region finds the up weights with columns of zeros. -/
theorem ups (c : Dev nD) : (V m c main_v3 : S4096x11264.Idx → EReal) = Layer.padCols (K := 4096) (n := 11008) 11264 (m ((c : Thread nD τ).loc main_arg2)) := by
  refine Eq.trans ?_ (Layer.pad_cols (K := 4096) (n := 11008) (N := 11264) _ _ pads_S4096x11008_S4096x11264_000_02560 h_S_ pad_zero)
  show StableHlo.after _ _ _ = _
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results
  rfl

/-- Which block each window is on at a point. -/
theorem at_point : ∀ t : Fin grid0.N,
    win0_0.index t 0 = t.val / 22 ∧ win0_0.index t 1 = 0 ∧ win0_1.index t 0 = 0 ∧ win0_1.index t 1 = t.val % 22
      ∧ win0_2.index t 0 = 0 ∧ win0_2.index t 1 = t.val % 22 ∧ win0_3.index t 0 = t.val / 22 ∧ win0_3.index t 1 = t.val % 22 := by decide +kernel

/-- The body leaves the gated product of its blocks. -/
theorem body_eq (x : Vec Ideal S1024x4096 .bf16) (w v : Vec Ideal S4096x512 .bf16) (j : S1024x512.Idx) :
    (out0_3 x w v : S1024x512.Idx → EReal) j = Layer.gate (Layer.prod (M := 1024) (K := 4096) (N := 512) x w j) (Layer.prod (M := 1024) (K := 4096) (N := 512) x v j) := by
  unfold out0_3
  rw [View.canon_unit_zero Layer.zero2, View.ld_unit_zero (S := S1024x4096) Layer.zero2, View.ld_unit_zero (S := S4096x512) Layer.zero2, View.ld_unit_zero (S := S4096x512) Layer.zero2]
  unfold k0_pay1
  simp only [shapeCast_self]
  exact congrArg₂ Layer.gate (congrFun (Layer.matmul_zero (M := 1024) (K := 4096) (N := 512) none x w) j)
    (congrFun (Layer.matmul_zero (M := 1024) (K := 4096) (N := 512) none x v) j)

/-- The product of two blocks is a block of the product. -/
theorem block_prod (c : Dev nD) (t : Fin cfg0.N) (w : S4096x11264.Idx → EReal) (wb : S4096x512.Idx → EReal) (r : Fin 1024) (d : Fin 512)
    (hw : ∀ k : Fin 4096, ∀ e : Fin 11264, e.val = t.val % 22 * 512 + d.val → wb (ix2 k d) = w (ix2 k e)) :
    Layer.prod (M := 1024) (K := 4096) (N := 512) (iblk m c 0 t) wb (ix2 r d)
      = Layer.prod (M := 20480) (K := 4096) (N := 11264) (m ((c : Thread nD τ).loc main_arg0)) w ((win0_3.rect t).emb (ix2 r d)) := by
  obtain ⟨a0, a1, -, -, -, -, o0, o1⟩ := at_point t
  refine Finset.sum_congr rfl fun k _ => congrArg₂ (· * ·) ?_ ?_
  · refine (congrFun (V_main_arg0 m c) ((win0_0.rect t).emb (ix2 r k))).trans ?_
    refine congrArg (m ((c : Thread nD τ).loc main_arg0)) (Shape.idx_ext₂ ?_ ?_)
    · show win0_0.index t 0 * 1024 + 1 * r.val = win0_3.index t 0 * 1024 + 1 * r.val
      rw [a0, o0]
    · show win0_0.index t 1 * 4096 + 1 * k.val = k.val
      rw [a1]; omega
  · refine hw k _ ?_
    show win0_3.index t 1 * 512 + 1 * d.val = _
    rw [o1]; omega

/-- What a point writes back is its block of the whole array. -/
theorem flushed_eq (c : Dev nD) (t : Fin cfg0.N) :
    (dats m 0 c).flushed 3 t = ((cfg0.win 3).blk t).view.read (Elt Ideal) (G m c) := by
  obtain ⟨-, -, b0, b1, u0, u1, -, -⟩ := at_point t
  rw [Value.flushed3]
  funext j
  obtain ⟨r, d, rfl⟩ : ∃ (r : Fin 1024) (d : Fin 512), j = ix2 r d := ⟨j 0, j 1, ValueIdx.eq_ix2 j⟩
  refine (body_eq (iblk m c 0 t) (iblk m c 1 t) (iblk m c 2 t) (ix2 r d)).trans ?_
  refine congrArg₂ Layer.gate (block_prod m c t _ _ r d fun k e he => ?_) (block_prod m c t _ _ r d fun k e he => ?_)
  · refine (congrFun (gates m c) ((win0_1.rect t).emb (ix2 k d))).trans ?_
    refine congrArg (Layer.padCols 11264 _) (Shape.idx_ext₂ ?_ ?_)
    · show win0_1.index t 0 * 4096 + 1 * k.val = k.val
      rw [b0]; omega
    · show win0_1.index t 1 * 512 + 1 * d.val = e.val
      rw [b1, he]; omega
  · refine (congrFun (ups m c) ((win0_2.rect t).emb (ix2 k d))).trans ?_
    refine congrArg (Layer.padCols 11264 _) (Shape.idx_ext₂ ?_ ?_)
    · show win0_2.index t 0 * 4096 + 1 * k.val = k.val
      rw [u0]; omega
    · show win0_2.index t 1 * 512 + 1 * d.val = e.val
      rw [u1, he]; omega

/-- Every entry is in the block of some point. -/
theorem covered (i : S20480x11264.Idx) : ∃ t : Fin cfg0.N, (cfg0.win 3).flush t = true ∧ i ∈ ((cfg0.win 3).blk t).view.set := by
  have h0 : (i 0 : Nat) < 20480 := (i 0).isLt
  have h1 : (i 1 : Nat) < 11264 := (i 1).isLt
  have hN : grid0.N = 440 := N_0
  obtain ⟨t, ht⟩ : ∃ t : Fin grid0.N, t.val = (i 0 : Nat) / 1024 * 22 + (i 1 : Nat) / 512 :=
    ⟨⟨(i 0 : Nat) / 1024 * 22 + (i 1 : Nat) / 512, by omega⟩, rfl⟩
  refine ⟨t, flush0_3 t, ?_⟩
  obtain ⟨-, -, -, -, -, -, o0, o1⟩ := at_point t
  show i ∈ ((View.whole main_v4).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [o0]; omega
  | ⟨1, _⟩ =>
    show win0_3.index t 1 * 512 ≤ (i 1 : Nat) ∧ (i 1 : Nat) < win0_3.index t 1 * 512 + 512
    rw [o1]; omega

/-- The output array ends at the gated product. -/
theorem final (c : Dev nD) : (dats m 0 c).arrAt 3 cfg0.N = G m c :=
  (dats m 0 c).arrAt_eq_of_cover 3 (G m c) (fun t _ => flushed_eq m c t) covered

end Cert.FfnUpIdeal.Result

namespace Cert.FfnUp

open Cert.FfnUpRefIdeal Cert.FfnUpRefIdeal.Gen

/-- The reference leaves the gated product, padded by columns of zeros. -/
theorem reference_eq (x : FVec Ideal S20480x4096 .bf16) (w v : FVec Ideal S4096x11008 .f32) :
    (truncf .bf16 (pad S20480x11264 ![0, 0] ![0, 256] ![0, 0] (mulf (mulf (Host.dotGeneral dot_S20480x4096_S4096x11008_S20480x11008_1_0_0_1_n_n none (extf .f32 x bitsLt_bf16_f32) w) (Host.divf (broadcastInDim S20480x11008 ![] bcast_S_S20480x11008 (constant S_ .f32 0x3F800000#32)) (addf (broadcastInDim S20480x11008 ![] bcast_S_S20480x11008 (constant S_ .f32 0x3F800000#32)) (Host.exp (Host.negf (Host.dotGeneral dot_S20480x4096_S4096x11008_S20480x11008_1_0_0_1_n_n none (extf .f32 x bitsLt_bf16_f32) w)))))) (Host.dotGeneral dot_S20480x4096_S4096x11008_S20480x11008_1_0_0_1_n_n none (extf .f32 x bitsLt_bf16_f32) v)) (sitofp .f32 (constantI S_ 32 0#32)) pads_S20480x11008_S20480x11264_000_02560 h_S_) bitsLt_bf16_f32 : FVec Ideal S20480x11264 .bf16)
      = fun j => Layer.gate (Layer.prod (M := 20480) (K := 4096) (N := 11264) x (Layer.padCols (K := 4096) (n := 11008) 11264 w) j)
          (Layer.prod (M := 20480) (K := 4096) (N := 11264) x (Layer.padCols (K := 4096) (n := 11008) 11264 v) j) := by
  refine (Layer.pad_cols (K := 20480) (n := 11008) (N := 11264) _ _ pads_S20480x11008_S20480x11264_000_02560 h_S_ Cert.FfnUpIdeal.Result.pad_zero).trans ?_
  funext j
  rw [Layer.prod_padCols, Layer.prod_padCols]
  unfold Layer.padCols
  by_cases h : (j 1).val < 11008
  · rw [dif_pos h, dif_pos h, dif_pos h]
    have hd : ∀ w : FVec Ideal S4096x11008 .f32, (Host.dotGeneral dot_S20480x4096_S4096x11008_S20480x11008_1_0_0_1_n_n none
        (extf .f32 x bitsLt_bf16_f32) w : FVec Ideal S20480x11008 .f32) = Layer.prod (M := 20480) (K := 4096) (N := 11008) x w :=
      fun w => Layer.dotGeneral_prod (M := 20480) (K := 4096) (N := 11008) none _ _
    rw [hd, hd]
    have h1 : Ideal.ofBits .f32 0x3F800000#32 = 1 := Ideal.ofBits_one_f32
    unfold Layer.gate
    rw [← h1]
    rfl
  · rw [dif_neg h, dif_neg h, dif_neg h, Layer.gate_zero]

/-- The reference runs to its end, leaves its arguments as they were and no counter raised. -/
theorem frame_ref : Cert.quiescent_FfnUpRefIdeal := fun m ρ _ =>
  (θ_run _ _ _).mono (fun r h => ⟨fun c => (h c).2, Idealize.ShloMosaic.sem_eq_zero_of_no_sems (by decide) r.2⟩)
    (Cert.FfnUpRefIdeal.Value.run (F := Ideal) m ρ)

/-- The kernel and the reference leave the same array. -/
theorem algebraic : Cert.algebraic_FfnUpIdeal_FfnUpRefIdeal := fun m ρ m' ρ' _ hag =>
  ⟨fun c => Cert.FfnUpIdeal.Result.G m c,
    (θ_run _ _ _).mono (fun _ h c => ⟨(h c).1.trans (Cert.FfnUpIdeal.Result.final m c), (h c).2⟩)
      (Cert.FfnUpIdeal.Value.run_blocks m ρ),
    (θ_run _ _ _).mono (fun _ h c => ⟨(h c).1.trans (by rw [(hag c).1, (hag c).2.1, (hag c).2.2]; exact reference_eq _ _ _), (h c).2⟩)
      (Cert.FfnUpRefIdeal.Value.run (F := Ideal) m' ρ')⟩

end Cert.FfnUp

end
-- ==== Proof.FfnDown.lean ====
/-
  The dense down product: the kernel's sum over four blocks of columns, with the weights padded by rows of zeros, is the
  product of the columns that are not padding.
-/
module

public import proofs.«01_k».proof.Defs
public import proofs.«01_k».proof.Proof.Blocks
public import proofs.«01_k».proof.Proof.Gen.FfnDownIdeal.Value
public import proofs.«01_k».proof.Proof.Gen.FfnDownRefIdeal.Run
public import Idealize.ShloMosaic.Lib.Quiescent
public import Idealize.ShloMosaic.Lib.IdealHost
public import Idealize.ShloMosaic.Lib.VecWindow

@[expose] public section

set_option maxRecDepth 16384

noncomputable section

open Idealize.ShloMosaic Idealize.ShloMosaic.TcCoe Idealize.ShloMosaic.ValueIdx Idealize.SL.Sem
open scoped BigOperators

namespace Cert.FfnDownIdeal.Result

open Cert.FfnDownIdeal Cert.FfnDownIdeal.Gen

variable (m : (ℓ : Loc nD τ sig) → Buf (Elt Ideal) ℓ) (ρ : Dev nD → PrngReg)

/-- The weights with rows of zeros after them. -/
abbrev W (c : Dev nD) : S11264x4096.Idx → EReal := Layer.padRows (n := 11008) (C := 4096) 11264 (m ((c : Thread nD τ).loc main_arg1))

/-- The product of the activations and the padded weights. -/
abbrev G (c : Dev nD) : S20480x4096.Idx → EReal :=
  Layer.prod (M := 20480) (K := 11264) (N := 4096) (m ((c : Thread nD τ).loc main_arg0)) (W m c)

/-- The value that the host pads with is zero. -/
theorem pad_zero : (sitofp .f32 (constantI S_ 32 0#32) : FVec Ideal S_ .f32) (Shape.Idx.first h_S_) = 0 := by
  show (((0#32 : BitVec 32).toInt : ℝ) : EReal) = 0
  simp

/-- The region finds the weights with rows of zeros. -/
theorem weights (c : Dev nD) : (V m c main_v1 : S11264x4096.Idx → EReal) = W m c := by
  refine Eq.trans ?_ (Layer.pad_rows (n := 11008) (C := 4096) (N := 11264) _ _ pads_S11008x4096_S11264x4096_02560_000 h_S_ pad_zero)
  show StableHlo.after _ _ _ = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results
  rfl

/-- Which block each window is on at a point. -/
theorem at_point : ∀ t : Fin grid0.N,
    win0_0.index t 0 = t.val / 16 ∧ win0_0.index t 1 = t.val % 4 ∧ win0_1.index t 0 = t.val % 4 ∧ win0_1.index t 1 = t.val / 4 % 4
      ∧ win0_2.index t 0 = t.val / 16 ∧ win0_2.index t 1 = t.val / 4 % 4 := by decide +kernel

/-- The body's product of its blocks. -/
theorem pay_eq (x : Vec Ideal S1024x2816 .bf16) (w : Vec Ideal S2816x1024 .bf16) :
    (k0_pay1 x w : S1024x1024.Idx → EReal) = Layer.prod (M := 1024) (K := 2816) (N := 1024) x w := by
  unfold k0_pay1
  simp only [shapeCast_self]
  exact Layer.matmul_zero (M := 1024) (K := 2816) (N := 1024) none x w

section Cases

variable (c : Dev nD) (i : grid0.Coords) (a3 : Memref sig .tc .vmem S1024x2816 .bf16) (h3 : a3.IsWhole) (a4 : Memref sig .tc .vmem S2816x1024 .bf16) (h4 : a4.IsWhole)
  (a5 : Memref sig .tc .vmem S1024x1024 .f32) (h5 : a5.IsWhole) (a6 : Memref sig .tc .vmem S1024x1024 .f32) (h6 : a6.IsWhole)
  (x : Vec Ideal S1024x2816 .bf16) (w : Vec Ideal S2816x1024 .bf16) (acc : Vec Ideal S1024x1024 .f32)

/-- The first point of a run leaves its product in the accumulator. -/
theorem first_eq (e0) (e1) (e2) :
    (sout0_A_0 c i a3 h3 a4 h4 a5 h5 a6 h6 e0 e1 e2 x w : S1024x1024.Idx → EReal) = Layer.prod (M := 1024) (K := 2816) (N := 1024) x w := by
  unfold sout0_A_0
  rw [View.read_writes_eq_canon _ _ _ (scover0_A_0 c i a3 h3 a4 h4 a5 h5 a6 h6 e0 e1 e2 x w)]
  unfold kernelRun0_A
  dsimp only
  sl_unfold_words
  rw [View.canon_unit_zero Layer.zero2]
  simp only [View.readAt_eq_ld, h3.read_unread, h4.read_unread, View.ld_unit_zero (S := S1024x2816) Layer.zero2, View.ld_unit_zero (S := S2816x1024) Layer.zero2]
  unfold k0_pay2
  simp only [shapeCast_self]
  exact pay_eq x w

/-- A middle point adds its product. -/
theorem middle_eq (e0) (e1) (e2) (j : S1024x1024.Idx) :
    (sout0_B_0 c i a3 h3 a4 h4 a5 h5 a6 h6 e0 e1 e2 x w acc : S1024x1024.Idx → EReal) j = acc j + Layer.prod (M := 1024) (K := 2816) (N := 1024) x w j := by
  unfold sout0_B_0
  rw [View.read_writes_eq_canon _ _ _ (scover0_B_0 c i a3 h3 a4 h4 a5 h5 a6 h6 e0 e1 e2 x w acc)]
  unfold kernelRun0_B
  dsimp only
  sl_unfold_words
  rw [View.canon_unit_zero Layer.zero2]
  simp only [View.readAt_eq_ld, h3.read_unread, h4.read_unread, h6.read_unread, View.ld_unit_zero (S := S1024x2816) Layer.zero2, View.ld_unit_zero (S := S2816x1024) Layer.zero2, View.ld_unit_zero (S := S1024x1024) Layer.zero2]
  unfold k0_pay3
  simp only [shapeCast_self]
  exact congrArg (acc j + ·) (congrFun (pay_eq x w) j)

/-- The last point of a run writes out the accumulator with its product added. -/
theorem last_eq (e0) (e1) (e2) (j : S1024x1024.Idx) :
    (out0_C_2 c i a3 h3 a4 h4 a5 h5 a6 h6 e0 e1 e2 x w acc : S1024x1024.Idx → EReal) j = acc j + Layer.prod (M := 1024) (K := 2816) (N := 1024) x w j := by
  unfold out0_C_2
  rw [View.read_writes_eq_canon _ _ _ (cover0_C_2 c i a3 h3 a4 h4 a5 h5 a6 h6 e0 e1 e2 x w acc)]
  unfold kernelRun0_C
  dsimp only
  sl_unfold_words
  rw [View.canon_unit_zero Layer.zero2]
  simp only [View.readAt_eq_ld, h3.read_unread, h4.read_unread, h6.read_unread, View.ld_unit_zero (S := S1024x2816) Layer.zero2, View.ld_unit_zero (S := S2816x1024) Layer.zero2, View.ld_unit_zero (S := S1024x1024) Layer.zero2]
  rw [View.readCov_full]
  unfold k0_pay3
  simp only [shapeCast_self]
  exact congrArg (acc j + ·) (congrFun (pay_eq x w) j)

end Cases

/-- A point's block of activations and its block of weights continue the product where the points before it left off. -/
theorem step_eq (c : Dev nD) (t : Fin cfg0.N) (r : Fin 1024) (d : Fin 1024) (R : Fin 20480) (D : Fin 4096)
    (hR : R.val = t.val / 16 * 1024 + r.val) (hD : D.val = t.val / 4 % 4 * 1024 + d.val) :
    Layer.part (M := 20480) (K := 11264) (N := 4096) (m ((c : Thread nD τ).loc main_arg0)) (W m c) (t.val % 4 * 2816) R D
        + Layer.prod (M := 1024) (K := 2816) (N := 1024) (iblk m c 0 t) (iblk m c 1 t) (ix2 r d)
      = Layer.part (M := 20480) (K := 11264) (N := 4096) (m ((c : Thread nD τ).loc main_arg0)) (W m c) (t.val % 4 * 2816 + 2816) R D := by
  obtain ⟨a0, a1, b0, b1, -, -⟩ := at_point t
  refine Layer.part_add (M := 20480) (K := 11264) (N := 4096) _ _ _ _ _ R D r d (by omega) (fun k => ?_) (fun k => ?_)
  · refine (congrFun (V_main_arg0 m c) ((win0_0.rect t).emb (ix2 r k))).trans ?_
    refine congrArg (m ((c : Thread nD τ).loc main_arg0)) (Shape.idx_ext₂ ?_ ?_)
    · show win0_0.index t 0 * 1024 + 1 * r.val = R.val
      rw [a0, hR]; omega
    · show win0_0.index t 1 * 2816 + 1 * k.val = t.val % 4 * 2816 + k.val
      rw [a1]; omega
  · refine (congrFun (weights m c) ((win0_1.rect t).emb (ix2 k d))).trans ?_
    refine congrArg (W m c) (Shape.idx_ext₂ ?_ ?_)
    · show win0_1.index t 0 * 2816 + 1 * k.val = t.val % 4 * 2816 + k.val
      rw [b0]; omega
    · show win0_1.index t 1 * 1024 + 1 * d.val = D.val
      rw [b1, hD]; omega

/-- After the first point of a run the accumulator holds that point's product. -/
theorem held_first (c : Dev nD) (t : Fin cfg0.N) (h0 : t.val % 4 = 0) :
    ((outsAt0 m c t.val t.isLt).2 : S1024x1024.Idx → EReal) = Layer.prod (M := 1024) (K := 2816) (N := 1024) (iblk m c 0 t) (iblk m c 1 t) := by
  rw [outsAt0_A m c t h0 (by omega) (by omega)]
  dsimp only
  exact first_eq c _ _ _ _ _ _ _ _ _ _ _ _ _ _

/-- After a middle point it holds that point's product added to what it held. -/
theorem held_middle (c : Dev nD) (t : Fin cfg0.N) (h0 : t.val % 4 ≠ 0) (h3 : t.val % 4 ≠ 3) (j : S1024x1024.Idx) :
    ((outsAt0 m c t.val t.isLt).2 : S1024x1024.Idx → EReal) j
      = ((outsAt0 m c (t.val - 1) (Nat.lt_of_le_of_lt (Nat.sub_le _ _) t.isLt)).2 : S1024x1024.Idx → EReal) j
        + Layer.prod (M := 1024) (K := 2816) (N := 1024) (iblk m c 0 t) (iblk m c 1 t) j := by
  rw [outsAt0_B m c t h0 (by omega) h3]
  dsimp only
  exact middle_eq c _ _ _ _ _ _ _ _ _ _ _ _ _ _ _ j

/-- A first point's product is the product's first part. -/
theorem first_part (c : Dev nD) (t : Fin cfg0.N) (h0 : t.val % 4 = 0) (r : Fin 1024) (d : Fin 1024) (R : Fin 20480) (D : Fin 4096)
    (hR : R.val = t.val / 16 * 1024 + r.val) (hD : D.val = t.val / 4 % 4 * 1024 + d.val) :
    ((outsAt0 m c t.val t.isLt).2 : S1024x1024.Idx → EReal) (ix2 r d)
      = Layer.part (M := 20480) (K := 11264) (N := 4096) (m ((c : Thread nD τ).loc main_arg0)) (W m c) (t.val % 4 * 2816 + 2816) R D := by
  refine (congrFun (held_first m c t h0) (ix2 r d)).trans ?_
  refine Eq.trans ?_ (step_eq m c t r d R D hR hD)
  rw [h0, Nat.zero_mul, Layer.part_zero, zero_add]

/-- What the accumulator holds after a point that is not the last of its run. -/
theorem held (c : Dev nD) (n : ℕ) : ∀ (hn : n < cfg0.N) (hl : n % 4 ≠ 3) (r : Fin 1024) (d : Fin 1024) (R : Fin 20480) (D : Fin 4096)
    (hR : R.val = n / 16 * 1024 + r.val) (hD : D.val = n / 4 % 4 * 1024 + d.val),
    ((outsAt0 m c n hn).2 : S1024x1024.Idx → EReal) (ix2 r d)
      = Layer.part (M := 20480) (K := 11264) (N := 4096) (m ((c : Thread nD τ).loc main_arg0)) (W m c) (n % 4 * 2816 + 2816) R D := by
  induction n with
  | zero => exact fun hn hl r d R D hR hD => first_part m c ⟨0, hn⟩ rfl r d R D hR hD
  | succ n ih =>
    intro hn hl r d R D hR hD
    by_cases h0 : (n + 1) % 4 = 0
    · exact first_part m c ⟨n + 1, hn⟩ h0 r d R D hR hD
    · refine (held_middle m c ⟨n + 1, hn⟩ h0 hl (ix2 r d)).trans ?_
      refine Eq.trans ?_ (step_eq m c ⟨n + 1, hn⟩ r d R D hR hD)
      refine congrArg (· + _) ((ih (Nat.lt_of_succ_lt hn) (by omega) r d R D (by omega) (by omega)).trans ?_)
      exact congrArg (fun q => Layer.part (M := 20480) (K := 11264) (N := 4096) _ _ q R D) (by show n % 4 * 2816 + 2816 = (n + 1) % 4 * 2816; omega)

/-- What the last point of a run writes back is its block of the product. -/
theorem flushed_eq (c : Dev nD) (t : Fin cfg0.N) (hf : t.val % 4 = 3) :
    (dats m 0 c).flushed 2 t = ((cfg0.win 2).blk t).view.read (Elt Ideal) (G m c) := by
  obtain ⟨-, -, -, -, o0, o1⟩ := at_point t
  have hN : grid0.N = 320 := N_0
  have ht : t.val < 320 := hN ▸ t.isLt
  rw [Value.flushed2_C m c t (by omega) (by omega) hf]
  funext j
  obtain ⟨r, d, rfl⟩ : ∃ (r : Fin 1024) (d : Fin 1024), j = ix2 r d := ⟨j 0, j 1, ValueIdx.eq_ix2 j⟩
  obtain ⟨R, hR⟩ : ∃ R : Fin 20480, R.val = t.val / 16 * 1024 + r.val := ⟨⟨t.val / 16 * 1024 + r.val, by omega⟩, rfl⟩
  obtain ⟨D, hD⟩ : ∃ D : Fin 4096, D.val = t.val / 4 % 4 * 1024 + d.val := ⟨⟨t.val / 4 % 4 * 1024 + d.val, by omega⟩, rfl⟩
  refine (last_eq c _ _ _ _ _ _ _ _ _ _ _ _ _ _ _ (ix2 r d)).trans ?_
  refine (congrArg (· + _) (held m c (t.val - 1) (Nat.lt_of_le_of_lt (Nat.sub_le _ _) t.isLt) (by omega) r d R D (by omega) (by omega))).trans ?_
  rw [show (t.val - 1) % 4 * 2816 + 2816 = t.val % 4 * 2816 by omega]
  refine (step_eq m c t r d R D hR hD).trans ?_
  rw [show t.val % 4 * 2816 + 2816 = 11264 by omega]
  refine (Layer.part_all (M := 20480) (K := 11264) (N := 4096) _ _ R D).trans ?_
  show G m c _ = G m c ((win0_2.rect t).emb (ix2 r d))
  refine congrArg (G m c) (Shape.idx_ext₂ ?_ ?_)
  · show R.val = win0_2.index t 0 * 1024 + 1 * r.val
    rw [o0, hR]; omega
  · show D.val = win0_2.index t 1 * 1024 + 1 * d.val
    rw [o1, hD]; omega

/-- The output array ends at the product. -/
theorem final (c : Dev nD) : (dats m 0 c).arrAt 2 cfg0.N = G m c :=
  (dats m 0 c).arrAt_eq_of_cover 2 (G m c) (fun t hf => flushed_eq m c t (by
      by_contra h
      exact absurd hf (by rw [flush0_2]; simpa using h)))
    (fun i => (Value.covered_iff2 i).2 (by
      have h0 : (i 0).val < 20480 := (i 0).isLt
      have h1 : (i 1).val < 4096 := (i 1).isLt
      omega))

end Cert.FfnDownIdeal.Result

namespace Cert.FfnDown

open Cert.FfnDownRefIdeal Cert.FfnDownRefIdeal.Gen

/-- The reference leaves the product of the padded matrices. -/
theorem reference_eq (x : FVec Ideal S20480x11264 .bf16) (w : FVec Ideal S11008x4096 .f32) :
    (Host.dotGeneral dot_S20480x11008_S11008x4096_S20480x4096_1_0_0_1_n_n none
        (extf .f32 (extractStridedSlice S20480x11008 ![0, 0] x slices_S20480x11264_S20480x11008_0_0) bitsLt_bf16_f32) w : FVec Ideal S20480x4096 .f32)
      = Layer.prod (M := 20480) (K := 11264) (N := 4096) x (Layer.padRows (n := 11008) (C := 4096) 11264 w) := by
  refine (Layer.dotGeneral_prod (M := 20480) (K := 11008) (N := 4096) none _ _).trans ?_
  funext j
  obtain ⟨r, d, rfl⟩ : ∃ (r : Fin 20480) (d : Fin 4096), j = ix2 r d := ⟨j 0, j 1, ValueIdx.eq_ix2 j⟩
  refine Eq.trans ?_ (Layer.prod_padRows (M := 20480) (n := 11008) (K := 11264) (N := 4096) (by omega) x w r d).symm
  refine Finset.sum_congr rfl fun k _ => congrArg₂ (· * ·) ?_ rfl
  show x _ = x _
  refine congrArg x (Shape.idx_ext₂ ?_ ?_)
  · show 0 + r.val = r.val; omega
  · show 0 + k.val = k.val; omega

/-- The reference runs to its end, leaves its arguments as they were and no counter raised. -/
theorem frame_ref : Cert.quiescent_FfnDownRefIdeal := fun m ρ _ =>
  (θ_run _ _ _).mono (fun r h => ⟨fun c => (h c).2, Idealize.ShloMosaic.sem_eq_zero_of_no_sems (by decide) r.2⟩)
    (Cert.FfnDownRefIdeal.Value.run (F := Ideal) m ρ)

/-- The kernel and the reference leave the same array. -/
theorem algebraic : Cert.algebraic_FfnDownIdeal_FfnDownRefIdeal := fun m ρ m' ρ' _ hag =>
  ⟨fun c => Cert.FfnDownIdeal.Result.G m c,
    (θ_run _ _ _).mono (fun _ h c => ⟨(h c).1.trans (Cert.FfnDownIdeal.Result.final m c), (h c).2⟩)
      (Cert.FfnDownIdeal.Value.run_blocks m ρ),
    (θ_run _ _ _).mono (fun _ h c => ⟨(h c).1.trans (by rw [(hag c).1, (hag c).2]; exact reference_eq _ _), (h c).2⟩)
      (Cert.FfnDownRefIdeal.Value.run (F := Ideal) m' ρ')⟩

end Cert.FfnDown

end
-- ==== Proof.NaQkv.lean ====
/-
  The projection of every token to the queries, keys and values of the neighbourhood attention: the kernel's product, block
  by block over the grid, is the product of the two whole matrices; and the prompts' keys and values by head, which the layer returns.
-/
module

public import proofs.«01_k».proof.Defs
public import proofs.«01_k».proof.Proof.Blocks
public import proofs.«01_k».proof.Proof.Gen.NaQkvIdeal.Frame
public import proofs.«01_k».proof.Proof.Gen.NaQkvRefIdeal.Run
public import Idealize.ShloMosaic.Lib.Quiescent

@[expose] public section

set_option maxRecDepth 16384

noncomputable section

open Idealize.ShloMosaic Idealize.ShloMosaic.TcCoe Idealize.ShloMosaic.ValueIdx Idealize.SL.Sem
open scoped BigOperators

namespace Layer

/-- The prompts' rows of 4096 columns by head, as the kernel's host code cuts them: entry `(b, s, h, d)` is row `b · 256 + s`, column `o + h · 128 + d`. -/
theorem cutHeads {o : ℕ} (y : (⟨2, ![20480, 12288]⟩ : Shape).Idx → EReal) (hs : (⟨2, ![20480, 12288]⟩ : Shape).Slices ![0, o] ⟨2, ![4096, 4096]⟩)
    (hc : (⟨2, ![4096, 4096]⟩ : Shape).ShapeCasts ⟨4, ![16, 256, 32, 128]⟩) (b : Fin 16) (s : Fin 256) (h : Fin 32) (d : Fin 128)
    (R : Fin 20480) (q : Fin 12288) (hR : R.val = b.val * 256 + s.val) (hq : q.val = o + (h.val * 128 + d.val)) :
    shapeCast ⟨4, ![16, 256, 32, 128]⟩ (extractStridedSlice ⟨2, ![4096, 4096]⟩ ![0, o] y hs) hc (ix4 b s h d) = y (ix2 R q) := by
  have hb' := b.isLt
  have hs' := s.isLt
  have hh' := h.isLt
  have hd' := d.isLt
  refine (shapeCast_apply _ hc _ (ix2 (⟨b.val * 256 + s.val, by omega⟩ : Fin 4096) (⟨h.val * 128 + d.val, by omega⟩ : Fin 4096)) ?_).trans ?_
  · rw [Shape.rowMajor_val_four, Shape.rowMajor_val_two]
    show (b.val * 256 + s.val) * 4096 + (h.val * 128 + d.val) = ((b.val * 256 + s.val) * 32 + h.val) * 128 + d.val
    ring
  · refine extractStridedSlice_apply _ y hs _ _ fun a => ?_
    match a with
    | ⟨0, _⟩ => show R.val = 0 + (b.val * 256 + s.val); omega
    | ⟨1, _⟩ => show q.val = o + (h.val * 128 + d.val); exact hq

/-- The same entry as the reference takes it: part `p` of the prompts' rows, laid by request, row, part, head and lane. -/
theorem partHeads {p : ℕ} (y : (⟨2, ![20480, 12288]⟩ : Shape).Idx → EReal) (hs : (⟨2, ![20480, 12288]⟩ : Shape).Slices ![0, 0] ⟨2, ![4096, 12288]⟩)
    (hc : (⟨2, ![4096, 12288]⟩ : Shape).ShapeCasts ⟨5, ![16, 256, 3, 32, 128]⟩)
    (hp : (⟨5, ![16, 256, 3, 32, 128]⟩ : Shape).Slices ![0, 0, p, 0, 0] ⟨5, ![16, 256, 1, 32, 128]⟩)
    (hd : (⟨5, ![16, 256, 1, 32, 128]⟩ : Shape).ShapeCasts ⟨4, ![16, 256, 32, 128]⟩) (b : Fin 16) (s : Fin 256) (h : Fin 32) (d : Fin 128)
    (R : Fin 20480) (q : Fin 12288) (hp3 : p < 3) (hR : R.val = b.val * 256 + s.val) (hq : q.val = p * 4096 + (h.val * 128 + d.val)) :
    shapeCast ⟨4, ![16, 256, 32, 128]⟩ (extractStridedSlice ⟨5, ![16, 256, 1, 32, 128]⟩ ![0, 0, p, 0, 0]
        (shapeCast ⟨5, ![16, 256, 3, 32, 128]⟩ (extractStridedSlice ⟨2, ![4096, 12288]⟩ ![0, 0] y hs) hc) hp) hd (ix4 b s h d) = y (ix2 R q) := by
  have hb' := b.isLt
  have hs' := s.isLt
  refine (shapeCast_apply _ hd _ (ix5 b s 0 h d) ?_).trans ?_
  · rw [Shape.rowMajor_val_four, Shape.rowMajor_val_five]
    show (((b.val * 256 + s.val) * 1 + 0) * 32 + h.val) * 128 + d.val = ((b.val * 256 + s.val) * 32 + h.val) * 128 + d.val
    ring
  refine (extractStridedSlice_apply _ _ hp _ (ix5 b s (⟨p, hp3⟩ : Fin 3) h d) fun a => ?_).trans ?_
  · match a with
    | ⟨0, _⟩ => show b.val = 0 + b.val; omega
    | ⟨1, _⟩ => show s.val = 0 + s.val; omega
    | ⟨2, _⟩ => rfl
    | ⟨3, _⟩ => show h.val = 0 + h.val; omega
    | ⟨4, _⟩ => show d.val = 0 + d.val; omega
  refine (shapeCast_apply _ hc _ (ix2 (⟨b.val * 256 + s.val, by omega⟩ : Fin 4096) q) ?_).trans ?_
  · rw [Shape.rowMajor_val_five, Shape.rowMajor_val_two]
    show (b.val * 256 + s.val) * 12288 + q.val = (((b.val * 256 + s.val) * 3 + p) * 32 + h.val) * 128 + d.val
    rw [hq]; ring
  · refine extractStridedSlice_apply _ y hs _ _ fun a => ?_
    match a with
    | ⟨0, _⟩ => show R.val = 0 + (b.val * 256 + s.val); omega
    | ⟨1, _⟩ => show q.val = 0 + q.val; omega

end Layer

namespace Cert.NaQkvIdeal.Result

open Cert.NaQkvIdeal Cert.NaQkvIdeal.Gen

variable (m : (ℓ : Loc nD τ sig) → Buf (Elt Ideal) ℓ) (ρ : Dev nD → PrngReg)

/-- The whole product of the tokens and the weights. -/
abbrev G (c : Dev nD) : S20480x12288.Idx → EReal :=
  Layer.prod (M := 20480) (K := 4096) (N := 12288) (m ((c : Thread nD τ).loc main_arg0)) (m ((c : Thread nD τ).loc main_arg1))

/-- The region finds the weights' buffer holding the weights (the cast to sixteen bits changes no ideal value). -/
theorem weights (c : Dev nD) : (V m c main_v0 : S4096x12288.Idx → EReal) = m ((c : Thread nD τ).loc main_arg1) := by
  show StableHlo.after hostOps0 _ _ = _
  after_results
  rfl

/-- Which block each window is on at a point. -/
theorem at_point : ∀ t : Fin grid0.N,
    win0_0.index t 0 = t.val / 12 ∧ win0_0.index t 1 = 0 ∧ win0_1.index t 0 = 0 ∧ win0_1.index t 1 = t.val % 12
      ∧ win0_2.index t 0 = t.val / 12 ∧ win0_2.index t 1 = t.val % 12 := by decide +kernel

/-- The body leaves the product of the two blocks. -/
theorem body_eq (x : Vec Ideal S1024x4096 .bf16) (w : Vec Ideal S4096x1024 .bf16) :
    (out0_2 x w : S1024x1024.Idx → EReal) = Layer.prod (M := 1024) (K := 4096) (N := 1024) x w := by
  unfold out0_2
  rw [View.canon_unit_zero Layer.zero2, View.ld_unit_zero (S := S1024x4096) Layer.zero2, View.ld_unit_zero (S := S4096x1024) Layer.zero2]
  unfold k0_pay1
  simp only [shapeCast_self]
  exact Layer.matmul_zero (M := 1024) (K := 4096) (N := 1024) none x w

/-- What a point writes back is its block of the whole product. -/
theorem flushed_eq (c : Dev nD) (t : Fin cfg0.N) :
    (dats m 0 c).flushed 2 t = ((cfg0.win 2).blk t).view.read (Elt Ideal) (G m c) := by
  obtain ⟨a0, a1, b0, b1, o0, o1⟩ := at_point t
  show (cfg0.win 2).cut (grid0.coords t) ((dats m 0 c).after 2 t) = _
  rw [after0_2]
  funext j
  show out0_2 (iblk m c 0 t) (iblk m c 1 t) j = G m c ((win0_2.rect t).emb j)
  rw [body_eq]
  refine Finset.sum_congr rfl fun k _ => congrArg₂ (· * ·) ?_ ?_
  · show V m c main_arg0 ((win0_0.rect t).emb (ix2 (j 0) k)) = _
    rw [V_main_arg0]
    refine congrArg (m ((c : Thread nD τ).loc main_arg0)) (Shape.idx_ext₂ ?_ ?_)
    · show win0_0.index t 0 * 1024 + 1 * (j 0).val = win0_2.index t 0 * 1024 + 1 * (j 0).val
      rw [a0, o0]
    · show win0_0.index t 1 * 4096 + 1 * k.val = k.val
      rw [a1]; omega
  · show V m c main_v0 ((win0_1.rect t).emb (ix2 k (j 1))) = _
    rw [weights]
    refine congrArg (m ((c : Thread nD τ).loc main_arg1)) (Shape.idx_ext₂ ?_ ?_)
    · show win0_1.index t 0 * 4096 + 1 * k.val = k.val
      rw [b0]; omega
    · show win0_1.index t 1 * 1024 + 1 * (j 1).val = win0_2.index t 1 * 1024 + 1 * (j 1).val
      rw [b1, o1]

/-- Every entry is in the block of some point. -/
theorem covered (i : S20480x12288.Idx) : ∃ t : Fin cfg0.N, (cfg0.win 2).flush t = true ∧ i ∈ ((cfg0.win 2).blk t).view.set := by
  have h0 : (i 0 : Nat) < 20480 := (i 0).isLt
  have h1 : (i 1 : Nat) < 12288 := (i 1).isLt
  have hN : grid0.N = 240 := N_0
  obtain ⟨t, ht⟩ : ∃ t : Fin grid0.N, t.val = (i 0 : Nat) / 1024 * 12 + (i 1 : Nat) / 1024 :=
    ⟨⟨(i 0 : Nat) / 1024 * 12 + (i 1 : Nat) / 1024, by omega⟩, rfl⟩
  refine ⟨t, flush0_2 t, ?_⟩
  obtain ⟨-, -, -, -, o0, o1⟩ := at_point t
  show i ∈ ((View.whole main_v1).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [o0]; omega
  | ⟨1, _⟩ =>
    show win0_2.index t 1 * 1024 ≤ (i 1 : Nat) ∧ (i 1 : Nat) < win0_2.index t 1 * 1024 + 1024
    rw [o1]; omega

/-- The output array ends at the whole product. -/
theorem final (c : Dev nD) : (dats m 0 c).arrAt 2 cfg0.N = G m c :=
  (dats m 0 c).arrAt_eq_of_cover 2 (G m c) (fun t _ => flushed_eq m c t) covered

/-- The prompts' keys by head. -/
abbrev A (c : Dev nD) : S16x256x32x128.Idx → EReal :=
  shapeCast S16x256x32x128 (extractStridedSlice S4096x4096 ![0, 4096] (G m c) slices_S20480x12288_S4096x4096_0_4096) shapeCasts_S4096x4096_S16x256x32x128

/-- The prompts' values by head. -/
abbrev B (c : Dev nD) : S16x256x32x128.Idx → EReal :=
  shapeCast S16x256x32x128 (extractStridedSlice S4096x4096 ![0, 8192] (G m c) slices_S20480x12288_S4096x4096_0_8192) shapeCasts_S4096x4096_S16x256x32x128

/-- The lines after the region find its output array at the whole product. -/
theorem found (c : Dev nD) : (Pipeline.withArrays spec0 c (V0 m c) (fun w => (dats m 0 c).arrAt w cfg0.N)) (Proc.devRef .tc main_v1) = G m c :=
  (Pipeline.withArrays_arr spec0 (by decide) c (V0 m c) _ 2).trans (final m c)

/-- The prompts' keys, as the lines after the region leave them. -/
theorem after_A (c : Dev nD) : (Pipeline.afterTail₀ cfgs (dats m) 0 (V0 m) [hostOps1] c main_v3 : S16x256x32x128.Idx → EReal) = A m c := by
  have h := found m c
  show StableHlo.after _ _ _ = _
  simp only [hostOps1, List.flatten_cons, List.flatten_nil, List.append_nil]
  after_results
  unfold A
  rw [← h]
  rfl

/-- The prompts' values, as the lines after the region leave them. -/
theorem after_B (c : Dev nD) : (Pipeline.afterTail₀ cfgs (dats m) 0 (V0 m) [hostOps1] c main_v5 : S16x256x32x128.Idx → EReal) = B m c := by
  have h := found m c
  show StableHlo.after _ _ _ = _
  simp only [hostOps1, List.flatten_cons, List.flatten_nil, List.append_nil]
  after_results
  unfold B
  rw [← h]
  rfl

/-- The run of the kernel with its three results. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_v3) = A m c
      ∧ r.2.mem ((c : Thread nD τ).loc main_v5) = B m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c),
      ((h.1 c).2 main_v3 (Pipeline.mem_restRefs_of main_v3 (by decide) (by decide))).trans (after_A m c),
      ((h.1 c).2 main_v5 (Pipeline.mem_restRefs_of main_v5 (by decide) (by decide))).trans (after_B m c), h.2 c⟩)
    (θ_run_and (run_main m ρ) (unchanged m ρ))

end Cert.NaQkvIdeal.Result

namespace Cert.NaQkv

/-- The reference leaves the whole product of its arguments. -/
theorem reference_eq (x : FVec Ideal Cert.NaQkvRefIdeal.S20480x4096 .bf16) (w : FVec Ideal Cert.NaQkvRefIdeal.S4096x12288 .f32) :
    (Host.dotGeneral Cert.NaQkvRefIdeal.dot_S20480x4096_S4096x12288_S20480x12288_1_0_0_1_n_n none
        (extf .f32 x Cert.NaQkvRefIdeal.Facts₀.bitsLt_bf16_f32) w : FVec Ideal Cert.NaQkvRefIdeal.S20480x12288 .f32)
      = Layer.prod (M := 20480) (K := 4096) (N := 12288) x w :=
  Layer.dotGeneral_prod (M := 20480) (K := 4096) (N := 12288) none _ _

/-- The prompts' keys (part 1) and values (part 2) of the kernel are the reference's. -/
theorem heads_eq (p o : ℕ) (hp3 : p < 3) (ho : o = p * 4096) (y z : Cert.NaQkvIdeal.S20480x12288.Idx → EReal) (hyz : y = z) (hs hc hp hd hs' hc') :
    (shapeCast Cert.NaQkvIdeal.S16x256x32x128 (extractStridedSlice Cert.NaQkvRefIdeal.S16x256x1x32x128 ![0, 0, p, 0, 0]
        (shapeCast Cert.NaQkvRefIdeal.S16x256x3x32x128 (extractStridedSlice Cert.NaQkvRefIdeal.S4096x12288 ![0, 0] y hs) hc) hp) hd : Cert.NaQkvIdeal.S16x256x32x128.Idx → EReal)
      = shapeCast Cert.NaQkvIdeal.S16x256x32x128 (extractStridedSlice Cert.NaQkvIdeal.S4096x4096 ![0, o] z hs') hc' := by
  subst hyz
  funext j
  obtain ⟨b, s, h, d, rfl⟩ : ∃ (b : Fin 16) (s : Fin 256) (h : Fin 32) (d : Fin 128), j = ix4 b s h d := ⟨j 0, j 1, j 2, j 3, ValueIdx.eq_ix4 j⟩
  have hb := b.isLt
  have hs0 := s.isLt
  have hh := h.isLt
  have hd0 := d.isLt
  have hq : p * 4096 + (h.val * 128 + d.val) < 12288 := by omega
  have hR : b.val * 256 + s.val < 20480 := by omega
  exact (Layer.partHeads y hs hc hp hd b s h d ⟨_, hR⟩ ⟨_, hq⟩ hp3 rfl rfl).trans
    (Layer.cutHeads y hs' hc' b s h d ⟨_, hR⟩ ⟨_, hq⟩ rfl (by rw [ho])).symm

/-- The reference runs to its end, leaves its arguments as they were and no counter raised. -/
theorem frame_ref : Cert.quiescent_NaQkvRefIdeal := fun m ρ _ =>
  (θ_run _ _ _).mono (fun r h => ⟨fun c => (h c).2.2.2, Idealize.ShloMosaic.sem_eq_zero_of_no_sems (by decide) r.2⟩)
    (Cert.NaQkvRefIdeal.Value.run (F := Ideal) m ρ)

/-- The kernel and the reference leave the same arrays. -/
theorem algebraic : Cert.algebraic_NaQkvIdeal_NaQkvRefIdeal := fun m ρ m' ρ' _ hag =>
  ⟨fun c => Cert.NaQkvIdeal.Result.G m c, fun c => Cert.NaQkvIdeal.Result.A m c, fun c => Cert.NaQkvIdeal.Result.B m c,
    Cert.NaQkvIdeal.Result.run m ρ,
    (θ_run _ _ _).mono (fun _ h c => ⟨(h c).1.trans (by rw [(hag c).1, (hag c).2]; exact reference_eq _ _),
        (h c).2.1.trans (by rw [(hag c).1, (hag c).2]; exact heads_eq 1 4096 (by norm_num) (by norm_num) _ _ (reference_eq _ _) _ _ _ _ _ _),
        (h c).2.2.1.trans (by rw [(hag c).1, (hag c).2]; exact heads_eq 2 8192 (by norm_num) (by norm_num) _ _ (reference_eq _ _) _ _ _ _ _ _), (h c).2.2.2⟩)
      (Cert.NaQkvRefIdeal.Value.run (F := Ideal) m' ρ')⟩

end Cert.NaQkv

end
-- ==== Proof.MixerOut.lean ====
/-
  The output projection of a mixer: the kernel's product, block
  by block over the grid, is the product of the two whole matrices.
-/
module

public import proofs.«01_k».proof.Defs
public import proofs.«01_k».proof.Proof.Blocks
public import proofs.«01_k».proof.Proof.Gen.MixerOutIdeal.Value
public import proofs.«01_k».proof.Proof.Gen.MixerOutRefIdeal.Run
public import Idealize.ShloMosaic.Lib.Quiescent

@[expose] public section

set_option maxRecDepth 16384

noncomputable section

open Idealize.ShloMosaic Idealize.ShloMosaic.TcCoe Idealize.ShloMosaic.ValueIdx Idealize.SL.Sem
open scoped BigOperators

namespace Cert.MixerOutIdeal.Result

open Cert.MixerOutIdeal Cert.MixerOutIdeal.Gen

variable (m : (ℓ : Loc nD τ sig) → Buf (Elt Ideal) ℓ) (ρ : Dev nD → PrngReg)

/-- The whole product of the tokens and the weights. -/
abbrev G (c : Dev nD) : S20480x4096.Idx → EReal :=
  Layer.prod (M := 20480) (K := 4096) (N := 4096) (m ((c : Thread nD τ).loc main_arg0)) (m ((c : Thread nD τ).loc main_arg1))

/-- The region finds the weights' buffer holding the weights (the cast to sixteen bits changes no ideal value). -/
theorem weights (c : Dev nD) : (V m c main_v0 : S4096x4096.Idx → EReal) = m ((c : Thread nD τ).loc main_arg1) := by
  show StableHlo.after hostOps0 _ _ = _
  after_results
  rfl

/-- Which block each window is on at a point. -/
theorem at_point : ∀ t : Fin grid0.N,
    win0_0.index t 0 = t.val / 4 ∧ win0_0.index t 1 = 0 ∧ win0_1.index t 0 = 0 ∧ win0_1.index t 1 = t.val % 4
      ∧ win0_2.index t 0 = t.val / 4 ∧ win0_2.index t 1 = t.val % 4 := by decide +kernel

/-- The body leaves the product of the two blocks. -/
theorem body_eq (x : Vec Ideal S1024x4096 .bf16) (w : Vec Ideal S4096x1024 .bf16) :
    (out0_2 x w : S1024x1024.Idx → EReal) = Layer.prod (M := 1024) (K := 4096) (N := 1024) x w := by
  unfold out0_2
  rw [View.canon_unit_zero Layer.zero2, View.ld_unit_zero (S := S1024x4096) Layer.zero2, View.ld_unit_zero (S := S4096x1024) Layer.zero2]
  unfold k0_pay1
  simp only [shapeCast_self]
  exact Layer.matmul_zero (M := 1024) (K := 4096) (N := 1024) none x w

/-- What a point writes back is its block of the whole product. -/
theorem flushed_eq (c : Dev nD) (t : Fin cfg0.N) :
    (dats m 0 c).flushed 2 t = ((cfg0.win 2).blk t).view.read (Elt Ideal) (G m c) := by
  obtain ⟨a0, a1, b0, b1, o0, o1⟩ := at_point t
  rw [Value.flushed2]
  funext j
  show out0_2 (iblk m c 0 t) (iblk m c 1 t) j = G m c ((win0_2.rect t).emb j)
  rw [body_eq]
  refine Finset.sum_congr rfl fun k _ => congrArg₂ (· * ·) ?_ ?_
  · show V m c main_arg0 ((win0_0.rect t).emb (ix2 (j 0) k)) = _
    rw [V_main_arg0]
    refine congrArg (m ((c : Thread nD τ).loc main_arg0)) (Shape.idx_ext₂ ?_ ?_)
    · show win0_0.index t 0 * 1024 + 1 * (j 0).val = win0_2.index t 0 * 1024 + 1 * (j 0).val
      rw [a0, o0]
    · show win0_0.index t 1 * 4096 + 1 * k.val = k.val
      rw [a1]; omega
  · show V m c main_v0 ((win0_1.rect t).emb (ix2 k (j 1))) = _
    rw [weights]
    refine congrArg (m ((c : Thread nD τ).loc main_arg1)) (Shape.idx_ext₂ ?_ ?_)
    · show win0_1.index t 0 * 4096 + 1 * k.val = k.val
      rw [b0]; omega
    · show win0_1.index t 1 * 1024 + 1 * (j 1).val = win0_2.index t 1 * 1024 + 1 * (j 1).val
      rw [b1, o1]

/-- Every entry is in the block of some point. -/
theorem covered (i : S20480x4096.Idx) : ∃ t : Fin cfg0.N, (cfg0.win 2).flush t = true ∧ i ∈ ((cfg0.win 2).blk t).view.set := by
  have h0 : (i 0 : Nat) < 20480 := (i 0).isLt
  have h1 : (i 1 : Nat) < 4096 := (i 1).isLt
  have hN : grid0.N = 80 := N_0
  obtain ⟨t, ht⟩ : ∃ t : Fin grid0.N, t.val = (i 0 : Nat) / 1024 * 4 + (i 1 : Nat) / 1024 :=
    ⟨⟨(i 0 : Nat) / 1024 * 4 + (i 1 : Nat) / 1024, by omega⟩, rfl⟩
  refine ⟨t, flush0_2 t, ?_⟩
  obtain ⟨-, -, -, -, o0, o1⟩ := at_point t
  show i ∈ ((View.whole main_v1).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [o0]; omega
  | ⟨1, _⟩ =>
    show win0_2.index t 1 * 1024 ≤ (i 1 : Nat) ∧ (i 1 : Nat) < win0_2.index t 1 * 1024 + 1024
    rw [o1]; omega

/-- The output array ends at the whole product. -/
theorem final (c : Dev nD) : (dats m 0 c).arrAt 2 cfg0.N = G m c :=
  (dats m 0 c).arrAt_eq_of_cover 2 (G m c) (fun t _ => flushed_eq m c t) covered

end Cert.MixerOutIdeal.Result

namespace Cert.MixerOut

/-- The reference leaves the whole product of its arguments. -/
theorem reference_eq (x : FVec Ideal Cert.MixerOutRefIdeal.S20480x4096 .bf16) (w : FVec Ideal Cert.MixerOutRefIdeal.S4096x4096 .f32) :
    (Host.dotGeneral Cert.MixerOutRefIdeal.dot_S20480x4096_S4096x4096_S20480x4096_1_0_0_1_n_n none
        (extf .f32 x Cert.MixerOutRefIdeal.Facts₀.bitsLt_bf16_f32) w : FVec Ideal Cert.MixerOutRefIdeal.S20480x4096 .f32)
      = Layer.prod (M := 20480) (K := 4096) (N := 4096) x w :=
  Layer.dotGeneral_prod (M := 20480) (K := 4096) (N := 4096) none _ _

/-- The reference runs to its end, leaves its arguments as they were and no counter raised. -/
theorem frame_ref : Cert.quiescent_MixerOutRefIdeal := fun m ρ _ =>
  (θ_run _ _ _).mono (fun r h => ⟨fun c => (h c).2, Idealize.ShloMosaic.sem_eq_zero_of_no_sems (by decide) r.2⟩)
    (Cert.MixerOutRefIdeal.Value.run (F := Ideal) m ρ)

/-- The kernel and the reference leave the same array. -/
theorem algebraic : Cert.algebraic_MixerOutIdeal_MixerOutRefIdeal := fun m ρ m' ρ' _ hag =>
  ⟨fun c => Cert.MixerOutIdeal.Result.G m c,
    (θ_run _ _ _).mono (fun _ h c => ⟨(h c).1.trans (Cert.MixerOutIdeal.Result.final m c), (h c).2⟩)
      (Cert.MixerOutIdeal.Value.run_blocks m ρ),
    (θ_run _ _ _).mono (fun _ h c => ⟨(h c).1.trans (by rw [(hag c).1, (hag c).2]; exact reference_eq _ _), (h c).2⟩)
      (Cert.MixerOutRefIdeal.Value.run (F := Ideal) m' ρ')⟩

end Cert.MixerOut

end
-- ==== Proof.Rms.lean ====
/-
  The scaling of a row by the root of its mean square, as the kernel's vector operations and as the host's operations compute it.
-/
module

public import proofs.«01_k».proof.Defs
public import proofs.«01_k».proof.Proof.Blocks
public import proofs.«01_k».proof.Proof.MlaStep
public import Idealize.ShloMosaic.Lib.IdealHost

@[expose] public section

noncomputable section

namespace Layer

open Idealize.ShloMosaic Idealize.ShloMosaic.ValueIdx
open scoped BigOperators

/-- The factor of a row: one over the root of its sum of squares divided by the number of columns (given as a word), plus a small number. -/
def scale (n : BitVec 32) (s : EReal) : EReal := Ideal.rsqrt (Ideal.div s (Ideal.ofBits .f32 n) + Ideal.ofBits .f32 0x358637BD#32)

/-- A matrix with each row scaled by its factor, and each column by its gain. -/
def norm {M N : ℕ} (n : BitVec 32) (p : (⟨2, ![M, N]⟩ : Shape).Idx → EReal) (g : (⟨1, ![N]⟩ : Shape).Idx → EReal) :
    (⟨2, ![M, N]⟩ : Shape).Idx → EReal :=
  fun j => p j * scale n (∑ k : Fin N, p (ix2 (j 0) k) * p (ix2 (j 0) k)) * g (ix1 (j 1))

/-- A row repeated along the first axis. -/
theorem rows {M N : ℕ} (x : (⟨2, ![1, N]⟩ : Shape).Idx → EReal) (h : (⟨2, ![1, N]⟩ : Shape).Broadcasts ⟨2, ![M, N]⟩) (r : Fin M) (k : Fin N) :
    broadcastTo ⟨2, ![M, N]⟩ x h (ix2 r k) = x (ix2 0 k) := by
  refine broadcastTo_apply x h _ _ fun a => ?_
  fin_cases a
  · rfl
  · show k.val = if N = 1 then 0 else k.val
    split
    · have := k.isLt; omega
    · rfl

/-- A vector laid as a row. -/
theorem row {N : ℕ} (x : (⟨1, ![N]⟩ : Shape).Idx → EReal) (h : (⟨1, ![N]⟩ : Shape).ShapeCasts ⟨2, ![1, N]⟩) (z : Fin 1) (k : Fin N) :
    shapeCast ⟨2, ![1, N]⟩ x h (ix2 z k) = x (ix1 k) :=
  shapeCast_apply x h _ _ (by
    rw [Shape.rowMajor_val_one, Shape.rowMajor_val_two]
    show k.val = z.val * N + k.val
    have := z.isLt
    have hz : z.val = 0 := by omega
    rw [hz]; omega)

/-- The host's sum along the second axis of a matrix. -/
theorem hostRowSum {M N : ℕ} (x : FVec Ideal ⟨2, ![M, N]⟩ .f32) (h : (⟨2, ![M, N]⟩ : Shape).ReducesTo [1] ⟨1, ![M]⟩)
    (h' : (⟨2, ![M, N]⟩ : Shape).Reduces [1] ⟨1, ![M]⟩) (hu) (r : Fin M) :
    Host.reduceAdd x (constant ⟨0, ![]⟩ .f32 0x00000000#32) h hu (ix1 r) = ∑ k : Fin N, x (ix2 r k) := by
  rw [hostReduceAdd_apply, Ideal.hostReduceAdd_single h h', constant_apply, Ideal.ofBits_zero_f32, zero_add]
  refine Finset.sum_congr rfl fun k _ => ?_
  exact congrArg x (funext fun a => Fin.ext (by fin_cases a <;> rfl))

/-- The host's column laid along the second axis. -/
theorem hostColumns {M : ℕ} (x : (⟨1, ![M]⟩ : Shape).Idx → EReal) (h₁ : (⟨1, ![M]⟩ : Shape).BroadcastsInDim ⟨2, ![M, 1]⟩ ![0]) (r : Fin M) (z : Fin 1) :
    broadcastInDim ⟨2, ![M, 1]⟩ ![0] h₁ x (ix2 r z) = x (ix1 r) := by
  refine broadcastInDim_apply _ h₁ x _ _ fun a => ?_
  fin_cases a
  show r.val = if M = 1 then 0 else r.val
  split
  · have := r.isLt; omega
  · rfl

/-- The host's column repeated along the second axis. -/
theorem hostOver {M N : ℕ} (x : (⟨2, ![M, 1]⟩ : Shape).Idx → EReal) (h₁ : (⟨2, ![M, 1]⟩ : Shape).BroadcastsInDim ⟨2, ![M, N]⟩ ![0, 1]) (r : Fin M) (k : Fin N) :
    broadcastInDim ⟨2, ![M, N]⟩ ![0, 1] h₁ x (ix2 r k) = x (ix2 r 0) := by
  refine broadcastInDim_apply _ h₁ x _ _ fun a => ?_
  fin_cases a
  · show r.val = if M = 1 then 0 else r.val
    split
    · have := r.isLt; omega
    · rfl
  · rfl

/-- The host's gains laid as a row and repeated along the first axis. -/
theorem hostGains {M N : ℕ} (g : (⟨1, ![N]⟩ : Shape).Idx → EReal) (h₁ : (⟨1, ![N]⟩ : Shape).BroadcastsInDim ⟨2, ![1, N]⟩ ![1])
    (h₂ : (⟨2, ![1, N]⟩ : Shape).BroadcastsInDim ⟨2, ![M, N]⟩ ![0, 1]) (r : Fin M) (k : Fin N) :
    broadcastInDim ⟨2, ![M, N]⟩ ![0, 1] h₂ (broadcastInDim ⟨2, ![1, N]⟩ ![1] h₁ g) (ix2 r k) = g (ix1 k) := by
  refine (broadcastInDim_apply _ h₂ _ _ (ix2 (0 : Fin 1) k) fun a => ?_).trans (broadcastInDim_apply _ h₁ g _ _ fun a => ?_)
  · fin_cases a
    · rfl
    · show k.val = if N = 1 then 0 else k.val
      split
      · have := k.isLt; omega
      · rfl
  · fin_cases a
    show k.val = if N = 1 then 0 else k.val
    split
    · have := k.isLt; omega
    · rfl

/-- The host's scaling of the rows. -/
theorem host_norm {M N : ℕ} (n : BitVec 32) (p : FVec Ideal ⟨2, ![M, N]⟩ .f32) (g : FVec Ideal ⟨1, ![N]⟩ .f32)
    (h1 : (⟨2, ![M, 1]⟩ : Shape).BroadcastsInDim ⟨2, ![M, N]⟩ ![0, 1]) (h2 : (⟨1, ![M]⟩ : Shape).BroadcastsInDim ⟨2, ![M, 1]⟩ ![0])
    (h3 : (⟨2, ![M, N]⟩ : Shape).ReducesTo [1] ⟨1, ![M]⟩) (h3' : (⟨2, ![M, N]⟩ : Shape).Reduces [1] ⟨1, ![M]⟩) (hu)
    (h4 : (⟨0, ![]⟩ : Shape).BroadcastsInDim ⟨2, ![M, 1]⟩ ![])
    (h5 : (⟨2, ![1, N]⟩ : Shape).BroadcastsInDim ⟨2, ![M, N]⟩ ![0, 1]) (h6 : (⟨1, ![N]⟩ : Shape).BroadcastsInDim ⟨2, ![1, N]⟩ ![1]) :
    (mulf (mulf p (broadcastInDim ⟨2, ![M, N]⟩ ![0, 1] h1 (Host.rsqrt (addf (Host.divf (broadcastInDim ⟨2, ![M, 1]⟩ ![0] h2
      (Host.reduceAdd (mulf p p) (constant ⟨0, ![]⟩ .f32 0x00000000#32) h3 hu)) (broadcastInDim ⟨2, ![M, 1]⟩ ![] h4 (constant ⟨0, ![]⟩ .f32 n)))
      (broadcastInDim ⟨2, ![M, 1]⟩ ![] h4 (constant ⟨0, ![]⟩ .f32 0x358637BD#32))))))
      (broadcastInDim ⟨2, ![M, N]⟩ ![0, 1] h5 (broadcastInDim ⟨2, ![1, N]⟩ ![1] h6 g)) : FVec Ideal ⟨2, ![M, N]⟩ .f32) = norm n p g := by
  funext j
  obtain ⟨r, c, rfl⟩ : ∃ r c, j = ix2 r c := ⟨j 0, j 1, eq_ix2 j⟩
  refine congrArg₂ (· * ·) (congrArg (p (ix2 r c) * ·) ?_) (hostGains g h6 h5 r c)
  refine (hostOver _ h1 r c).trans ?_
  refine congrArg Ideal.rsqrt (congrArg₂ (· + ·) (congrArg₂ Ideal.div ?_ ?_) ?_)
  · exact (hostColumns _ h2 r 0).trans (hostRowSum _ h3 h3' hu r)
  · exact broadcastInDim_scalar_apply h4 _ _
  · exact broadcastInDim_scalar_apply h4 _ _

/-- The kernel's scaling of the rows. -/
theorem kernel_norm {M N : ℕ} (n : BitVec 32) (p : FVec Ideal ⟨2, ![M, N]⟩ .f32) (g : FVec Ideal ⟨2, ![1, N]⟩ .f32)
    (h1 : (⟨2, ![M, 1]⟩ : Shape).Broadcasts ⟨2, ![M, N]⟩) (h2 : (⟨1, ![M]⟩ : Shape).ShapeCasts ⟨2, ![M, 1]⟩)
    (h3 : (⟨2, ![M, N]⟩ : Shape).Reduces [1] ⟨1, ![M]⟩) (hφ) (hacc) (h5 : (⟨2, ![1, N]⟩ : Shape).Broadcasts ⟨2, ![M, N]⟩) :
    (mulf (mulf p (broadcastTo ⟨2, ![M, N]⟩ (rsqrt (addf (divf (shapeCast ⟨2, ![M, 1]⟩ (multiReduction .add [1] ⟨1, ![M]⟩ (mulf p p) 0x00000000#32 h3 hφ hacc) h2)
      (broadcast ⟨2, ![M, 1]⟩ (Scalar.ofBits .f32 n : Ideal .f32))) (broadcast ⟨2, ![M, 1]⟩ (Scalar.ofBits .f32 0x358637BD#32 : Ideal .f32)))) h1))
      (broadcastTo ⟨2, ![M, N]⟩ g h5) : FVec Ideal ⟨2, ![M, N]⟩ .f32) = norm n p fun j => g (ix2 0 (j 0)) := by
  funext j
  obtain ⟨r, c, rfl⟩ : ∃ r c, j = ix2 r c := ⟨j 0, j 1, eq_ix2 j⟩
  refine congrArg₂ (· * ·) (congrArg (p (ix2 r c) * ·) ?_) (rows g h5 r c)
  refine (columns _ h1 r c).trans ?_
  refine congrArg Ideal.rsqrt (congrArg₂ (· + ·) (congrArg₂ Ideal.div ?_ rfl) rfl)
  exact (column _ h2 r 0).trans (rowSum _ h3 hφ hacc r)

/-- A sum of which all terms but the first `n` are zero. -/
theorem sum_head {n K : ℕ} (hn : n ≤ K) (f : Fin K → EReal) :
    ∑ k : Fin K, (if k.val < n then f k else 0) = ∑ k : Fin n, f ⟨k.val, k.isLt.trans_le hn⟩ := by
  obtain ⟨d, rfl⟩ := Nat.exists_eq_add_of_le hn
  rw [Fin.sum_univ_add]
  refine (congrArg₂ (· + ·) (Finset.sum_congr rfl fun k _ => if_pos k.isLt) (Finset.sum_eq_zero fun k _ => if_neg ?_)).trans (add_zero _)
  show ¬ n + k.val < n
  omega

end Layer

end
-- ==== Proof.MlaDkv.lean ====
/-
  The compressed keys and values of the latent attention: the kernel's product by weights padded to 640 columns, of which it scales
  the first 512 of each row by the root of their mean square, against the scaled columns, the columns after them and zeros; and the
  prompts' rows of both, which the layer returns.
-/
module

public import proofs.«01_k».proof.Defs
public import proofs.«01_k».proof.Proof.Blocks
public import proofs.«01_k».proof.Proof.Gen.MlaDkvIdeal.Frame
public import proofs.«01_k».proof.Proof.Gen.MlaDkvRefIdeal.Run
public import proofs.«01_k».proof.Proof.Rms
public import Idealize.ShloMosaic.Lib.Quiescent

@[expose] public section

set_option maxRecDepth 16384

noncomputable section

open Idealize.ShloMosaic Idealize.ShloMosaic.TcCoe Idealize.ShloMosaic.ValueIdx Idealize.SL.Sem
open scoped BigOperators

namespace Layer

/-- Rows scaled in their first `d` columns by the root of the mean square of those columns; the other columns stay. -/
def normHead {M N : ℕ} (n : BitVec 32) (d : ℕ) (p : (⟨2, ![M, N]⟩ : Shape).Idx → EReal) (g : (⟨2, ![1, N]⟩ : Shape).Idx → EReal) :
    (⟨2, ![M, N]⟩ : Shape).Idx → EReal :=
  fun j => if (j 1).val < d then p j * scale n (∑ k : Fin N, if k.val < d then p (ix2 (j 0) k) * p (ix2 (j 0) k) else 0) * g (ix2 0 (j 1)) else p j

/-- Rows `b · 256 + s`, columns from `o`, of a matrix, laid as a stack of one over the requests, as the kernel's host code lays them. -/
theorem stacked {M N K o : ℕ} (y : (⟨2, ![M, K]⟩ : Shape).Idx → EReal) (hs : (⟨2, ![M, K]⟩ : Shape).Slices ![0, o] ⟨2, ![4096, N]⟩)
    (hc : (⟨2, ![4096, N]⟩ : Shape).ShapeCasts ⟨3, ![16, 256, N]⟩) (hb : (⟨3, ![16, 256, N]⟩ : Shape).BroadcastsInDim ⟨4, ![16, 1, 256, N]⟩ ![0, 2, 3])
    (b : Fin 16) (z : Fin 1) (s : Fin 256) (k : Fin N) (R : Fin M) (q : Fin K) (hR : R.val = b.val * 256 + s.val) (hq : q.val = o + k.val) :
    broadcastInDim ⟨4, ![16, 1, 256, N]⟩ ![0, 2, 3] hb (shapeCast ⟨3, ![16, 256, N]⟩ (extractStridedSlice ⟨2, ![4096, N]⟩ ![0, o] y hs) hc) (ix4 b z s k)
      = y (ix2 R q) := by
  have hb' := b.isLt
  have hs' := s.isLt
  refine (broadcastInDim_apply _ hb _ _ (ix3 b s k) fun a => ?_).trans ?_
  · match a with
    | ⟨0, _⟩ => rfl
    | ⟨1, _⟩ => rfl
    | ⟨2, _⟩ =>
      show k.val = if N = 1 then 0 else k.val
      split
      · have := k.isLt; omega
      · rfl
  refine (shapeCast_apply _ hc _ (ix2 (⟨b.val * 256 + s.val, by omega⟩ : Fin 4096) k) ?_).trans ?_
  · rw [Shape.rowMajor_val_three, Shape.rowMajor_val_two]
    rfl
  · refine extractStridedSlice_apply _ y hs _ _ fun a => ?_
    match a with
    | ⟨0, _⟩ => show R.val = 0 + (b.val * 256 + s.val); omega
    | ⟨1, _⟩ => show q.val = o + k.val; exact hq

/-- Rows `b · 256 + s` of a matrix, reshaped over the requests, as the reference lays them. -/
theorem laid {M N : ℕ} (y : (⟨2, ![M, N]⟩ : Shape).Idx → EReal) (hs : (⟨2, ![M, N]⟩ : Shape).Slices ![0, 0] ⟨2, ![4096, N]⟩)
    (hc : (⟨2, ![4096, N]⟩ : Shape).ShapeCasts ⟨4, ![16, 1, 256, N]⟩) (b : Fin 16) (z : Fin 1) (s : Fin 256) (k : Fin N) (R : Fin M)
    (hR : R.val = b.val * 256 + s.val) :
    shapeCast ⟨4, ![16, 1, 256, N]⟩ (extractStridedSlice ⟨2, ![4096, N]⟩ ![0, 0] y hs) hc (ix4 b z s k) = y (ix2 R k) := by
  have hb' := b.isLt
  have hs' := s.isLt
  have hz : z.val = 0 := by have := z.isLt; omega
  refine (shapeCast_apply _ hc _ (ix2 (⟨b.val * 256 + s.val, by omega⟩ : Fin 4096) k) ?_).trans ?_
  · rw [Shape.rowMajor_val_four, Shape.rowMajor_val_two]
    show (b.val * 256 + s.val) * N + k.val = ((b.val * 1 + z.val) * 256 + s.val) * N + k.val
    rw [hz]; ring
  · refine extractStridedSlice_apply _ y hs _ _ fun a => ?_
    match a with
    | ⟨0, _⟩ => show R.val = 0 + (b.val * 256 + s.val); omega
    | ⟨1, _⟩ => show k.val = 0 + k.val; omega

end Layer

namespace Cert.MlaDkvIdeal.Result

open Cert.MlaDkvIdeal Cert.MlaDkvIdeal.Gen

variable (m : (ℓ : Loc nD τ sig) → Buf (Elt Ideal) ℓ) (ρ : Dev nD → PrngReg)

/-- The product of the tokens and the weights padded to 640 columns. -/
abbrev P (c : Dev nD) : S20480x640.Idx → EReal :=
  Layer.prod (M := 20480) (K := 4096) (N := 640) (m ((c : Thread nD τ).loc main_arg0)) (Layer.padCols (K := 4096) (n := 576) 640 (m ((c : Thread nD τ).loc main_arg1)))

/-- The gains as a row padded to 640 columns. -/
abbrev Q (c : Dev nD) : S1x640.Idx → EReal :=
  Layer.padCols (K := 1) (n := 512) 640 (shapeCast S1x512 (m ((c : Thread nD τ).loc main_arg2)) shapeCasts_S512_S1x512)

/-- The whole product with the first 512 columns of its rows scaled. -/
abbrev G (c : Dev nD) : S20480x640.Idx → EReal := Layer.normHead (M := 20480) (N := 640) 0x44000000#32 512 (P m c) (Q m c)

/-- The value that the host pads with is zero. -/
theorem pad_zero : (sitofp .f32 (constantI S_ 32 0#32) : FVec Ideal S_ .f32) (Shape.Idx.first h_S_) = 0 := by
  show (((0#32 : BitVec 32).toInt : ℝ) : EReal) = 0
  simp

/-- The region finds the weights with columns of zeros (the cast to sixteen bits changes no ideal value). -/
theorem weights (c : Dev nD) : (V m c main_v1 : S4096x640.Idx → EReal) = Layer.padCols (K := 4096) (n := 576) 640 (m ((c : Thread nD τ).loc main_arg1)) := by
  refine Eq.trans ?_ (Layer.pad_cols (K := 4096) (n := 576) (N := 640) _ _ pads_S4096x576_S4096x640_000_0640 h_S_ pad_zero)
  show StableHlo.after _ _ _ = _
  simp only [hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results
  rfl

/-- The region finds the gains as a row with columns of zeros. -/
theorem gains (c : Dev nD) : (V m c main_v3 : S1x640.Idx → EReal) = Q m c := by
  refine Eq.trans ?_ (Layer.pad_cols (K := 1) (n := 512) (N := 640) _ _ pads_S1x512_S1x640_000_01280 h_S_ pad_zero)
  show StableHlo.after _ _ _ = _
  simp only [hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results
  rfl

/-- Which block each window is on at a point. -/
theorem at_point : ∀ t : Fin grid0.N,
    win0_0.index t 0 = t.val ∧ win0_0.index t 1 = 0 ∧ win0_1.index t 0 = 0 ∧ win0_1.index t 1 = 0
      ∧ win0_2.index t 0 = 0 ∧ win0_2.index t 1 = 0 ∧ win0_3.index t 0 = t.val ∧ win0_3.index t 1 = 0 := by decide +kernel

/-- The body's mask of the first 512 columns. -/
abbrev mask : IVec S1024x640 1 := cmpi .slt (iota .tc S1024x640 32 [1] iota_S1024x640_d1_w32) (broadcast S1024x640 512#32)

theorem mask_word : ∀ d : Fin 640, IntOp.cmpi .slt (BitVec.ofNat 32 (0 * 640 + d.val)) 512#32 = if d.val < 512 then 1#1 else 0#1 := by decide +kernel

theorem mask_select (a b : S1024x640.Idx → EReal) (r : Fin 1024) (d : Fin 640) :
    select mask a b (ix2 r d) = if d.val < 512 then a (ix2 r d) else b (ix2 r d) := by
  show (if IntOp.cmpi .slt (BitVec.ofNat 32 (0 * 640 + d.val)) 512#32 = 1#1 then a (ix2 r d) else b (ix2 r d)) = _
  rw [mask_word]
  by_cases h : d.val < 512 <;> simp [h]

/-- The scaling of the body, for any product. -/
theorem scaling (p : FVec Ideal S1024x640 .f32) (g : FVec Ideal S1x640 .f32) :
    (select mask (mulf (mulf p (broadcastTo S1024x640 (rsqrt (addf (divf (shapeCast S1024x1 (multiReduction .add [1] S1024
        (select mask (mulf p p) (broadcast S1024x640 (Scalar.ofBits .f32 0x00000000#32 : Ideal .f32))) 0x00000000#32 reduces_S1024x640_S1024 (.inl rfl) rfl) shapeCasts_S1024_S1024x1)
        (broadcast S1024x1 (Scalar.ofBits .f32 0x44000000#32 : Ideal .f32))) (broadcast S1024x1 (Scalar.ofBits .f32 0x358637BD#32 : Ideal .f32)))) broadcasts_S1024x1_S1024x640))
        (broadcastTo S1024x640 g broadcasts_S1x640_S1024x640)) p : S1024x640.Idx → EReal)
      = Layer.normHead (M := 1024) (N := 640) 0x44000000#32 512 p g := by
  funext j
  obtain ⟨r, d, rfl⟩ : ∃ (r : Fin 1024) (d : Fin 640), j = ix2 r d := ⟨j 0, j 1, ValueIdx.eq_ix2 j⟩
  rw [mask_select]
  refine if_congr Iff.rfl ?_ rfl
  refine congrArg₂ (· * ·) (congrArg (p (ix2 r d) * ·) ?_) (Layer.rows (M := 1024) (N := 640) g broadcasts_S1x640_S1024x640 r d)
  refine (Layer.columns (M := 1024) (N := 640) _ broadcasts_S1024x1_S1024x640 r d).trans ?_
  refine congrArg Ideal.rsqrt (congrArg₂ (· + ·) (congrArg₂ Ideal.div ?_ rfl) rfl)
  refine (Layer.column (M := 1024) _ shapeCasts_S1024_S1024x1 r 0).trans ((Layer.rowSum (M := 1024) (N := 640) _ reduces_S1024x640_S1024 (.inl rfl) rfl r).trans ?_)
  refine Finset.sum_congr rfl fun k _ => (mask_select _ _ r k).trans (if_congr Iff.rfl rfl Ideal.ofBits_zero_f32)

/-- The body leaves the product of the two blocks, the first 512 columns of its rows scaled. -/
theorem body_eq (x : Vec Ideal S1024x4096 .bf16) (w : Vec Ideal S4096x640 .bf16) (g : Vec Ideal S1x640 .f32) :
    (out0_3 x w g : S1024x640.Idx → EReal)
      = Layer.normHead (M := 1024) (N := 640) 0x44000000#32 512 (Layer.prod (M := 1024) (K := 4096) (N := 640) x w) g := by
  unfold out0_3
  rw [View.canon_unit_zero Layer.zero2, View.ld_unit_zero (S := S1024x4096) Layer.zero2, View.ld_unit_zero (S := S4096x640) Layer.zero2,
    View.ld_unit_zero (S := S1x640) Layer.zero2]
  unfold k0_pay1
  simp only [shapeCast_self]
  refine (scaling _ g).trans ?_
  exact congrArg (fun p => Layer.normHead (M := 1024) (N := 640) 0x44000000#32 512 p g) (Layer.matmul_zero (M := 1024) (K := 4096) (N := 640) none x w)

/-- The product of a point's blocks is its block of the product. -/
theorem block_prod (c : Dev nD) (t : Fin cfg0.N) (r : Fin 1024) (d : Fin 640) (R : Fin 20480) (hR : R.val = t.val * 1024 + r.val) :
    Layer.prod (M := 1024) (K := 4096) (N := 640) (iblk m c 0 t) (iblk m c 1 t) (ix2 r d)
      = Layer.prod (M := 20480) (K := 4096) (N := 640) (m ((c : Thread nD τ).loc main_arg0)) (Layer.padCols (K := 4096) (n := 576) 640 (m ((c : Thread nD τ).loc main_arg1))) (ix2 R d) := by
  obtain ⟨a0, a1, b0, b1, -, -, -, -⟩ := at_point t
  refine Finset.sum_congr rfl fun k _ => congrArg₂ (· * ·) ?_ ?_
  · refine (congrFun (V_main_arg0 m c) ((win0_0.rect t).emb (ix2 r k))).trans ?_
    refine congrArg (m ((c : Thread nD τ).loc main_arg0)) (Shape.idx_ext₂ ?_ ?_)
    · show win0_0.index t 0 * 1024 + 1 * r.val = R.val
      rw [a0, hR]; omega
    · show win0_0.index t 1 * 4096 + 1 * k.val = k.val
      rw [a1]; omega
  · refine (congrFun (weights m c) ((win0_1.rect t).emb (ix2 k d))).trans ?_
    refine congrArg (Layer.padCols 640 _) (Shape.idx_ext₂ ?_ ?_)
    · show win0_1.index t 0 * 4096 + 1 * k.val = k.val
      rw [b0]; omega
    · show win0_1.index t 1 * 640 + 1 * d.val = d.val
      rw [b1]; omega

/-- What a point writes back is its block of the whole array. -/
theorem flushed_eq (c : Dev nD) (t : Fin cfg0.N) :
    (dats m 0 c).flushed 3 t = ((cfg0.win 3).blk t).view.read (Elt Ideal) (G m c) := by
  obtain ⟨-, -, -, -, g0, g1, o0, o1⟩ := at_point t
  have ht : t.val < 20 := lt_of_lt_of_eq t.isLt N_0
  show (cfg0.win 3).cut (grid0.coords t) ((dats m 0 c).after 3 t) = _
  rw [after0_3]
  funext j
  obtain ⟨r, d, rfl⟩ : ∃ (r : Fin 1024) (d : Fin 640), j = ix2 r d := ⟨j 0, j 1, ValueIdx.eq_ix2 j⟩
  obtain ⟨R, hR⟩ : ∃ R : Fin 20480, R.val = t.val * 1024 + r.val := ⟨⟨t.val * 1024 + r.val, by omega⟩, rfl⟩
  have he : (win0_3.rect t).emb (ix2 r d) = (ix2 R d : S20480x640.Idx) := by
    refine Shape.idx_ext₂ ?_ ?_
    · show win0_3.index t 0 * 1024 + 1 * r.val = R.val
      rw [o0, hR]; omega
    · show win0_3.index t 1 * 640 + 1 * d.val = d.val
      rw [o1]; omega
  refine (congrFun (body_eq (iblk m c 0 t) (iblk m c 1 t) (iblk m c 2 t)) (ix2 r d)).trans ?_
  refine Eq.trans ?_ (congrArg (G m c) he).symm
  refine if_congr Iff.rfl (congrArg₂ (· * ·) (congrArg₂ (· * ·) (block_prod m c t r d R hR) (congrArg (Layer.scale _) (Finset.sum_congr rfl fun k _ =>
    if_congr Iff.rfl (congrArg₂ (· * ·) (block_prod m c t r k R hR) (block_prod m c t r k R hR)) rfl))) ?_) (block_prod m c t r d R hR)
  refine (congrFun (gains m c) ((win0_2.rect t).emb (ix2 0 d))).trans ?_
  refine congrArg (Q m c) (Shape.idx_ext₂ ?_ ?_)
  · show win0_2.index t 0 * 1 + 1 * 0 = 0
    rw [g0]
  · show win0_2.index t 1 * 640 + 1 * d.val = d.val
    rw [g1]; omega

/-- Every entry is in the block of some point. -/
theorem covered (i : S20480x640.Idx) : ∃ t : Fin cfg0.N, (cfg0.win 3).flush t = true ∧ i ∈ ((cfg0.win 3).blk t).view.set := by
  have h0 : (i 0 : Nat) < 20480 := (i 0).isLt
  have h1 : (i 1 : Nat) < 640 := (i 1).isLt
  have hN : grid0.N = 20 := N_0
  obtain ⟨t, ht⟩ : ∃ t : Fin grid0.N, t.val = (i 0 : Nat) / 1024 := ⟨⟨(i 0 : Nat) / 1024, by omega⟩, rfl⟩
  refine ⟨t, flush0_3 t, ?_⟩
  obtain ⟨-, -, -, -, -, -, o0, o1⟩ := at_point t
  show i ∈ ((View.whole main_v4).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [o0]; omega
  | ⟨1, _⟩ =>
    show win0_3.index t 1 * 640 ≤ (i 1 : Nat) ∧ (i 1 : Nat) < win0_3.index t 1 * 640 + 640
    rw [o1]; omega

/-- The output array ends at the whole product, its rows scaled. -/
theorem final (c : Dev nD) : (dats m 0 c).arrAt 3 cfg0.N = G m c :=
  (dats m 0 c).arrAt_eq_of_cover 3 (G m c) (fun t _ => flushed_eq m c t) covered

/-- The first result over the requests' rows: the scaled columns. -/
abbrev A (c : Dev nD) : S16x1x256x512.Idx → EReal :=
  broadcastInDim S16x1x256x512 ![0, 2, 3] bcast_S16x256x512_S16x1x256x512_0_2_3 (shapeCast S16x256x512 (extractStridedSlice S4096x512 ![0, 0] (G m c) slices_S20480x640_S4096x512_0_0) shapeCasts_S4096x512_S16x256x512)

/-- The second result over the requests' rows: the 64 columns after them. -/
abbrev B (c : Dev nD) : S16x1x256x64.Idx → EReal :=
  broadcastInDim S16x1x256x64 ![0, 2, 3] bcast_S16x256x64_S16x1x256x64_0_2_3 (shapeCast S16x256x64 (extractStridedSlice S4096x64 ![0, 512] (G m c) slices_S20480x640_S4096x64_0_512) shapeCasts_S4096x64_S16x256x64)

/-- The lines after the region find its output array at the whole array. -/
theorem found (c : Dev nD) : (Pipeline.withArrays spec0 c (V0 m c) (fun w => (dats m 0 c).arrAt w cfg0.N)) (Proc.devRef .tc main_v4) = G m c :=
  (Pipeline.withArrays_arr spec0 (by decide) c (V0 m c) _ 3).trans (final m c)

/-- The scaled columns, as the lines after the region leave them. -/
theorem after_A (c : Dev nD) : (Pipeline.afterTail₀ cfgs (dats m) 0 (V0 m) [hostOps1] c main_v9 : S16x1x256x512.Idx → EReal) = A m c := by
  have h := found m c
  show StableHlo.after _ _ _ = _
  simp only [hostOps1, List.flatten_cons, List.flatten_nil, List.append_nil]
  after_results
  unfold A
  rw [← h]
  rfl

/-- The columns after them, as the lines after the region leave them. -/
theorem after_B (c : Dev nD) : (Pipeline.afterTail₀ cfgs (dats m) 0 (V0 m) [hostOps1] c main_v10 : S16x1x256x64.Idx → EReal) = B m c := by
  have h := found m c
  show StableHlo.after _ _ _ = _
  simp only [hostOps1, List.flatten_cons, List.flatten_nil, List.append_nil]
  after_results
  unfold B
  rw [← h]
  rfl

/-- The run of the kernel with its three results. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_v9) = A m c
      ∧ r.2.mem ((c : Thread nD τ).loc main_v10) = B m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final m c),
      ((h.1 c).2 main_v9 (Pipeline.mem_restRefs_of main_v9 (by decide) (by decide))).trans (after_A m c),
      ((h.1 c).2 main_v10 (Pipeline.mem_restRefs_of main_v10 (by decide) (by decide))).trans (after_B m c), h.2 c⟩)
    (θ_run_and (run_main m ρ) (unchanged m ρ))

end Cert.MlaDkvIdeal.Result

namespace Cert.MlaDkv

open Cert.MlaDkvRefIdeal Cert.MlaDkvRefIdeal.Gen

/-- The reference's product. -/
def dots (x : FVec Ideal S20480x4096 .bf16) (w : FVec Ideal S4096x576 .f32) : FVec Ideal S20480x576 .f32 :=
  Host.dotGeneral dot_S20480x4096_S4096x576_S20480x576_1_0_0_1_n_n none (extf .f32 x bitsLt_bf16_f32) w

/-- The reference's scaled columns, of a product. -/
def scaled (p : FVec Ideal S20480x576 .f32) (g : FVec Ideal S512 .f32) : FVec Ideal S20480x512 .f32 :=
  mulf (mulf (extractStridedSlice S20480x512 ![0, 0] p slices_S20480x576_S20480x512_0_0) (broadcastInDim S20480x512 ![0, 1] bcast_S20480x1_S20480x512_0_1 (Host.rsqrt (addf (Host.divf (broadcastInDim S20480x1 ![0] bcast_S20480_S20480x1_0 (Host.reduceAdd (mulf (extractStridedSlice S20480x512 ![0, 0] p slices_S20480x576_S20480x512_0_0) (extractStridedSlice S20480x512 ![0, 0] p slices_S20480x576_S20480x512_0_0)) (constant S_ .f32 0x00000000#32) reducesTo_S20480x512_S20480_d1 h_S_)) (broadcastInDim S20480x1 ![] bcast_S_S20480x1 (constant S_ .f32 0x44000000#32))) (broadcastInDim S20480x1 ![] bcast_S_S20480x1 (constant S_ .f32 0x358637BD#32)))))) (broadcastInDim S20480x512 ![0, 1] bcast_S1x512_S20480x512_0_1 (broadcastInDim S1x512 ![1] bcast_S512_S1x512_1 g))

/-- The reference's columns after them. -/
def rest (p : FVec Ideal S20480x576 .f32) : FVec Ideal S20480x64 .f32 := extractStridedSlice S20480x64 ![0, 512] p slices_S20480x576_S20480x64_0_512

/-- The reference's three results. -/
def all (x : FVec Ideal S20480x4096 .bf16) (w : FVec Ideal S4096x576 .f32) (g : FVec Ideal S512 .f32) : FVec Ideal S20480x640 .f32 :=
  concatenate S20480x640 1 [⟨S20480x512, scaled (dots x w) g⟩, ⟨S20480x64, rest (dots x w)⟩, ⟨S20480x64, broadcastInDim S20480x64 ![] bcast_S_S20480x64 (constant S_ .f32 0x00000000#32 : FVec Ideal S_ .f32)⟩]
    concatenates_S20480x512_S20480x64_S20480x64_S20480x640_d1
def keys (x : FVec Ideal S20480x4096 .bf16) (w : FVec Ideal S4096x576 .f32) (g : FVec Ideal S512 .f32) : FVec Ideal S16x1x256x512 .f32 :=
  shapeCast _ (extractStridedSlice S4096x512 ![0, 0] (scaled (dots x w) g) slices_S20480x512_S4096x512_0_0) shapeCasts_S4096x512_S16x1x256x512
def parts (x : FVec Ideal S20480x4096 .bf16) (w : FVec Ideal S4096x576 .f32) : FVec Ideal S16x1x256x64 .f32 :=
  shapeCast _ (extractStridedSlice S4096x64 ![0, 0] (rest (dots x w)) slices_S20480x64_S4096x64_0_0) shapeCasts_S4096x64_S16x1x256x64

/-- The kernel's whole array, of the arguments. -/
abbrev G (x : FVec Ideal S20480x4096 .bf16) (w : FVec Ideal S4096x576 .f32) (g : FVec Ideal S512 .f32) : S20480x640.Idx → EReal :=
  Layer.normHead (M := 20480) (N := 640) 0x44000000#32 512 (Layer.prod (M := 20480) (K := 4096) (N := 640) x (Layer.padCols (K := 4096) (n := 576) 640 w))
    (Layer.padCols (K := 1) (n := 512) 640 (shapeCast Cert.MlaDkvIdeal.S1x512 g Cert.MlaDkvIdeal.Gen.facts.shapeCasts_S512_S1x512))

theorem dots_eq (x : FVec Ideal S20480x4096 .bf16) (w : FVec Ideal S4096x576 .f32) :
    dots x w = Layer.prod (M := 20480) (K := 4096) (N := 576) x w := Layer.dotGeneral_prod (M := 20480) (K := 4096) (N := 576) none _ _

/-- The padded product in a column of the weights. -/
theorem padded (x : FVec Ideal S20480x4096 .bf16) (w : FVec Ideal S4096x576 .f32) (r : Fin 20480) (q : Fin 640) (q' : Fin 576) (hq : q.val = q'.val) :
    Layer.prod (M := 20480) (K := 4096) (N := 640) x (Layer.padCols (K := 4096) (n := 576) 640 w) (ix2 r q) = dots x w (ix2 r q') := by
  rw [dots_eq]
  refine (Layer.prod_padCols (M := 20480) (K := 4096) (n := 576) (N := 640) x w (ix2 r q)).trans ((dif_pos (show q.val < 576 by omega)).trans ?_)
  exact congrArg (Layer.prod (M := 20480) (K := 4096) (N := 576) x w) (Shape.idx_ext₂ rfl hq)

/-- The reference's scaled columns, as a function of the product's first columns. -/
theorem scaled_norm (p : FVec Ideal S20480x576 .f32) (g : FVec Ideal S512 .f32) :
    scaled p g = Layer.norm (M := 20480) (N := 512) 0x44000000#32 (extractStridedSlice S20480x512 ![0, 0] p slices_S20480x576_S20480x512_0_0) g := by
  unfold scaled
  exact Layer.host_norm (M := 20480) (N := 512) 0x44000000#32 (extractStridedSlice S20480x512 ![0, 0] p slices_S20480x576_S20480x512_0_0) g
    bcast_S20480x1_S20480x512_0_1 bcast_S20480_S20480x1_0 reducesTo_S20480x512_S20480_d1 (by decide) h_S_ bcast_S_S20480x1 bcast_S1x512_S20480x512_0_1 bcast_S512_S1x512_1

/-- The reference's scaled columns are the kernel's. -/
theorem scaled_eq (x : FVec Ideal S20480x4096 .bf16) (w : FVec Ideal S4096x576 .f32) (g : FVec Ideal S512 .f32) (r : Fin 20480) (q : Fin 640) (k : Fin 512)
    (hq : q.val = k.val) : G x w g (ix2 r q) = scaled (dots x w) g (ix2 r k) := by
  refine (if_pos (show q.val < 512 by omega)).trans ?_
  refine Eq.trans ?_ (congrFun (scaled_norm (dots x w) g) (ix2 r k)).symm
  have hs : ∀ (k : Fin 512) (q : Fin 640), q.val = k.val →
      Layer.prod (M := 20480) (K := 4096) (N := 640) x (Layer.padCols (K := 4096) (n := 576) 640 w) (ix2 r q)
        = extractStridedSlice S20480x512 ![0, 0] (dots x w) slices_S20480x576_S20480x512_0_0 (ix2 r k) := fun k q hq =>
    (padded x w r q ⟨k.val, by omega⟩ hq).trans (extractStridedSlice_apply _ (dots x w) slices_S20480x576_S20480x512_0_0 (ix2 r k) _ fun a => by
      match a with
      | ⟨0, _⟩ => show r.val = 0 + r.val; omega
      | ⟨1, _⟩ => show k.val = 0 + k.val; omega).symm
  refine congrArg₂ (· * ·) (congrArg₂ (· * ·) (hs k q hq) (congrArg (Layer.scale _) ?_)) ?_
  · refine (Layer.sum_head (n := 512) (K := 640) (by norm_num) _).trans (Finset.sum_congr rfl fun i _ => ?_)
    exact congrArg₂ (· * ·) (hs i _ rfl) (hs i _ rfl)
  · refine (dif_pos (show q.val < 512 by omega)).trans ?_
    refine (Layer.row (N := 512) g _ 0 ⟨q.val, by omega⟩).trans ?_
    exact congrArg (fun i : Fin 512 => g (ix1 i)) (Fin.ext hq)

/-- The reference's columns after them are the kernel's. -/
theorem rest_eq (x : FVec Ideal S20480x4096 .bf16) (w : FVec Ideal S4096x576 .f32) (g : FVec Ideal S512 .f32) (r : Fin 20480) (q : Fin 640) (k : Fin 64)
    (hq : q.val = 512 + k.val) : G x w g (ix2 r q) = rest (dots x w) (ix2 r k) := by
  refine (if_neg (show ¬ q.val < 512 by omega)).trans ?_
  refine (padded x w r q ⟨512 + k.val, by omega⟩ hq).trans (extractStridedSlice_apply _ (dots x w) slices_S20480x576_S20480x64_0_512 (ix2 r k) _ fun a => ?_).symm
  match a with
  | ⟨0, _⟩ => show r.val = 0 + r.val; omega
  | ⟨1, _⟩ => rfl

/-- The columns after those are zeros. -/
theorem zero_eq (x : FVec Ideal S20480x4096 .bf16) (w : FVec Ideal S4096x576 .f32) (g : FVec Ideal S512 .f32) (r : Fin 20480) (q : Fin 640)
    (hq : ¬ q.val < 576) : G x w g (ix2 r q) = 0 := by
  refine (if_neg (show ¬ q.val < 512 by omega)).trans ?_
  exact (Layer.prod_padCols (M := 20480) (K := 4096) (n := 576) (N := 640) x w (ix2 r q)).trans (dif_neg hq)

/-- The reference's whole array is the kernel's. -/
theorem all_eq (x : FVec Ideal S20480x4096 .bf16) (w : FVec Ideal S4096x576 .f32) (g : FVec Ideal S512 .f32) : all x w g = G x w g := by
  funext j
  obtain ⟨r, q, rfl⟩ : ∃ (r : Fin 20480) (q : Fin 640), j = ix2 r q := ⟨j 0, j 1, ValueIdx.eq_ix2 j⟩
  have off : ∀ {N : ℕ} (k : Fin N) (b : Fin 2), b ≠ 1 → ((ix2 r k : (⟨2, ![20480, N]⟩ : Shape).Idx) b).val = ((ix2 r q : S20480x640.Idx) b).val := by
    intro N k b hb
    match b with
    | ⟨0, _⟩ => rfl
    | ⟨1, _⟩ => exact absurd rfl hb
  by_cases h1 : q.val < 512
  · refine (concatenate_apply_piece 1 _ _ (ix2 r q) 0 (by simp) S20480x512 _ rfl rfl 0 rfl (ix2 r ⟨q.val, h1⟩) (fun b hb => off _ b hb) ?_).trans
      (scaled_eq x w g r q ⟨q.val, h1⟩ rfl).symm
    show 0 + q.val = q.val
    omega
  by_cases h2 : q.val < 576
  · refine (concatenate_apply_piece 1 _ _ (ix2 r q) 1 (by simp) S20480x64 _ rfl rfl 512 rfl (ix2 r ⟨q.val - 512, by omega⟩) (fun b hb => off _ b hb) ?_).trans
      (rest_eq x w g r q ⟨q.val - 512, by omega⟩ (by show q.val = 512 + (q.val - 512); omega)).symm
    show 512 + (q.val - 512) = q.val
    omega
  · refine (concatenate_apply_piece 1 _ _ (ix2 r q) 2 (by simp) S20480x64 _ rfl rfl 576 rfl (ix2 r ⟨q.val - 576, by omega⟩) (fun b hb => off _ b hb) ?_).trans
      (((broadcastInDim_scalar_apply _ _ _).trans Ideal.ofBits_zero_f32).trans (zero_eq x w g r q h2).symm)
    show 576 + (q.val - 576) = q.val
    omega

/-- The reference's rows of the requests are the kernel's, in the scaled columns -/
theorem keys_eq (x : FVec Ideal S20480x4096 .bf16) (w : FVec Ideal S4096x576 .f32) (g : FVec Ideal S512 .f32) (y : S20480x640.Idx → EReal) (hy : y = G x w g) (hs hc hb) :
    keys x w g = broadcastInDim S16x1x256x512 ![0, 2, 3] hb (shapeCast Cert.MlaDkvIdeal.S16x256x512 (extractStridedSlice S4096x512 ![0, 0] y hs) hc) := by
  subst hy
  funext j
  obtain ⟨b, z, s, k, rfl⟩ : ∃ (b : Fin 16) (z : Fin 1) (s : Fin 256) (k : Fin 512), j = ix4 b z s k := ⟨j 0, j 1, j 2, j 3, ValueIdx.eq_ix4 j⟩
  refine (Layer.laid (M := 20480) (N := 512) _ slices_S20480x512_S4096x512_0_0 shapeCasts_S4096x512_S16x1x256x512 b z s k ⟨b.val * 256 + s.val, by omega⟩ rfl).trans ?_
  refine Eq.trans ?_ (Layer.stacked (M := 20480) (N := 512) (K := 640) (o := 0) (G x w g) hs hc hb b z s k ⟨b.val * 256 + s.val, by omega⟩ ⟨k.val, by omega⟩ rfl (by show k.val = 0 + k.val; omega)).symm
  exact (scaled_eq x w g _ _ k rfl).symm

/-- and in the columns after them. -/
theorem parts_eq (x : FVec Ideal S20480x4096 .bf16) (w : FVec Ideal S4096x576 .f32) (g : FVec Ideal S512 .f32) (y : S20480x640.Idx → EReal) (hy : y = G x w g) (hs hc hb) :
    parts x w = broadcastInDim S16x1x256x64 ![0, 2, 3] hb (shapeCast Cert.MlaDkvIdeal.S16x256x64 (extractStridedSlice S4096x64 ![0, 512] y hs) hc) := by
  subst hy
  funext j
  obtain ⟨b, z, s, k, rfl⟩ : ∃ (b : Fin 16) (z : Fin 1) (s : Fin 256) (k : Fin 64), j = ix4 b z s k := ⟨j 0, j 1, j 2, j 3, ValueIdx.eq_ix4 j⟩
  refine (Layer.laid (M := 20480) (N := 64) _ slices_S20480x64_S4096x64_0_0 shapeCasts_S4096x64_S16x1x256x64 b z s k ⟨b.val * 256 + s.val, by omega⟩ rfl).trans ?_
  refine Eq.trans ?_ (Layer.stacked (M := 20480) (N := 64) (K := 640) (o := 512) (G x w g) hs hc hb b z s k ⟨b.val * 256 + s.val, by omega⟩ ⟨512 + k.val, by omega⟩ rfl rfl).symm
  exact (rest_eq x w g _ _ k rfl).symm

/-- The reference runs to its end, leaves its arguments as they were and no counter raised. -/
theorem frame_ref : Cert.quiescent_MlaDkvRefIdeal := fun m ρ _ =>
  (θ_run _ _ _).mono (fun r h => ⟨fun c => (h c).2.2.2, Idealize.ShloMosaic.sem_eq_zero_of_no_sems (by decide) r.2⟩)
    (Cert.MlaDkvRefIdeal.Value.run (F := Ideal) m ρ)

/-- The kernel and the reference leave the same arrays. -/
theorem algebraic : Cert.algebraic_MlaDkvIdeal_MlaDkvRefIdeal := fun m ρ m' ρ' _ hag =>
  ⟨fun c => Cert.MlaDkvIdeal.Result.G m c, fun c => Cert.MlaDkvIdeal.Result.A m c, fun c => Cert.MlaDkvIdeal.Result.B m c,
    Cert.MlaDkvIdeal.Result.run m ρ,
    (θ_run _ _ _).mono (fun _ h c => ⟨(h c).1.trans (by rw [(hag c).1, (hag c).2.1, (hag c).2.2]; exact all_eq _ _ _),
        (h c).2.1.trans (by rw [(hag c).1, (hag c).2.1, (hag c).2.2]; exact keys_eq _ _ _ _ rfl _ _ _),
        (h c).2.2.1.trans (by rw [(hag c).1, (hag c).2.1]; exact parts_eq _ _ (m ((c.tc : Thread _ _).loc Cert.MlaDkvIdeal.main_arg2)) _ rfl _ _ _), (h c).2.2.2⟩)
      (Cert.MlaDkvRefIdeal.Value.run (F := Ideal) m' ρ')⟩

end Cert.MlaDkv

end
-- ==== Proof.MlaDq.lean ====
/-
  The compressed queries of the latent attention: the kernel's product of each block of tokens, whose rows it scales by the root
  of their mean square, is the whole product with its rows scaled.
-/
module

public import proofs.«01_k».proof.Defs
public import proofs.«01_k».proof.Proof.Blocks
public import proofs.«01_k».proof.Proof.Gen.MlaDqIdeal.Value
public import proofs.«01_k».proof.Proof.Gen.MlaDqRefIdeal.Run
public import proofs.«01_k».proof.Proof.Rms
public import Idealize.ShloMosaic.Lib.Quiescent

@[expose] public section

set_option maxRecDepth 16384

noncomputable section

open Idealize.ShloMosaic Idealize.ShloMosaic.TcCoe Idealize.ShloMosaic.ValueIdx Idealize.SL.Sem
open scoped BigOperators

namespace Cert.MlaDqIdeal.Result

open Cert.MlaDqIdeal Cert.MlaDqIdeal.Gen

variable (m : (ℓ : Loc nD τ sig) → Buf (Elt Ideal) ℓ) (ρ : Dev nD → PrngReg)

/-- The whole product of the tokens and the weights, its rows scaled. -/
abbrev G (c : Dev nD) : S20480x1024.Idx → EReal :=
  Layer.norm (M := 20480) (N := 1024) 0x44800000#32 (Layer.prod (M := 20480) (K := 4096) (N := 1024) (m ((c : Thread nD τ).loc main_arg0)) (m ((c : Thread nD τ).loc main_arg1)))
    (m ((c : Thread nD τ).loc main_arg2))

/-- The region finds the weights' buffer holding the weights (the cast to sixteen bits changes no ideal value). -/
theorem weights (c : Dev nD) : (V m c main_v0 : S4096x1024.Idx → EReal) = m ((c : Thread nD τ).loc main_arg1) := by
  show StableHlo.after hostOps0 _ _ = _
  after_results
  rfl

/-- The region finds the gains laid as a row. -/
theorem gains (c : Dev nD) (k : Fin 1024) : (V m c main_v1 : S1x1024.Idx → EReal) (ix2 0 k) = (m ((c : Thread nD τ).loc main_arg2) : S1024.Idx → EReal) (ix1 k) := by
  have h : (V m c main_v1 : S1x1024.Idx → EReal) = shapeCast S1x1024 (m ((c : Thread nD τ).loc main_arg2)) shapeCasts_S1024_S1x1024 := by
    show StableHlo.after hostOps0 _ _ = _
    after_results
    rfl
  rw [h]
  exact Layer.row (N := 1024) _ shapeCasts_S1024_S1x1024 0 k

/-- Which block each window is on at a point. -/
theorem at_point : ∀ t : Fin grid0.N,
    win0_0.index t 0 = t.val ∧ win0_0.index t 1 = 0 ∧ win0_1.index t 0 = 0 ∧ win0_1.index t 1 = 0
      ∧ win0_2.index t 0 = 0 ∧ win0_2.index t 1 = 0 ∧ win0_3.index t 0 = t.val ∧ win0_3.index t 1 = 0 := by decide +kernel

/-- The body leaves the product of the two blocks, its rows scaled. -/
theorem body_eq (x : Vec Ideal S1024x4096 .bf16) (w : Vec Ideal S4096x1024 .bf16) (g : Vec Ideal S1x1024 .f32) :
    (out0_3 x w g : S1024x1024.Idx → EReal)
      = Layer.norm (M := 1024) (N := 1024) 0x44800000#32 (Layer.prod (M := 1024) (K := 4096) (N := 1024) x w) fun j => g (ix2 0 (j 0)) := by
  unfold out0_3
  rw [View.canon_unit_zero Layer.zero2, View.ld_unit_zero (S := S1024x4096) Layer.zero2, View.ld_unit_zero (S := S4096x1024) Layer.zero2,
    View.ld_unit_zero (S := S1x1024) Layer.zero2]
  unfold k0_pay1
  simp only [shapeCast_self]
  refine (Layer.kernel_norm (M := 1024) (N := 1024) 0x44800000#32 _ g broadcasts_S1024x1_S1024x1024 shapeCasts_S1024_S1024x1 reduces_S1024x1024_S1024
    (.inl rfl) rfl broadcasts_S1x1024_S1024x1024).trans ?_
  exact congrArg (fun p => Layer.norm (M := 1024) (N := 1024) 0x44800000#32 p _) (Layer.matmul_zero (M := 1024) (K := 4096) (N := 1024) none x w)

/-- The product of a point's blocks is its block of the product. -/
theorem block_prod (c : Dev nD) (t : Fin cfg0.N) (r : Fin 1024) (d : Fin 1024) (R : Fin 20480) (hR : R.val = t.val * 1024 + r.val) :
    Layer.prod (M := 1024) (K := 4096) (N := 1024) (iblk m c 0 t) (iblk m c 1 t) (ix2 r d)
      = Layer.prod (M := 20480) (K := 4096) (N := 1024) (m ((c : Thread nD τ).loc main_arg0)) (m ((c : Thread nD τ).loc main_arg1)) (ix2 R d) := by
  obtain ⟨a0, a1, b0, b1, -, -, -, -⟩ := at_point t
  refine Finset.sum_congr rfl fun k _ => congrArg₂ (· * ·) ?_ ?_
  · refine (congrFun (V_main_arg0 m c) ((win0_0.rect t).emb (ix2 r k))).trans ?_
    refine congrArg (m ((c : Thread nD τ).loc main_arg0)) (Shape.idx_ext₂ ?_ ?_)
    · show win0_0.index t 0 * 1024 + 1 * r.val = R.val
      rw [a0, hR]; omega
    · show win0_0.index t 1 * 4096 + 1 * k.val = k.val
      rw [a1]; omega
  · refine (congrFun (weights m c) ((win0_1.rect t).emb (ix2 k d))).trans ?_
    refine congrArg (m ((c : Thread nD τ).loc main_arg1)) (Shape.idx_ext₂ ?_ ?_)
    · show win0_1.index t 0 * 4096 + 1 * k.val = k.val
      rw [b0]; omega
    · show win0_1.index t 1 * 1024 + 1 * d.val = d.val
      rw [b1]; omega

/-- What a point writes back is its block of the whole array. -/
theorem flushed_eq (c : Dev nD) (t : Fin cfg0.N) :
    (dats m 0 c).flushed 3 t = ((cfg0.win 3).blk t).view.read (Elt Ideal) (G m c) := by
  obtain ⟨-, -, -, -, g0, g1, o0, o1⟩ := at_point t
  have ht : t.val < 20 := lt_of_lt_of_eq t.isLt N_0
  rw [Value.flushed3]
  funext j
  obtain ⟨r, d, rfl⟩ : ∃ (r : Fin 1024) (d : Fin 1024), j = ix2 r d := ⟨j 0, j 1, ValueIdx.eq_ix2 j⟩
  obtain ⟨R, hR⟩ : ∃ R : Fin 20480, R.val = t.val * 1024 + r.val := ⟨⟨t.val * 1024 + r.val, by omega⟩, rfl⟩
  have he : (win0_3.rect t).emb (ix2 r d) = (ix2 R d : S20480x1024.Idx) := by
    refine Shape.idx_ext₂ ?_ ?_
    · show win0_3.index t 0 * 1024 + 1 * r.val = R.val
      rw [o0, hR]; omega
    · show win0_3.index t 1 * 1024 + 1 * d.val = d.val
      rw [o1]; omega
  refine (congrFun (body_eq (iblk m c 0 t) (iblk m c 1 t) (iblk m c 2 t)) (ix2 r d)).trans ?_
  refine Eq.trans ?_ (congrArg (G m c) he).symm
  refine congrArg₂ (· * ·) (congrArg₂ (· * ·) (block_prod m c t r d R hR) (congrArg (Layer.scale _) (Finset.sum_congr rfl fun k _ =>
    congrArg₂ (· * ·) (block_prod m c t r k R hR) (block_prod m c t r k R hR)))) ?_
  refine Eq.trans ?_ (gains m c d)
  refine congrArg (V m c main_v1) (Shape.idx_ext₂ ?_ ?_)
  · show win0_2.index t 0 * 1 + 1 * 0 = 0
    rw [g0]
  · show win0_2.index t 1 * 1024 + 1 * d.val = d.val
    rw [g1]; omega

/-- Every entry is in the block of some point. -/
theorem covered (i : S20480x1024.Idx) : ∃ t : Fin cfg0.N, (cfg0.win 3).flush t = true ∧ i ∈ ((cfg0.win 3).blk t).view.set := by
  have h0 : (i 0 : Nat) < 20480 := (i 0).isLt
  have h1 : (i 1 : Nat) < 1024 := (i 1).isLt
  have hN : grid0.N = 20 := N_0
  obtain ⟨t, ht⟩ : ∃ t : Fin grid0.N, t.val = (i 0 : Nat) / 1024 := ⟨⟨(i 0 : Nat) / 1024, by omega⟩, rfl⟩
  refine ⟨t, flush0_3 t, ?_⟩
  obtain ⟨-, -, -, -, -, -, o0, o1⟩ := at_point t
  show i ∈ ((View.whole main_v2).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [o0]; omega
  | ⟨1, _⟩ =>
    show win0_3.index t 1 * 1024 ≤ (i 1 : Nat) ∧ (i 1 : Nat) < win0_3.index t 1 * 1024 + 1024
    rw [o1]; omega

/-- The output array ends at the whole product, its rows scaled. -/
theorem final (c : Dev nD) : (dats m 0 c).arrAt 3 cfg0.N = G m c :=
  (dats m 0 c).arrAt_eq_of_cover 3 (G m c) (fun t _ => flushed_eq m c t) covered

end Cert.MlaDqIdeal.Result

namespace Cert.MlaDq

open Cert.MlaDqRefIdeal Cert.MlaDqRefIdeal.Gen

/-- The reference leaves the whole product of its arguments, its rows scaled. -/
theorem reference_eq (x : FVec Ideal S20480x4096 .bf16) (w : FVec Ideal S4096x1024 .f32) (g : FVec Ideal S1024 .f32) :
    (truncf .bf16 (mulf (mulf (Host.dotGeneral dot_S20480x4096_S4096x1024_S20480x1024_1_0_0_1_n_n none (extf .f32 x bitsLt_bf16_f32) w) (broadcastInDim S20480x1024 ![0, 1] bcast_S20480x1_S20480x1024_0_1 (Host.rsqrt (addf (Host.divf (broadcastInDim S20480x1 ![0] bcast_S20480_S20480x1_0 (Host.reduceAdd (mulf (Host.dotGeneral dot_S20480x4096_S4096x1024_S20480x1024_1_0_0_1_n_n none (extf .f32 x bitsLt_bf16_f32) w) (Host.dotGeneral dot_S20480x4096_S4096x1024_S20480x1024_1_0_0_1_n_n none (extf .f32 x bitsLt_bf16_f32) w)) (constant S_ .f32 0x00000000#32) reducesTo_S20480x1024_S20480_d1 h_S_)) (broadcastInDim S20480x1 ![] bcast_S_S20480x1 (constant S_ .f32 0x44800000#32))) (broadcastInDim S20480x1 ![] bcast_S_S20480x1 (constant S_ .f32 0x358637BD#32)))))) (broadcastInDim S20480x1024 ![0, 1] bcast_S1x1024_S20480x1024_0_1 (broadcastInDim S1x1024 ![1] bcast_S1024_S1x1024_1 g))) bitsLt_bf16_f32 : FVec Ideal S20480x1024 .bf16)
      = Layer.norm (M := 20480) (N := 1024) 0x44800000#32 (Layer.prod (M := 20480) (K := 4096) (N := 1024) x w) g :=
  (Layer.host_norm (M := 20480) (N := 1024) 0x44800000#32 (Host.dotGeneral dot_S20480x4096_S4096x1024_S20480x1024_1_0_0_1_n_n none (extf .f32 x bitsLt_bf16_f32) w) g
    bcast_S20480x1_S20480x1024_0_1 bcast_S20480_S20480x1_0 reducesTo_S20480x1024_S20480_d1 (by decide) h_S_ bcast_S_S20480x1 bcast_S1x1024_S20480x1024_0_1 bcast_S1024_S1x1024_1).trans
  (congrArg (fun p => Layer.norm (M := 20480) (N := 1024) 0x44800000#32 p g) (Layer.dotGeneral_prod (M := 20480) (K := 4096) (N := 1024) none _ _))

/-- The reference runs to its end, leaves its arguments as they were and no counter raised. -/
theorem frame_ref : Cert.quiescent_MlaDqRefIdeal := fun m ρ _ =>
  (θ_run _ _ _).mono (fun r h => ⟨fun c => (h c).2, Idealize.ShloMosaic.sem_eq_zero_of_no_sems (by decide) r.2⟩)
    (Cert.MlaDqRefIdeal.Value.run (F := Ideal) m ρ)

/-- The kernel and the reference leave the same array. -/
theorem algebraic : Cert.algebraic_MlaDqIdeal_MlaDqRefIdeal := fun m ρ m' ρ' _ hag =>
  ⟨fun c => Cert.MlaDqIdeal.Result.G m c,
    (θ_run _ _ _).mono (fun _ h c => ⟨(h c).1.trans (Cert.MlaDqIdeal.Result.final m c), (h c).2⟩)
      (Cert.MlaDqIdeal.Value.run_blocks m ρ),
    (θ_run _ _ _).mono (fun _ h c => ⟨(h c).1.trans (by rw [(hag c).1, (hag c).2.1, (hag c).2.2]; exact reference_eq _ _ _), (h c).2⟩)
      (Cert.MlaDqRefIdeal.Value.run (F := Ideal) m' ρ')⟩

end Cert.MlaDq

end
-- ==== Proof.Heads.lean ====
/-
  Products whose columns are the lanes of heads: the host's product by a table over heads and lanes, the heads laid side by side,
  and the lanes padded by zeros.
-/
module

public import proofs.«01_k».proof.Defs
public import proofs.«01_k».proof.Proof.Blocks
public import Idealize.ShloMosaic.Lib.IdealHost

@[expose] public section

noncomputable section

namespace Layer

open Idealize.ShloMosaic Idealize.ShloMosaic.ValueIdx
open scoped BigOperators

/-- The host's product of a matrix by a table over heads and lanes, read at an index. -/
theorem dotGeneral_heads {M K H D : ℕ} {φ₁ φ₂ : FTy} (w : DotDims.WF ⟨2, ![M, K]⟩ ⟨3, ![K, H, D]⟩ ⟨3, ![M, H, D]⟩ [1] [0] [0] [1, 2] [] [])
    (prec : Option ContractPrecision) (A : FVec Ideal ⟨2, ![M, K]⟩ φ₁) (B : FVec Ideal ⟨3, ![K, H, D]⟩ φ₂) (r : Fin M) (h : Fin H) (d : Fin D) :
    (Host.dotGeneral (⟨[1], [0], [0], [1, 2], [], [], w⟩ : DotDims _ _ _) prec A B : FVec Ideal ⟨3, ![M, H, D]⟩ .f32) (ix3 r h d)
      = ∑ c : Fin K, A (ix2 r c) * B (ix3 c h d) := by
  show FloatOps.dotGeneral _ prec _ A B (ix3 r h d) = _
  rw [Ideal.dotGeneral_apply,
    ← Equiv.sum_comp (contrEquiv1 (⟨[1], [0], [0], [1, 2], [], [], w⟩ : DotDims _ _ _) K rfl rfl).symm]
  refine Finset.sum_congr rfl fun c _ => ?_
  have c3 := contrEquiv1_symm_val (⟨[1], [0], [0], [1, 2], [], [], w⟩ : DotDims ⟨2, ![M, K]⟩ ⟨3, ![K, H, D]⟩ ⟨3, ![M, H, D]⟩) K rfl rfl c
  have l3 : (⟨[1], [0], [0], [1, 2], [], [], w⟩ : DotDims ⟨2, ![M, K]⟩ ⟨3, ![K, H, D]⟩ ⟨3, ![M, H, D]⟩).lhsIdx (ix3 r h d)
      ((contrEquiv1 _ K rfl rfl).symm c) = ix2 r c := by
    funext ax; apply Fin.ext
    match ax with
    | ⟨0, _⟩ => simp [DotDims.lhsIdx]; rfl
    | ⟨1, _⟩ => simp [DotDims.lhsIdx]; exact c3
  have r3 : (⟨[1], [0], [0], [1, 2], [], [], w⟩ : DotDims ⟨2, ![M, K]⟩ ⟨3, ![K, H, D]⟩ ⟨3, ![M, H, D]⟩).rhsIdx (ix3 r h d)
      ((contrEquiv1 _ K rfl rfl).symm c) = ix3 c h d := by
    funext ax; apply Fin.ext
    match ax with
    | ⟨0, _⟩ => simp [DotDims.rhsIdx]; exact c3
    | ⟨1, _⟩ => simp [DotDims.rhsIdx]; rfl
    | ⟨2, _⟩ => simp [DotDims.rhsIdx]; rfl
  rw [l3, r3]

/-- The heads laid side by side, read at a head's lane. -/
theorem heads {M H D N : ℕ} (x : (⟨3, ![M, H, D]⟩ : Shape).Idx → EReal) (hc : (⟨3, ![M, H, D]⟩ : Shape).ShapeCasts ⟨2, ![M, N]⟩) (hN : N = H * D)
    (r : Fin M) (q : Fin N) (h : Fin H) (d : Fin D) (hq : q.val = h.val * D + d.val) :
    shapeCast ⟨2, ![M, N]⟩ x hc (ix2 r q) = x (ix3 r h d) :=
  shapeCast_apply x hc _ _ (by
    rw [Shape.rowMajor_val_three, Shape.rowMajor_val_two]
    show (r.val * H + h.val) * D + d.val = r.val * N + q.val
    rw [hq, hN]; ring)

/-- The host's padding of the lanes by a zero. -/
theorem pad_lanes {K H n D hi : ℕ} (w : (⟨3, ![K, H, n]⟩ : Shape).Idx → EReal) {u : Shape} (v : u.Idx → EReal)
    (hp : (⟨3, ![K, H, n]⟩ : Shape).Pads ![0, 0, 0] ![0, 0, hi] ![0, 0, 0] ⟨3, ![K, H, D]⟩) (hu : 0 < u.numel) (hv : v (Shape.Idx.first hu) = 0)
    (k : Fin K) (h : Fin H) (d : Fin D) :
    pad ⟨3, ![K, H, D]⟩ ![0, 0, 0] ![0, 0, hi] ![0, 0, 0] w v hp hu (ix3 k h d) = if hd : d.val < n then w (ix3 k h ⟨d.val, hd⟩) else 0 := by
  by_cases hj : d.val < n
  · rw [dif_pos hj]
    refine pad_apply_of_inside _ _ _ w v hp hu _ (ix3 k h ⟨d.val, hj⟩) fun a => ?_
    match a with
    | ⟨0, _⟩ => show k.val = 0 + k.val * (0 + 1); omega
    | ⟨1, _⟩ => show h.val = 0 + h.val * (0 + 1); omega
    | ⟨2, _⟩ => show d.val = 0 + d.val * (0 + 1); omega
  · rw [dif_neg hj, pad_apply_of_not_inside _ _ _ w v hp hu _ (2 : Fin 3), hv]
    rintro ⟨-, -, h3⟩
    exact hj (by simpa using h3)

end Layer

end
-- ==== Proof.MlaUq.lean ====
/-
  The queries of the latent attention, from the compressed queries: the kernel's product by weights whose heads are padded to
  256 lanes is the product head by head, with lanes of zeros.
-/
module

public import proofs.«01_k».proof.Defs
public import proofs.«01_k».proof.Proof.Blocks
public import proofs.«01_k».proof.Proof.Gen.MlaUqIdeal.Value
public import proofs.«01_k».proof.Proof.Gen.MlaUqRefIdeal.Run
public import proofs.«01_k».proof.Proof.Heads
public import Idealize.ShloMosaic.Lib.Quiescent

@[expose] public section

set_option maxRecDepth 16384

noncomputable section

open Idealize.ShloMosaic Idealize.ShloMosaic.TcCoe Idealize.ShloMosaic.ValueIdx Idealize.SL.Sem
open scoped BigOperators

namespace Cert.MlaUqIdeal.Result

open Cert.MlaUqIdeal Cert.MlaUqIdeal.Gen

variable (m : (ℓ : Loc nD τ sig) → Buf (Elt Ideal) ℓ) (ρ : Dev nD → PrngReg)

/-- The weights with each head padded to 256 lanes, the heads side by side. -/
abbrev W (c : Dev nD) : S1024x8192.Idx → EReal :=
  shapeCast S1024x8192 (pad S1024x32x256 ![0, 0, 0] ![0, 0, 64] ![0, 0, 0] (m ((c : Thread nD τ).loc main_arg1)) (sitofp .f32 (constantI S_ 32 0#32) : FVec Ideal S_ .f32)
    pads_S1024x32x192_S1024x32x256_000_000_0640 h_S_) shapeCasts_S1024x32x256_S1024x8192

/-- The whole product of the compressed queries and the padded weights. -/
abbrev G (c : Dev nD) : S20480x8192.Idx → EReal :=
  Layer.prod (M := 20480) (K := 1024) (N := 8192) (m ((c : Thread nD τ).loc main_arg0)) (W m c)

/-- The region finds the padded weights (the cast to sixteen bits changes no ideal value). -/
theorem weights (c : Dev nD) : (V m c main_v2 : S1024x8192.Idx → EReal) = W m c := by
  show StableHlo.after _ _ _ = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results
  rfl

/-- The value that the host pads with is zero. -/
theorem pad_zero : (sitofp .f32 (constantI S_ 32 0#32) : FVec Ideal S_ .f32) (Shape.Idx.first h_S_) = 0 := by
  show (((0#32 : BitVec 32).toInt : ℝ) : EReal) = 0
  simp

/-- Which block each window is on at a point. -/
theorem at_point : ∀ t : Fin grid0.N,
    win0_0.index t 0 = t.val / 8 ∧ win0_0.index t 1 = 0 ∧ win0_1.index t 0 = 0 ∧ win0_1.index t 1 = t.val % 8
      ∧ win0_2.index t 0 = t.val / 8 ∧ win0_2.index t 1 = t.val % 8 := by decide +kernel

/-- The body leaves the product of the two blocks. -/
theorem body_eq (x : Vec Ideal S1024x1024 .bf16) (w : Vec Ideal S1024x1024 .bf16) :
    (out0_2 x w : S1024x1024.Idx → EReal) = Layer.prod (M := 1024) (K := 1024) (N := 1024) x w := by
  unfold out0_2
  rw [View.canon_unit_zero Layer.zero2, View.ld_unit_zero (S := S1024x1024) Layer.zero2, View.ld_unit_zero (S := S1024x1024) Layer.zero2]
  unfold k0_pay1
  simp only [shapeCast_self]
  exact Layer.matmul_zero (M := 1024) (K := 1024) (N := 1024) none x w

/-- What a point writes back is its block of the whole product. -/
theorem flushed_eq (c : Dev nD) (t : Fin cfg0.N) :
    (dats m 0 c).flushed 2 t = ((cfg0.win 2).blk t).view.read (Elt Ideal) (G m c) := by
  obtain ⟨a0, a1, b0, b1, o0, o1⟩ := at_point t
  rw [Value.flushed2]
  funext j
  show out0_2 (iblk m c 0 t) (iblk m c 1 t) j = G m c ((win0_2.rect t).emb j)
  rw [body_eq]
  refine Finset.sum_congr rfl fun k _ => congrArg₂ (· * ·) ?_ ?_
  · show V m c main_arg0 ((win0_0.rect t).emb (ix2 (j 0) k)) = _
    rw [V_main_arg0]
    refine congrArg (m ((c : Thread nD τ).loc main_arg0)) (Shape.idx_ext₂ ?_ ?_)
    · show win0_0.index t 0 * 1024 + 1 * (j 0).val = win0_2.index t 0 * 1024 + 1 * (j 0).val
      rw [a0, o0]
    · show win0_0.index t 1 * 1024 + 1 * k.val = k.val
      rw [a1]; omega
  · show V m c main_v2 ((win0_1.rect t).emb (ix2 k (j 1))) = _
    rw [weights]
    refine congrArg (W m c) (Shape.idx_ext₂ ?_ ?_)
    · show win0_1.index t 0 * 1024 + 1 * k.val = k.val
      rw [b0]; omega
    · show win0_1.index t 1 * 1024 + 1 * (j 1).val = win0_2.index t 1 * 1024 + 1 * (j 1).val
      rw [b1, o1]

/-- Every entry is in the block of some point. -/
theorem covered (i : S20480x8192.Idx) : ∃ t : Fin cfg0.N, (cfg0.win 2).flush t = true ∧ i ∈ ((cfg0.win 2).blk t).view.set := by
  have h0 : (i 0 : Nat) < 20480 := (i 0).isLt
  have h1 : (i 1 : Nat) < 8192 := (i 1).isLt
  have hN : grid0.N = 160 := N_0
  obtain ⟨t, ht⟩ : ∃ t : Fin grid0.N, t.val = (i 0 : Nat) / 1024 * 8 + (i 1 : Nat) / 1024 :=
    ⟨⟨(i 0 : Nat) / 1024 * 8 + (i 1 : Nat) / 1024, by omega⟩, rfl⟩
  refine ⟨t, flush0_2 t, ?_⟩
  obtain ⟨-, -, -, -, o0, o1⟩ := at_point t
  show i ∈ ((View.whole main_v3).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [o0]; omega
  | ⟨1, _⟩ =>
    show win0_2.index t 1 * 1024 ≤ (i 1 : Nat) ∧ (i 1 : Nat) < win0_2.index t 1 * 1024 + 1024
    rw [o1]; omega

/-- The output array ends at the whole product. -/
theorem final (c : Dev nD) : (dats m 0 c).arrAt 2 cfg0.N = G m c :=
  (dats m 0 c).arrAt_eq_of_cover 2 (G m c) (fun t _ => flushed_eq m c t) covered

end Cert.MlaUqIdeal.Result

namespace Cert.MlaUq

open Cert.MlaUqRefIdeal Cert.MlaUqRefIdeal.Gen

/-- The reference's product, head by head, padded by lanes of zeros, is the product by the padded weights. -/
theorem reference_eq (x : FVec Ideal S20480x1024 .bf16) (w : FVec Ideal S1024x32x192 .f32) :
    (shapeCast S20480x8192 (pad S20480x32x256 ![0, 0, 0] ![0, 0, 64] ![0, 0, 0] (Host.dotGeneral dot_S20480x1024_S1024x32x192_S20480x32x192_1_0_0_12_n_n none
        (extf .f32 x bitsLt_bf16_f32) w) (sitofp .f32 (constantI S_ 32 0#32)) pads_S20480x32x192_S20480x32x256_000_000_0640 h_S_) shapeCasts_S20480x32x256_S20480x8192 : FVec Ideal S20480x8192 .f32)
      = Layer.prod (M := 20480) (K := 1024) (N := 8192) x (shapeCast S1024x8192 (pad Cert.MlaUqIdeal.S1024x32x256 ![0, 0, 0] ![0, 0, 64] ![0, 0, 0] w
          (sitofp .f32 (constantI S_ 32 0#32) : FVec Ideal S_ .f32) Cert.MlaUqIdeal.Gen.facts.pads_S1024x32x192_S1024x32x256_000_000_0640 h_S_) Cert.MlaUqIdeal.Gen.facts.shapeCasts_S1024x32x256_S1024x8192) := by
  funext j
  obtain ⟨r, q, rfl⟩ : ∃ (r : Fin 20480) (q : Fin 8192), j = ix2 r q := ⟨j 0, j 1, ValueIdx.eq_ix2 j⟩
  obtain ⟨h, d, hq⟩ : ∃ (h : Fin 32) (d : Fin 256), q.val = h.val * 256 + d.val :=
    ⟨⟨q.val / 256, by omega⟩, ⟨q.val % 256, by omega⟩, by show q.val = q.val / 256 * 256 + q.val % 256; omega⟩
  refine (Layer.heads (M := 20480) (H := 32) (D := 256) (N := 8192) _ _ (by norm_num) r q h d hq).trans ?_
  refine (Layer.pad_lanes (K := 20480) (H := 32) (n := 192) (D := 256) _ _ _ h_S_ Cert.MlaUqIdeal.Result.pad_zero r h d).trans ?_
  have hw : ∀ k : Fin 1024, (shapeCast S1024x8192 (pad Cert.MlaUqIdeal.S1024x32x256 ![0, 0, 0] ![0, 0, 64] ![0, 0, 0] w
          (sitofp .f32 (constantI S_ 32 0#32) : FVec Ideal S_ .f32) Cert.MlaUqIdeal.Gen.facts.pads_S1024x32x192_S1024x32x256_000_000_0640 h_S_) Cert.MlaUqIdeal.Gen.facts.shapeCasts_S1024x32x256_S1024x8192 : S1024x8192.Idx → EReal)
      (ix2 k q) = if hd : d.val < 192 then w (ix3 k h ⟨d.val, hd⟩) else 0 := fun k =>
    (Layer.heads (M := 1024) (H := 32) (D := 256) (N := 8192) _ _ (by norm_num) k q h d hq).trans
      (Layer.pad_lanes (K := 1024) (H := 32) (n := 192) (D := 256) _ _ _ h_S_ Cert.MlaUqIdeal.Result.pad_zero k h d)
  refine Eq.trans ?_ (Finset.sum_congr rfl fun k _ => congrArg (x (ix2 r k) * ·) (hw k)).symm
  by_cases hd : d.val < 192
  · simp only [dif_pos hd]
    exact Layer.dotGeneral_heads (M := 20480) (K := 1024) (H := 32) (D := 192) _ none _ w r h ⟨d.val, hd⟩
  · simp only [dif_neg hd, mul_zero]
    exact Finset.sum_const_zero.symm

/-- The reference runs to its end, leaves its arguments as they were and no counter raised. -/
theorem frame_ref : Cert.quiescent_MlaUqRefIdeal := fun m ρ _ =>
  (θ_run _ _ _).mono (fun r h => ⟨fun c => (h c).2, Idealize.ShloMosaic.sem_eq_zero_of_no_sems (by decide) r.2⟩)
    (Cert.MlaUqRefIdeal.Value.run (F := Ideal) m ρ)

/-- The kernel and the reference leave the same array. -/
theorem algebraic : Cert.algebraic_MlaUqIdeal_MlaUqRefIdeal := fun m ρ m' ρ' _ hag =>
  ⟨fun c => Cert.MlaUqIdeal.Result.G m c,
    (θ_run _ _ _).mono (fun _ h c => ⟨(h c).1.trans (Cert.MlaUqIdeal.Result.final m c), (h c).2⟩)
      (Cert.MlaUqIdeal.Value.run_blocks m ρ),
    (θ_run _ _ _).mono (fun _ h c => ⟨(h c).1.trans (by rw [(hag c).1, (hag c).2]; exact reference_eq _ _), (h c).2⟩)
      (Cert.MlaUqRefIdeal.Value.run (F := Ideal) m' ρ')⟩

end Cert.MlaUq

end
-- ==== Proof.MlaV.lean ====
/-
  The values of the latent attention, from the compressed keys and values: the kernel's product by weights with rows of zeros is
  the product, head by head, of the columns before them.
-/
module

public import proofs.«01_k».proof.Defs
public import proofs.«01_k».proof.Proof.Blocks
public import proofs.«01_k».proof.Proof.Gen.MlaVIdeal.Value
public import proofs.«01_k».proof.Proof.Gen.MlaVRefIdeal.Run
public import proofs.«01_k».proof.Proof.Heads
public import Idealize.ShloMosaic.Lib.Quiescent

@[expose] public section

set_option maxRecDepth 16384

noncomputable section

open Idealize.ShloMosaic Idealize.ShloMosaic.TcCoe Idealize.ShloMosaic.ValueIdx Idealize.SL.Sem
open scoped BigOperators

namespace Cert.MlaVIdeal.Result

open Cert.MlaVIdeal Cert.MlaVIdeal.Gen

variable (m : (ℓ : Loc nD τ sig) → Buf (Elt Ideal) ℓ) (ρ : Dev nD → PrngReg)

/-- The weights with the heads side by side and rows of zeros after them. -/
abbrev W (c : Dev nD) : S640x4096.Idx → EReal :=
  Layer.padRows (n := 512) (C := 4096) 640 (shapeCast S512x4096 (m ((c : Thread nD τ).loc main_arg1)) shapeCasts_S512x32x128_S512x4096)

/-- The whole product of the compressed keys and values and the padded weights. -/
abbrev G (c : Dev nD) : S17408x4096.Idx → EReal :=
  Layer.prod (M := 17408) (K := 640) (N := 4096) (m ((c : Thread nD τ).loc main_arg0)) (W m c)

/-- The value that the host pads with is zero. -/
theorem pad_zero : (sitofp .f32 (constantI S_ 32 0#32) : FVec Ideal S_ .f32) (Shape.Idx.first h_S_) = 0 := by
  show (((0#32 : BitVec 32).toInt : ℝ) : EReal) = 0
  simp

/-- The region finds the padded weights (the cast to sixteen bits changes no ideal value). -/
theorem weights (c : Dev nD) : (V m c main_v2 : S640x4096.Idx → EReal) = W m c := by
  refine Eq.trans ?_ (Layer.pad_rows (n := 512) (C := 4096) (N := 640) _ _ pads_S512x4096_S640x4096_01280_000 h_S_ pad_zero)
  show StableHlo.after _ _ _ = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results
  rfl

/-- Which block each window is on at a point. -/
theorem at_point : ∀ t : Fin grid0.N,
    win0_0.index t 0 = t.val / 4 ∧ win0_0.index t 1 = 0 ∧ win0_1.index t 0 = 0 ∧ win0_1.index t 1 = t.val % 4
      ∧ win0_2.index t 0 = t.val / 4 ∧ win0_2.index t 1 = t.val % 4 := by decide +kernel

/-- The body leaves the product of the two blocks. -/
theorem body_eq (x : Vec Ideal S1024x640 .bf16) (w : Vec Ideal S640x1024 .bf16) :
    (out0_2 x w : S1024x1024.Idx → EReal) = Layer.prod (M := 1024) (K := 640) (N := 1024) x w := by
  unfold out0_2
  rw [View.canon_unit_zero Layer.zero2, View.ld_unit_zero (S := S1024x640) Layer.zero2, View.ld_unit_zero (S := S640x1024) Layer.zero2]
  unfold k0_pay1
  simp only [shapeCast_self]
  exact (Layer.matmul_zero (M := 1024) (K := 640) (N := 1024) (φ₁ := .bf16) (φ₂ := .bf16) none x w :)

/-- What a point writes back is its block of the whole product. -/
theorem flushed_eq (c : Dev nD) (t : Fin cfg0.N) :
    (dats m 0 c).flushed 2 t = ((cfg0.win 2).blk t).view.read (Elt Ideal) (G m c) := by
  obtain ⟨a0, a1, b0, b1, o0, o1⟩ := at_point t
  rw [Value.flushed2]
  funext j
  show out0_2 (iblk m c 0 t) (iblk m c 1 t) j = G m c ((win0_2.rect t).emb j)
  rw [body_eq]
  refine Finset.sum_congr rfl fun k _ => congrArg₂ (· * ·) ?_ ?_
  · show V m c main_arg0 ((win0_0.rect t).emb (ix2 (j 0) k)) = _
    rw [V_main_arg0]
    refine congrArg (m ((c : Thread nD τ).loc main_arg0)) (Shape.idx_ext₂ ?_ ?_)
    · show win0_0.index t 0 * 1024 + 1 * (j 0).val = win0_2.index t 0 * 1024 + 1 * (j 0).val
      rw [a0, o0]
    · show win0_0.index t 1 * 640 + 1 * k.val = k.val
      rw [a1]; omega
  · show V m c main_v2 ((win0_1.rect t).emb (ix2 k (j 1))) = _
    rw [weights]
    refine congrArg (W m c) (Shape.idx_ext₂ ?_ ?_)
    · show win0_1.index t 0 * 640 + 1 * k.val = k.val
      rw [b0]; omega
    · show win0_1.index t 1 * 1024 + 1 * (j 1).val = win0_2.index t 1 * 1024 + 1 * (j 1).val
      rw [b1, o1]

/-- Every entry is in the block of some point. -/
theorem covered (i : S17408x4096.Idx) : ∃ t : Fin cfg0.N, (cfg0.win 2).flush t = true ∧ i ∈ ((cfg0.win 2).blk t).view.set := by
  have h0 : (i 0 : Nat) < 17408 := (i 0).isLt
  have h1 : (i 1 : Nat) < 4096 := (i 1).isLt
  have hN : grid0.N = 68 := N_0
  obtain ⟨t, ht⟩ : ∃ t : Fin grid0.N, t.val = (i 0 : Nat) / 1024 * 4 + (i 1 : Nat) / 1024 :=
    ⟨⟨(i 0 : Nat) / 1024 * 4 + (i 1 : Nat) / 1024, by omega⟩, rfl⟩
  refine ⟨t, flush0_2 t, ?_⟩
  obtain ⟨-, -, -, -, o0, o1⟩ := at_point t
  show i ∈ ((View.whole main_v3).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [o0]; omega
  | ⟨1, _⟩ =>
    show win0_2.index t 1 * 1024 ≤ (i 1 : Nat) ∧ (i 1 : Nat) < win0_2.index t 1 * 1024 + 1024
    rw [o1]; omega

/-- The output array ends at the whole product. -/
theorem final (c : Dev nD) : (dats m 0 c).arrAt 2 cfg0.N = G m c :=
  (dats m 0 c).arrAt_eq_of_cover 2 (G m c) (fun t _ => flushed_eq m c t) covered

end Cert.MlaVIdeal.Result

namespace Cert.MlaV

open Cert.MlaVRefIdeal Cert.MlaVRefIdeal.Gen

/-- The reference's product, head by head, is the product by the padded weights. -/
theorem reference_eq (x : FVec Ideal S17408x640 .bf16) (w : FVec Ideal S512x32x128 .f32) :
    (truncf .bf16 (shapeCast S17408x4096 (Host.dotGeneral dot_S17408x512_S512x32x128_S17408x32x128_1_0_0_12_n_n none
        (extf .f32 (extractStridedSlice S17408x512 ![0, 0] x slices_S17408x640_S17408x512_0_0) bitsLt_bf16_f32) w) shapeCasts_S17408x32x128_S17408x4096) bitsLt_bf16_f32 : FVec Ideal S17408x4096 .bf16)
      = Layer.prod (M := 17408) (K := 640) (N := 4096) x (Layer.padRows (n := 512) (C := 4096) 640 (shapeCast Cert.MlaVIdeal.S512x4096 w Cert.MlaVIdeal.Gen.facts.shapeCasts_S512x32x128_S512x4096)) := by
  funext j
  obtain ⟨r, q, rfl⟩ : ∃ (r : Fin 17408) (q : Fin 4096), j = ix2 r q := ⟨j 0, j 1, ValueIdx.eq_ix2 j⟩
  obtain ⟨h, d, hq⟩ : ∃ (h : Fin 32) (d : Fin 128), q.val = h.val * 128 + d.val :=
    ⟨⟨q.val / 128, by omega⟩, ⟨q.val % 128, by omega⟩, by show q.val = q.val / 128 * 128 + q.val % 128; omega⟩
  refine (Layer.heads (M := 17408) (H := 32) (D := 128) (N := 4096) (Host.dotGeneral dot_S17408x512_S512x32x128_S17408x32x128_1_0_0_12_n_n none
    (extf .f32 (extractStridedSlice S17408x512 ![0, 0] x slices_S17408x640_S17408x512_0_0) bitsLt_bf16_f32) w : FVec Ideal S17408x32x128 .f32) shapeCasts_S17408x32x128_S17408x4096 (by norm_num) r q h d hq).trans ?_
  refine (Layer.dotGeneral_heads (M := 17408) (K := 512) (H := 32) (D := 128) _ none _ w r h d).trans ?_
  refine Eq.trans ?_ (Layer.prod_padRows (M := 17408) (n := 512) (K := 640) (N := 4096) (by norm_num) x _ r q).symm
  refine Finset.sum_congr rfl fun k _ => congrArg₂ (· * ·) ?_ (Layer.heads (M := 512) (H := 32) (D := 128) (N := 4096) w _ (by norm_num) k q h d hq).symm
  refine extractStridedSlice_apply _ x slices_S17408x640_S17408x512_0_0 _ _ fun a => ?_
  match a with
  | ⟨0, _⟩ => show r.val = 0 + r.val; omega
  | ⟨1, _⟩ => show k.val = 0 + k.val; omega

/-- The reference runs to its end, leaves its arguments as they were and no counter raised. -/
theorem frame_ref : Cert.quiescent_MlaVRefIdeal := fun m ρ _ =>
  (θ_run _ _ _).mono (fun r h => ⟨fun c => (h c).2, Idealize.ShloMosaic.sem_eq_zero_of_no_sems (by decide) r.2⟩)
    (Cert.MlaVRefIdeal.Value.run (F := Ideal) m ρ)

/-- The kernel and the reference leave the same array. -/
theorem algebraic : Cert.algebraic_MlaVIdeal_MlaVRefIdeal := fun m ρ m' ρ' _ hag =>
  ⟨fun c => Cert.MlaVIdeal.Result.G m c,
    (θ_run _ _ _).mono (fun _ h c => ⟨(h c).1.trans (Cert.MlaVIdeal.Result.final m c), (h c).2⟩)
      (Cert.MlaVIdeal.Value.run_blocks m ρ),
    (θ_run _ _ _).mono (fun _ h c => ⟨(h c).1.trans (by rw [(hag c).1, (hag c).2]; exact reference_eq _ _), (h c).2⟩)
      (Cert.MlaVRefIdeal.Value.run (F := Ideal) m' ρ')⟩

end Cert.MlaV

end
-- ==== Proof.lean ====
/-
  The claims: the attention over the latent tokens; the experts' gate and up products; the experts' down product; the dense gate and up products; the dense down product; the projection to queries, keys and values; the mixers' output product; the latent compression; the compressed queries; the latent queries; the latent values.
-/
module

public import proofs.«01_k».proof.Defs
public import proofs.«01_k».proof.Proof.Gen.Mla
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaIdeal.Value
public import proofs.«01_k».proof.Proof.Gen.MlaRefIdeal
public import proofs.«01_k».proof.Proof.Gen.MlaRefIdeal.Run
public import proofs.«01_k».proof.Proof.Gen.Pre_finite_scores
public import proofs.«01_k».proof.Proof.MlaResult
public import proofs.«01_k».proof.Proof.Gen.MoeUp
public import proofs.«01_k».proof.Proof.Gen.MoeUp.Skeleton
public import proofs.«01_k».proof.Proof.Gen.MoeUp.Launch
public import proofs.«01_k».proof.Proof.Gen.MoeUpIdeal
public import proofs.«01_k».proof.Proof.Gen.MoeUpIdeal.Skeleton
public import proofs.«01_k».proof.Proof.Gen.MoeUpIdeal.Launch
public import proofs.«01_k».proof.Proof.Gen.MoeUpRefIdeal
public import proofs.«01_k».proof.Proof.Gen.MoeUpRefIdeal.Run
public import proofs.«01_k».proof.Proof.Gen.Pre_experts_in_range
public import proofs.«01_k».proof.Proof.MoeUp
public import proofs.«01_k».proof.Proof.Gen.MoeDown
public import proofs.«01_k».proof.Proof.Gen.MoeDown.Skeleton
public import proofs.«01_k».proof.Proof.Gen.MoeDown.Launch
public import proofs.«01_k».proof.Proof.Gen.MoeDownIdeal
public import proofs.«01_k».proof.Proof.Gen.MoeDownIdeal.Skeleton
public import proofs.«01_k».proof.Proof.Gen.MoeDownIdeal.Launch
public import proofs.«01_k».proof.Proof.Gen.MoeDownRefIdeal
public import proofs.«01_k».proof.Proof.Gen.MoeDownRefIdeal.Run
public import proofs.«01_k».proof.Proof.Gen.Pre_down_experts_in_range
public import proofs.«01_k».proof.Proof.MoeDown
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.FfnUp
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.FfnDown
public import proofs.«01_k».proof.Proof.Gen.NaQkv
public import proofs.«01_k».proof.Proof.Gen.NaQkv.Skeleton
public import proofs.«01_k».proof.Proof.Gen.NaQkv.Launch
public import proofs.«01_k».proof.Proof.Gen.NaQkv.Points
public import proofs.«01_k».proof.Proof.Gen.NaQkv.Frame
public import proofs.«01_k».proof.Proof.Gen.NaQkvIdeal
public import proofs.«01_k».proof.Proof.Gen.NaQkvIdeal.Skeleton
public import proofs.«01_k».proof.Proof.Gen.NaQkvIdeal.Launch
public import proofs.«01_k».proof.Proof.Gen.NaQkvIdeal.Points
public import proofs.«01_k».proof.Proof.Gen.NaQkvIdeal.Frame
public import proofs.«01_k».proof.Proof.Gen.NaQkvRefIdeal
public import proofs.«01_k».proof.Proof.Gen.NaQkvRefIdeal.Run
public import proofs.«01_k».proof.Proof.NaQkv
public import proofs.«01_k».proof.Proof.Gen.MixerOut
public import proofs.«01_k».proof.Proof.Gen.MixerOut.Skeleton
public import proofs.«01_k».proof.Proof.Gen.MixerOut.Launch
public import proofs.«01_k».proof.Proof.Gen.MixerOut.Points
public import proofs.«01_k».proof.Proof.Gen.MixerOut.Frame
public import proofs.«01_k».proof.Proof.Gen.MixerOutIdeal
public import proofs.«01_k».proof.Proof.Gen.MixerOutIdeal.Skeleton
public import proofs.«01_k».proof.Proof.Gen.MixerOutIdeal.Launch
public import proofs.«01_k».proof.Proof.Gen.MixerOutIdeal.Points
public import proofs.«01_k».proof.Proof.Gen.MixerOutIdeal.Frame
public import proofs.«01_k».proof.Proof.Gen.MixerOutIdeal.Value
public import proofs.«01_k».proof.Proof.Gen.MixerOutRefIdeal
public import proofs.«01_k».proof.Proof.Gen.MixerOutRefIdeal.Run
public import proofs.«01_k».proof.Proof.MixerOut
public import proofs.«01_k».proof.Proof.Gen.MlaDkv
public import proofs.«01_k».proof.Proof.Gen.MlaDkv.Skeleton
public import proofs.«01_k».proof.Proof.Gen.MlaDkv.Launch
public import proofs.«01_k».proof.Proof.Gen.MlaDkv.Points
public import proofs.«01_k».proof.Proof.Gen.MlaDkv.Frame
public import proofs.«01_k».proof.Proof.Gen.MlaDkvIdeal
public import proofs.«01_k».proof.Proof.Gen.MlaDkvIdeal.Skeleton
public import proofs.«01_k».proof.Proof.Gen.MlaDkvIdeal.Launch
public import proofs.«01_k».proof.Proof.Gen.MlaDkvIdeal.Points
public import proofs.«01_k».proof.Proof.Gen.MlaDkvIdeal.Frame
public import proofs.«01_k».proof.Proof.Gen.MlaDkvRefIdeal
public import proofs.«01_k».proof.Proof.Gen.MlaDkvRefIdeal.Run
public import proofs.«01_k».proof.Proof.MlaDkv
public import proofs.«01_k».proof.Proof.Gen.MlaDq
public import proofs.«01_k».proof.Proof.Gen.MlaDq.Skeleton
public import proofs.«01_k».proof.Proof.Gen.MlaDq.Launch
public import proofs.«01_k».proof.Proof.Gen.MlaDq.Points
public import proofs.«01_k».proof.Proof.Gen.MlaDq.Frame
public import proofs.«01_k».proof.Proof.Gen.MlaDqIdeal
public import proofs.«01_k».proof.Proof.Gen.MlaDqIdeal.Skeleton
public import proofs.«01_k».proof.Proof.Gen.MlaDqIdeal.Launch
public import proofs.«01_k».proof.Proof.Gen.MlaDqIdeal.Points
public import proofs.«01_k».proof.Proof.Gen.MlaDqIdeal.Frame
public import proofs.«01_k».proof.Proof.Gen.MlaDqIdeal.Value
public import proofs.«01_k».proof.Proof.Gen.MlaDqRefIdeal
public import proofs.«01_k».proof.Proof.Gen.MlaDqRefIdeal.Run
public import proofs.«01_k».proof.Proof.MlaDq
public import proofs.«01_k».proof.Proof.Gen.MlaUq
public import proofs.«01_k».proof.Proof.Gen.MlaUq.Skeleton
public import proofs.«01_k».proof.Proof.Gen.MlaUq.Launch
public import proofs.«01_k».proof.Proof.Gen.MlaUq.Points
public import proofs.«01_k».proof.Proof.Gen.MlaUq.Frame
public import proofs.«01_k».proof.Proof.Gen.MlaUqIdeal
public import proofs.«01_k».proof.Proof.Gen.MlaUqIdeal.Skeleton
public import proofs.«01_k».proof.Proof.Gen.MlaUqIdeal.Launch
public import proofs.«01_k».proof.Proof.Gen.MlaUqIdeal.Points
public import proofs.«01_k».proof.Proof.Gen.MlaUqIdeal.Frame
public import proofs.«01_k».proof.Proof.Gen.MlaUqIdeal.Value
public import proofs.«01_k».proof.Proof.Gen.MlaUqRefIdeal
public import proofs.«01_k».proof.Proof.Gen.MlaUqRefIdeal.Run
public import proofs.«01_k».proof.Proof.MlaUq
public import proofs.«01_k».proof.Proof.Gen.MlaV
public import proofs.«01_k».proof.Proof.Gen.MlaV.Skeleton
public import proofs.«01_k».proof.Proof.Gen.MlaV.Launch
public import proofs.«01_k».proof.Proof.Gen.MlaV.Points
public import proofs.«01_k».proof.Proof.Gen.MlaV.Frame
public import proofs.«01_k».proof.Proof.Gen.MlaVIdeal
public import proofs.«01_k».proof.Proof.Gen.MlaVIdeal.Skeleton
public import proofs.«01_k».proof.Proof.Gen.MlaVIdeal.Launch
public import proofs.«01_k».proof.Proof.Gen.MlaVIdeal.Points
public import proofs.«01_k».proof.Proof.Gen.MlaVIdeal.Frame
public import proofs.«01_k».proof.Proof.Gen.MlaVIdeal.Value
public import proofs.«01_k».proof.Proof.Gen.MlaVRefIdeal
public import proofs.«01_k».proof.Proof.Gen.MlaVRefIdeal.Run
public import proofs.«01_k».proof.Proof.MlaV

@[expose] public section

noncomputable section

namespace Cert.Proof

/-- Every claim: each program ends without fault and leaves its arguments, and each kernel computes its reference. -/
theorem claim : Cert.Claim :=
  ⟨Cert.Mla.Gen.facts,
    Cert.MlaIdeal.Gen.facts,
    Cert.MlaRefIdeal.Gen.facts,
    Cert.MoeUp.Gen.facts,
    Cert.MoeUpIdeal.Gen.facts,
    Cert.MoeUpRefIdeal.Gen.facts,
    Cert.MoeDown.Gen.facts,
    Cert.MoeDownIdeal.Gen.facts,
    Cert.MoeDownRefIdeal.Gen.facts,
    Cert.FfnUp.Gen.facts,
    Cert.FfnUpIdeal.Gen.facts,
    Cert.FfnUpRefIdeal.Gen.facts,
    Cert.FfnDown.Gen.facts,
    Cert.FfnDownIdeal.Gen.facts,
    Cert.FfnDownRefIdeal.Gen.facts,
    Cert.NaQkv.Gen.facts,
    Cert.NaQkvIdeal.Gen.facts,
    Cert.NaQkvRefIdeal.Gen.facts,
    Cert.MixerOut.Gen.facts,
    Cert.MixerOutIdeal.Gen.facts,
    Cert.MixerOutRefIdeal.Gen.facts,
    Cert.MlaDkv.Gen.facts,
    Cert.MlaDkvIdeal.Gen.facts,
    Cert.MlaDkvRefIdeal.Gen.facts,
    Cert.MlaDq.Gen.facts,
    Cert.MlaDqIdeal.Gen.facts,
    Cert.MlaDqRefIdeal.Gen.facts,
    Cert.MlaUq.Gen.facts,
    Cert.MlaUqIdeal.Gen.facts,
    Cert.MlaUqRefIdeal.Gen.facts,
    Cert.MlaV.Gen.facts,
    Cert.MlaVIdeal.Gen.facts,
    Cert.MlaVRefIdeal.Gen.facts,
    Cert.Pre_finite_scores.Gen.facts,
    Cert.Pre_experts_in_range.Gen.facts,
    Cert.Pre_down_experts_in_range.Gen.facts,
    fun m ρ _ => Cert.Mla.Gen.frame m ρ,
    fun m ρ _ => Cert.MlaIdeal.Gen.frame m ρ,
    fun m ρ _ => Cert.MlaIdeal.Gen.frame m ρ,
    Cert.Mla.frame_ref,
    fun m ρ _ => Cert.Mla.frame_ref m ρ trivial,
    Cert.MoeUp.frame_kernel,
    Cert.MoeUp.frame_ideal,
    Cert.MoeUp.frame_ref,
    fun m ρ _ => Cert.MoeUp.frame_ref m ρ trivial,
    Cert.MoeDown.frame_kernel,
    Cert.MoeDown.frame_ideal,
    Cert.MoeDown.frame_ref,
    fun m ρ _ => Cert.MoeDown.frame_ref m ρ trivial,
    fun m ρ _ => Cert.FfnUp.Gen.frame m ρ,
    fun m ρ _ => Cert.FfnUpIdeal.Gen.frame m ρ,
    Cert.FfnUp.frame_ref,
    fun m ρ _ => Cert.FfnDown.Gen.frame m ρ,
    fun m ρ _ => Cert.FfnDownIdeal.Gen.frame m ρ,
    Cert.FfnDown.frame_ref,
    fun m ρ _ => Cert.NaQkv.Gen.frame m ρ,
    fun m ρ _ => Cert.NaQkvIdeal.Gen.frame m ρ,
    Cert.NaQkv.frame_ref,
    fun m ρ _ => Cert.MixerOut.Gen.frame m ρ,
    fun m ρ _ => Cert.MixerOutIdeal.Gen.frame m ρ,
    Cert.MixerOut.frame_ref,
    fun m ρ _ => Cert.MlaDkv.Gen.frame m ρ,
    fun m ρ _ => Cert.MlaDkvIdeal.Gen.frame m ρ,
    Cert.MlaDkv.frame_ref,
    fun m ρ _ => Cert.MlaDq.Gen.frame m ρ,
    fun m ρ _ => Cert.MlaDqIdeal.Gen.frame m ρ,
    Cert.MlaDq.frame_ref,
    fun m ρ _ => Cert.MlaUq.Gen.frame m ρ,
    fun m ρ _ => Cert.MlaUqIdeal.Gen.frame m ρ,
    Cert.MlaUq.frame_ref,
    fun m ρ _ => Cert.MlaV.Gen.frame m ρ,
    fun m ρ _ => Cert.MlaVIdeal.Gen.frame m ρ,
    Cert.MlaV.frame_ref,
    trivial,
    Cert.Mla.algebraic,
    trivial,
    Cert.MoeUp.algebraic,
    trivial,
    Cert.MoeDown.algebraic,
    trivial,
    Cert.FfnUp.algebraic,
    trivial,
    Cert.FfnDown.algebraic,
    trivial,
    Cert.NaQkv.algebraic,
    trivial,
    Cert.MixerOut.algebraic,
    trivial,
    Cert.MlaDkv.algebraic,
    trivial,
    Cert.MlaDq.algebraic,
    trivial,
    Cert.MlaUq.algebraic,
    trivial,
    Cert.MlaV.algebraic⟩

end Cert.Proof

end
